-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11)
      ∧ r.2.mem ((c.tc : Thread Cert.Kernel28.nD Cert.Kernel28.τ).loc Cert.Kernel28.main_arg12) = m ((c.tc : Thread Cert.Kernel28.nD Cert.Kernel28.τ).loc Cert.Kernel28.main_arg12)
      ∧ r.2.mem ((c.tc : Thread Cert.Kernel28.nD Cert.Kernel28.τ).loc Cert.Kernel28.main_arg13) = m ((c.tc : Thread Cert.Kernel28.nD Cert.Kernel28.τ).loc Cert.Kernel28.main_arg13)
      ∧ r.2.mem ((c.tc : Thread Cert.Kernel28.nD Cert.Kernel28.τ).loc Cert.Kernel28.main_arg14) = m ((c.tc : Thread Cert.Kernel28.nD Cert.Kernel28.τ).loc Cert.Kernel28.main_arg14)
      ∧ r.2.mem ((c.tc : Thread Cert.Kernel28.nD Cert.Kernel28.τ).loc Cert.Kernel28.main_arg15) = m ((c.tc : Thread Cert.Kernel28.nD Cert.Kernel28.τ).loc Cert.Kernel28.main_arg15)
      ∧ r.2.mem ((c.tc : Thread Cert.Kernel28.nD Cert.Kernel28.τ).loc Cert.Kernel28.main_arg16) = m ((c.tc : Thread Cert.Kernel28.nD Cert.Kernel28.τ).loc Cert.Kernel28.main_arg16)
      ∧ r.2.mem ((c.tc : Thread Cert.Kernel28.nD Cert.Kernel28.τ).loc Cert.Kernel28.main_arg17) = m ((c.tc : Thread Cert.Kernel28.nD Cert.Kernel28.τ).loc Cert.Kernel28.main_arg17)
      ∧ r.2.mem ((c.tc : Thread Cert.Kernel28.nD Cert.Kernel28.τ).loc Cert.Kernel28.main_arg18) = m ((c.tc : Thread Cert.Kernel28.nD Cert.Kernel28.τ).loc Cert.Kernel28.main_arg18)
      ∧ r.2.mem ((c.tc : Thread Cert.Kernel28.nD Cert.Kernel28.τ).loc Cert.Kernel28.main_arg19) = m ((c.tc : Thread Cert.Kernel28.nD Cert.Kernel28.τ).loc Cert.Kernel28.main_arg19)
      ∧ r.2.mem ((c.tc : Thread Cert.Kernel28.nD Cert.Kernel28.τ).loc Cert.Kernel28.main_arg20) = m ((c.tc : Thread Cert.Kernel28.nD Cert.Kernel28.τ).loc Cert.Kernel28.main_arg20)
      ∧ r.2.mem ((c.tc : Thread Cert.Kernel28.nD Cert.Kernel28.τ).loc Cert.Kernel28.main_arg21) = m ((c.tc : Thread Cert.Kernel28.nD Cert.Kernel28.τ).loc Cert.Kernel28.main_arg21)
      ∧ r.2.mem ((c.tc : Thread Cert.Kernel28.nD Cert.Kernel28.τ).loc Cert.Kernel28.main_arg22) = m ((c.tc : Thread Cert.Kernel28.nD Cert.Kernel28.τ).loc Cert.Kernel28.main_arg22)
      ∧ r.2.mem ((c.tc : Thread Cert.Kernel28.nD Cert.Kernel28.τ).loc Cert.Kernel28.main_arg23) = m ((c.tc : Thread Cert.Kernel28.nD Cert.Kernel28.τ).loc Cert.Kernel28.main_arg23)
      ∧ r.2.mem ((c.tc : Thread Cert.Kernel28.nD Cert.Kernel28.τ).loc Cert.Kernel28.main_arg24) = m ((c.tc : Thread Cert.Kernel28.nD Cert.Kernel28.τ).loc Cert.Kernel28.main_arg24)
      ∧ r.2.mem ((c.tc : Thread Cert.Kernel28.nD Cert.Kernel28.τ).loc Cert.Kernel28.main_arg25) = m ((c.tc : Thread Cert.Kernel28.nD Cert.Kernel28.τ).loc Cert.Kernel28.main_arg25)
      ∧ r.2.mem ((c.tc : Thread Cert.Kernel28.nD Cert.Kernel28.τ).loc Cert.Kernel28.main_arg26) = m ((c.tc : Thread Cert.Kernel28.nD Cert.Kernel28.τ).loc Cert.Kernel28.main_arg26)
      ∧ r.2.mem ((c.tc : Thread Cert.Kernel28.nD Cert.Kernel28.τ).loc Cert.Kernel28.main_arg27) = m ((c.tc : Thread Cert.Kernel28.nD Cert.Kernel28.τ).loc Cert.Kernel28.main_arg27)
      ∧ r.2.mem ((c.tc : Thread Cert.Kernel28.nD Cert.Kernel28.τ).loc Cert.Kernel28.main_arg28) = m ((c.tc : Thread Cert.Kernel28.nD Cert.Kernel28.τ).loc Cert.Kernel28.main_arg28)
      ∧ r.2.mem ((c.tc : Thread Cert.Kernel28.nD Cert.Kernel28.τ).loc Cert.Kernel28.main_arg29) = m ((c.tc : Thread Cert.Kernel28.nD Cert.Kernel28.τ).loc Cert.Kernel28.main_arg29)
      ∧ r.2.mem ((c.tc : Thread Cert.Kernel28.nD Cert.Kernel28.τ).loc Cert.Kernel28.main_arg30) = m ((c.tc : Thread Cert.Kernel28.nD Cert.Kernel28.τ).loc Cert.Kernel28.main_arg30)
      ∧ r.2.mem ((c.tc : Thread Cert.Kernel28.nD Cert.Kernel28.τ).loc Cert.Kernel28.main_arg31) = m ((c.tc : Thread Cert.Kernel28.nD Cert.Kernel28.τ).loc Cert.Kernel28.main_arg31)
      ∧ r.2.mem ((c.tc : Thread Cert.Kernel28.nD Cert.Kernel28.τ).loc Cert.Kernel28.main_arg32) = m ((c.tc : Thread Cert.Kernel28.nD Cert.Kernel28.τ).loc Cert.Kernel28.main_arg32)
      ∧ r.2.mem ((c.tc : Thread Cert.Kernel28.nD Cert.Kernel28.τ).loc Cert.Kernel28.main_arg33) = m ((c.tc : Thread Cert.Kernel28.nD Cert.Kernel28.τ).loc Cert.Kernel28.main_arg33)
      ∧ r.2.mem ((c.tc : Thread Cert.Kernel28.nD Cert.Kernel28.τ).loc Cert.Kernel28.main_arg34) = m ((c.tc : Thread Cert.Kernel28.nD Cert.Kernel28.τ).loc Cert.Kernel28.main_arg34)
      ∧ r.2.mem ((c.tc : Thread Cert.Kernel28.nD Cert.Kernel28.τ).loc Cert.Kernel28.main_arg35) = m ((c.tc : Thread Cert.Kernel28.nD Cert.Kernel28.τ).loc Cert.Kernel28.main_arg35)
      ∧ r.2.mem ((c.tc : Thread Cert.Kernel28.nD Cert.Kernel28.τ).loc Cert.Kernel28.main_arg36) = m ((c.tc : Thread Cert.Kernel28.nD Cert.Kernel28.τ).loc Cert.Kernel28.main_arg36)
      ∧ r.2.mem ((c.tc : Thread Cert.Kernel28.nD Cert.Kernel28.τ).loc Cert.Kernel28.main_arg37) = m ((c.tc : Thread Cert.Kernel28.nD Cert.Kernel28.τ).loc Cert.Kernel28.main_arg37)
      ∧ r.2.mem ((c.tc : Thread Cert.Kernel28.nD Cert.Kernel28.τ).loc Cert.Kernel28.main_arg38) = m ((c.tc : Thread Cert.Kernel28.nD Cert.Kernel28.τ).loc Cert.Kernel28.main_arg38)
      ∧ r.2.mem ((c.tc : Thread Cert.Kernel28.nD Cert.Kernel28.τ).loc Cert.Kernel28.main_arg39) = m ((c.tc : Thread Cert.Kernel28.nD Cert.Kernel28.τ).loc Cert.Kernel28.main_arg39))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
      ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
      ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
      ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
      ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
      ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
      ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
      ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
      ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
      ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
      ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
      ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
      ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
      ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
      ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
      ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
      ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
      ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
      ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
      ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
      ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
      ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
      ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
      ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
      ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
      ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
      ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
      ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
      ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11)
      ∧ r.2.mem ((c.tc : Thread Cert.Reference28Ideal.nD Cert.Reference28Ideal.τ).loc Cert.Reference28Ideal.main_arg12) = m ((c.tc : Thread Cert.Reference28Ideal.nD Cert.Reference28Ideal.τ).loc Cert.Reference28Ideal.main_arg12)
      ∧ r.2.mem ((c.tc : Thread Cert.Reference28Ideal.nD Cert.Reference28Ideal.τ).loc Cert.Reference28Ideal.main_arg13) = m ((c.tc : Thread Cert.Reference28Ideal.nD Cert.Reference28Ideal.τ).loc Cert.Reference28Ideal.main_arg13)
      ∧ r.2.mem ((c.tc : Thread Cert.Reference28Ideal.nD Cert.Reference28Ideal.τ).loc Cert.Reference28Ideal.main_arg14) = m ((c.tc : Thread Cert.Reference28Ideal.nD Cert.Reference28Ideal.τ).loc Cert.Reference28Ideal.main_arg14)
      ∧ r.2.mem ((c.tc : Thread Cert.Reference28Ideal.nD Cert.Reference28Ideal.τ).loc Cert.Reference28Ideal.main_arg15) = m ((c.tc : Thread Cert.Reference28Ideal.nD Cert.Reference28Ideal.τ).loc Cert.Reference28Ideal.main_arg15)
      ∧ r.2.mem ((c.tc : Thread Cert.Reference28Ideal.nD Cert.Reference28Ideal.τ).loc Cert.Reference28Ideal.main_arg16) = m ((c.tc : Thread Cert.Reference28Ideal.nD Cert.Reference28Ideal.τ).loc Cert.Reference28Ideal.main_arg16)
      ∧ r.2.mem ((c.tc : Thread Cert.Reference28Ideal.nD Cert.Reference28Ideal.τ).loc Cert.Reference28Ideal.main_arg17) = m ((c.tc : Thread Cert.Reference28Ideal.nD Cert.Reference28Ideal.τ).loc Cert.Reference28Ideal.main_arg17)
      ∧ r.2.mem ((c.tc : Thread Cert.Reference28Ideal.nD Cert.Reference28Ideal.τ).loc Cert.Reference28Ideal.main_arg18) = m ((c.tc : Thread Cert.Reference28Ideal.nD Cert.Reference28Ideal.τ).loc Cert.Reference28Ideal.main_arg18)
      ∧ r.2.mem ((c.tc : Thread Cert.Reference28Ideal.nD Cert.Reference28Ideal.τ).loc Cert.Reference28Ideal.main_arg19) = m ((c.tc : Thread Cert.Reference28Ideal.nD Cert.Reference28Ideal.τ).loc Cert.Reference28Ideal.main_arg19)
      ∧ r.2.mem ((c.tc : Thread Cert.Reference28Ideal.nD Cert.Reference28Ideal.τ).loc Cert.Reference28Ideal.main_arg20) = m ((c.tc : Thread Cert.Reference28Ideal.nD Cert.Reference28Ideal.τ).loc Cert.Reference28Ideal.main_arg20)
      ∧ r.2.mem ((c.tc : Thread Cert.Reference28Ideal.nD Cert.Reference28Ideal.τ).loc Cert.Reference28Ideal.main_arg21) = m ((c.tc : Thread Cert.Reference28Ideal.nD Cert.Reference28Ideal.τ).loc Cert.Reference28Ideal.main_arg21)
      ∧ r.2.mem ((c.tc : Thread Cert.Reference28Ideal.nD Cert.Reference28Ideal.τ).loc Cert.Reference28Ideal.main_arg22) = m ((c.tc : Thread Cert.Reference28Ideal.nD Cert.Reference28Ideal.τ).loc Cert.Reference28Ideal.main_arg22)
      ∧ r.2.mem ((c.tc : Thread Cert.Reference28Ideal.nD Cert.Reference28Ideal.τ).loc Cert.Reference28Ideal.main_arg23) = m ((c.tc : Thread Cert.Reference28Ideal.nD Cert.Reference28Ideal.τ).loc Cert.Reference28Ideal.main_arg23)
      ∧ r.2.mem ((c.tc : Thread Cert.Reference28Ideal.nD Cert.Reference28Ideal.τ).loc Cert.Reference28Ideal.main_arg24) = m ((c.tc : Thread Cert.Reference28Ideal.nD Cert.Reference28Ideal.τ).loc Cert.Reference28Ideal.main_arg24)
      ∧ r.2.mem ((c.tc : Thread Cert.Reference28Ideal.nD Cert.Reference28Ideal.τ).loc Cert.Reference28Ideal.main_arg25) = m ((c.tc : Thread Cert.Reference28Ideal.nD Cert.Reference28Ideal.τ).loc Cert.Reference28Ideal.main_arg25)
      ∧ r.2.mem ((c.tc : Thread Cert.Reference28Ideal.nD Cert.Reference28Ideal.τ).loc Cert.Reference28Ideal.main_arg26) = m ((c.tc : Thread Cert.Reference28Ideal.nD Cert.Reference28Ideal.τ).loc Cert.Reference28Ideal.main_arg26)
      ∧ r.2.mem ((c.tc : Thread Cert.Reference28Ideal.nD Cert.Reference28Ideal.τ).loc Cert.Reference28Ideal.main_arg27) = m ((c.tc : Thread Cert.Reference28Ideal.nD Cert.Reference28Ideal.τ).loc Cert.Reference28Ideal.main_arg27)
      ∧ r.2.mem ((c.tc : Thread Cert.Reference28Ideal.nD Cert.Reference28Ideal.τ).loc Cert.Reference28Ideal.main_arg28) = m ((c.tc : Thread Cert.Reference28Ideal.nD Cert.Reference28Ideal.τ).loc Cert.Reference28Ideal.main_arg28)
      ∧ r.2.mem ((c.tc : Thread Cert.Reference28Ideal.nD Cert.Reference28Ideal.τ).loc Cert.Reference28Ideal.main_arg29) = m ((c.tc : Thread Cert.Reference28Ideal.nD Cert.Reference28Ideal.τ).loc Cert.Reference28Ideal.main_arg29)
      ∧ r.2.mem ((c.tc : Thread Cert.Reference28Ideal.nD Cert.Reference28Ideal.τ).loc Cert.Reference28Ideal.main_arg30) = m ((c.tc : Thread Cert.Reference28Ideal.nD Cert.Reference28Ideal.τ).loc Cert.Reference28Ideal.main_arg30)
      ∧ r.2.mem ((c.tc : Thread Cert.Reference28Ideal.nD Cert.Reference28Ideal.τ).loc Cert.Reference28Ideal.main_arg31) = m ((c.tc : Thread Cert.Reference28Ideal.nD Cert.Reference28Ideal.τ).loc Cert.Reference28Ideal.main_arg31)
      ∧ r.2.mem ((c.tc : Thread Cert.Reference28Ideal.nD Cert.Reference28Ideal.τ).loc Cert.Reference28Ideal.main_arg32) = m ((c.tc : Thread Cert.Reference28Ideal.nD Cert.Reference28Ideal.τ).loc Cert.Reference28Ideal.main_arg32)
      ∧ r.2.mem ((c.tc : Thread Cert.Reference28Ideal.nD Cert.Reference28Ideal.τ).loc Cert.Reference28Ideal.main_arg33) = m ((c.tc : Thread Cert.Reference28Ideal.nD Cert.Reference28Ideal.τ).loc Cert.Reference28Ideal.main_arg33)
      ∧ r.2.mem ((c.tc : Thread Cert.Reference28Ideal.nD Cert.Reference28Ideal.τ).loc Cert.Reference28Ideal.main_arg34) = m ((c.tc : Thread Cert.Reference28Ideal.nD Cert.Reference28Ideal.τ).loc Cert.Reference28Ideal.main_arg34)
      ∧ r.2.mem ((c.tc : Thread Cert.Reference28Ideal.nD Cert.Reference28Ideal.τ).loc Cert.Reference28Ideal.main_arg35) = m ((c.tc : Thread Cert.Reference28Ideal.nD Cert.Reference28Ideal.τ).loc Cert.Reference28Ideal.main_arg35)
      ∧ r.2.mem ((c.tc : Thread Cert.Reference28Ideal.nD Cert.Reference28Ideal.τ).loc Cert.Reference28Ideal.main_arg36) = m ((c.tc : Thread Cert.Reference28Ideal.nD Cert.Reference28Ideal.τ).loc Cert.Reference28Ideal.main_arg36)
      ∧ r.2.mem ((c.tc : Thread Cert.Reference28Ideal.nD Cert.Reference28Ideal.τ).loc Cert.Reference28Ideal.main_arg37) = m ((c.tc : Thread Cert.Reference28Ideal.nD Cert.Reference28Ideal.τ).loc Cert.Reference28Ideal.main_arg37)
      ∧ r.2.mem ((c.tc : Thread Cert.Reference28Ideal.nD Cert.Reference28Ideal.τ).loc Cert.Reference28Ideal.main_arg38) = m ((c.tc : Thread Cert.Reference28Ideal.nD Cert.Reference28Ideal.τ).loc Cert.Reference28Ideal.main_arg38)
      ∧ r.2.mem ((c.tc : Thread Cert.Reference28Ideal.nD Cert.Reference28Ideal.τ).loc Cert.Reference28Ideal.main_arg39) = m ((c.tc : Thread Cert.Reference28Ideal.nD Cert.Reference28Ideal.τ).loc Cert.Reference28Ideal.main_arg39))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v8) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v27) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v25) = v0 c
          ∧ r.2.mem ((c.tc : Thread Cert.Reference23Ideal.nD Cert.Reference23Ideal.τ).loc Cert.Reference23Ideal.main_v26) = v1 c
          ∧ r.2.mem ((c.tc : Thread Cert.Reference23Ideal.nD Cert.Reference23Ideal.τ).loc Cert.Reference23Ideal.main_v27) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)
      ∧ m' ((c.tc : Thread Cert.Reference28Ideal.nD Cert.Reference28Ideal.τ).loc Cert.Reference28Ideal.main_arg12) = m ((c.tc : Thread Cert.Kernel28Ideal.nD Cert.Kernel28Ideal.τ).loc Cert.Kernel28Ideal.main_arg12)
      ∧ m' ((c.tc : Thread Cert.Reference28Ideal.nD Cert.Reference28Ideal.τ).loc Cert.Reference28Ideal.main_arg13) = m ((c.tc : Thread Cert.Kernel28Ideal.nD Cert.Kernel28Ideal.τ).loc Cert.Kernel28Ideal.main_arg13)
      ∧ m' ((c.tc : Thread Cert.Reference28Ideal.nD Cert.Reference28Ideal.τ).loc Cert.Reference28Ideal.main_arg14) = m ((c.tc : Thread Cert.Kernel28Ideal.nD Cert.Kernel28Ideal.τ).loc Cert.Kernel28Ideal.main_arg14)
      ∧ m' ((c.tc : Thread Cert.Reference28Ideal.nD Cert.Reference28Ideal.τ).loc Cert.Reference28Ideal.main_arg15) = m ((c.tc : Thread Cert.Kernel28Ideal.nD Cert.Kernel28Ideal.τ).loc Cert.Kernel28Ideal.main_arg15)
      ∧ m' ((c.tc : Thread Cert.Reference28Ideal.nD Cert.Reference28Ideal.τ).loc Cert.Reference28Ideal.main_arg16) = m ((c.tc : Thread Cert.Kernel28Ideal.nD Cert.Kernel28Ideal.τ).loc Cert.Kernel28Ideal.main_arg16)
      ∧ m' ((c.tc : Thread Cert.Reference28Ideal.nD Cert.Reference28Ideal.τ).loc Cert.Reference28Ideal.main_arg17) = m ((c.tc : Thread Cert.Kernel28Ideal.nD Cert.Kernel28Ideal.τ).loc Cert.Kernel28Ideal.main_arg17)
      ∧ m' ((c.tc : Thread Cert.Reference28Ideal.nD Cert.Reference28Ideal.τ).loc Cert.Reference28Ideal.main_arg18) = m ((c.tc : Thread Cert.Kernel28Ideal.nD Cert.Kernel28Ideal.τ).loc Cert.Kernel28Ideal.main_arg18)
      ∧ m' ((c.tc : Thread Cert.Reference28Ideal.nD Cert.Reference28Ideal.τ).loc Cert.Reference28Ideal.main_arg19) = m ((c.tc : Thread Cert.Kernel28Ideal.nD Cert.Kernel28Ideal.τ).loc Cert.Kernel28Ideal.main_arg19)
      ∧ m' ((c.tc : Thread Cert.Reference28Ideal.nD Cert.Reference28Ideal.τ).loc Cert.Reference28Ideal.main_arg20) = m ((c.tc : Thread Cert.Kernel28Ideal.nD Cert.Kernel28Ideal.τ).loc Cert.Kernel28Ideal.main_arg20)
      ∧ m' ((c.tc : Thread Cert.Reference28Ideal.nD Cert.Reference28Ideal.τ).loc Cert.Reference28Ideal.main_arg21) = m ((c.tc : Thread Cert.Kernel28Ideal.nD Cert.Kernel28Ideal.τ).loc Cert.Kernel28Ideal.main_arg21)
      ∧ m' ((c.tc : Thread Cert.Reference28Ideal.nD Cert.Reference28Ideal.τ).loc Cert.Reference28Ideal.main_arg22) = m ((c.tc : Thread Cert.Kernel28Ideal.nD Cert.Kernel28Ideal.τ).loc Cert.Kernel28Ideal.main_arg22)
      ∧ m' ((c.tc : Thread Cert.Reference28Ideal.nD Cert.Reference28Ideal.τ).loc Cert.Reference28Ideal.main_arg23) = m ((c.tc : Thread Cert.Kernel28Ideal.nD Cert.Kernel28Ideal.τ).loc Cert.Kernel28Ideal.main_arg23)
      ∧ m' ((c.tc : Thread Cert.Reference28Ideal.nD Cert.Reference28Ideal.τ).loc Cert.Reference28Ideal.main_arg24) = m ((c.tc : Thread Cert.Kernel28Ideal.nD Cert.Kernel28Ideal.τ).loc Cert.Kernel28Ideal.main_arg24)
      ∧ m' ((c.tc : Thread Cert.Reference28Ideal.nD Cert.Reference28Ideal.τ).loc Cert.Reference28Ideal.main_arg25) = m ((c.tc : Thread Cert.Kernel28Ideal.nD Cert.Kernel28Ideal.τ).loc Cert.Kernel28Ideal.main_arg25)
      ∧ m' ((c.tc : Thread Cert.Reference28Ideal.nD Cert.Reference28Ideal.τ).loc Cert.Reference28Ideal.main_arg26) = m ((c.tc : Thread Cert.Kernel28Ideal.nD Cert.Kernel28Ideal.τ).loc Cert.Kernel28Ideal.main_arg26)
      ∧ m' ((c.tc : Thread Cert.Reference28Ideal.nD Cert.Reference28Ideal.τ).loc Cert.Reference28Ideal.main_arg27) = m ((c.tc : Thread Cert.Kernel28Ideal.nD Cert.Kernel28Ideal.τ).loc Cert.Kernel28Ideal.main_arg27)
      ∧ m' ((c.tc : Thread Cert.Reference28Ideal.nD Cert.Reference28Ideal.τ).loc Cert.Reference28Ideal.main_arg28) = m ((c.tc : Thread Cert.Kernel28Ideal.nD Cert.Kernel28Ideal.τ).loc Cert.Kernel28Ideal.main_arg28)
      ∧ m' ((c.tc : Thread Cert.Reference28Ideal.nD Cert.Reference28Ideal.τ).loc Cert.Reference28Ideal.main_arg29) = m ((c.tc : Thread Cert.Kernel28Ideal.nD Cert.Kernel28Ideal.τ).loc Cert.Kernel28Ideal.main_arg29)
      ∧ m' ((c.tc : Thread Cert.Reference28Ideal.nD Cert.Reference28Ideal.τ).loc Cert.Reference28Ideal.main_arg30) = m ((c.tc : Thread Cert.Kernel28Ideal.nD Cert.Kernel28Ideal.τ).loc Cert.Kernel28Ideal.main_arg30)
      ∧ m' ((c.tc : Thread Cert.Reference28Ideal.nD Cert.Reference28Ideal.τ).loc Cert.Reference28Ideal.main_arg31) = m ((c.tc : Thread Cert.Kernel28Ideal.nD Cert.Kernel28Ideal.τ).loc Cert.Kernel28Ideal.main_arg31)
      ∧ m' ((c.tc : Thread Cert.Reference28Ideal.nD Cert.Reference28Ideal.τ).loc Cert.Reference28Ideal.main_arg32) = m ((c.tc : Thread Cert.Kernel28Ideal.nD Cert.Kernel28Ideal.τ).loc Cert.Kernel28Ideal.main_arg32)
      ∧ m' ((c.tc : Thread Cert.Reference28Ideal.nD Cert.Reference28Ideal.τ).loc Cert.Reference28Ideal.main_arg33) = m ((c.tc : Thread Cert.Kernel28Ideal.nD Cert.Kernel28Ideal.τ).loc Cert.Kernel28Ideal.main_arg33)
      ∧ m' ((c.tc : Thread Cert.Reference28Ideal.nD Cert.Reference28Ideal.τ).loc Cert.Reference28Ideal.main_arg34) = m ((c.tc : Thread Cert.Kernel28Ideal.nD Cert.Kernel28Ideal.τ).loc Cert.Kernel28Ideal.main_arg34)
      ∧ m' ((c.tc : Thread Cert.Reference28Ideal.nD Cert.Reference28Ideal.τ).loc Cert.Reference28Ideal.main_arg35) = m ((c.tc : Thread Cert.Kernel28Ideal.nD Cert.Kernel28Ideal.τ).loc Cert.Kernel28Ideal.main_arg35)
      ∧ m' ((c.tc : Thread Cert.Reference28Ideal.nD Cert.Reference28Ideal.τ).loc Cert.Reference28Ideal.main_arg36) = m ((c.tc : Thread Cert.Kernel28Ideal.nD Cert.Kernel28Ideal.τ).loc Cert.Kernel28Ideal.main_arg36)
      ∧ m' ((c.tc : Thread Cert.Reference28Ideal.nD Cert.Reference28Ideal.τ).loc Cert.Reference28Ideal.main_arg37) = m ((c.tc : Thread Cert.Kernel28Ideal.nD Cert.Kernel28Ideal.τ).loc Cert.Kernel28Ideal.main_arg37)
      ∧ m' ((c.tc : Thread Cert.Reference28Ideal.nD Cert.Reference28Ideal.τ).loc Cert.Reference28Ideal.main_arg38) = m ((c.tc : Thread Cert.Kernel28Ideal.nD Cert.Kernel28Ideal.τ).loc Cert.Kernel28Ideal.main_arg38)
      ∧ m' ((c.tc : Thread Cert.Reference28Ideal.nD Cert.Reference28Ideal.τ).loc Cert.Reference28Ideal.main_arg39) = m ((c.tc : Thread Cert.Kernel28Ideal.nD Cert.Kernel28Ideal.τ).loc Cert.Kernel28Ideal.main_arg39)) →
    ∃ (v0 : (c : Dev Cert.Kernel28Ideal.nD) → Buf (Elt Ideal) ((c.tc : Thread Cert.Kernel28Ideal.nD Cert.Kernel28Ideal.τ).loc Cert.Kernel28Ideal.main_v44_0)) (v1 : (c : Dev Cert.Kernel28Ideal.nD) → Buf (Elt Ideal) ((c.tc : Thread Cert.Kernel28Ideal.nD Cert.Kernel28Ideal.τ).loc Cert.Kernel28Ideal.main_v44_1)) (v2 : (c : Dev Cert.Kernel28Ideal.nD) → Buf (Elt Ideal) ((c.tc : Thread Cert.Kernel28Ideal.nD Cert.Kernel28Ideal.τ).loc Cert.Kernel28Ideal.main_v44_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v44_0) = v0 c
          ∧ r.2.mem ((c.tc : Thread Cert.Kernel28Ideal.nD Cert.Kernel28Ideal.τ).loc Cert.Kernel28Ideal.main_v44_1) = v1 c
          ∧ r.2.mem ((c.tc : Thread Cert.Kernel28Ideal.nD Cert.Kernel28Ideal.τ).loc Cert.Kernel28Ideal.main_v44_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
          ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
          ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
          ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
          ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
          ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
          ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
          ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
          ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
          ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
          ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
          ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
          ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
          ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
          ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
          ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
          ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
          ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
          ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
          ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
          ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
          ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
          ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
          ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
          ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
          ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
          ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
          ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
          ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v250) = v0 c
          ∧ r.2.mem ((c.tc : Thread Cert.Reference28Ideal.nD Cert.Reference28Ideal.τ).loc Cert.Reference28Ideal.main_v261) = v1 c
          ∧ r.2.mem ((c.tc : Thread Cert.Reference28Ideal.nD Cert.Reference28Ideal.τ).loc Cert.Reference28Ideal.main_v272) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11)
          ∧ r.2.mem ((c.tc : Thread Cert.Reference28Ideal.nD Cert.Reference28Ideal.τ).loc Cert.Reference28Ideal.main_arg12) = m' ((c.tc : Thread Cert.Reference28Ideal.nD Cert.Reference28Ideal.τ).loc Cert.Reference28Ideal.main_arg12)
          ∧ r.2.mem ((c.tc : Thread Cert.Reference28Ideal.nD Cert.Reference28Ideal.τ).loc Cert.Reference28Ideal.main_arg13) = m' ((c.tc : Thread Cert.Reference28Ideal.nD Cert.Reference28Ideal.τ).loc Cert.Reference28Ideal.main_arg13)
          ∧ r.2.mem ((c.tc : Thread Cert.Reference28Ideal.nD Cert.Reference28Ideal.τ).loc Cert.Reference28Ideal.main_arg14) = m' ((c.tc : Thread Cert.Reference28Ideal.nD Cert.Reference28Ideal.τ).loc Cert.Reference28Ideal.main_arg14)
          ∧ r.2.mem ((c.tc : Thread Cert.Reference28Ideal.nD Cert.Reference28Ideal.τ).loc Cert.Reference28Ideal.main_arg15) = m' ((c.tc : Thread Cert.Reference28Ideal.nD Cert.Reference28Ideal.τ).loc Cert.Reference28Ideal.main_arg15)
          ∧ r.2.mem ((c.tc : Thread Cert.Reference28Ideal.nD Cert.Reference28Ideal.τ).loc Cert.Reference28Ideal.main_arg16) = m' ((c.tc : Thread Cert.Reference28Ideal.nD Cert.Reference28Ideal.τ).loc Cert.Reference28Ideal.main_arg16)
          ∧ r.2.mem ((c.tc : Thread Cert.Reference28Ideal.nD Cert.Reference28Ideal.τ).loc Cert.Reference28Ideal.main_arg17) = m' ((c.tc : Thread Cert.Reference28Ideal.nD Cert.Reference28Ideal.τ).loc Cert.Reference28Ideal.main_arg17)
          ∧ r.2.mem ((c.tc : Thread Cert.Reference28Ideal.nD Cert.Reference28Ideal.τ).loc Cert.Reference28Ideal.main_arg18) = m' ((c.tc : Thread Cert.Reference28Ideal.nD Cert.Reference28Ideal.τ).loc Cert.Reference28Ideal.main_arg18)
          ∧ r.2.mem ((c.tc : Thread Cert.Reference28Ideal.nD Cert.Reference28Ideal.τ).loc Cert.Reference28Ideal.main_arg19) = m' ((c.tc : Thread Cert.Reference28Ideal.nD Cert.Reference28Ideal.τ).loc Cert.Reference28Ideal.main_arg19)
          ∧ r.2.mem ((c.tc : Thread Cert.Reference28Ideal.nD Cert.Reference28Ideal.τ).loc Cert.Reference28Ideal.main_arg20) = m' ((c.tc : Thread Cert.Reference28Ideal.nD Cert.Reference28Ideal.τ).loc Cert.Reference28Ideal.main_arg20)
          ∧ r.2.mem ((c.tc : Thread Cert.Reference28Ideal.nD Cert.Reference28Ideal.τ).loc Cert.Reference28Ideal.main_arg21) = m' ((c.tc : Thread Cert.Reference28Ideal.nD Cert.Reference28Ideal.τ).loc Cert.Reference28Ideal.main_arg21)
          ∧ r.2.mem ((c.tc : Thread Cert.Reference28Ideal.nD Cert.Reference28Ideal.τ).loc Cert.Reference28Ideal.main_arg22) = m' ((c.tc : Thread Cert.Reference28Ideal.nD Cert.Reference28Ideal.τ).loc Cert.Reference28Ideal.main_arg22)
          ∧ r.2.mem ((c.tc : Thread Cert.Reference28Ideal.nD Cert.Reference28Ideal.τ).loc Cert.Reference28Ideal.main_arg23) = m' ((c.tc : Thread Cert.Reference28Ideal.nD Cert.Reference28Ideal.τ).loc Cert.Reference28Ideal.main_arg23)
          ∧ r.2.mem ((c.tc : Thread Cert.Reference28Ideal.nD Cert.Reference28Ideal.τ).loc Cert.Reference28Ideal.main_arg24) = m' ((c.tc : Thread Cert.Reference28Ideal.nD Cert.Reference28Ideal.τ).loc Cert.Reference28Ideal.main_arg24)
          ∧ r.2.mem ((c.tc : Thread Cert.Reference28Ideal.nD Cert.Reference28Ideal.τ).loc Cert.Reference28Ideal.main_arg25) = m' ((c.tc : Thread Cert.Reference28Ideal.nD Cert.Reference28Ideal.τ).loc Cert.Reference28Ideal.main_arg25)
          ∧ r.2.mem ((c.tc : Thread Cert.Reference28Ideal.nD Cert.Reference28Ideal.τ).loc Cert.Reference28Ideal.main_arg26) = m' ((c.tc : Thread Cert.Reference28Ideal.nD Cert.Reference28Ideal.τ).loc Cert.Reference28Ideal.main_arg26)
          ∧ r.2.mem ((c.tc : Thread Cert.Reference28Ideal.nD Cert.Reference28Ideal.τ).loc Cert.Reference28Ideal.main_arg27) = m' ((c.tc : Thread Cert.Reference28Ideal.nD Cert.Reference28Ideal.τ).loc Cert.Reference28Ideal.main_arg27)
          ∧ r.2.mem ((c.tc : Thread Cert.Reference28Ideal.nD Cert.Reference28Ideal.τ).loc Cert.Reference28Ideal.main_arg28) = m' ((c.tc : Thread Cert.Reference28Ideal.nD Cert.Reference28Ideal.τ).loc Cert.Reference28Ideal.main_arg28)
          ∧ r.2.mem ((c.tc : Thread Cert.Reference28Ideal.nD Cert.Reference28Ideal.τ).loc Cert.Reference28Ideal.main_arg29) = m' ((c.tc : Thread Cert.Reference28Ideal.nD Cert.Reference28Ideal.τ).loc Cert.Reference28Ideal.main_arg29)
          ∧ r.2.mem ((c.tc : Thread Cert.Reference28Ideal.nD Cert.Reference28Ideal.τ).loc Cert.Reference28Ideal.main_arg30) = m' ((c.tc : Thread Cert.Reference28Ideal.nD Cert.Reference28Ideal.τ).loc Cert.Reference28Ideal.main_arg30)
          ∧ r.2.mem ((c.tc : Thread Cert.Reference28Ideal.nD Cert.Reference28Ideal.τ).loc Cert.Reference28Ideal.main_arg31) = m' ((c.tc : Thread Cert.Reference28Ideal.nD Cert.Reference28Ideal.τ).loc Cert.Reference28Ideal.main_arg31)
          ∧ r.2.mem ((c.tc : Thread Cert.Reference28Ideal.nD Cert.Reference28Ideal.τ).loc Cert.Reference28Ideal.main_arg32) = m' ((c.tc : Thread Cert.Reference28Ideal.nD Cert.Reference28Ideal.τ).loc Cert.Reference28Ideal.main_arg32)
          ∧ r.2.mem ((c.tc : Thread Cert.Reference28Ideal.nD Cert.Reference28Ideal.τ).loc Cert.Reference28Ideal.main_arg33) = m' ((c.tc : Thread Cert.Reference28Ideal.nD Cert.Reference28Ideal.τ).loc Cert.Reference28Ideal.main_arg33)
          ∧ r.2.mem ((c.tc : Thread Cert.Reference28Ideal.nD Cert.Reference28Ideal.τ).loc Cert.Reference28Ideal.main_arg34) = m' ((c.tc : Thread Cert.Reference28Ideal.nD Cert.Reference28Ideal.τ).loc Cert.Reference28Ideal.main_arg34)
          ∧ r.2.mem ((c.tc : Thread Cert.Reference28Ideal.nD Cert.Reference28Ideal.τ).loc Cert.Reference28Ideal.main_arg35) = m' ((c.tc : Thread Cert.Reference28Ideal.nD Cert.Reference28Ideal.τ).loc Cert.Reference28Ideal.main_arg35)
          ∧ r.2.mem ((c.tc : Thread Cert.Reference28Ideal.nD Cert.Reference28Ideal.τ).loc Cert.Reference28Ideal.main_arg36) = m' ((c.tc : Thread Cert.Reference28Ideal.nD Cert.Reference28Ideal.τ).loc Cert.Reference28Ideal.main_arg36)
          ∧ r.2.mem ((c.tc : Thread Cert.Reference28Ideal.nD Cert.Reference28Ideal.τ).loc Cert.Reference28Ideal.main_arg37) = m' ((c.tc : Thread Cert.Reference28Ideal.nD Cert.Reference28Ideal.τ).loc Cert.Reference28Ideal.main_arg37)
          ∧ r.2.mem ((c.tc : Thread Cert.Reference28Ideal.nD Cert.Reference28Ideal.τ).loc Cert.Reference28Ideal.main_arg38) = m' ((c.tc : Thread Cert.Reference28Ideal.nD Cert.Reference28Ideal.τ).loc Cert.Reference28Ideal.main_arg38)
          ∧ r.2.mem ((c.tc : Thread Cert.Reference28Ideal.nD Cert.Reference28Ideal.τ).loc Cert.Reference28Ideal.main_arg39) = m' ((c.tc : Thread Cert.Reference28Ideal.nD Cert.Reference28Ideal.τ).loc Cert.Reference28Ideal.main_arg39))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v22) = v0 c
          ∧ r.2.mem ((c.tc : Thread Cert.Reference29Ideal.nD Cert.Reference29Ideal.τ).loc Cert.Reference29Ideal.main_v7) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v7) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v3_0)) (v1 : (c : Dev Cert.Kernel35Ideal.nD) → Buf (Elt Ideal) ((c.tc : Thread Cert.Kernel35Ideal.nD Cert.Kernel35Ideal.τ).loc Cert.Kernel35Ideal.main_v3_1)) (v2 : (c : Dev Cert.Kernel35Ideal.nD) → Buf (Elt Ideal) ((c.tc : Thread Cert.Kernel35Ideal.nD Cert.Kernel35Ideal.τ).loc Cert.Kernel35Ideal.main_v3_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3_0) = v0 c
          ∧ r.2.mem ((c.tc : Thread Cert.Kernel35Ideal.nD Cert.Kernel35Ideal.τ).loc Cert.Kernel35Ideal.main_v3_1) = v1 c
          ∧ r.2.mem ((c.tc : Thread Cert.Kernel35Ideal.nD Cert.Kernel35Ideal.τ).loc Cert.Kernel35Ideal.main_v3_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v39) = v0 c
          ∧ r.2.mem ((c.tc : Thread Cert.Reference35Ideal.nD Cert.Reference35Ideal.τ).loc Cert.Reference35Ideal.main_v40) = v1 c
          ∧ r.2.mem ((c.tc : Thread Cert.Reference35Ideal.nD Cert.Reference35Ideal.τ).loc Cert.Reference35Ideal.main_v41) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v15) = v0 c
          ∧ r.2.mem ((c.tc : Thread Cert.Reference37Ideal.nD Cert.Reference37Ideal.τ).loc Cert.Reference37Ideal.main_v16) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)) (v3 : (c : Dev Cert.Kernel38Ideal.nD) → Buf (Elt Ideal) ((c.tc : Thread Cert.Kernel38Ideal.nD Cert.Kernel38Ideal.τ).loc Cert.Kernel38Ideal.main_v4_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_v4_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v10) = v0 c
          ∧ r.2.mem ((c.tc : Thread Cert.Reference38Ideal.nD Cert.Reference38Ideal.τ).loc Cert.Reference38Ideal.main_v11) = v1 c
          ∧ r.2.mem ((c.tc : Thread Cert.Reference38Ideal.nD Cert.Reference38Ideal.τ).loc Cert.Reference38Ideal.main_v12) = v2 c
          ∧ r.2.mem ((c.tc : Thread Cert.Reference38Ideal.nD Cert.Reference38Ideal.τ).loc Cert.Reference38Ideal.main_v26) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)) →
    ∃ (v0 : (c : Dev Cert.Kernel39Ideal.nD) → Buf (Elt Ideal) ((c.tc : Thread Cert.Kernel39Ideal.nD Cert.Kernel39Ideal.τ).loc Cert.Kernel39Ideal.main_v5_0)) (v1 : (c : Dev Cert.Kernel39Ideal.nD) → Buf (Elt Ideal) ((c.tc : Thread Cert.Kernel39Ideal.nD Cert.Kernel39Ideal.τ).loc Cert.Kernel39Ideal.main_v5_1)) (v2 : (c : Dev Cert.Kernel39Ideal.nD) → Buf (Elt Ideal) ((c.tc : Thread Cert.Kernel39Ideal.nD Cert.Kernel39Ideal.τ).loc Cert.Kernel39Ideal.main_v5_2)) (v3 : (c : Dev Cert.Kernel39Ideal.nD) → Buf (Elt Ideal) ((c.tc : Thread Cert.Kernel39Ideal.nD Cert.Kernel39Ideal.τ).loc Cert.Kernel39Ideal.main_v5_3)) (v4 : (c : Dev Cert.Kernel39Ideal.nD) → Buf (Elt Ideal) ((c.tc : Thread Cert.Kernel39Ideal.nD Cert.Kernel39Ideal.τ).loc Cert.Kernel39Ideal.main_v5_4)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v5_0) = v0 c
          ∧ r.2.mem ((c.tc : Thread Cert.Kernel39Ideal.nD Cert.Kernel39Ideal.τ).loc Cert.Kernel39Ideal.main_v5_1) = v1 c
          ∧ r.2.mem ((c.tc : Thread Cert.Kernel39Ideal.nD Cert.Kernel39Ideal.τ).loc Cert.Kernel39Ideal.main_v5_2) = v2 c
          ∧ r.2.mem ((c.tc : Thread Cert.Kernel39Ideal.nD Cert.Kernel39Ideal.τ).loc Cert.Kernel39Ideal.main_v5_3) = v3 c
          ∧ r.2.mem ((c.tc : Thread Cert.Kernel39Ideal.nD Cert.Kernel39Ideal.τ).loc Cert.Kernel39Ideal.main_v5_4) = v4 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v10) = v0 c
          ∧ r.2.mem ((c.tc : Thread Cert.Reference39Ideal.nD Cert.Reference39Ideal.τ).loc Cert.Reference39Ideal.main_v11) = v1 c
          ∧ r.2.mem ((c.tc : Thread Cert.Reference39Ideal.nD Cert.Reference39Ideal.τ).loc Cert.Reference39Ideal.main_v12) = v2 c
          ∧ r.2.mem ((c.tc : Thread Cert.Reference39Ideal.nD Cert.Reference39Ideal.τ).loc Cert.Reference39Ideal.main_v26) = v3 c
          ∧ r.2.mem ((c.tc : Thread Cert.Reference39Ideal.nD Cert.Reference39Ideal.τ).loc Cert.Reference39Ideal.main_v40) = v4 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v3_0)) (v1 : (c : Dev Cert.Kernel40Ideal.nD) → Buf (Elt Ideal) ((c.tc : Thread Cert.Kernel40Ideal.nD Cert.Kernel40Ideal.τ).loc Cert.Kernel40Ideal.main_v3_1)) (v2 : (c : Dev Cert.Kernel40Ideal.nD) → Buf (Elt Ideal) ((c.tc : Thread Cert.Kernel40Ideal.nD Cert.Kernel40Ideal.τ).loc Cert.Kernel40Ideal.main_v3_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v3_0) = v0 c
          ∧ r.2.mem ((c.tc : Thread Cert.Kernel40Ideal.nD Cert.Kernel40Ideal.τ).loc Cert.Kernel40Ideal.main_v3_1) = v1 c
          ∧ r.2.mem ((c.tc : Thread Cert.Kernel40Ideal.nD Cert.Kernel40Ideal.τ).loc Cert.Kernel40Ideal.main_v3_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v10) = v0 c
          ∧ r.2.mem ((c.tc : Thread Cert.Reference40Ideal.nD Cert.Reference40Ideal.τ).loc Cert.Reference40Ideal.main_v11) = v1 c
          ∧ r.2.mem ((c.tc : Thread Cert.Reference40Ideal.nD Cert.Reference40Ideal.τ).loc Cert.Reference40Ideal.main_v12) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v13) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4096x1024 .bf16) (main_arg2 : FVec F S4096x1024 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Kernel.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096x16x256 : Shape := ⟨4, ![8, 4096, 16, 256]⟩
abbrev S8x4096x16 : Shape := ⟨3, ![8, 4096, 16]⟩
abbrev S512x256 : Shape := ⟨2, ![512, 256]⟩
abbrev S4096x256 : Shape := ⟨2, ![4096, 256]⟩
abbrev S2x512x1 : Shape := ⟨3, ![2, 512, 1]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256x256 : Shape := ⟨2, ![256, 256]⟩
abbrev S1x512x1 : Shape := ⟨3, ![1, 512, 1]⟩
abbrev S256 : Shape := ⟨1, ![256]⟩
abbrev S256x1 : Shape := ⟨2, ![256, 1]⟩
abbrev S1x256x1 : Shape := ⟨3, ![1, 256, 1]⟩

abbrev nBuf : Space → Nat
  | .hbm => 55
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S8x4096x16x256, .f32⟩
  | .hbm, ⟨41, _⟩ => ⟨S_, .f32⟩
  | .hbm, ⟨42, _⟩ => ⟨S8x4096x16, .f32⟩
  | .hbm, ⟨43, _⟩ => ⟨S_, .f32⟩
  | .hbm, ⟨44, _⟩ => ⟨S_, .f32⟩
  | .hbm, ⟨45, _⟩ => ⟨S8x4096x16, .f32⟩
  | .hbm, ⟨46, _⟩ => ⟨S8x4096x16, .f32⟩
  | .hbm, ⟨47, _⟩ => ⟨S_, .i32⟩
  | .hbm, ⟨48, _⟩ => ⟨S_, .f32⟩
  | .hbm, ⟨49, _⟩ => ⟨S8x4096x128, .f32⟩
  | .hbm, ⟨50, _⟩ => ⟨S4096x8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S2x512x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_c : Ref sig .tc := ⟨.hbm, 47, rfl⟩
abbrev main_call3_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v24_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_9 : BitVec 32 := 1#32
  ⟨c0_i32_8, v31, c1_i32_9⟩
def k0_mult1 (i : grid0.Coords) (k0_t1 : Fin (k0_t1_loop i).trips) : BitVec 32 :=
  let c0_i32_8 : BitVec 32 := 0#32
  let c1_i32_9 : BitVec 32 := 1#32
  let arg11 : BitVec 32 := Scf.iv c0_i32_8 c1_i32_9 k0_t1
  let c256_i32_197 : BitVec 32 := 256#32
  let v460 : BitVec 32 := Scalar.muli arg11 c256_i32_197
  v460
def k0_off1 (i : grid0.Coords) (k0_t1 : Fin (k0_t1_loop i).trips) : Fin 2 → Nat :=
  let c0_i32_8 : BitVec 32 := 0#32
  let c1_i32_9 : BitVec 32 := 1#32
  let arg11 : BitVec 32 := Scf.iv c0_i32_8 c1_i32_9 k0_t1
  let c256_i32_197 : BitVec 32 := 256#32
  let v460 : BitVec 32 := Scalar.muli arg11 c256_i32_197
  let v461 : BitVec 32 := v460
  let v462 : Index := Scalar.indexCast v461
  let c0_198 : Index := 0#32
  ![v462.toNat, 0]
def k0_off2 (i : grid0.Coords) (k0_t1 : Fin (k0_t1_loop i).trips) : Fin 2 → Nat :=
  let c0_i32_8 : BitVec 32 := 0#32
  let c1_i32_9 : BitVec 32 := 1#32
  let arg11 : BitVec 32 := Scf.iv c0_i32_8 c1_i32_9 k0_t1
  let c256_i32_197 : BitVec 32 := 256#32
  let v460 : BitVec 32 := Scalar.muli arg11 c256_i32_197
  let v461 : BitVec 32 := v460
  let v464 : Index := Scalar.indexCast v461
  let c128_199 : Index := 128#32
  ![v464.toNat, 128]
@[reducible] def k0_t2_loop (i : grid0.Coords) : Scf.Loop 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let v28 : BitVec 32 := Scalar.addi c0_i32_8 v27
  let c1_i32_10 : BitVec 32 := 1#32
  ⟨v31, v28, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v460 : BitVec 32 := Scalar.muli arg11 c256_i32_197
  v460
def k0_off3 (i : grid0.Coords) (k0_t2 : Fin (k0_t2_loop i).trips) : Fin 2 → Nat :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v460 : BitVec 32 := Scalar.muli arg11 c256_i32_197
  let v461 : BitVec 32 := v460
  let v462 : Index := Scalar.indexCast v461
  let c0_198 : Index := 0#32
  ![v462.toNat, 0]
def k0_off4 (i : grid0.Coords) (k0_t2 : Fin (k0_t2_loop i).trips) : Fin 2 → Nat :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v460 : BitVec 32 := Scalar.muli arg11 c256_i32_197
  let v461 : BitVec 32 := v460
  let v464 : Index := Scalar.indexCast v461
  let c128_199 : Index := 128#32
  ![v464.toNat, 128]
def k0_mult3 (i : grid0.Coords) : BitVec 32 :=
  let arg1 : BitVec 32 := BitVec.ofNat 32 (i 1).val
  let c2_i32_11 : BitVec 32 := 2#32
  let v32 : BitVec 32 := Scalar.muli arg1 c2_i32_11
  let c0_i32_12 : BitVec 32 := 0#32
  let v33 : BitVec 32 := Scalar.addi v32 c0_i32_12
  let c256_i32 : BitVec 32 := 256#32
  let v41 : BitVec 32 := Scalar.muli v33 c256_i32
  v41
def k0_off5 (i : grid0.Coords) (c0_i32_12 : BitVec 32) : Fin 2 → Nat :=
  let arg1 : BitVec 32 := BitVec.ofNat 32 (i 1).val
  let c2_i32_11 : BitVec 32 := 2#32
  let v32 : BitVec 32 := Scalar.muli arg1 c2_i32_11
  let v33 : BitVec 32 := Scalar.addi v32 c0_i32_12
  let c256_i32 : BitVec 32 := 256#32
  let v41 : BitVec 32 := Scalar.muli v33 c256_i32
  let v42 : BitVec 32 := v41
  let v43 : Index := Scalar.indexCast v42
  let c0_15 : Index := 0#32
  ![v43.toNat, 0]
def k0_off6 (i : grid0.Coords) (c0_i32_12 : BitVec 32) : Fin 2 → Nat :=
  let arg1 : BitVec 32 := BitVec.ofNat 32 (i 1).val
  let c2_i32_11 : BitVec 32 := 2#32
  let v32 : BitVec 32 := Scalar.muli arg1 c2_i32_11
  let v33 : BitVec 32 := Scalar.addi v32 c0_i32_12
  let c256_i32 : BitVec 32 := 256#32
  let v41 : BitVec 32 := Scalar.muli v33 c256_i32
  let v42 : BitVec 32 := v41
  let v45 : Index := Scalar.indexCast v42
  let c128 : Index := 128#32
  ![v45.toNat, 128]
def k0_mult4 (i : grid0.Coords) : BitVec 32 :=
  let arg1 : BitVec 32 := BitVec.ofNat 32 (i 1).val
  let c2_i32_103 : BitVec 32 := 2#32
  let v245 : BitVec 32 := Scalar.muli arg1 c2_i32_103
  let c1_i32_104 : BitVec 32 := 1#32
  let v246 : BitVec 32 := Scalar.addi v245 c1_i32_104
  let c256_i32_107 : BitVec 32 := 256#32
  let v254 : BitVec 32 := Scalar.muli v246 c256_i32_107
  v254
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x128x4096 : Shape := ⟨3, ![8, 128, 4096]⟩

abbrev nBuf : Space → Nat
  | .hbm => 175
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x1024, .f32⟩
  | 5 => ⟨S4096x1024, .f32⟩
  | 6 => ⟨S4096x1024, .f32⟩
  | 7 => ⟨S4096x1024, .f32⟩
  | 8 => ⟨S4096x8x128, .f32⟩
  | 9 => ⟨S8x4096x128, .f32⟩
  | 10 => ⟨S4096x8x128, .f32⟩
  | 11 => ⟨S8x4096x128, .f32⟩
  | 12 => ⟨S4096x8x128, .f32⟩
  | 13 => ⟨S8x4096x128, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x1024, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S_, .f32⟩
  | 5 => ⟨S8x4096x4096, .i1⟩
  | 6 => ⟨S8x4096x4096, .f32⟩
  | 7 => ⟨S8x4096x4096, .f32⟩
  | 8 => ⟨S_, .f32⟩
  | 9 => ⟨S8x4096x4096, .f32⟩
  | 10 => ⟨S8x4096x4096, .f32⟩
  | 11 => ⟨S8x4096x128, .f32⟩
  | 12 => ⟨S4096x8x128, .f32⟩
  | 13 => ⟨S4096x1024, .f32⟩
  | 14 => ⟨S4096x8x128, .f32⟩
  | 15 => ⟨S8x4096x128, .f32⟩
  | 16 => ⟨S8x128x4096, .f32⟩
  | 17 => ⟨S8x4096x128, .f32⟩
  | 18 => ⟨S8x4096x4096, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x128, .f32⟩
  | 40 => ⟨S8x4096x128, .f32⟩
  | 41 => ⟨S4096x8x128, .f32⟩
  | 42 => ⟨S4096x1024, .f32⟩
  | 43 => ⟨S4096x8x128, .f32⟩
  | 44 => ⟨S4096x1024, .f32⟩
  | 45 => ⟨S4096x8x128, .f32⟩
  | 46 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_cst : Ref sig .tc := ⟨.hbm, 71, rfl⟩
abbrev main_call1_v0 : Ref sig .tc := ⟨.hbm, 72, rfl⟩
abbrev main_v20_1 : Ref sig .tc := ⟨.hbm, 73, rfl⟩
abbrev main_call1_v2 : Ref sig .tc := ⟨.hbm, 74, rfl⟩
abbrev main_v20_0 : Ref sig .tc := ⟨.hbm, 75, rfl⟩
abbrev main_call1_cst : Ref sig .tc := ⟨.hbm, 76, rfl⟩
abbrev main_v20_2 : Ref sig .tc := ⟨.hbm, 77, rfl⟩
abbrev main_call2_cst : Ref sig .tc := ⟨.hbm, 78, rfl⟩
abbrev main_call2_v0 : Ref sig .tc := ⟨.hbm, 79, rfl⟩
abbrev main_v21 : Ref sig .tc := ⟨.hbm, 80, rfl⟩
abbrev main_v22 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v23_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v23_2 : Ref sig .tc := ⟨.hbm, 128, rfl⟩
abbrev main_v23_0 : Ref sig .tc := ⟨.hbm, 129, rfl⟩
abbrev main_v24 : Ref sig .tc := ⟨.hbm, 130, rfl⟩
abbrev main_cst_0 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_call5_cst : Ref sig .tc := ⟨.hbm, 148, rfl⟩
abbrev main_call5_v0 : Ref sig .tc := ⟨.hbm, 149, rfl⟩
abbrev main_v36 : Ref sig .tc := ⟨.hbm, 150, rfl⟩
abbrev main_call6_v0 : Ref sig .tc := ⟨.hbm, 151, rfl⟩
abbrev main_call6_v1 : Ref sig .tc := ⟨.hbm, 152, rfl⟩
abbrev main_v37 : Ref sig .tc := ⟨.hbm, 153, rfl⟩
abbrev main_v38 : Ref sig .tc := ⟨.hbm, 154, rfl⟩
abbrev main_call7_cst : Ref sig .tc := ⟨.hbm, 155, rfl⟩
abbrev main_call7_v0 : Ref sig .tc := ⟨.hbm, 156, rfl⟩
abbrev main_v39 : Ref sig .tc := ⟨.hbm, 157, rfl⟩
abbrev main_v40 : Ref sig .tc := ⟨.hbm, 158, rfl⟩
abbrev main_call8_cst : Ref sig .tc := ⟨.hbm, 159, rfl⟩
abbrev main_call8_v0 : Ref sig .tc := ⟨.hbm, 160, rfl⟩
abbrev main_v41 : Ref sig .tc := ⟨.hbm, 161, rfl⟩
abbrev main_call9_v0 : Ref sig .tc := ⟨.hbm, 162, rfl⟩
abbrev main_call9_v1 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S4096x2816, .bf16⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S5632x1024 : Shape := ⟨2, ![5632, 1024]⟩
abbrev S_ : Shape := ⟨0, ![]⟩
abbrev S8x128 : Shape := ⟨2, ![8, 128]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S_, .f32⟩
  | .hbm, ⟨8, _⟩ => ⟨S8x128, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference5Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4096x1024 : Shape := ⟨2, ![4096, 1024]⟩
abbrev S4096x4096 : Shape := ⟨2, ![4096, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x4112 : Shape := ⟨2, ![1024, 4112]⟩
abbrev S4112x1024 : Shape := ⟨2, ![4112, 1024]⟩
abbrev S4096x4096 : Shape := ⟨2, ![4096, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4112, .f32⟩
  | .hbm, ⟨2, _⟩ => ⟨S4112x1024, .f32⟩
  | .hbm, ⟨3, _⟩ => ⟨S4112x1024, .bf16⟩
  | .hbm, ⟨4, _⟩ => ⟨S4096x1024, .bf16⟩
  | .hbm, ⟨5, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x4112 : Shape := ⟨2, ![1024, 4112]⟩
abbrev S4096x4112 : Shape := ⟨2, ![4096, 4112]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4112, .f32⟩
  | .hbm, ⟨2, _⟩ => ⟨S4096x1024, .f32⟩
  | .hbm, ⟨3, _⟩ => ⟨S4096x4112, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x4112 : Shape := ⟨2, ![1024, 4112]⟩
abbrev S4096x4096 : Shape := ⟨2, ![4096, 4096]⟩
abbrev S4112x1024 : Shape := ⟨2, ![4112, 1024]⟩
abbrev S_ : Shape := ⟨0, ![]⟩
abbrev S8x128 : Shape := ⟨2, ![8, 128]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S4112x1024, .f32⟩
  | .hbm, ⟨7, _⟩ => ⟨S4112x1024, .bf16⟩
  | .hbm, ⟨8, _⟩ => ⟨S4096x1024, .bf16⟩
  | .hbm, ⟨9, _⟩ => ⟨S_, .f32⟩
  | .hbm, ⟨10, _⟩ => ⟨S8x128, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_11 : BitVec 32 := 0#32
  let v17 : BitVec 1 := Scalar.cmpi .eq arg2 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference10Ideal.lean ====
abbrev S4096x1024 : Shape := ⟨2, ![4096, 1024]⟩
abbrev S1024 : Shape := ⟨1, ![1024]⟩
abbrev S1024x4112 : Shape := ⟨2, ![1024, 4112]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S8x128 : Shape := ⟨2, ![8, 128]⟩
abbrev S1x1024 : Shape := ⟨2, ![1, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .hbm, ⟨6, _⟩ => ⟨S_, .f32⟩
  | .hbm, ⟨7, _⟩ => ⟨S8x128, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_11 : BitVec 32 := 0#32
  let v17 : BitVec 1 := Scalar.cmpi .eq arg2 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference12Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel13.lean ====
abbrev S8x128x1024 : Shape := ⟨3, ![8, 128, 1024]⟩
abbrev S2x128x1024 : Shape := ⟨3, ![2, 128, 1024]⟩
abbrev S8x128x128 : Shape := ⟨3, ![8, 128, 128]⟩
abbrev S2x128x128 : Shape := ⟨3, ![2, 128, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .local _ .vmem, ⟨0, _⟩ => ⟨S8x128x128, .bf16⟩
  | .local _ .vmem, ⟨1, _⟩ => ⟨S8x128x128, .bf16⟩
  | .local _ .vmem, ⟨2, _⟩ => ⟨S8x128x128, .bf16⟩
  | .local _ .vmem, ⟨3, _⟩ => ⟨S8x128x128, .bf16⟩
  | .local _ .vmem, ⟨4, _⟩ => ⟨S2x128x128, .f32⟩
  | .local _ .vmem, ⟨5, _⟩ => ⟨S2x128x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S2x128x1024 : Shape := ⟨3, ![2, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .f32⟩
  | .hbm, ⟨3, _⟩ => ⟨S_, .f32⟩
  | .hbm, ⟨4, _⟩ => ⟨S128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S1x128x1024, .f32⟩
  | .hbm, ⟨10, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8x528x1024 : Shape := ⟨3, ![8, 528, 1024]⟩
abbrev S2x514x1024 : Shape := ⟨3, ![2, 514, 1024]⟩
abbrev S8x528x128 : Shape := ⟨3, ![8, 528, 128]⟩
abbrev S2x514x128 : Shape := ⟨3, ![2, 514, 128]⟩
abbrev S1x528x128 : Shape := ⟨3, ![1, 528, 128]⟩
abbrev S528x128 : Shape := ⟨2, ![528, 128]⟩
abbrev S514x128 : Shape := ⟨2, ![514, 128]⟩
abbrev S1x514x128 : Shape := ⟨3, ![1, 514, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x528x1024, .bf16⟩
  | .hbm, ⟨1, _⟩ => ⟨S8x528x1024, .bf16⟩
  | .hbm, ⟨2, _⟩ => ⟨S2x514x1024, .f32⟩
  | .local _ .vmem, ⟨0, _⟩ => ⟨S8x528x128, .bf16⟩
  | .local _ .vmem, ⟨1, _⟩ => ⟨S8x528x128, .bf16⟩
  | .local _ .vmem, ⟨2, _⟩ => ⟨S8x528x128, .bf16⟩
  | .local _ .vmem, ⟨3, _⟩ => ⟨S8x528x128, .bf16⟩
  | .local _ .vmem, ⟨4, _⟩ => ⟨S2x514x128, .f32⟩
  | .local _ .vmem, ⟨5, _⟩ => ⟨S2x514x128, .f32⟩
  | _, _ => ⟨S8x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x528x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x528x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x514x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8x528x1024 : Shape := ⟨3, ![8, 528, 1024]⟩
abbrev S_ : Shape := ⟨0, ![]⟩
abbrev S528x1024 : Shape := ⟨2, ![528, 1024]⟩
abbrev S1x528x1024 : Shape := ⟨3, ![1, 528, 1024]⟩
abbrev S2x528x1024 : Shape := ⟨3, ![2, 528, 1024]⟩
abbrev S2x514x1024 : Shape := ⟨3, ![2, 514, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x528x1024, .bf16⟩
  | .hbm, ⟨1, _⟩ => ⟨S8x528x1024, .bf16⟩
  | .hbm, ⟨2, _⟩ => ⟨S8x528x1024, .f32⟩
  | .hbm, ⟨3, _⟩ => ⟨S_, .f32⟩
  | .hbm, ⟨4, _⟩ => ⟨S528x1024, .f32⟩
  | .hbm, ⟨5, _⟩ => ⟨S8x528x1024, .f32⟩
  | .hbm, ⟨6, _⟩ => ⟨S_, .f32⟩
  | .hbm, ⟨7, _⟩ => ⟨S528x1024, .f32⟩
  | .hbm, ⟨8, _⟩ => ⟨S1x528x1024, .f32⟩
  | .hbm, ⟨9, _⟩ => ⟨S1x528x1024, .f32⟩
  | .hbm, ⟨10, _⟩ => ⟨S2x528x1024, .f32⟩
  | .hbm, ⟨11, _⟩ => ⟨S2x514x1024, .f32⟩
  | _, _ => ⟨S8x528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel15.lean ====
abbrev S8x256x1024 : Shape := ⟨3, ![8, 256, 1024]⟩
abbrev S1x256x1024 : Shape := ⟨3, ![1, 256, 1024]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S8x256x1024 : Shape := ⟨3, ![8, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | .hbm, ⟨4, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8x704x1024 : Shape := ⟨3, ![8, 704, 1024]⟩
abbrev S4x704x1024 : Shape := ⟨3, ![4, 704, 1024]⟩
abbrev S8x704x128 : Shape := ⟨3, ![8, 704, 128]⟩
abbrev S4x704x128 : Shape := ⟨3, ![4, 704, 128]⟩
abbrev S1x704x128 : Shape := ⟨3, ![1, 704, 128]⟩
abbrev S704x128 : Shape := ⟨2, ![704, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S4x704x1024, .f32⟩
  | .local _ .vmem, ⟨0, _⟩ => ⟨S8x704x128, .bf16⟩
  | .local _ .vmem, ⟨1, _⟩ => ⟨S8x704x128, .bf16⟩
  | .local _ .vmem, ⟨2, _⟩ => ⟨S8x704x128, .bf16⟩
  | .local _ .vmem, ⟨3, _⟩ => ⟨S8x704x128, .bf16⟩
  | .local _ .vmem, ⟨4, _⟩ => ⟨S8x704x128, .bf16⟩
  | .local _ .vmem, ⟨5, _⟩ => ⟨S8x704x128, .bf16⟩
  | .local _ .vmem, ⟨6, _⟩ => ⟨S8x704x128, .bf16⟩
  | .local _ .vmem, ⟨7, _⟩ => ⟨S8x704x128, .bf16⟩
  | .local _ .vmem, ⟨8, _⟩ => ⟨S4x704x128, .f32⟩
  | .local _ .vmem, ⟨9, _⟩ => ⟨S4x704x128, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x704x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x704x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x704x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8x704x1024 : Shape := ⟨3, ![8, 704, 1024]⟩
abbrev S_ : Shape := ⟨0, ![]⟩
abbrev S704x1024 : Shape := ⟨2, ![704, 1024]⟩
abbrev S1x704x1024 : Shape := ⟨3, ![1, 704, 1024]⟩
abbrev S4x704x1024 : Shape := ⟨3, ![4, 704, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S8x704x1024, .f32⟩
  | .hbm, ⟨8, _⟩ => ⟨S_, .f32⟩
  | .hbm, ⟨9, _⟩ => ⟨S704x1024, .f32⟩
  | .hbm, ⟨10, _⟩ => ⟨S8x704x1024, .f32⟩
  | .hbm, ⟨11, _⟩ => ⟨S_, .f32⟩
  | .hbm, ⟨12, _⟩ => ⟨S704x1024, .f32⟩
  | .hbm, ⟨13, _⟩ => ⟨S8x704x1024, .f32⟩
  | .hbm, ⟨14, _⟩ => ⟨S_, .f32⟩
  | .hbm, ⟨15, _⟩ => ⟨S704x1024, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S1x704x1024, .f32⟩
  | .hbm, ⟨20, _⟩ => ⟨S4x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel17.lean ====
abbrev S8x352x1024 : Shape := ⟨3, ![8, 352, 1024]⟩
abbrev S4x352x1024 : Shape := ⟨3, ![4, 352, 1024]⟩
abbrev S8x352x128 : Shape := ⟨3, ![8, 352, 128]⟩
abbrev S4x352x128 : Shape := ⟨3, ![4, 352, 128]⟩
abbrev S1x352x128 : Shape := ⟨3, ![1, 352, 128]⟩
abbrev S352x128 : Shape := ⟨2, ![352, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .local _ .vmem, ⟨0, _⟩ => ⟨S8x352x128, .bf16⟩
  | .local _ .vmem, ⟨1, _⟩ => ⟨S8x352x128, .bf16⟩
  | .local _ .vmem, ⟨2, _⟩ => ⟨S8x352x128, .bf16⟩
  | .local _ .vmem, ⟨3, _⟩ => ⟨S8x352x128, .bf16⟩
  | .local _ .vmem, ⟨4, _⟩ => ⟨S8x352x128, .bf16⟩
  | .local _ .vmem, ⟨5, _⟩ => ⟨S8x352x128, .bf16⟩
  | .local _ .vmem, ⟨6, _⟩ => ⟨S8x352x128, .bf16⟩
  | .local _ .vmem, ⟨7, _⟩ => ⟨S8x352x128, .bf16⟩
  | .local _ .vmem, ⟨8, _⟩ => ⟨S4x352x128, .f32⟩
  | .local _ .vmem, ⟨9, _⟩ => ⟨S4x352x128, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S4x352x1024 : Shape := ⟨3, ![4, 352, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel18.lean ====
abbrev S8x32x1024 : Shape := ⟨3, ![8, 32, 1024]⟩
abbrev S4x32x1024 : Shape := ⟨3, ![4, 32, 1024]⟩
abbrev S8x32x128 : Shape := ⟨3, ![8, 32, 128]⟩
abbrev S4x32x128 : Shape := ⟨3, ![4, 32, 128]⟩
abbrev S1x32x128 : Shape := ⟨3, ![1, 32, 128]⟩
abbrev S32x128 : Shape := ⟨2, ![32, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x32x1024, .bf16⟩
  | .hbm, ⟨1, _⟩ => ⟨S8x32x1024, .bf16⟩
  | .hbm, ⟨2, _⟩ => ⟨S8x32x1024, .bf16⟩
  | .hbm, ⟨3, _⟩ => ⟨S8x32x1024, .bf16⟩
  | .hbm, ⟨4, _⟩ => ⟨S4x32x1024, .f32⟩
  | .local _ .vmem, ⟨0, _⟩ => ⟨S8x32x128, .bf16⟩
  | .local _ .vmem, ⟨1, _⟩ => ⟨S8x32x128, .bf16⟩
  | .local _ .vmem, ⟨2, _⟩ => ⟨S8x32x128, .bf16⟩
  | .local _ .vmem, ⟨3, _⟩ => ⟨S8x32x128, .bf16⟩
  | .local _ .vmem, ⟨4, _⟩ => ⟨S8x32x128, .bf16⟩
  | .local _ .vmem, ⟨5, _⟩ => ⟨S8x32x128, .bf16⟩
  | .local _ .vmem, ⟨6, _⟩ => ⟨S8x32x128, .bf16⟩
  | .local _ .vmem, ⟨7, _⟩ => ⟨S8x32x128, .bf16⟩
  | .local _ .vmem, ⟨8, _⟩ => ⟨S4x32x128, .f32⟩
  | .local _ .vmem, ⟨9, _⟩ => ⟨S4x32x128, .f32⟩
  | _, _ => ⟨S8x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S8x32x1024 : Shape := ⟨3, ![8, 32, 1024]⟩
abbrev S_ : Shape := ⟨0, ![]⟩
abbrev S32x1024 : Shape := ⟨2, ![32, 1024]⟩
abbrev S1x32x1024 : Shape := ⟨3, ![1, 32, 1024]⟩
abbrev S4x32x1024 : Shape := ⟨3, ![4, 32, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x32x1024, .bf16⟩
  | .hbm, ⟨1, _⟩ => ⟨S8x32x1024, .bf16⟩
  | .hbm, ⟨2, _⟩ => ⟨S8x32x1024, .bf16⟩
  | .hbm, ⟨3, _⟩ => ⟨S8x32x1024, .bf16⟩
  | .hbm, ⟨4, _⟩ => ⟨S8x32x1024, .f32⟩
  | .hbm, ⟨5, _⟩ => ⟨S_, .f32⟩
  | .hbm, ⟨6, _⟩ => ⟨S32x1024, .f32⟩
  | .hbm, ⟨7, _⟩ => ⟨S8x32x1024, .f32⟩
  | .hbm, ⟨8, _⟩ => ⟨S_, .f32⟩
  | .hbm, ⟨9, _⟩ => ⟨S32x1024, .f32⟩
  | .hbm, ⟨10, _⟩ => ⟨S8x32x1024, .f32⟩
  | .hbm, ⟨11, _⟩ => ⟨S_, .f32⟩
  | .hbm, ⟨12, _⟩ => ⟨S32x1024, .f32⟩
  | .hbm, ⟨13, _⟩ => ⟨S8x32x1024, .f32⟩
  | .hbm, ⟨14, _⟩ => ⟨S_, .f32⟩
  | .hbm, ⟨15, _⟩ => ⟨S32x1024, .f32⟩
  | .hbm, ⟨16, _⟩ => ⟨S1x32x1024, .f32⟩
  | .hbm, ⟨17, _⟩ => ⟨S1x32x1024, .f32⟩
  | .hbm, ⟨18, _⟩ => ⟨S1x32x1024, .f32⟩
  | .hbm, ⟨19, _⟩ => ⟨S1x32x1024, .f32⟩
  | .hbm, ⟨20, _⟩ => ⟨S4x32x1024, .f32⟩
  | _, _ => ⟨S8x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel19.lean ====
abbrev S8x128x1024 : Shape := ⟨3, ![8, 128, 1024]⟩
abbrev S4x128x1024 : Shape := ⟨3, ![4, 128, 1024]⟩
abbrev S8x128x128 : Shape := ⟨3, ![8, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .local _ .vmem, ⟨0, _⟩ => ⟨S8x128x128, .bf16⟩
  | .local _ .vmem, ⟨1, _⟩ => ⟨S8x128x128, .bf16⟩
  | .local _ .vmem, ⟨2, _⟩ => ⟨S8x128x128, .bf16⟩
  | .local _ .vmem, ⟨3, _⟩ => ⟨S8x128x128, .bf16⟩
  | .local _ .vmem, ⟨4, _⟩ => ⟨S8x128x128, .bf16⟩
  | .local _ .vmem, ⟨5, _⟩ => ⟨S8x128x128, .bf16⟩
  | .local _ .vmem, ⟨6, _⟩ => ⟨S8x128x128, .bf16⟩
  | .local _ .vmem, ⟨7, _⟩ => ⟨S8x128x128, .bf16⟩
  | .local _ .vmem, ⟨8, _⟩ => ⟨S4x128x128, .f32⟩
  | .local _ .vmem, ⟨9, _⟩ => ⟨S4x128x128, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S4x128x1024 : Shape := ⟨3, ![4, 128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel20.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x1024x514 : Shape := ⟨3, ![2, 1024, 514]⟩
abbrev S2x514x1024 : Shape := ⟨3, ![2, 514, 1024]⟩
abbrev S1x514x256 : Shape := ⟨3, ![1, 514, 256]⟩
abbrev S514x256 : Shape := ⟨2, ![514, 256]⟩

abbrev nBuf : Space → Nat
  | .hbm => 10
  | .vmem => 14
  | .smem => 0
  | _ => 0

abbrev bufTy : (tb : Table) → Fin (tcTables nBuf tb) → BufTy
  | .hbm, ⟨0, _⟩ => ⟨S2x1024x514, .f32⟩
  | .hbm, ⟨1, _⟩ => ⟨S2x514x1024, .f32⟩
  | .hbm, ⟨2, _⟩ => ⟨S2x1024x514, .f32⟩
  | .hbm, ⟨3, _⟩ => ⟨S2x1024x514, .f32⟩
  | .hbm, ⟨4, _⟩ => ⟨S2x514x1024, .f32⟩
  | .hbm, ⟨5, _⟩ => ⟨S2x514x1024, .f32⟩
  | .hbm, ⟨6, _⟩ => ⟨S2x514x1024, .f32⟩
  | .hbm, ⟨7, _⟩ => ⟨S2x514x1024, .f32⟩
  | .hbm, ⟨8, _⟩ => ⟨S2x514x1024, .f32⟩
  | .hbm, ⟨9, _⟩ => ⟨S2x514x1024, .f32⟩
  | .local _ .vmem, ⟨0, _⟩ => ⟨S1x514x256, .f32⟩
  | .local _ .vmem, ⟨1, _⟩ => ⟨S1x514x256, .f32⟩
  | .local _ .vmem, ⟨2, _⟩ => ⟨S1x514x256, .f32⟩
  | .local _ .vmem, ⟨3, _⟩ => ⟨S1x514x256, .f32⟩
  | .local _ .vmem, ⟨4, _⟩ => ⟨S1x514x256, .f32⟩
  | .local _ .vmem, ⟨5, _⟩ => ⟨S1x514x256, .f32⟩
  | .local _ .vmem, ⟨6, _⟩ => ⟨S1x514x256, .f32⟩
  | .local _ .vmem, ⟨7, _⟩ => ⟨S1x514x256, .f32⟩
  | .local _ .vmem, ⟨8, _⟩ => ⟨S1x514x256, .f32⟩
  | .local _ .vmem, ⟨9, _⟩ => ⟨S1x514x256, .f32⟩
  | .local _ .vmem, ⟨10, _⟩ => ⟨S1x514x256, .f32⟩
  | .local _ .vmem, ⟨11, _⟩ => ⟨S1x514x256, .f32⟩
  | .local _ .vmem, ⟨12, _⟩ => ⟨S1x514x256, .f32⟩
  | .local _ .vmem, ⟨13, _⟩ => ⟨S1x514x256, .f32⟩
  | _, _ => ⟨S2x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x514x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x514x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x514x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x514x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x514x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x514x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x514x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2x1024x514 : Shape := ⟨3, ![2, 1024, 514]⟩
abbrev S2x514x1024 : Shape := ⟨3, ![2, 514, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x514, .f32⟩
  | .hbm, ⟨1, _⟩ => ⟨S2x514x1024, .f32⟩
  | .hbm, ⟨2, _⟩ => ⟨S2x1024x514, .f32⟩
  | .hbm, ⟨3, _⟩ => ⟨S2x1024x514, .f32⟩
  | .hbm, ⟨4, _⟩ => ⟨S2x1024x514, .f32⟩
  | .hbm, ⟨5, _⟩ => ⟨S_, .f32⟩
  | .hbm, ⟨6, _⟩ => ⟨S2x1024x514, .f32⟩
  | .hbm, ⟨7, _⟩ => ⟨S2x1024x514, .f32⟩
  | .hbm, ⟨8, _⟩ => ⟨S_, .f32⟩
  | .hbm, ⟨9, _⟩ => ⟨S2x1024x514, .f32⟩
  | .hbm, ⟨10, _⟩ => ⟨S2x1024x514, .f32⟩
  | .hbm, ⟨11, _⟩ => ⟨S2x1024x514, .f32⟩
  | .hbm, ⟨12, _⟩ => ⟨S_, .f32⟩
  | .hbm, ⟨13, _⟩ => ⟨S2x1024x514, .f32⟩
  | .hbm, ⟨14, _⟩ => ⟨S2x1024x514, .f32⟩
  | .hbm, ⟨15, _⟩ => ⟨S2x1024x514, .f32⟩
  | .hbm, ⟨16, _⟩ => ⟨S_, .f32⟩
  | .hbm, ⟨17, _⟩ => ⟨S2x1024x514, .f32⟩
  | .hbm, ⟨18, _⟩ => ⟨S2x1024x514, .f32⟩
  | .hbm, ⟨19, _⟩ => ⟨S2x1024x514, .f32⟩
  | .hbm, ⟨20, _⟩ => ⟨S_, .f32⟩
  | .hbm, ⟨21, _⟩ => ⟨S2x1024x514, .f32⟩
  | .hbm, ⟨22, _⟩ => ⟨S2x1024x514, .f32⟩
  | .hbm, ⟨23, _⟩ => ⟨S_, .f32⟩
  | .hbm, ⟨24, _⟩ => ⟨S2x1024x514, .f32⟩
  | .hbm, ⟨25, _⟩ => ⟨S2x1024x514, .f32⟩
  | .hbm, ⟨26, _⟩ => ⟨S2x1024x514, .f32⟩
  | .hbm, ⟨27, _⟩ => ⟨S_, .f32⟩
  | .hbm, ⟨28, _⟩ => ⟨S2x1024x514, .f32⟩
  | .hbm, ⟨29, _⟩ => ⟨S2x1024x514, .f32⟩
  | .hbm, ⟨30, _⟩ => ⟨S2x1024x514, .f32⟩
  | .hbm, ⟨31, _⟩ => ⟨S_, .f32⟩
  | .hbm, ⟨32, _⟩ => ⟨S2x1024x514, .f32⟩
  | .hbm, ⟨33, _⟩ => ⟨S2x1024x514, .f32⟩
  | .hbm, ⟨34, _⟩ => ⟨S2x1024x514, .f32⟩
  | .hbm, ⟨35, _⟩ => ⟨S_, .f32⟩
  | .hbm, ⟨36, _⟩ => ⟨S2x1024x514, .f32⟩
  | .hbm, ⟨37, _⟩ => ⟨S2x1024x514, .f32⟩
  | .hbm, ⟨38, _⟩ => ⟨S2x514x1024, .f32⟩
  | .hbm, ⟨39, _⟩ => ⟨S2x514x1024, .f32⟩
  | .hbm, ⟨40, _⟩ => ⟨S2x514x1024, .f32⟩
  | _, _ => ⟨S2x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x1024x704 : Shape := ⟨3, ![4, 1024, 704]⟩
abbrev S4x704x1024 : Shape := ⟨3, ![4, 704, 1024]⟩
abbrev S1x704x256 : Shape := ⟨3, ![1, 704, 256]⟩
abbrev S704x256 : Shape := ⟨2, ![704, 256]⟩

abbrev nBuf : Space → Nat
  | .hbm => 10
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x704x1024, .f32⟩
  | .hbm, ⟨2, _⟩ => ⟨S4x1024x704, .f32⟩
  | .hbm, ⟨3, _⟩ => ⟨S4x1024x704, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .local _ .vmem, ⟨0, _⟩ => ⟨S1x704x256, .f32⟩
  | .local _ .vmem, ⟨1, _⟩ => ⟨S1x704x256, .f32⟩
  | .local _ .vmem, ⟨2, _⟩ => ⟨S1x704x256, .f32⟩
  | .local _ .vmem, ⟨3, _⟩ => ⟨S1x704x256, .f32⟩
  | .local _ .vmem, ⟨4, _⟩ => ⟨S1x704x256, .f32⟩
  | .local _ .vmem, ⟨5, _⟩ => ⟨S1x704x256, .f32⟩
  | .local _ .vmem, ⟨6, _⟩ => ⟨S1x704x256, .f32⟩
  | .local _ .vmem, ⟨7, _⟩ => ⟨S1x704x256, .f32⟩
  | .local _ .vmem, ⟨8, _⟩ => ⟨S1x704x256, .f32⟩
  | .local _ .vmem, ⟨9, _⟩ => ⟨S1x704x256, .f32⟩
  | .local _ .vmem, ⟨10, _⟩ => ⟨S1x704x256, .f32⟩
  | .local _ .vmem, ⟨11, _⟩ => ⟨S1x704x256, .f32⟩
  | .local _ .vmem, ⟨12, _⟩ => ⟨S1x704x256, .f32⟩
  | .local _ .vmem, ⟨13, _⟩ => ⟨S1x704x256, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4x1024x704 : Shape := ⟨3, ![4, 1024, 704]⟩
abbrev S4x704x1024 : Shape := ⟨3, ![4, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x704x1024, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S_, .f32⟩
  | .hbm, ⟨6, _⟩ => ⟨S4x1024x704, .f32⟩
  | .hbm, ⟨7, _⟩ => ⟨S4x1024x704, .f32⟩
  | .hbm, ⟨8, _⟩ => ⟨S_, .f32⟩
  | .hbm, ⟨9, _⟩ => ⟨S4x1024x704, .f32⟩
  | .hbm, ⟨10, _⟩ => ⟨S4x1024x704, .f32⟩
  | .hbm, ⟨11, _⟩ => ⟨S4x1024x704, .f32⟩
  | .hbm, ⟨12, _⟩ => ⟨S_, .f32⟩
  | .hbm, ⟨13, _⟩ => ⟨S4x1024x704, .f32⟩
  | .hbm, ⟨14, _⟩ => ⟨S4x1024x704, .f32⟩
  | .hbm, ⟨15, _⟩ => ⟨S4x1024x704, .f32⟩
  | .hbm, ⟨16, _⟩ => ⟨S_, .f32⟩
  | .hbm, ⟨17, _⟩ => ⟨S4x1024x704, .f32⟩
  | .hbm, ⟨18, _⟩ => ⟨S4x1024x704, .f32⟩
  | .hbm, ⟨19, _⟩ => ⟨S4x1024x704, .f32⟩
  | .hbm, ⟨20, _⟩ => ⟨S_, .f32⟩
  | .hbm, ⟨21, _⟩ => ⟨S4x1024x704, .f32⟩
  | .hbm, ⟨22, _⟩ => ⟨S4x1024x704, .f32⟩
  | .hbm, ⟨23, _⟩ => ⟨S_, .f32⟩
  | .hbm, ⟨24, _⟩ => ⟨S4x1024x704, .f32⟩
  | .hbm, ⟨25, _⟩ => ⟨S4x1024x704, .f32⟩
  | .hbm, ⟨26, _⟩ => ⟨S4x1024x704, .f32⟩
  | .hbm, ⟨27, _⟩ => ⟨S_, .f32⟩
  | .hbm, ⟨28, _⟩ => ⟨S4x1024x704, .f32⟩
  | .hbm, ⟨29, _⟩ => ⟨S4x1024x704, .f32⟩
  | .hbm, ⟨30, _⟩ => ⟨S4x1024x704, .f32⟩
  | .hbm, ⟨31, _⟩ => ⟨S_, .f32⟩
  | .hbm, ⟨32, _⟩ => ⟨S4x1024x704, .f32⟩
  | .hbm, ⟨33, _⟩ => ⟨S4x1024x704, .f32⟩
  | .hbm, ⟨34, _⟩ => ⟨S4x1024x704, .f32⟩
  | .hbm, ⟨35, _⟩ => ⟨S_, .f32⟩
  | .hbm, ⟨36, _⟩ => ⟨S4x1024x704, .f32⟩
  | .hbm, ⟨37, _⟩ => ⟨S4x1024x704, .f32⟩
  | .hbm, ⟨38, _⟩ => ⟨S4x704x1024, .f32⟩
  | .hbm, ⟨39, _⟩ => ⟨S4x704x1024, .f32⟩
  | .hbm, ⟨40, _⟩ => ⟨S4x704x1024, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4x256x128 : Shape := ⟨3, ![4, 256, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4x256x128 : Shape := ⟨3, ![4, 256, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S_, .f32⟩
  | .hbm, ⟨5, _⟩ => ⟨S4x256x128, .f32⟩
  | .hbm, ⟨6, _⟩ => ⟨S4x256x128, .f32⟩
  | .hbm, ⟨7, _⟩ => ⟨S_, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S_, .f32⟩
  | .hbm, ⟨12, _⟩ => ⟨S4x256x128, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S_, .f32⟩
  | .hbm, ⟨23, _⟩ => ⟨S4x256x128, .f32⟩
  | .hbm, ⟨24, _⟩ => ⟨S4x256x128, .f32⟩
  | .hbm, ⟨25, _⟩ => ⟨S4x256x128, .f32⟩
  | .hbm, ⟨26, _⟩ => ⟨S_, .f32⟩
  | .hbm, ⟨27, _⟩ => ⟨S4x256x128, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S8x368x128 : Shape := ⟨3, ![8, 368, 128]⟩
abbrev S1x368x128 : Shape := ⟨3, ![1, 368, 128]⟩
abbrev S368x128 : Shape := ⟨2, ![368, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x368x128, .f32⟩
  | .hbm, ⟨1, _⟩ => ⟨S1x368x128, .f32⟩
  | .local _ .vmem, ⟨0, _⟩ => ⟨S8x368x128, .f32⟩
  | .local _ .vmem, ⟨1, _⟩ => ⟨S1x368x128, .f32⟩
  | _, _ => ⟨S8x368x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x368x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x368x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x368x128 : Shape := ⟨3, ![8, 368, 128]⟩
abbrev S_ : Shape := ⟨0, ![]⟩
abbrev S368x128 : Shape := ⟨2, ![368, 128]⟩
abbrev S1x368x128 : Shape := ⟨3, ![1, 368, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x368x128, .f32⟩
  | .hbm, ⟨1, _⟩ => ⟨S_, .f32⟩
  | .hbm, ⟨2, _⟩ => ⟨S368x128, .f32⟩
  | .hbm, ⟨3, _⟩ => ⟨S1x368x128, .f32⟩
  | _, _ => ⟨S8x368x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S4x1024 : Shape := ⟨2, ![4, 1024]⟩
abbrev S2x4x384 : Shape := ⟨3, ![2, 4, 384]⟩
abbrev S2x8 : Shape := ⟨2, ![2, 8]⟩
abbrev S2x128 : Shape := ⟨2, ![2, 128]⟩
abbrev S1024 : Shape := ⟨1, ![1024]⟩
abbrev S128 : Shape := ⟨1, ![128]⟩
abbrev S4096 : Shape := ⟨1, ![4096]⟩
abbrev S3072 : Shape := ⟨1, ![3072]⟩
abbrev S16 : Shape := ⟨1, ![16]⟩
abbrev S256 : Shape := ⟨1, ![256]⟩
abbrev S17056 : Shape := ⟨1, ![17056]⟩
abbrev S_ : Shape := ⟨0, ![]⟩
abbrev S17408 : Shape := ⟨1, ![17408]⟩
abbrev S136x128 : Shape := ⟨2, ![136, 128]⟩
abbrev S8x128 : Shape := ⟨2, ![8, 128]⟩

abbrev nBuf : Space → Nat
  | .hbm => 95
  | .vmem => 14
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S2x4x384, .f32⟩
  | .hbm, ⟨4, _⟩ => ⟨S2x8, .f32⟩
  | .hbm, ⟨5, _⟩ => ⟨S2x8, .f32⟩
  | .hbm, ⟨6, _⟩ => ⟨S2x128, .f32⟩
  | .hbm, ⟨7, _⟩ => ⟨S1024, .f32⟩
  | .hbm, ⟨8, _⟩ => ⟨S128, .f32⟩
  | .hbm, ⟨9, _⟩ => ⟨S2x128, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S2x4x384, .f32⟩
  | .hbm, ⟨14, _⟩ => ⟨S2x8, .f32⟩
  | .hbm, ⟨15, _⟩ => ⟨S2x8, .f32⟩
  | .hbm, ⟨16, _⟩ => ⟨S2x128, .f32⟩
  | .hbm, ⟨17, _⟩ => ⟨S1024, .f32⟩
  | .hbm, ⟨18, _⟩ => ⟨S128, .f32⟩
  | .hbm, ⟨19, _⟩ => ⟨S2x128, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S2x4x384, .f32⟩
  | .hbm, ⟨24, _⟩ => ⟨S2x8, .f32⟩
  | .hbm, ⟨25, _⟩ => ⟨S2x8, .f32⟩
  | .hbm, ⟨26, _⟩ => ⟨S2x128, .f32⟩
  | .hbm, ⟨27, _⟩ => ⟨S1024, .f32⟩
  | .hbm, ⟨28, _⟩ => ⟨S128, .f32⟩
  | .hbm, ⟨29, _⟩ => ⟨S2x128, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S2x4x384, .f32⟩
  | .hbm, ⟨34, _⟩ => ⟨S2x8, .f32⟩
  | .hbm, ⟨35, _⟩ => ⟨S2x8, .f32⟩
  | .hbm, ⟨36, _⟩ => ⟨S2x128, .f32⟩
  | .hbm, ⟨37, _⟩ => ⟨S1024, .f32⟩
  | .hbm, ⟨38, _⟩ => ⟨S128, .f32⟩
  | .hbm, ⟨39, _⟩ => ⟨S2x128, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S3072, .f32⟩
  | .hbm, ⟨44, _⟩ => ⟨S16, .f32⟩
  | .hbm, ⟨45, _⟩ => ⟨S16, .f32⟩
  | .hbm, ⟨46, _⟩ => ⟨S256, .f32⟩
  | .hbm, ⟨47, _⟩ => ⟨S256, .f32⟩
  | .hbm, ⟨48, _⟩ => ⟨S17056, .f32⟩
  | .hbm, ⟨49, _⟩ => ⟨S_, .i32⟩
  | .hbm, ⟨50, _⟩ => ⟨S_, .f32⟩
  | .hbm, ⟨51, _⟩ => ⟨S17408, .f32⟩
  | .hbm, ⟨52, _⟩ => ⟨S136x128, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S3072, .f32⟩
  | .hbm, ⟨57, _⟩ => ⟨S16, .f32⟩
  | .hbm, ⟨58, _⟩ => ⟨S16, .f32⟩
  | .hbm, ⟨59, _⟩ => ⟨S256, .f32⟩
  | .hbm, ⟨60, _⟩ => ⟨S256, .f32⟩
  | .hbm, ⟨61, _⟩ => ⟨S17056, .f32⟩
  | .hbm, ⟨62, _⟩ => ⟨S_, .i32⟩
  | .hbm, ⟨63, _⟩ => ⟨S_, .f32⟩
  | .hbm, ⟨64, _⟩ => ⟨S17408, .f32⟩
  | .hbm, ⟨65, _⟩ => ⟨S136x128, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S3072, .f32⟩
  | .hbm, ⟨70, _⟩ => ⟨S16, .f32⟩
  | .hbm, ⟨71, _⟩ => ⟨S16, .f32⟩
  | .hbm, ⟨72, _⟩ => ⟨S256, .f32⟩
  | .hbm, ⟨73, _⟩ => ⟨S256, .f32⟩
  | .hbm, ⟨74, _⟩ => ⟨S17056, .f32⟩
  | .hbm, ⟨75, _⟩ => ⟨S_, .i32⟩
  | .hbm, ⟨76, _⟩ => ⟨S_, .f32⟩
  | .hbm, ⟨77, _⟩ => ⟨S17408, .f32⟩
  | .hbm, ⟨78, _⟩ => ⟨S136x128, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S3072, .f32⟩
  | .hbm, ⟨83, _⟩ => ⟨S16, .f32⟩
  | .hbm, ⟨84, _⟩ => ⟨S16, .f32⟩
  | .hbm, ⟨85, _⟩ => ⟨S256, .f32⟩
  | .hbm, ⟨86, _⟩ => ⟨S256, .f32⟩
  | .hbm, ⟨87, _⟩ => ⟨S17056, .f32⟩
  | .hbm, ⟨88, _⟩ => ⟨S_, .i32⟩
  | .hbm, ⟨89, _⟩ => ⟨S_, .f32⟩
  | .hbm, ⟨90, _⟩ => ⟨S17408, .f32⟩
  | .hbm, ⟨91, _⟩ => ⟨S136x128, .f32⟩
  | .hbm, ⟨92, _⟩ => ⟨S136x128, .f32⟩
  | .hbm, ⟨93, _⟩ => ⟨S136x128, .f32⟩
  | .hbm, ⟨94, _⟩ => ⟨S136x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_c : Ref sig .tc := ⟨.hbm, 49, rfl⟩
abbrev main_call0_v0 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_0 : Ref sig .tc := ⟨.hbm, 62, rfl⟩
abbrev main_call1_v0 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_1 : Ref sig .tc := ⟨.hbm, 75, rfl⟩
abbrev main_call2_v0 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_2 : Ref sig .tc := ⟨.hbm, 88, rfl⟩
abbrev main_call3_v0 : Ref sig .tc := ⟨.hbm, 89, rfl⟩
abbrev main_v42 : Ref sig .tc := ⟨.hbm, 90, rfl⟩
abbrev main_v43 : Ref sig .tc := ⟨.hbm, 91, rfl⟩
abbrev main_v44_0 : Ref sig .tc := ⟨.hbm, 92, rfl⟩
abbrev main_v44_1 : Ref sig .tc := ⟨.hbm, 93, rfl⟩
abbrev main_v44_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4x1024 : Shape := ⟨2, ![4, 1024]⟩
abbrev S2x4x384 : Shape := ⟨3, ![2, 4, 384]⟩
abbrev S2x8 : Shape := ⟨2, ![2, 8]⟩
abbrev S2x128 : Shape := ⟨2, ![2, 128]⟩
abbrev S1024 : Shape := ⟨1, ![1024]⟩
abbrev S128 : Shape := ⟨1, ![128]⟩
abbrev S_ : Shape := ⟨0, ![]⟩
abbrev S4096 : Shape := ⟨1, ![4096]⟩
abbrev S3072 : Shape := ⟨1, ![3072]⟩
abbrev S16 : Shape := ⟨1, ![16]⟩
abbrev S256 : Shape := ⟨1, ![256]⟩
abbrev S17056 : Shape := ⟨1, ![17056]⟩
abbrev S17408 : Shape := ⟨1, ![17408]⟩
abbrev S136x128 : Shape := ⟨2, ![136, 128]⟩

abbrev nBuf : Space → Nat
  | .hbm => 409
  | .vmem => 0
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S2x4x384, .f32⟩
  | 4 => ⟨S2x8, .f32⟩
  | 5 => ⟨S2x8, .f32⟩
  | 6 => ⟨S2x128, .f32⟩
  | 7 => ⟨S1024, .f32⟩
  | 8 => ⟨S128, .f32⟩
  | 9 => ⟨S2x128, .f32⟩
  | 10 => ⟨S4x1024, .f32⟩
  | 11 => ⟨S4x1024, .f32⟩
  | 12 => ⟨S4x1024, .f32⟩
  | 13 => ⟨S2x4x384, .f32⟩
  | 14 => ⟨S2x8, .f32⟩
  | 15 => ⟨S2x8, .f32⟩
  | 16 => ⟨S2x128, .f32⟩
  | 17 => ⟨S1024, .f32⟩
  | 18 => ⟨S128, .f32⟩
  | 19 => ⟨S2x128, .f32⟩
  | 20 => ⟨S4x1024, .f32⟩
  | 21 => ⟨S4x1024, .f32⟩
  | 22 => ⟨S4x1024, .f32⟩
  | 23 => ⟨S2x4x384, .f32⟩
  | 24 => ⟨S2x8, .f32⟩
  | 25 => ⟨S2x8, .f32⟩
  | 26 => ⟨S2x128, .f32⟩
  | 27 => ⟨S1024, .f32⟩
  | 28 => ⟨S128, .f32⟩
  | 29 => ⟨S2x128, .f32⟩
  | 30 => ⟨S4x1024, .f32⟩
  | 31 => ⟨S4x1024, .f32⟩
  | 32 => ⟨S4x1024, .f32⟩
  | 33 => ⟨S2x4x384, .f32⟩
  | 34 => ⟨S2x8, .f32⟩
  | 35 => ⟨S2x8, .f32⟩
  | 36 => ⟨S2x128, .f32⟩
  | 37 => ⟨S1024, .f32⟩
  | 38 => ⟨S128, .f32⟩
  | 39 => ⟨S2x128, .f32⟩
  | 40 => ⟨S_, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S4x1024, .f32⟩
  | 121 => ⟨S_, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S4x1024, .f32⟩

abbrev hbmTy0_1 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S_, .f32⟩
  | 12 => ⟨S2x4x384, .f32⟩
  | 13 => ⟨S2x4x384, .f32⟩
  | 14 => ⟨S_, .f32⟩
  | 15 => ⟨S2x4x384, .f32⟩
  | 16 => ⟨S2x4x384, .f32⟩
  | 17 => ⟨S2x4x384, .f32⟩
  | 18 => ⟨S_, .f32⟩
  | 19 => ⟨S2x4x384, .f32⟩
  | 20 => ⟨S2x4x384, .f32⟩
  | 21 => ⟨S2x4x384, .f32⟩
  | 22 => ⟨S_, .f32⟩
  | 23 => ⟨S2x4x384, .f32⟩
  | 24 => ⟨S2x4x384, .f32⟩
  | 25 => ⟨S2x4x384, .f32⟩
  | 26 => ⟨S_, .f32⟩
  | 27 => ⟨S2x4x384, .f32⟩
  | 28 => ⟨S2x4x384, .f32⟩
  | 29 => ⟨S_, .f32⟩
  | 30 => ⟨S2x4x384, .f32⟩
  | 31 => ⟨S2x4x384, .f32⟩
  | 32 => ⟨S2x4x384, .f32⟩
  | 33 => ⟨S_, .f32⟩
  | 34 => ⟨S2x4x384, .f32⟩
  | 35 => ⟨S2x4x384, .f32⟩
  | 36 => ⟨S2x4x384, .f32⟩
  | 37 => ⟨S_, .f32⟩
  | 38 => ⟨S2x4x384, .f32⟩
  | 39 => ⟨S2x4x384, .f32⟩
  | 40 => ⟨S2x4x384, .f32⟩
  | 41 => ⟨S_, .f32⟩
  | 42 => ⟨S2x4x384, .f32⟩
  | 43 => ⟨S2x4x384, .f32⟩
  | 44 => ⟨S_, .f32⟩
  | 45 => ⟨S2x8, .f32⟩
  | 46 => ⟨S2x8, .f32⟩
  | 47 => ⟨S_, .f32⟩
  | 48 => ⟨S2x8, .f32⟩
  | 49 => ⟨S2x8, .f32⟩
  | 50 => ⟨S2x8, .f32⟩
  | 51 => ⟨S_, .f32⟩
  | 52 => ⟨S2x8, .f32⟩
  | 53 => ⟨S2x8, .f32⟩
  | 54 => ⟨S2x8, .f32⟩
  | 55 => ⟨S_, .f32⟩
  | 56 => ⟨S2x8, .f32⟩
  | 57 => ⟨S2x8, .f32⟩
  | 58 => ⟨S2x8, .f32⟩
  | 59 => ⟨S_, .f32⟩
  | 60 => ⟨S2x8, .f32⟩
  | 61 => ⟨S2x8, .f32⟩
  | 62 => ⟨S_, .f32⟩
  | 63 => ⟨S2x8, .f32⟩
  | 64 => ⟨S2x8, .f32⟩
  | 65 => ⟨S2x8, .f32⟩
  | 66 => ⟨S_, .f32⟩
  | 67 => ⟨S2x8, .f32⟩
  | 68 => ⟨S2x8, .f32⟩
  | 69 => ⟨S2x8, .f32⟩
  | 70 => ⟨S_, .f32⟩
  | 71 => ⟨S2x8, .f32⟩
  | 72 => ⟨S2x8, .f32⟩
  | 73 => ⟨S2x8, .f32⟩
  | 74 => ⟨S_, .f32⟩
  | 75 => ⟨S2x8, .f32⟩
  | 76 => ⟨S2x8, .f32⟩
  | 77 => ⟨S_, .f32⟩
  | 78 => ⟨S2x8, .f32⟩
  | 79 => ⟨S2x8, .f32⟩
  | 80 => ⟨S_, .f32⟩
  | 81 => ⟨S2x8, .f32⟩
  | 82 => ⟨S2x8, .f32⟩
  | 83 => ⟨S2x8, .f32⟩
  | 84 => ⟨S_, .f32⟩
  | 85 => ⟨S2x8, .f32⟩
  | 86 => ⟨S2x8, .f32⟩
  | 87 => ⟨S2x8, .f32⟩
  | 88 => ⟨S_, .f32⟩
  | 89 => ⟨S2x8, .f32⟩
  | 90 => ⟨S2x8, .f32⟩
  | 91 => ⟨S2x8, .f32⟩
  | 92 => ⟨S_, .f32⟩
  | 93 => ⟨S2x8, .f32⟩
  | 94 => ⟨S2x8, .f32⟩
  | 95 => ⟨S_, .f32⟩
  | 96 => ⟨S2x8, .f32⟩
  | 97 => ⟨S2x8, .f32⟩
  | 98 => ⟨S2x8, .f32⟩
  | 99 => ⟨S_, .f32⟩
  | 100 => ⟨S2x8, .f32⟩
  | 101 => ⟨S2x8, .f32⟩
  | 102 => ⟨S2x8, .f32⟩
  | 103 => ⟨S_, .f32⟩
  | 104 => ⟨S2x8, .f32⟩
  | 105 => ⟨S2x8, .f32⟩
  | 106 => ⟨S2x8, .f32⟩
  | 107 => ⟨S_, .f32⟩
  | 108 => ⟨S2x8, .f32⟩
  | 109 => ⟨S2x8, .f32⟩
  | 110 => ⟨S_, .f32⟩
  | 111 => ⟨S2x128, .f32⟩
  | 112 => ⟨S2x128, .f32⟩
  | 113 => ⟨S_, .f32⟩
  | 114 => ⟨S2x128, .f32⟩
  | 115 => ⟨S2x128, .f32⟩
  | 116 => ⟨S2x128, .f32⟩
  | 117 => ⟨S_, .f32⟩
  | 118 => ⟨S2x128, .f32⟩
  | 119 => ⟨S2x128, .f32⟩
  | 120 => ⟨S2x128, .f32⟩
  | 121 => ⟨S_, .f32⟩
  | 122 => ⟨S2x128, .f32⟩
  | 123 => ⟨S2x128, .f32⟩
  | 124 => ⟨S2x128, .f32⟩
  | 125 => ⟨S_, .f32⟩
  | 126 => ⟨S2x128, .f32⟩
  | 127 => ⟨S2x128, .f32⟩
  | _ => ⟨S4x1024, .f32⟩

abbrev hbmTy0_2 (i : Nat) : BufTy := match i % 128 with
  | 0 => ⟨S_, .f32⟩
  | 1 => ⟨S2x128, .f32⟩
  | 2 => ⟨S2x128, .f32⟩
  | 3 => ⟨S2x128, .f32⟩
  | 4 => ⟨S_, .f32⟩
  | 5 => ⟨S2x128, .f32⟩
  | 6 => ⟨S2x128, .f32⟩
  | 7 => ⟨S2x128, .f32⟩
  | 8 => ⟨S_, .f32⟩
  | 9 => ⟨S2x128, .f32⟩
  | 10 => ⟨S2x128, .f32⟩
  | 11 => ⟨S2x128, .f32⟩
  | 12 => ⟨S_, .f32⟩
  | 13 => ⟨S2x128, .f32⟩
  | 14 => ⟨S2x128, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S_, .f32⟩
  | 79 => ⟨S128, .f32⟩
  | 80 => ⟨S128, .f32⟩
  | 81 => ⟨S_, .f32⟩
  | 82 => ⟨S2x128, .f32⟩
  | 83 => ⟨S2x128, .f32⟩
  | 84 => ⟨S_, .f32⟩
  | 85 => ⟨S2x128, .f32⟩
  | 86 => ⟨S2x128, .f32⟩
  | 87 => ⟨S2x128, .f32⟩
  | 88 => ⟨S_, .f32⟩
  | 89 => ⟨S2x128, .f32⟩
  | 90 => ⟨S2x128, .f32⟩
  | 91 => ⟨S2x128, .f32⟩
  | 92 => ⟨S_, .f32⟩
  | 93 => ⟨S2x128, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S_, .f32⟩
  | 100 => ⟨S2x128, .f32⟩
  | 101 => ⟨S2x128, .f32⟩
  | 102 => ⟨S2x128, .f32⟩
  | 103 => ⟨S_, .f32⟩
  | 104 => ⟨S2x128, .f32⟩
  | 105 => ⟨S2x128, .f32⟩
  | 106 => ⟨S2x128, .f32⟩
  | 107 => ⟨S_, .f32⟩
  | 108 => ⟨S2x128, .f32⟩
  | 109 => ⟨S2x128, .f32⟩
  | 110 => ⟨S2x128, .f32⟩
  | 111 => ⟨S_, .f32⟩
  | 112 => ⟨S2x128, .f32⟩
  | 113 => ⟨S2x128, .f32⟩
  | 114 => ⟨S4096, .f32⟩
  | 115 => ⟨S4096, .f32⟩
  | 116 => ⟨S4096, .f32⟩
  | 117 => ⟨S3072, .f32⟩
  | 118 => ⟨S16, .f32⟩
  | 119 => ⟨S16, .f32⟩
  | 120 => ⟨S256, .f32⟩
  | 121 => ⟨S256, .f32⟩
  | 122 => ⟨S17056, .f32⟩
  | 123 => ⟨S_, .i32⟩
  | 124 => ⟨S_, .f32⟩
  | 125 => ⟨S17408, .f32⟩
  | 126 => ⟨S136x128, .f32⟩
  | 127 => ⟨S4096, .f32⟩
  | _ => ⟨S4x1024, .f32⟩

abbrev hbmTy0_3 (i : Nat) : BufTy := match i % 128 with
  | 0 => ⟨S4096, .f32⟩
  | 1 => ⟨S4096, .f32⟩
  | 2 => ⟨S3072, .f32⟩
  | 3 => ⟨S16, .f32⟩
  | 4 => ⟨S16, .f32⟩
  | 5 => ⟨S256, .f32⟩
  | 6 => ⟨S256, .f32⟩
  | 7 => ⟨S17056, .f32⟩
  | 8 => ⟨S_, .i32⟩
  | 9 => ⟨S_, .f32⟩
  | 10 => ⟨S17408, .f32⟩
  | 11 => ⟨S136x128, .f32⟩
  | 12 => ⟨S4096, .f32⟩
  | 13 => ⟨S4096, .f32⟩
  | 14 => ⟨S4096, .f32⟩
  | 15 => ⟨S3072, .f32⟩
  | 16 => ⟨S16, .f32⟩
  | 17 => ⟨S16, .f32⟩
  | 18 => ⟨S256, .f32⟩
  | 19 => ⟨S256, .f32⟩
  | 20 => ⟨S17056, .f32⟩
  | 21 => ⟨S_, .i32⟩
  | 22 => ⟨S_, .f32⟩
  | 23 => ⟨S17408, .f32⟩
  | 24 => ⟨S136x128, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_c : Ref sig .tc := ⟨.hbm, 379, rfl⟩
abbrev main_call0_v0 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_c_89 : Ref sig .tc := ⟨.hbm, 392, rfl⟩
abbrev main_call1_v0 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_c_90 : Ref sig .tc := ⟨.hbm, 405, rfl⟩
abbrev main_call2_v0 : Ref sig .tc := ⟨.hbm, 406, rfl⟩
abbrev main_v271 : Ref sig .tc := ⟨.hbm, 407, rfl⟩
abbrev main_v272 : Ref sig .tc := ⟨.hbm, 408, rfl⟩

abbrev nD : Nat := 1
abbrev τ : Topo := Topo.v7x

variable {F : FTy → Type} [FloatOps F]
-- ==== Kernel29.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S4096x1024 : Shape := ⟨2, ![4096, 1024]⟩
abbrev S_ : Shape := ⟨0, ![]⟩
abbrev S1024 : Shape := ⟨1, ![1024]⟩
abbrev S1x1024 : Shape := ⟨2, ![1, 1024]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1024, .f32⟩
  | .hbm, ⟨35, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel30.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel32.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel33.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel34.lean ====
abbrev S4096x1024 : Shape := ⟨2, ![4096, 1024]⟩
abbrev S4096x2048 : Shape := ⟨2, ![4096, 2048]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel35.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S2048x1024 : Shape := ⟨2, ![2048, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .bf16⟩
  | .hbm, ⟨4, _⟩ => ⟨S4096x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_11 : BitVec 32 := 0#32
  let v17 : BitVec 1 := Scalar.cmpi .eq arg2 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference35Ideal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel36.lean ====
abbrev S4096x256 : Shape := ⟨2, ![4096, 256]⟩
abbrev S4096x1024 : Shape := ⟨2, ![4096, 1024]⟩
abbrev S1024x256 : Shape := ⟨2, ![1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S1024x256, .bf16⟩
  | .local _ .vmem, ⟨0, _⟩ => ⟨S4096x1024, .bf16⟩
  | .local _ .vmem, ⟨1, _⟩ => ⟨S4096x256, .f32⟩
  | .local _ .vmem, ⟨2, _⟩ => ⟨S1024x256, .bf16⟩
  | .local _ .vmem, ⟨3, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference36Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel37.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel38.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S1024x256 : Shape := ⟨2, ![1024, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1024x1024, .bf16⟩
  | .hbm, ⟨7, _⟩ => ⟨S1024x256, .f32⟩
  | .hbm, ⟨8, _⟩ => ⟨S1024x256, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S1024x256, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference38Ideal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel39.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S1024x256 : Shape := ⟨2, ![1024, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x256, .f32⟩
  | .hbm, ⟨9, _⟩ => ⟨S1024x256, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S1024x256, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference39Ideal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel40.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024x1024, .bf16⟩
  | .hbm, ⟨6, _⟩ => ⟨S1024x256, .f32⟩
  | .hbm, ⟨7, _⟩ => ⟨S1024x256, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel41.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference41Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Finite.lean ====
/-
The precondition: every entry of the four arguments is finite, so each is a real number.
-/
module

public import proofs.«01_k».proof.Defs
public import Idealize.ShloMosaic.Lib.ReduceAll
public import Idealize.ShloMosaic.Lib.Pointwise

@[expose] public section

noncomputable section

namespace Cert.Pre_finite

open Idealize.ShloMosaic Idealize.ShloMosaic.Pointwise

/-- The side conditions of the precondition's operations. -/
theorem facts : Cert.Pre_finite.Facts where
  bitsLt_bf16_f32 := by decide
  bcast_S_S4096x1024 := by decide
  reducesTo_S4096x1024_S_d0_1 := by decide
  h_S_ := by decide

instance : Subsingleton S_.Idx := ⟨fun _ _ => funext fun i => i.elim0⟩

variable [Facts]

/-- The bit that says that an entry is finite. -/
def finiteBits (x : FVec Ideal S4096x1024 .bf16) : IVec S4096x1024 1 :=
  cmpf (F := Ideal) .olt (Host.absf (extf .f32 x Facts.bitsLt_bf16_f32))
    (broadcastInDim S4096x1024 ![] Facts.bcast_S_S4096x1024 (constant S_ .f32 0x7F800000#32))

/-- An entry whose bit is set is a real number. -/
theorem real_of_bit (x : FVec Ideal S4096x1024 .bf16) (i : S4096x1024.Idx) (h : finiteBits x i = 1#1) :
    x i = ((x i).toReal : EReal) := by
  unfold finiteBits at h
  pointwise at h
  have ht : Ideal.ofBits FTy.f32 0x7F800000#32 = ⊤ := by simp [Ideal.ofBits, Ideal.ieee]
  rw [ht] at h
  have hlt : max (x i) (-(x i)) < (⊤ : EReal) := by
    by_contra hn
    rw [show decide (FloatOps.absf (F := Ideal) (φ := .f32) (x i) < ⊤) = false from decide_eq_false hn] at h
    exact absurd h (by decide)
  obtain ⟨h1, h2⟩ := max_lt_iff.1 hlt
  refine (EReal.coe_toReal h1.ne fun hb => ?_).symm
  rw [hb] at h2
  simp at h2

/-- The conjunction of the bits of an array. -/
def allBits (x : FVec Ideal S4096x1024 .bf16) : IVec S_ 1 :=
  Host.reduce IntOp.andi (finiteBits x) (constantI S_ 1 1#1) Facts.reducesTo_S4096x1024_S_d0_1 Facts.h_S_

theorem real_of_all (x : FVec Ideal S4096x1024 .bf16) (h : allBits x ix0 = 1#1) (i : S4096x1024.Idx) :
    x i = ((x i).toReal : EReal) :=
  real_of_bit x i (Host.reduce_andi_all _ _ _ _ ix0 h i)

theorem fn_eq (a b c d : FVec Ideal S4096x1024 .bf16) :
    fn (F := Ideal) a b c d = andi (andi (andi (allBits a) (allBits b)) (allBits c)) (allBits d) := rfl

/-- Where the precondition holds, the four arguments are arrays of real numbers. -/
theorem real_args {a b c d : FVec Ideal S4096x1024 .bf16} (h : fn (F := Ideal) a b c d = fun _ => 1#1) (i : S4096x1024.Idx) :
    a i = ((a i).toReal : EReal) ∧ b i = ((b i).toReal : EReal) ∧ c i = ((c i).toReal : EReal) ∧ d i = ((d i).toReal : EReal) := by
  rw [fn_eq] at h
  have h := congrFun h ix0
  obtain ⟨h, hd⟩ := IntOp.andi_eq_one.1 h
  obtain ⟨h, hc⟩ := IntOp.andi_eq_one.1 h
  obtain ⟨ha, hb⟩ := IntOp.andi_eq_one.1 h
  exact ⟨real_of_all a ha i, real_of_all b hb i, real_of_all c hc i, real_of_all d hd i⟩

end Cert.Pre_finite

end
-- ==== Proof.Math.lean ====
/-
  The stick-breaking weights of one head and their gradient, over the reals, and how they split by blocks of 256 keys.

  A head is given by its scores `z t s` (query `t`, key `s`) and by `g t s`, the product of the result's cotangent at
  query `t` with the value row of key `s`. Key `s` counts for query `t` when `s < t`.
-/
module

public import Idealize.ShloMosaic.PureOps.Ideal
public import Mathlib.Analysis.SpecialFunctions.Log.Basic

@[expose] public section

noncomputable section

namespace Cert.Spec

open Finset

/-- The number of queries, and of keys. -/
abbrev len : ℕ := 4096

/-- `log (1 + exp x)`. -/
def sp (x : ℝ) : ℝ := Real.log (1 + Real.exp x)

/-- The logistic function. -/
def sg (x : ℝ) : ℝ := Real.exp x / (1 + Real.exp x)

/-- `log (1 - sg z)` where the key is before the query, and 0 elsewhere. -/
def ln (z : ℕ → ℕ → ℝ) (t s : ℕ) : ℝ := if s < t then -sp (z t s) else 0

/-- The sum of `ln` over the keys after `s`. -/
def suf (z : ℕ → ℕ → ℝ) (t s : ℕ) : ℝ := ∑ j ∈ range len, if s < j then ln z t j else 0

/-- The weight of key `s` for query `t`. -/
def wt (z : ℕ → ℕ → ℝ) (t s : ℕ) : ℝ := if s < t then Real.exp (z t s - sp (z t s) + suf z t s) else 0

/-- The cotangent of the logarithm of the weight. -/
def dw (z g : ℕ → ℕ → ℝ) (t s : ℕ) : ℝ := g t s * wt z t s

/-- The sum of `dw` over the keys before `s`. -/
def pre (z g : ℕ → ℕ → ℝ) (t s : ℕ) : ℝ := ∑ j ∈ range len, if j < s then dw z g t j else 0

/-- The cotangent of the score. -/
def dz (z g : ℕ → ℕ → ℝ) (t s : ℕ) : ℝ :=
  if s < t then dw z g t s * (1 - sg (z t s)) - sg (z t s) * pre z g t s else 0

/-- The sum of `ln` over the keys of the blocks after block `b`. -/
def later (z : ℕ → ℕ → ℝ) (t b : ℕ) : ℝ := ∑ j ∈ range len, if (b + 1) * 256 ≤ j then ln z t j else 0

/-- The sum of `dw` over the keys of the blocks before block `b`. -/
def earlier (z g : ℕ → ℕ → ℝ) (t b : ℕ) : ℝ := ∑ j ∈ range (256 * b), dw z g t j

theorem dw_of_le (z g : ℕ → ℕ → ℝ) {t s : ℕ} (h : t ≤ s) : dw z g t s = 0 := by
  simp [dw, wt, Nat.not_lt.mpr h]

/-- A sum over all keys of a function that is zero outside of block `b` is the sum over that block. -/
theorem sum_block (f : ℕ → ℝ) {b : ℕ} (hb : b < 16) :
    ∑ j ∈ range len, (if 256 * b ≤ j ∧ j < 256 * b + 256 then f j else 0) = ∑ k : Fin 256, f (256 * b + k) := by
  rw [← Finset.sum_filter, Finset.sum_fin_eq_sum_range]
  refine Finset.sum_bij' (fun j _ => j - 256 * b) (fun k _ => 256 * b + k) ?_ ?_ ?_ ?_ ?_ <;>
    simp only [Finset.mem_filter, Finset.mem_range, len]
  · intro j h; omega
  · intro k h; omega
  · intro j h; omega
  · intro k h; omega
  · intro j h
    have h1 : j - 256 * b < 256 := by omega
    rw [dif_pos h1]
    congr 1
    omega

/-- The sum of `ln` after a key is that over the later blocks and that over the rest of its own block. -/
theorem suf_block (z : ℕ → ℕ → ℝ) (t : ℕ) {b : ℕ} (hb : b < 16) (c : Fin 256) :
    suf z t (256 * b + c) = (∑ k : Fin 256, ln z t (256 * b + k) * (if c < k then 1 else 0)) + later z t b := by
  have h := sum_block (fun j => ln z t j * (if 256 * b + c < j then 1 else 0)) hb
  have h2 : ∀ k : Fin 256, (256 * b + (c : ℕ) < 256 * b + (k : ℕ)) = (c < k) := fun k => by
    rw [Fin.lt_def]; exact propext (by omega)
  simp only [h2] at h
  rw [← h, later, suf, ← Finset.sum_add_distrib]
  refine Finset.sum_congr rfl fun j _ => ?_
  have hc := c.isLt
  by_cases h1 : 256 * b + (c : ℕ) < j
  · by_cases h3 : j < 256 * b + 256
    · rw [if_pos h1, if_pos ⟨by omega, h3⟩, if_pos h1, if_neg (by omega)]; ring
    · rw [if_pos h1, if_neg (by omega), if_pos (by omega)]; ring
  · rw [if_neg h1, if_neg (by omega : ¬ (b + 1) * 256 ≤ j), if_neg h1]; split <;> ring

/-- The sum of `dw` before a key is that over the earlier blocks and that over the beginning of its own block. -/
theorem pre_block (z g : ℕ → ℕ → ℝ) (t : ℕ) {b : ℕ} (hb : b < 16) (c : Fin 256) :
    pre z g t (256 * b + c) = earlier z g t b + ∑ k : Fin 256, dw z g t (256 * b + k) * (if k < c then 1 else 0) := by
  have h := sum_block (fun j => dw z g t j * (if j < 256 * b + c then 1 else 0)) hb
  have h2 : ∀ k : Fin 256, (256 * b + (k : ℕ) < 256 * b + (c : ℕ)) = (k < c) := fun k => by
    rw [Fin.lt_def]; exact propext (by omega)
  simp only [h2] at h
  have h4 : earlier z g t b = ∑ j ∈ range len, if j < 256 * b then dw z g t j else 0 := by
    rw [earlier, ← Finset.sum_filter]
    refine Finset.sum_congr ?_ fun _ _ => rfl
    ext j; simp only [Finset.mem_filter, Finset.mem_range, len]; omega
  rw [← h, h4, pre, ← Finset.sum_add_distrib]
  refine Finset.sum_congr rfl fun j _ => ?_
  have hc := c.isLt
  by_cases h1 : j < 256 * b + (c : ℕ)
  · by_cases h3 : 256 * b ≤ j
    · rw [if_pos h1, if_neg (by omega), if_pos ⟨h3, by omega⟩, if_pos h1]; ring
    · rw [if_pos h1, if_pos (by omega), if_neg (by omega)]; ring
  · rw [if_neg h1, if_neg (by omega : ¬ j < 256 * b), if_neg h1]; split <;> ring

/-- One block more. -/
theorem earlier_succ (z g : ℕ → ℕ → ℝ) (t b : ℕ) :
    earlier z g t (b + 1) = earlier z g t b + ∑ k : Fin 256, dw z g t (256 * b + k) := by
  rw [earlier, earlier, show 256 * (b + 1) = 256 * b + 256 by ring, Finset.sum_range_add,
    Finset.sum_range (fun x => dw z g t (256 * b + x))]

/-- The weights of a block, from sums over the block and over the later ones. -/
theorem wt_block (z : ℕ → ℕ → ℝ) (t : ℕ) {b : ℕ} (hb : b < 16) (c : Fin 256) :
    (if 256 * b + (c : ℕ) < t then Real.exp (z t (256 * b + c) - sp (z t (256 * b + c))
      + ((∑ k : Fin 256, ln z t (256 * b + k) * (if c < k then 1 else 0)) + later z t b)) else 0) = wt z t (256 * b + c) := by
  rw [wt, suf_block z t hb c]

/-- The cotangents of the scores of a block, from sums over the block and over the earlier ones. -/
theorem dz_block (z g : ℕ → ℕ → ℝ) (t : ℕ) {b : ℕ} (hb : b < 16) (c : Fin 256) :
    (if 256 * b + (c : ℕ) < t then dw z g t (256 * b + c) * (1 - sg (z t (256 * b + c)))
      - sg (z t (256 * b + c)) * (earlier z g t b + ∑ k : Fin 256, dw z g t (256 * b + k) * (if k < c then 1 else 0)) else 0)
      = dz z g t (256 * b + c) := by
  rw [dz, pre_block z g t hb c]

/-- `log (1 + exp x)` the way it is computed without overflow. -/
theorem sp_eq (x : ℝ) : max x 0 + Real.log (1 + Real.exp (-|x|)) = sp x := by
  unfold sp
  rcases le_total 0 x with h | h
  · rw [max_eq_left h, abs_of_nonneg h]
    have h1 : (1 : ℝ) + Real.exp x = Real.exp x * (1 + Real.exp (-x)) := by
      rw [mul_add, ← Real.exp_add]; simp [add_comm]
    rw [h1, Real.log_mul (Real.exp_pos x).ne' (by positivity), Real.log_exp]
  · rw [max_eq_right h, abs_of_nonpos h, neg_neg, zero_add]

/-- The logistic function the way it is computed without overflow. -/
theorem sg_eq (x : ℝ) :
    (if 0 ≤ x then 1 / (1 + Real.exp (-|x|)) else Real.exp (-|x|) * (1 / (1 + Real.exp (-|x|)))) = sg x := by
  unfold sg
  split
  · rename_i h
    rw [abs_of_nonneg h, Real.exp_neg]
    have := Real.exp_pos x
    field_simp
    ring
  · rename_i h
    rw [abs_of_neg (not_le.mp h), neg_neg]; ring

/-- `log (1 + exp (-x))` from `log (1 + exp x)`. -/
theorem sp_neg (x : ℝ) : sp (-x) = sp x - x := by
  unfold sp
  have h1 : (1 : ℝ) + Real.exp x = Real.exp x * (1 + Real.exp (-x)) := by
    rw [mul_add, ← Real.exp_add]; simp [add_comm]
  rw [h1, Real.log_mul (Real.exp_pos x).ne' (by positivity), Real.log_exp]; ring

/-- The derivative of `sp`, in the form in which it is computed. -/
theorem exp_sub_sp (x : ℝ) : Real.exp (x - sp x) = sg x := by
  unfold sp sg
  rw [Real.exp_sub, Real.exp_log (by positivity)]

theorem sg_neg (x : ℝ) : sg (-x) = 1 - sg x := by
  unfold sg
  rw [Real.exp_neg]
  have := Real.exp_pos x
  field_simp
  ring

end Cert.Spec

end
-- ==== Proof.HostMath.lean ====
/-
Host operations over the reals, read at an index.

A cumulative sum along the last axis is printed as a window sum: at position `s` the window covers the entries from `s` on
(the reversed sum) or the entries up to `s` (the forward one), and the positions outside the array hold zero.  Here the
entries of one line are real numbers `f 0 … f (N - 1)`, and the two sums are the real sums of `f`.  Then the stable form of
`log (1 + exp x)` at a real number.
-/
module

public import proofs.«01_k».proof.Proof.Math
public import Idealize.ShloMosaic.PureOps.Ideal.Laws
public import Idealize.ShloMosaic.Lib.Pointwise

@[expose] public section

set_option maxRecDepth 16384

noncomputable section

namespace Cert.Spec

open Idealize.ShloMosaic Idealize.ShloMosaic.Pointwise

/-- Adding the entries of a list to a start value one after another is the start value plus their sum. -/
theorem foldl_add {α : Type} (l : List α) (g : α → EReal) (v : EReal) :
    l.foldl (fun r n => r + g n) v = v + (l.map g).sum := by
  induction l generalizing v with
  | nil => simp
  | cons a l ih => simp [ih, add_assoc]

/-- The indices of a window that is one wide on the first two axes. -/
def lineEquiv (N : ℕ) : Fin N ≃ (⟨3, ![1, 1, N]⟩ : Shape).Idx where
  toFun k := ix3 (0 : Fin 1) (0 : Fin 1) k
  invFun i := i 2
  left_inv k := rfl
  right_inv i := by
    refine Eq.trans ?_ (eq_ix3 i).symm
    have h0 : (i 0 : Fin 1) = (0 : Fin 1) := Fin.ext (Nat.lt_one_iff.mp (i 0).isLt)
    have h1 : (i 1 : Fin 1) = (0 : Fin 1) := Fin.ext (Nat.lt_one_iff.mp (i 1).isLt)
    exact (congrArg₂ (fun a b : Fin 1 => ix3 a b (i 2 : Fin N)) h0 h1).symm

/-- Sums of real numbers, as extended reals. -/
theorem coe_sum' {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A window sum over the last axis: each position of the window adds the entry it meets, or zero outside the array. -/
theorem window_read {A B N lo hi : ℕ} (x : (⟨3, ![A, B, N]⟩ : Shape).Idx → EReal)
    (init : (⟨0, ![]⟩ : Shape).Idx → EReal) (hinit : ∀ i, init i = 0)
    (h : (⟨3, ![A, B, N]⟩ : Shape).ReduceWindows ![1, 1, N] ![1, 1, 1] ![0, 0, lo] ![0, 0, hi] ⟨3, ![A, B, N]⟩)
    (hu : 0 < (⟨0, ![]⟩ : Shape).numel) (a : Fin A) (b : Fin B) (s : Fin N) (f : ℕ → ℝ)
    (hx : ∀ j : Fin N, x (ix3 a b j) = ((f j.val : ℝ) : EReal)) :
    Host.reduceWindowAdd (F := Ideal) (φ := .f32) ![1, 1, N] ![1, 1, 1] ![0, 0, lo] ![0, 0, hi] x init h hu (ix3 a b s)
      = ((∑ k ∈ Finset.range N, if lo ≤ s.val + k ∧ s.val + k - lo < N then f (s.val + k - lo) else 0 : ℝ) : EReal) := by
  show Ideal.hostReduceWindowAdd _ _ _ _ h x (init (Shape.Idx.first hu)) (ix3 a b s) = _
  rw [hinit]
  unfold Ideal.hostReduceWindowAdd Host.reduceWindow
  dsimp only
  rw [foldl_add, zero_add, ← List.ofFn_eq_map, List.sum_ofFn,
    ← Equiv.sum_comp ((lineEquiv N).trans (Shape.rowMajor ⟨3, ![1, 1, N]⟩)),
    Finset.sum_range, ← coe_sum']
  refine Finset.sum_congr rfl fun k _ => ?_
  simp only [Equiv.trans_apply, Equiv.symm_apply_apply]
  have ha := a.isLt
  have hb := b.isLt
  by_cases hk : lo ≤ s.val + k.val ∧ s.val + k.val - lo < N
  · rw [dif_pos, if_pos hk]
    · refine (congrArg x (funext fun ax => Fin.ext ?_)).trans (hx ⟨s.val + k.val - lo, hk.2⟩)
      match ax with
      | ⟨0, _⟩ => show a.val * 1 + 0 - 0 = a.val; omega
      | ⟨1, _⟩ => show b.val * 1 + 0 - 0 = b.val; omega
      | ⟨2, _⟩ => show s.val * 1 + k.val - lo = s.val + k.val - lo; omega
    · intro ax
      match ax with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show lo ≤ s.val * 1 + k.val ∧ s.val * 1 + k.val - lo < N; omega
  · rw [dif_neg, if_neg hk]
    · simp
    · intro hin
      have h2 := hin ⟨2, by decide⟩
      change lo ≤ s.val * 1 + k.val ∧ s.val * 1 + k.val - lo < N at h2
      omega

/-- The sum over the positions from `s` on, with the window's positions counted from `s`. -/
theorem sum_from (N : ℕ) (s : ℕ) (f : ℕ → ℝ) :
    (∑ k ∈ Finset.range N, if 0 ≤ s + k ∧ s + k - 0 < N then f (s + k - 0) else 0)
      = ∑ j ∈ Finset.range N, if s ≤ j then f j else 0 := by
  rw [← Finset.sum_filter, ← Finset.sum_filter]
  refine Finset.sum_bij' (fun k _ => s + k) (fun j _ => j - s) ?_ ?_ ?_ ?_ ?_ <;>
    simp only [Finset.mem_filter, Finset.mem_range] <;> intros <;> first | omega | rfl

/-- The sum over the positions up to `s`, with the window's positions counted up to `s`. -/
theorem sum_to (M : ℕ) (s : ℕ) (hs : s < M + 1) (f : ℕ → ℝ) :
    (∑ k ∈ Finset.range (M + 1), if M ≤ s + k ∧ s + k - M < M + 1 then f (s + k - M) else 0)
      = ∑ j ∈ Finset.range (M + 1), if j ≤ s then f j else 0 := by
  rw [← Finset.sum_filter, ← Finset.sum_filter]
  refine Finset.sum_bij' (fun k _ => s + k - M) (fun j _ => j + M - s) ?_ ?_ ?_ ?_ ?_ <;>
    simp only [Finset.mem_filter, Finset.mem_range] <;> intros <;> first | omega | trivial

/-- `log (1 + exp r)` with the larger of `r` and zero taken out. -/
theorem softplus_real (r : ℝ) :
    (if (r : EReal) - 0 ≠ (r : EReal) - 0 then (r : EReal) + 0
      else max (r : EReal) 0 + Ideal.log1p (Ideal.exp (-FloatOps.absf (F := Ideal) (φ := .f32) ((r : EReal) - 0)))) = ((sp r : ℝ) : EReal) := by
  rw [if_neg (fun h => h rfl)]
  have h0 : (r : EReal) - 0 = (r : EReal) := by simp
  have ha : FloatOps.absf (F := Ideal) (φ := .f32) (r : EReal) = ((|r| : ℝ) : EReal) := by
    show max (r : EReal) (-(r : EReal)) = _
    rw [← EReal.coe_neg, ← EReal.coe_strictMono.monotone.map_max]
    rfl
  have hl : Ideal.log1p ((Real.exp (-|r|) : ℝ) : EReal) = ((Real.log (1 + Real.exp (-|r|)) : ℝ) : EReal) := by
    unfold Ideal.log1p
    rw [← EReal.coe_one, ← EReal.coe_add, Ideal.log_coe, if_neg (by have := Real.exp_pos (-|r|); linarith)]
  rw [h0, ha, ← EReal.coe_neg, Ideal.exp_coe, hl, ← EReal.coe_zero, ← EReal.coe_strictMono.monotone.map_max, ← EReal.coe_add, sp_eq]

/-- The choice by a decided bit. -/
theorem select_decide {α : Type} (p : Prop) [Decidable p] (a b : α) :
    Scalar.select (BitVec.ofBool (decide p)) a b = if p then a else b := by
  by_cases h : p <;> simp [h, Scalar.select]

theorem coe_if (p : Prop) [Decidable p] (a b : ℝ) :
    (if p then (a : EReal) else (b : EReal)) = ((if p then a else b : ℝ) : EReal) := by
  by_cases h : p <;> simp [h]

end Cert.Spec

end
-- ==== Proof.HostStage.lean ====
/-
The table that the kernel takes besides its four arrays.

For each query and each block of 256 keys the table holds the sum of `log (1 - sigmoid z)` over the keys of the later
blocks that come before the query; it is computed from `q` and `k` before the kernel runs.  The operations are gathered
here into stages, and the table is read at an index over the reals.
-/
module

public import proofs.«01_k».proof.Proof.Gen.KernelIdeal.Frame
public import proofs.«01_k».proof.Proof.Math
public import proofs.«01_k».proof.Proof.HostMath
public import Idealize.ShloMosaic.Lib.Pointwise
public import Idealize.ShloMosaic.Lib.WordCmp

@[expose] public section

set_option maxRecDepth 16384

noncomputable section

namespace Cert.KernelIdeal.Table

open Cert.KernelIdeal Cert.KernelIdeal.Gen Idealize.ShloMosaic Idealize.ShloMosaic.TcCoe Idealize.ShloMosaic.StableHlo

variable {F : FTy → Type} [FloatOps F]

/-- An argument as [head, position, feature]. -/
def heads (x : FVec F S4096x1024 .bf16) : FVec F S8x4096x128 .f32 :=
  transpose S8x4096x128 [1, 0, 2] (shapeCast _ (extf .f32 x bitsLt_bf16_f32) shapeCasts_S4096x1024_S4096x8x128) transposes_S4096x8x128_S8x4096x128_1_0_2

/-- The products of the rows of two arrays, head by head. -/
def score (x y : FVec F S8x4096x128 .f32) : FVec F S8x4096x4096 .f32 :=
  Host.dotGeneral dot_S8x4096x128_S8x4096x128_S8x4096x4096_2_2_1_1_0_0 none x y

/-- Which keys come before the query. -/
def mask : IVec S8x4096x4096 1 :=
  broadcastInDim S8x4096x4096 ![1, 2] bcast_S4096x4096_S8x4096x4096_1_2 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Zero everywhere. -/
def fill : FVec F S8x4096x4096 .f32 :=
  broadcastInDim S8x4096x4096 ![] bcast_S_S8x4096x4096 (constant S_ .f32 0x00000000#32)

/-- `log (1 + exp x)`, with the larger of `x` and zero taken out. -/
def softplus (x : FVec F S8x4096x4096 .f32) : FVec F S8x4096x4096 .f32 :=
  select (cmpf .une (subf x fill) (subf x fill)) (addf x fill)
    (addf (maximumf x fill) (Host.log1p (Host.exp (Host.negf (Host.absf (subf x fill))))))

/-- `log (1 - sigmoid z)` of the keys before the query, zero elsewhere. -/
def logNot (z : FVec F S8x4096x4096 .f32) : FVec F S8x4096x4096 .f32 :=
  select mask (Host.negf (softplus (Host.negf (Host.negf z)))) fill

/-- The sums over the blocks of 256 keys. -/
def blocks (x : FVec F S8x4096x4096 .f32) : FVec F S8x4096x16 .f32 :=
  Host.reduceAdd (shapeCast S8x4096x16x256 x shapeCasts_S8x4096x4096_S8x4096x16x256) (constant S_ .f32 0x00000000#32) reducesTo_S8x4096x16x256_S8x4096x16_d3 h_S_

/-- The start value of a running sum. -/
def zero : FVec F S_ .f32 := broadcastInDim S_ ![] bcast_S_S_ (constant S_ .f32 0x00000000#32)

/-- The sum over the blocks after each block. -/
def after (x : FVec F S8x4096x16 .f32) : FVec F S8x4096x16 .f32 :=
  subf (Host.reduceWindowAdd ![1, 1, 16] ![1, 1, 1] ![0, 0, 0] ![0, 0, 15] x zero reduceWindows_S8x4096x16_S8x4096x16_w1s1p0_0_w1s1p0_0_w16s1p0_15 h_S_) x

/-- The table, the blocks of a head in its first 16 columns. -/
def table (x : FVec F S8x4096x16 .f32) : FVec F S4096x1024 .f32 :=
  shapeCast _ (transpose S4096x8x128 [1, 0, 2] (pad S8x4096x128 ![0, 0, 0] ![0, 0, 112] ![0, 0, 0] x (sitofp .f32 (constantI S_ 32 0#32)) pads_S8x4096x16_S8x4096x128_000_000_01120 h_S_) transposes_S8x4096x128_S4096x8x128_1_0_2) shapeCasts_S4096x8x128_S4096x1024

variable (m : (ℓ : Loc nD τ sig) → Buf (Elt F) ℓ) (c : Dev nD)

set_option maxHeartbeats 4000000 in
theorem V_table : Gen.V m c main_v23 = table (after (blocks (logNot (score (heads (m ((c : Thread nD τ).loc main_arg0))) (heads (m ((c : Thread nD τ).loc main_arg1))))))) := by
  unfold Gen.V
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.nullary, TRef.ternary, TRef.unary, TRef.toBuf, TRef.ofBuf, cast_eq]
  after_results_simp
  rfl

end Cert.KernelIdeal.Table

end
-- ==== Proof.Tile.lean ====
/-
  What the kernel computes from one tile of queries and one block of 256 keys, as operations on vectors, for one head:
  512 queries in the loop over the earlier blocks and on the upper diagonal block, 256 on the lower diagonal block.
-/
module

public import proofs.«01_k».proof.Proof.Gen.KernelIdeal.Skeleton

@[expose] public section

noncomputable section

namespace Cert.KernelIdeal.Tile

open Idealize.ShloMosaic Cert.KernelIdeal Cert.KernelIdeal.Gen

/-! ## Tiles of 512 queries -/

namespace T512

variable {F : FTy → Type} [FloatOps F]

/-- The entry of column `b` of each row: the others are replaced by zero and the row is summed. -/
def pick (lane : IVec S512x128 32) (b : BitVec 32) (c : Vec F S512x128 .f32) : FVec F S512x1 .f32 :=
  shapeCast S512x1 (multiReduction .add [1] S512
    (select (cmpi .eq lane (broadcast S512x128 b)) (shapeCast S512x128 c shapeCasts_S512x128_S512x128)
      (broadcast S512x128 (Scalar.ofBits .f32 0x00000000#32)))
    0x00000000#32 reduces_S512x128_S512 (.inl rfl) rfl) shapeCasts_S512_S512x1

/-- The scores: every query row times every key row (also used for the cotangent rows times the value rows). -/
def score (k : Vec F S256x128 .bf16) (q : Vec F S512x128 .bf16) : FVec F S512x256 .f32 :=
  matmul dot_S512x128_S256x128_S512x256_1_1_0_0_n_n none q k (constant S512x256 .f32 0x00000000#32)

/-- `exp (-|z|)`. -/
def small (z : FVec F S512x256 .f32) : FVec F S512x256 .f32 :=
  exp (subf (broadcast S512x256 (Scalar.ofBits .f32 0x00000000#32)) (absf z))

/-- `log (1 + exp z)`. -/
def soft (z : FVec F S512x256 .f32) : FVec F S512x256 .f32 :=
  addf (maximumf z (broadcast S512x256 (Scalar.ofBits .f32 0x00000000#32)))
    (log (addf (broadcast S512x256 (Scalar.ofBits .f32 0x3F800000#32)) (small z)))

/-- The logarithm of one minus the logistic function. -/
def logNot (z : FVec F S512x256 .f32) : FVec F S512x256 .f32 :=
  subf (broadcast S512x256 (Scalar.ofBits .f32 0x00000000#32)) (soft z)

/-- Zero where the mask is not set. -/
def keep (m : IVec S512x256 1) (x : FVec F S512x256 .f32) : FVec F S512x256 .f32 :=
  select m x (broadcast S512x256 (Scalar.ofBits .f32 0x00000000#32))

/-- A product with a matrix of zeros and ones, the left factor cut in a rounded part and the rest. -/
def hilo (a : FVec F S512x256 .f32) (b : FVec F S512x256 .bf16) : FVec F S512x256 .f32 :=
  addf
    (matmul dot_S512x256_S256x256_S512x256_1_0_0_1_n_n none (truncf .bf16 a bitsLt_bf16_f32)
      (extractStridedSlice S256x256 ![0, 0] b slices_S512x256_o0_0_S256x256) (constant S512x256 .f32 0x00000000#32))
    (matmul dot_S512x256_S256x256_S512x256_1_0_0_1_n_n none
      (truncf .bf16 (subf a (extf .f32 (truncf .bf16 a bitsLt_bf16_f32) bitsLt_bf16_f32)) bitsLt_bf16_f32)
      (extractStridedSlice S256x256 ![0, 0] b slices_S512x256_o0_0_S256x256) (constant S512x256 .f32 0x00000000#32))

/-- The weights, from the scores, the `logNot` that counts and the sum over the later blocks. -/
def weight (after : FVec F S512x256 .bf16) (cs : FVec F S512x1 .f32) (z ln : FVec F S512x256 .f32) : FVec F S512x256 .f32 :=
  exp (addf (addf (subf z (soft z)) (hilo ln after)) (broadcastTo S512x256 cs broadcasts_S512x1_S512x256))

/-- The logistic function. -/
def sig (z : FVec F S512x256 .f32) : FVec F S512x256 .f32 :=
  select (cmpf .oge z (broadcast S512x256 (Scalar.ofBits .f32 0x00000000#32)))
    (divf (broadcast S512x256 (Scalar.ofBits .f32 0x3F800000#32)) (addf (broadcast S512x256 (Scalar.ofBits .f32 0x3F800000#32)) (small z)))
    (mulf (small z)
      (divf (broadcast S512x256 (Scalar.ofBits .f32 0x3F800000#32)) (addf (broadcast S512x256 (Scalar.ofBits .f32 0x3F800000#32)) (small z))))

/-- The cotangent of the scores, from the scores, that of the logarithm of the weights and the latter's sum over the
    earlier blocks. -/
def dscore (before : FVec F S512x256 .bf16) (p : FVec F S512x1 .f32) (z dl : FVec F S512x256 .f32) : FVec F S512x256 .f32 :=
  subf (mulf dl (subf (broadcast S512x256 (Scalar.ofBits .f32 0x3F800000#32)) (sig z)))
    (mulf (sig z) (addf (broadcastTo S512x256 p broadcasts_S512x1_S512x256) (hilo dl before)))

/-- The sum of each row. -/
def total (dl : FVec F S512x256 .f32) : FVec F S512x1 .f32 :=
  shapeCast S512x1 (multiReduction .add [1] S512 dl 0x00000000#32 reduces_S512x256_S512 (.inl rfl) rfl) shapeCasts_S512_S512x1

/-- The accumulator of the gradient of the queries, after this block. -/
def addQ (x : FVec F S512x256 .f32) (k : Vec F S256x128 .bf16) (acc : Vec F S512x128 .f32) : FVec F S512x128 .f32 :=
  addf (shapeCast S512x128 acc shapeCasts_S512x128_S512x128)
    (matmul dot_S512x256_S256x128_S512x128_1_0_0_1_n_n none (truncf .bf16 x bitsLt_bf16_f32) k (constant S512x128 .f32 0x00000000#32))

/-- The accumulator of the gradient of the keys (or of the values), after this block. -/
def addK (x : FVec F S512x256 .f32) (q : Vec F S512x128 .bf16) (acc : Vec F S256x128 .f32) : FVec F S256x128 .f32 :=
  addf (shapeCast S256x128 acc shapeCasts_S256x128_S256x128)
    (matmul dot_S512x256_S512x128_S256x128_0_0_1_1_n_n none (truncf .bf16 x bitsLt_bf16_f32) q (constant S256x128 .f32 0x00000000#32))

/-- The sum over the blocks up to this one. -/
def addP (p t : FVec F S512x1 .f32) : FVec F S1x512x1 .f32 := shapeCast S1x512x1 (addf p t) shapeCasts_S512x1_S1x512x1

/-- The sum over the earlier blocks, as it is read. -/
def row (p : Vec F S1x512x1 .f32) : FVec F S512x1 .f32 := shapeCast S512x1 p shapeCasts_S1x512x1_S512x1

/-! One head's weights (`w`), the cotangent of their logarithms (`d`) and that of the scores (`x`): on a block of earlier
    keys, and (`m`) under a mask. -/

def w (after : FVec F S512x256 .bf16) (lane : IVec S512x128 32) (b : BitVec 32) (c : Vec F S512x128 .f32)
    (q : Vec F S512x128 .bf16) (k : Vec F S256x128 .bf16) : FVec F S512x256 .f32 :=
  weight after (pick lane b c) (score k q) (logNot (score k q))

def d (after : FVec F S512x256 .bf16) (lane : IVec S512x128 32) (b : BitVec 32) (c : Vec F S512x128 .f32)
    (q o : Vec F S512x128 .bf16) (k v : Vec F S256x128 .bf16) : FVec F S512x256 .f32 :=
  mulf (score v o) (w after lane b c q k)

def x (after before : FVec F S512x256 .bf16) (lane : IVec S512x128 32) (b : BitVec 32) (c : Vec F S512x128 .f32)
    (q o : Vec F S512x128 .bf16) (k v : Vec F S256x128 .bf16) (p : Vec F S1x512x1 .f32) : FVec F S512x256 .f32 :=
  dscore before (row p) (score k q) (d after lane b c q o k v)

def wm (m : IVec S512x256 1) (after : FVec F S512x256 .bf16) (lane : IVec S512x128 32) (b : BitVec 32) (c : Vec F S512x128 .f32)
    (q : Vec F S512x128 .bf16) (k : Vec F S256x128 .bf16) : FVec F S512x256 .f32 :=
  keep m (weight after (pick lane b c) (score k q) (keep m (logNot (score k q))))

def dm (m : IVec S512x256 1) (after : FVec F S512x256 .bf16) (lane : IVec S512x128 32) (b : BitVec 32) (c : Vec F S512x128 .f32)
    (q o : Vec F S512x128 .bf16) (k v : Vec F S256x128 .bf16) : FVec F S512x256 .f32 :=
  mulf (score v o) (wm m after lane b c q k)

def xm (m : IVec S512x256 1) (after before : FVec F S512x256 .bf16) (lane : IVec S512x128 32) (b : BitVec 32)
    (c : Vec F S512x128 .f32) (q o : Vec F S512x128 .bf16) (k v : Vec F S256x128 .bf16) (p : Vec F S1x512x1 .f32) :
    FVec F S512x256 .f32 :=
  keep m (dscore before (row p) (score k q) (dm m after lane b c q o k v))

end T512

/-! ## Tiles of 256 queries -/

namespace T256

variable {F : FTy → Type} [FloatOps F]

/-- The entry of column `b` of each row: the others are replaced by zero and the row is summed. -/
def pick (lane : IVec S256x128 32) (b : BitVec 32) (c : Vec F S256x128 .f32) : FVec F S256x1 .f32 :=
  shapeCast S256x1 (multiReduction .add [1] S256
    (select (cmpi .eq lane (broadcast S256x128 b)) (shapeCast S256x128 c shapeCasts_S256x128_S256x128)
      (broadcast S256x128 (Scalar.ofBits .f32 0x00000000#32)))
    0x00000000#32 reduces_S256x128_S256 (.inl rfl) rfl) shapeCasts_S256_S256x1

/-- The scores: every query row times every key row (also used for the cotangent rows times the value rows). -/
def score (k : Vec F S256x128 .bf16) (q : Vec F S256x128 .bf16) : FVec F S256x256 .f32 :=
  matmul dot_S256x128_S256x128_S256x256_1_1_0_0_n_n none q k (constant S256x256 .f32 0x00000000#32)

/-- `exp (-|z|)`. -/
def small (z : FVec F S256x256 .f32) : FVec F S256x256 .f32 :=
  exp (subf (broadcast S256x256 (Scalar.ofBits .f32 0x00000000#32)) (absf z))

/-- `log (1 + exp z)`. -/
def soft (z : FVec F S256x256 .f32) : FVec F S256x256 .f32 :=
  addf (maximumf z (broadcast S256x256 (Scalar.ofBits .f32 0x00000000#32)))
    (log (addf (broadcast S256x256 (Scalar.ofBits .f32 0x3F800000#32)) (small z)))

/-- The logarithm of one minus the logistic function. -/
def logNot (z : FVec F S256x256 .f32) : FVec F S256x256 .f32 :=
  subf (broadcast S256x256 (Scalar.ofBits .f32 0x00000000#32)) (soft z)

/-- Zero where the mask is not set. -/
def keep (m : IVec S256x256 1) (x : FVec F S256x256 .f32) : FVec F S256x256 .f32 :=
  select m x (broadcast S256x256 (Scalar.ofBits .f32 0x00000000#32))

/-- A product with a matrix of zeros and ones, the left factor cut in a rounded part and the rest. -/
def hilo (a : FVec F S256x256 .f32) (b : FVec F S512x256 .bf16) : FVec F S256x256 .f32 :=
  addf
    (matmul dot_S256x256_S256x256_S256x256_1_0_0_1_n_n none (truncf .bf16 a bitsLt_bf16_f32)
      (extractStridedSlice S256x256 ![0, 0] b slices_S512x256_o0_0_S256x256) (constant S256x256 .f32 0x00000000#32))
    (matmul dot_S256x256_S256x256_S256x256_1_0_0_1_n_n none
      (truncf .bf16 (subf a (extf .f32 (truncf .bf16 a bitsLt_bf16_f32) bitsLt_bf16_f32)) bitsLt_bf16_f32)
      (extractStridedSlice S256x256 ![0, 0] b slices_S512x256_o0_0_S256x256) (constant S256x256 .f32 0x00000000#32))

/-- The weights, from the scores, the `logNot` that counts and the sum over the later blocks. -/
def weight (after : FVec F S512x256 .bf16) (cs : FVec F S256x1 .f32) (z ln : FVec F S256x256 .f32) : FVec F S256x256 .f32 :=
  exp (addf (addf (subf z (soft z)) (hilo ln after)) (broadcastTo S256x256 cs broadcasts_S256x1_S256x256))

/-- The logistic function. -/
def sig (z : FVec F S256x256 .f32) : FVec F S256x256 .f32 :=
  select (cmpf .oge z (broadcast S256x256 (Scalar.ofBits .f32 0x00000000#32)))
    (divf (broadcast S256x256 (Scalar.ofBits .f32 0x3F800000#32)) (addf (broadcast S256x256 (Scalar.ofBits .f32 0x3F800000#32)) (small z)))
    (mulf (small z)
      (divf (broadcast S256x256 (Scalar.ofBits .f32 0x3F800000#32)) (addf (broadcast S256x256 (Scalar.ofBits .f32 0x3F800000#32)) (small z))))

/-- The cotangent of the scores, from the scores, that of the logarithm of the weights and the latter's sum over the
    earlier blocks. -/
def dscore (before : FVec F S512x256 .bf16) (p : FVec F S256x1 .f32) (z dl : FVec F S256x256 .f32) : FVec F S256x256 .f32 :=
  subf (mulf dl (subf (broadcast S256x256 (Scalar.ofBits .f32 0x3F800000#32)) (sig z)))
    (mulf (sig z) (addf (broadcastTo S256x256 p broadcasts_S256x1_S256x256) (hilo dl before)))

/-- The sum of each row. -/
def total (dl : FVec F S256x256 .f32) : FVec F S256x1 .f32 :=
  shapeCast S256x1 (multiReduction .add [1] S256 dl 0x00000000#32 reduces_S256x256_S256 (.inl rfl) rfl) shapeCasts_S256_S256x1

/-- The accumulator of the gradient of the queries, after this block. -/
def addQ (x : FVec F S256x256 .f32) (k : Vec F S256x128 .bf16) (acc : Vec F S256x128 .f32) : FVec F S256x128 .f32 :=
  addf (shapeCast S256x128 acc shapeCasts_S256x128_S256x128)
    (matmul dot_S256x256_S256x128_S256x128_1_0_0_1_n_n none (truncf .bf16 x bitsLt_bf16_f32) k (constant S256x128 .f32 0x00000000#32))

/-- The accumulator of the gradient of the keys (or of the values), after this block. -/
def addK (x : FVec F S256x256 .f32) (q : Vec F S256x128 .bf16) (acc : Vec F S256x128 .f32) : FVec F S256x128 .f32 :=
  addf (shapeCast S256x128 acc shapeCasts_S256x128_S256x128)
    (matmul dot_S256x256_S256x128_S256x128_0_0_1_1_n_n none (truncf .bf16 x bitsLt_bf16_f32) q (constant S256x128 .f32 0x00000000#32))

/-- The sum over the blocks up to this one. -/
def addP (p t : FVec F S256x1 .f32) : FVec F S1x256x1 .f32 := shapeCast S1x256x1 (addf p t) shapeCasts_S256x1_S1x256x1

/-- The sum over the earlier blocks, as it is read. -/
def row (p : Vec F S1x256x1 .f32) : FVec F S256x1 .f32 := shapeCast S256x1 p shapeCasts_S1x256x1_S256x1

/-! One head's weights (`w`), the cotangent of their logarithms (`d`) and that of the scores (`x`): on a block of earlier
    keys, and (`m`) under a mask. -/

def w (after : FVec F S512x256 .bf16) (lane : IVec S256x128 32) (b : BitVec 32) (c : Vec F S256x128 .f32)
    (q : Vec F S256x128 .bf16) (k : Vec F S256x128 .bf16) : FVec F S256x256 .f32 :=
  weight after (pick lane b c) (score k q) (logNot (score k q))

def d (after : FVec F S512x256 .bf16) (lane : IVec S256x128 32) (b : BitVec 32) (c : Vec F S256x128 .f32)
    (q o : Vec F S256x128 .bf16) (k v : Vec F S256x128 .bf16) : FVec F S256x256 .f32 :=
  mulf (score v o) (w after lane b c q k)

def x (after before : FVec F S512x256 .bf16) (lane : IVec S256x128 32) (b : BitVec 32) (c : Vec F S256x128 .f32)
    (q o : Vec F S256x128 .bf16) (k v : Vec F S256x128 .bf16) (p : Vec F S1x256x1 .f32) : FVec F S256x256 .f32 :=
  dscore before (row p) (score k q) (d after lane b c q o k v)

def wm (m : IVec S256x256 1) (after : FVec F S512x256 .bf16) (lane : IVec S256x128 32) (b : BitVec 32) (c : Vec F S256x128 .f32)
    (q : Vec F S256x128 .bf16) (k : Vec F S256x128 .bf16) : FVec F S256x256 .f32 :=
  keep m (weight after (pick lane b c) (score k q) (keep m (logNot (score k q))))

def dm (m : IVec S256x256 1) (after : FVec F S512x256 .bf16) (lane : IVec S256x128 32) (b : BitVec 32) (c : Vec F S256x128 .f32)
    (q o : Vec F S256x128 .bf16) (k v : Vec F S256x128 .bf16) : FVec F S256x256 .f32 :=
  mulf (score v o) (wm m after lane b c q k)

def xm (m : IVec S256x256 1) (after before : FVec F S512x256 .bf16) (lane : IVec S256x128 32) (b : BitVec 32)
    (c : Vec F S256x128 .f32) (q o : Vec F S256x128 .bf16) (k v : Vec F S256x128 .bf16) (p : Vec F S1x256x1 .f32) :
    FVec F S256x256 .f32 :=
  keep m (dscore before (row p) (score k q) (dm m after lane b c q o k v))

end T256

end Cert.KernelIdeal.Tile

end
-- ==== Proof.TileValue.lean ====
/-
  The values of a tile's operations over the extended reals, where what they read are real numbers.
-/
module

public import proofs.«01_k».proof.Proof.Math
public import proofs.«01_k».proof.Proof.Tile
public import Idealize.ShloMosaic.Lib.Pointwise

@[expose] public section

set_option maxRecDepth 16384

noncomputable section

namespace Cert.KernelIdeal.Tile

open Idealize.ShloMosaic Cert.KernelIdeal Cert.KernelIdeal.Gen Cert.Spec

/-! ## Operations on extended reals that are reals -/

theorem coe_sum {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

theorem abs_coe (x : ℝ) : max (x : EReal) (-(x : EReal)) = ((|x| : ℝ) : EReal) := by
  rw [← EReal.coe_neg, ← EReal.coe_strictMono.monotone.map_max]; rfl

theorem max_zero_coe (x : ℝ) : max (x : EReal) 0 = ((max x 0 : ℝ) : EReal) := by
  rw [← EReal.coe_zero, ← EReal.coe_strictMono.monotone.map_max]

theorem one_add_coe (x : ℝ) : (1 : EReal) + (x : EReal) = ((1 + x : ℝ) : EReal) := by
  rw [← EReal.coe_one, ← EReal.coe_add]

theorem one_sub_coe (x : ℝ) : (1 : EReal) - (x : EReal) = ((1 - x : ℝ) : EReal) := by
  rw [← EReal.coe_one, ← EReal.coe_sub]

theorem log_one_add_coe {x : ℝ} (hx : 0 ≤ x) : Ideal.log ((1 : EReal) + (x : EReal)) = ((Real.log (1 + x) : ℝ) : EReal) := by
  rw [one_add_coe, Ideal.log_coe, if_neg (by linarith)]

theorem one_div_coe {x : ℝ} (hx : x ≠ 0) : Ideal.div 1 (x : EReal) = ((1 / x : ℝ) : EReal) := by
  rw [Ideal.div_coe hx, one_mul]

theorem absf_coe (x : ℝ) : FloatOps.absf (F := Ideal) (φ := .f32) (x : EReal) = ((|x| : ℝ) : EReal) :=
  abs_coe x

theorem select_ofBool {α : Type} (p : Prop) [Decidable p] (a b : α) :
    Scalar.select (BitVec.ofBool (decide p)) a b = if p then a else b := by
  by_cases h : p <;> simp [h, Scalar.select]

theorem coe_ite (p : Prop) [Decidable p] (a b : ℝ) :
    (if p then (a : EReal) else (b : EReal)) = ((if p then a else b : ℝ) : EReal) := by
  by_cases h : p <;> simp [h]

theorem eq_ofNat (a b : Fin 128) : IntOp.cmpi .eq (BitVec.ofNat 32 a) (BitVec.ofNat 32 b) = BitVec.ofBool (decide (a = b)) := by
  revert a b
  decide +kernel

/-! ## Tiles of 512 queries -/

namespace T512

theorem score_coe {k : Vec Ideal S256x128 .bf16} {q : Vec Ideal S512x128 .bf16} {K : Fin 256 → Fin 128 → ℝ} {Q : Fin 512 → Fin 128 → ℝ}
    (hk : ∀ c d, k (ix2 c d) = (K c d : EReal)) (hq : ∀ r d, q (ix2 r d) = (Q r d : EReal)) (r : Fin 512) (c : Fin 256) :
    score (F := Ideal) k q (ix2 r c) = ((∑ d, Q r d * K c d : ℝ) : EReal) := by
  unfold score
  pointwise
  simp only [hk, hq, ← EReal.coe_mul, coe_sum]

theorem small_coe {z : FVec Ideal S512x256 .f32} {i : S512x256.Idx} {Z : ℝ} (hz : z i = (Z : EReal)) :
    small (F := Ideal) z i = ((Real.exp (-|Z|) : ℝ) : EReal) := by
  unfold small
  pointwise
  rw [hz, zero_sub, absf_coe, ← EReal.coe_neg, Ideal.exp_coe]

theorem soft_coe {z : FVec Ideal S512x256 .f32} {i : S512x256.Idx} {Z : ℝ} (hz : z i = (Z : EReal)) :
    soft (F := Ideal) z i = ((sp Z : ℝ) : EReal) := by
  have h := small_coe hz
  unfold soft
  pointwise
  rw [h, hz, ← sp_eq, max_zero_coe, log_one_add_coe (Real.exp_pos _).le, ← EReal.coe_add]

theorem logNot_coe {z : FVec Ideal S512x256 .f32} {i : S512x256.Idx} {Z : ℝ} (hz : z i = (Z : EReal)) :
    logNot (F := Ideal) z i = ((-sp Z : ℝ) : EReal) := by
  have h := soft_coe hz
  unfold logNot
  pointwise
  rw [h, zero_sub, ← EReal.coe_neg]

theorem keep_coe {m : IVec S512x256 1} {x : FVec Ideal S512x256 .f32} {i : S512x256.Idx} {X : ℝ} {M : Prop} [Decidable M]
    (hm : m i = BitVec.ofBool (decide M)) (hx : x i = (X : EReal)) :
    keep (F := Ideal) m x i = ((if M then X else 0 : ℝ) : EReal) := by
  unfold keep
  pointwise
  rw [hm, hx, select_ofBool, ← EReal.coe_zero, coe_ite]

theorem hilo_coe {a : FVec Ideal S512x256 .f32} {b : FVec Ideal S512x256 .bf16} {A : Fin 256 → ℝ} {B : Fin 256 → Fin 256 → Prop}
    [∀ k c, Decidable (B k c)] {r : Fin 512} (ha : ∀ k, a (ix2 r k) = (A k : EReal))
    (hb : ∀ (k c : Fin 256), b (ix2 (⟨k, by omega⟩ : Fin 512) c) = (((if B k c then 1 else 0 : ℝ)) : EReal)) (c : Fin 256) :
    hilo (F := Ideal) a b (ix2 r c) = ((∑ k, A k * (if B k c then 1 else 0) : ℝ) : EReal) := by
  unfold hilo
  pointwise
  simp only [ha, hb, ← EReal.coe_sub, ← EReal.coe_mul, coe_sum, ← EReal.coe_add]
  simp

theorem weight_coe {after : FVec Ideal S512x256 .bf16} {cs : FVec Ideal S512x1 .f32} {z ln : FVec Ideal S512x256 .f32}
    {Z L : Fin 256 → ℝ} {C : ℝ} {r : Fin 512} (hz : ∀ k, z (ix2 r k) = (Z k : EReal)) (hl : ∀ k, ln (ix2 r k) = (L k : EReal))
    (hb : ∀ (k c : Fin 256), after (ix2 (⟨k, by omega⟩ : Fin 512) c) = (((if c < k then 1 else 0 : ℝ)) : EReal))
    (hc : cs (ix2 r 0) = (C : EReal)) (c : Fin 256) :
    weight (F := Ideal) after cs z ln (ix2 r c)
      = ((Real.exp (Z c - sp (Z c) + ((∑ k, L k * (if c < k then 1 else 0)) + C)) : ℝ) : EReal) := by
  have h := soft_coe (hz c)
  have h2 := hilo_coe (B := fun k c => c < k) hl hb c
  unfold weight
  pointwise
  rw [h, h2, hz, hc, ← EReal.coe_sub, ← EReal.coe_add, ← EReal.coe_add, Ideal.exp_coe, add_assoc]

theorem sig_coe {z : FVec Ideal S512x256 .f32} {i : S512x256.Idx} {Z : ℝ} (hz : z i = (Z : EReal)) :
    sig (F := Ideal) z i = ((sg Z : ℝ) : EReal) := by
  have h := small_coe hz
  have hp : (1 : ℝ) + Real.exp (-|Z|) ≠ 0 := by positivity
  unfold sig
  pointwise
  rw [h, hz, ← sg_eq, one_add_coe, one_div_coe hp, ← EReal.coe_mul, coe_ite]
  simp only [EReal.coe_nonneg]

theorem dscore_coe {before : FVec Ideal S512x256 .bf16} {p : FVec Ideal S512x1 .f32} {z dl : FVec Ideal S512x256 .f32}
    {Z L : Fin 256 → ℝ} {P : ℝ} {r : Fin 512} (hz : ∀ k, z (ix2 r k) = (Z k : EReal)) (hl : ∀ k, dl (ix2 r k) = (L k : EReal))
    (hb : ∀ (k c : Fin 256), before (ix2 (⟨k, by omega⟩ : Fin 512) c) = (((if k < c then 1 else 0 : ℝ)) : EReal))
    (hp : p (ix2 r 0) = (P : EReal)) (c : Fin 256) :
    dscore (F := Ideal) before p z dl (ix2 r c)
      = ((L c * (1 - sg (Z c)) - sg (Z c) * (P + ∑ k, L k * (if k < c then 1 else 0)) : ℝ) : EReal) := by
  have h := sig_coe (hz c)
  have h2 := hilo_coe (B := fun k c => k < c) hl hb c
  unfold dscore
  pointwise
  rw [h, h2, hl, hp, one_sub_coe, ← EReal.coe_add, ← EReal.coe_mul, ← EReal.coe_mul, ← EReal.coe_sub]

theorem mul_coe {x y : FVec Ideal S512x256 .f32} {i : S512x256.Idx} {X Y : ℝ} (hx : x i = (X : EReal)) (hy : y i = (Y : EReal)) :
    (mulf x y : FVec Ideal S512x256 .f32) i = ((X * Y : ℝ) : EReal) := by
  pointwise
  rw [hx, hy, ← EReal.coe_mul]

theorem total_coe {x : FVec Ideal S512x256 .f32} {X : Fin 256 → ℝ} {r : Fin 512} (hx : ∀ k, x (ix2 r k) = (X k : EReal)) :
    total (F := Ideal) x (ix2 r 0) = ((∑ k, X k : ℝ) : EReal) := by
  unfold total
  pointwise
  simp only [hx, coe_sum]

theorem addQ_coe {x : FVec Ideal S512x256 .f32} {k : Vec Ideal S256x128 .bf16} {acc : Vec Ideal S512x128 .f32} {X : Fin 256 → ℝ}
    {K : Fin 256 → Fin 128 → ℝ} {A : ℝ} {r : Fin 512} {d : Fin 128} (hx : ∀ k, x (ix2 r k) = (X k : EReal))
    (hk : ∀ c d, k (ix2 c d) = (K c d : EReal)) (ha : acc (ix2 r d) = (A : EReal)) :
    addQ (F := Ideal) x k acc (ix2 r d) = ((A + ∑ c, X c * K c d : ℝ) : EReal) := by
  unfold addQ
  pointwise
  simp only [ha, hx, hk, ← EReal.coe_mul, coe_sum, ← EReal.coe_add]

theorem addK_coe {x : FVec Ideal S512x256 .f32} {q : Vec Ideal S512x128 .bf16} {acc : Vec Ideal S256x128 .f32} {X : Fin 512 → Fin 256 → ℝ}
    {Q : Fin 512 → Fin 128 → ℝ} {A : ℝ} {c : Fin 256} {d : Fin 128} (hx : ∀ r k, x (ix2 r k) = (X r k : EReal))
    (hq : ∀ r d, q (ix2 r d) = (Q r d : EReal)) (ha : acc (ix2 c d) = (A : EReal)) :
    addK (F := Ideal) x q acc (ix2 c d) = ((A + ∑ r, X r c * Q r d : ℝ) : EReal) := by
  unfold addK
  pointwise
  simp only [ha, hx, hq, ← EReal.coe_mul, coe_sum, ← EReal.coe_add]

theorem addP_coe {p t : FVec Ideal S512x1 .f32} {A B : ℝ} {r : Fin 512} (hp : p (ix2 r 0) = (A : EReal)) (ht : t (ix2 r 0) = (B : EReal)) :
    addP (F := Ideal) p t (ix3 0 r 0) = ((A + B : ℝ) : EReal) := by
  unfold addP
  pointwise
  rw [hp, ht, ← EReal.coe_add]

theorem row_coe {p : Vec Ideal S1x512x1 .f32} {A : ℝ} {r : Fin 512} (hp : p (ix3 0 r 0) = (A : EReal)) :
    row (F := Ideal) p (ix2 r 0) = (A : EReal) := by
  unfold row
  pointwise
  exact hp

theorem pick_coe {lane : IVec S512x128 32} {c : Vec Ideal S512x128 .f32} {C : Fin 128 → ℝ} {r : Fin 512} (b : Fin 128)
    (hl : ∀ d : Fin 128, lane (ix2 r d) = BitVec.ofNat 32 d) (hc : ∀ d, c (ix2 r d) = (C d : EReal)) :
    pick (F := Ideal) lane (BitVec.ofNat 32 b) c (ix2 r 0) = (C b : EReal) := by
  unfold pick
  pointwise
  simp only [hl, hc, eq_ofNat, select_ofBool]
  rw [Finset.sum_eq_single b]
  · simp
  · intro d _ hd
    simp [hd]
  · simp

theorem w_coe
    {z : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    (c : Fin 256) :
    w (F := Ideal) after lane (BitVec.ofNat 32 b) cb q k (ix2 r c) = ((wt z t (256 * b + c) : ℝ) : EReal) := by
  have hs : ∀ c : Fin 256, score (F := Ideal) k q (ix2 r c) = ((z t (256 * b + c) : ℝ) : EReal) := fun c => by
    rw [score_coe hk hq, hz]
  have hln : ∀ c : Fin 256, logNot (F := Ideal) (score k q) (ix2 r c) = ((ln z t (256 * b + c) : ℝ) : EReal) := fun c => by
    have := c.isLt
    rw [logNot_coe (hs c), ln, if_pos (by omega)]
  have hc : pick (F := Ideal) lane (BitVec.ofNat 32 b) cb (ix2 r 0) = ((later z t b : ℝ) : EReal) := by
    rw [← hCb]; exact pick_coe ⟨b, by omega⟩ hl hC
  have := c.isLt
  unfold w
  rw [weight_coe hs hln ha hc c, ← wt_block z t hb c, if_pos (by omega)]

theorem d_coe
    {z g : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    {o : Vec Ideal S512x128 .bf16} {v : Vec Ideal S256x128 .bf16} {V : Fin 256 → Fin 128 → ℝ} {O : Fin 512 → Fin 128 → ℝ}
    (hv : ∀ c d, v (ix2 c d) = (V c d : EReal)) (ho : ∀ r d, o (ix2 r d) = (O r d : EReal))
    (hg : ∀ c : Fin 256, ∑ d, O r d * V c d = g t (256 * b + c))
    (c : Fin 256) :
    d (F := Ideal) after lane (BitVec.ofNat 32 b) cb q o k v (ix2 r c) = ((dw z g t (256 * b + c) : ℝ) : EReal) := by
  unfold d
  rw [mul_coe (score_coe hv ho r c) (w_coe hb hk hq hz ha hl hC hCb ht c), hg]; rfl

theorem x_coe
    {z g : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    {o : Vec Ideal S512x128 .bf16} {v : Vec Ideal S256x128 .bf16} {V : Fin 256 → Fin 128 → ℝ} {O : Fin 512 → Fin 128 → ℝ}
    (hv : ∀ c d, v (ix2 c d) = (V c d : EReal)) (ho : ∀ r d, o (ix2 r d) = (O r d : EReal))
    (hg : ∀ c : Fin 256, ∑ d, O r d * V c d = g t (256 * b + c))
    {before : FVec Ideal S512x256 .bf16}
    (hbf : ∀ (k c : Fin 256), before (ix2 (⟨k, by omega⟩ : Fin 512) c) = (((if k < c then 1 else 0 : ℝ)) : EReal))
    {p : Vec Ideal S1x512x1 .f32} (hp : p (ix3 0 r 0) = ((earlier z g t b : ℝ) : EReal))
    (c : Fin 256) :
    x (F := Ideal) after before lane (BitVec.ofNat 32 b) cb q o k v p (ix2 r c) = ((dz z g t (256 * b + c) : ℝ) : EReal) := by
  have hs : ∀ c : Fin 256, score (F := Ideal) k q (ix2 r c) = ((z t (256 * b + c) : ℝ) : EReal) := fun c => by
    rw [score_coe hk hq, hz]
  have hd := fun c => d_coe hb hk hq hz ha hl hC hCb ht hv ho hg c
  have := c.isLt
  unfold x
  rw [dscore_coe hs hd hbf (row_coe hp) c, ← dz_block z g t hb c, if_pos (by omega)]

theorem wm_coe
    {z : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S512x256 1} (hm : ∀ c : Fin 256, m (ix2 r c) = BitVec.ofBool (decide (256 * b + c < t)))
    (c : Fin 256) :
    wm (F := Ideal) m after lane (BitVec.ofNat 32 b) cb q k (ix2 r c) = ((wt z t (256 * b + c) : ℝ) : EReal) := by
  have hs : ∀ c : Fin 256, score (F := Ideal) k q (ix2 r c) = ((z t (256 * b + c) : ℝ) : EReal) := fun c => by
    rw [score_coe hk hq, hz]
  have hln : ∀ c : Fin 256, keep m (logNot (F := Ideal) (score k q)) (ix2 r c) = ((ln z t (256 * b + c) : ℝ) : EReal) := fun c => by
    rw [keep_coe (hm c) (logNot_coe (hs c)), ln]
  have hc : pick (F := Ideal) lane (BitVec.ofNat 32 b) cb (ix2 r 0) = ((later z t b : ℝ) : EReal) := by
    rw [← hCb]; exact pick_coe ⟨b, by omega⟩ hl hC
  unfold wm
  rw [keep_coe (hm c) (weight_coe hs hln ha hc c), wt_block z t hb c]

theorem dm_coe
    {z g : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S512x256 1} (hm : ∀ c : Fin 256, m (ix2 r c) = BitVec.ofBool (decide (256 * b + c < t)))
    {o : Vec Ideal S512x128 .bf16} {v : Vec Ideal S256x128 .bf16} {V : Fin 256 → Fin 128 → ℝ} {O : Fin 512 → Fin 128 → ℝ}
    (hv : ∀ c d, v (ix2 c d) = (V c d : EReal)) (ho : ∀ r d, o (ix2 r d) = (O r d : EReal))
    (hg : ∀ c : Fin 256, ∑ d, O r d * V c d = g t (256 * b + c))
    (c : Fin 256) :
    dm (F := Ideal) m after lane (BitVec.ofNat 32 b) cb q o k v (ix2 r c) = ((dw z g t (256 * b + c) : ℝ) : EReal) := by
  unfold dm
  rw [mul_coe (score_coe hv ho r c) (wm_coe hb hk hq hz ha hl hC hCb hm c), hg]; rfl

theorem xm_coe
    {z g : ℕ → ℕ → ℝ} {t b : ℕ} (hb : b < 16) {r : Fin 512}
    {after : FVec Ideal S512x256 .bf16} {lane : IVec S512x128 32} {cb : Vec Ideal S512x128 .f32} {q : Vec Ideal S512x128 .bf16}
    {k : Vec Ideal S256x128 .bf16} {K : Fin 256 → Fin 128 → ℝ} {Q : Fin 512 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S512x256 1} (hm : ∀ c : Fin 256, m (ix2 r c) = BitVec.ofBool (decide (256 * b + c < t)))
    {o : Vec Ideal S512x128 .bf16} {v : Vec Ideal S256x128 .bf16} {V : Fin 256 → Fin 128 → ℝ} {O : Fin 512 → Fin 128 → ℝ}
    (hv : ∀ c d, v (ix2 c d) = (V c d : EReal)) (ho : ∀ r d, o (ix2 r d) = (O r d : EReal))
    (hg : ∀ c : Fin 256, ∑ d, O r d * V c d = g t (256 * b + c))
    {before : FVec Ideal S512x256 .bf16}
    (hbf : ∀ (k c : Fin 256), before (ix2 (⟨k, by omega⟩ : Fin 512) c) = (((if k < c then 1 else 0 : ℝ)) : EReal))
    {p : Vec Ideal S1x512x1 .f32} (hp : p (ix3 0 r 0) = ((earlier z g t b : ℝ) : EReal))
    (c : Fin 256) :
    xm (F := Ideal) m after before lane (BitVec.ofNat 32 b) cb q o k v p (ix2 r c) = ((dz z g t (256 * b + c) : ℝ) : EReal) := by
  have hs : ∀ c : Fin 256, score (F := Ideal) k q (ix2 r c) = ((z t (256 * b + c) : ℝ) : EReal) := fun c => by
    rw [score_coe hk hq, hz]
  have hd := fun c => dm_coe hb hk hq hz ha hl hC hCb hm hv ho hg c
  unfold xm
  rw [keep_coe (hm c) (dscore_coe hs hd hbf (row_coe hp) c), dz_block z g t hb c]

end T512

/-! ## Tiles of 256 queries -/

namespace T256

theorem score_coe {k : Vec Ideal S256x128 .bf16} {q : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal)) (r : Fin 256) (c : Fin 256) :
    score (F := Ideal) k q (ix2 r c) = ((∑ d, Q r d * K c d : ℝ) : EReal) := by
  unfold score
  pointwise
  simp only [hk, hq, ← EReal.coe_mul, coe_sum]

theorem small_coe {z : FVec Ideal S256x256 .f32} {i : S256x256.Idx} {Z : ℝ} (hz : z i = (Z : EReal)) :
    small (F := Ideal) z i = ((Real.exp (-|Z|) : ℝ) : EReal) := by
  unfold small
  pointwise
  rw [hz, zero_sub, absf_coe, ← EReal.coe_neg, Ideal.exp_coe]

theorem soft_coe {z : FVec Ideal S256x256 .f32} {i : S256x256.Idx} {Z : ℝ} (hz : z i = (Z : EReal)) :
    soft (F := Ideal) z i = ((sp Z : ℝ) : EReal) := by
  have h := small_coe hz
  unfold soft
  pointwise
  rw [h, hz, ← sp_eq, max_zero_coe, log_one_add_coe (Real.exp_pos _).le, ← EReal.coe_add]

theorem logNot_coe {z : FVec Ideal S256x256 .f32} {i : S256x256.Idx} {Z : ℝ} (hz : z i = (Z : EReal)) :
    logNot (F := Ideal) z i = ((-sp Z : ℝ) : EReal) := by
  have h := soft_coe hz
  unfold logNot
  pointwise
  rw [h, zero_sub, ← EReal.coe_neg]

theorem keep_coe {m : IVec S256x256 1} {x : FVec Ideal S256x256 .f32} {i : S256x256.Idx} {X : ℝ} {M : Prop} [Decidable M]
    (hm : m i = BitVec.ofBool (decide M)) (hx : x i = (X : EReal)) :
    keep (F := Ideal) m x i = ((if M then X else 0 : ℝ) : EReal) := by
  unfold keep
  pointwise
  rw [hm, hx, select_ofBool, ← EReal.coe_zero, coe_ite]

theorem hilo_coe {a : FVec Ideal S256x256 .f32} {b : FVec Ideal S512x256 .bf16} {A : Fin 256 → ℝ} {B : Fin 256 → Fin 256 → Prop}
    [∀ k c, Decidable (B k c)] {r : Fin 256} (ha : ∀ k, a (ix2 r k) = (A k : EReal))
    (hb : ∀ (k c : Fin 256), b (ix2 (⟨k, by omega⟩ : Fin 512) c) = (((if B k c then 1 else 0 : ℝ)) : EReal)) (c : Fin 256) :
    hilo (F := Ideal) a b (ix2 r c) = ((∑ k, A k * (if B k c then 1 else 0) : ℝ) : EReal) := by
  unfold hilo
  pointwise
  simp only [ha, hb, ← EReal.coe_sub, ← EReal.coe_mul, coe_sum, ← EReal.coe_add]
  simp

theorem weight_coe {after : FVec Ideal S512x256 .bf16} {cs : FVec Ideal S256x1 .f32} {z ln : FVec Ideal S256x256 .f32}
    {Z L : Fin 256 → ℝ} {C : ℝ} {r : Fin 256} (hz : ∀ k, z (ix2 r k) = (Z k : EReal)) (hl : ∀ k, ln (ix2 r k) = (L k : EReal))
    (hb : ∀ (k c : Fin 256), after (ix2 (⟨k, by omega⟩ : Fin 512) c) = (((if c < k then 1 else 0 : ℝ)) : EReal))
    (hc : cs (ix2 r 0) = (C : EReal)) (c : Fin 256) :
    weight (F := Ideal) after cs z ln (ix2 r c)
      = ((Real.exp (Z c - sp (Z c) + ((∑ k, L k * (if c < k then 1 else 0)) + C)) : ℝ) : EReal) := by
  have h := soft_coe (hz c)
  have h2 := hilo_coe (B := fun k c => c < k) hl hb c
  unfold weight
  pointwise
  rw [h, h2, hz, hc, ← EReal.coe_sub, ← EReal.coe_add, ← EReal.coe_add, Ideal.exp_coe, add_assoc]

theorem sig_coe {z : FVec Ideal S256x256 .f32} {i : S256x256.Idx} {Z : ℝ} (hz : z i = (Z : EReal)) :
    sig (F := Ideal) z i = ((sg Z : ℝ) : EReal) := by
  have h := small_coe hz
  have hp : (1 : ℝ) + Real.exp (-|Z|) ≠ 0 := by positivity
  unfold sig
  pointwise
  rw [h, hz, ← sg_eq, one_add_coe, one_div_coe hp, ← EReal.coe_mul, coe_ite]
  simp only [EReal.coe_nonneg]

theorem dscore_coe {before : FVec Ideal S512x256 .bf16} {p : FVec Ideal S256x1 .f32} {z dl : FVec Ideal S256x256 .f32}
    {Z L : Fin 256 → ℝ} {P : ℝ} {r : Fin 256} (hz : ∀ k, z (ix2 r k) = (Z k : EReal)) (hl : ∀ k, dl (ix2 r k) = (L k : EReal))
    (hb : ∀ (k c : Fin 256), before (ix2 (⟨k, by omega⟩ : Fin 512) c) = (((if k < c then 1 else 0 : ℝ)) : EReal))
    (hp : p (ix2 r 0) = (P : EReal)) (c : Fin 256) :
    dscore (F := Ideal) before p z dl (ix2 r c)
      = ((L c * (1 - sg (Z c)) - sg (Z c) * (P + ∑ k, L k * (if k < c then 1 else 0)) : ℝ) : EReal) := by
  have h := sig_coe (hz c)
  have h2 := hilo_coe (B := fun k c => k < c) hl hb c
  unfold dscore
  pointwise
  rw [h, h2, hl, hp, one_sub_coe, ← EReal.coe_add, ← EReal.coe_mul, ← EReal.coe_mul, ← EReal.coe_sub]

theorem mul_coe {x y : FVec Ideal S256x256 .f32} {i : S256x256.Idx} {X Y : ℝ} (hx : x i = (X : EReal)) (hy : y i = (Y : EReal)) :
    (mulf x y : FVec Ideal S256x256 .f32) i = ((X * Y : ℝ) : EReal) := by
  pointwise
  rw [hx, hy, ← EReal.coe_mul]

theorem total_coe {x : FVec Ideal S256x256 .f32} {X : Fin 256 → ℝ} {r : Fin 256} (hx : ∀ k, x (ix2 r k) = (X k : EReal)) :
    total (F := Ideal) x (ix2 r 0) = ((∑ k, X k : ℝ) : EReal) := by
  unfold total
  pointwise
  simp only [hx, coe_sum]

theorem addQ_coe {x : FVec Ideal S256x256 .f32} {k : Vec Ideal S256x128 .bf16} {acc : Vec Ideal S256x128 .f32} {X : Fin 256 → ℝ}
    {K : Fin 256 → Fin 128 → ℝ} {A : ℝ} {r : Fin 256} {d : Fin 128} (hx : ∀ k, x (ix2 r k) = (X k : EReal))
    (hk : ∀ c d, k (ix2 c d) = (K c d : EReal)) (ha : acc (ix2 r d) = (A : EReal)) :
    addQ (F := Ideal) x k acc (ix2 r d) = ((A + ∑ c, X c * K c d : ℝ) : EReal) := by
  unfold addQ
  pointwise
  simp only [ha, hx, hk, ← EReal.coe_mul, coe_sum, ← EReal.coe_add]

theorem addK_coe {x : FVec Ideal S256x256 .f32} {q : Vec Ideal S256x128 .bf16} {acc : Vec Ideal S256x128 .f32} {X : Fin 256 → Fin 256 → ℝ}
    {Q : Fin 256 → Fin 128 → ℝ} {A : ℝ} {c : Fin 256} {d : Fin 128} (hx : ∀ r k, x (ix2 r k) = (X r k : EReal))
    (hq : ∀ r d, q (ix2 r d) = (Q r d : EReal)) (ha : acc (ix2 c d) = (A : EReal)) :
    addK (F := Ideal) x q acc (ix2 c d) = ((A + ∑ r, X r c * Q r d : ℝ) : EReal) := by
  unfold addK
  pointwise
  simp only [ha, hx, hq, ← EReal.coe_mul, coe_sum, ← EReal.coe_add]

theorem addP_coe {p t : FVec Ideal S256x1 .f32} {A B : ℝ} {r : Fin 256} (hp : p (ix2 r 0) = (A : EReal)) (ht : t (ix2 r 0) = (B : EReal)) :
    addP (F := Ideal) p t (ix3 0 r 0) = ((A + B : ℝ) : EReal) := by
  unfold addP
  pointwise
  rw [hp, ht, ← EReal.coe_add]

theorem row_coe {p : Vec Ideal S1x256x1 .f32} {A : ℝ} {r : Fin 256} (hp : p (ix3 0 r 0) = (A : EReal)) :
    row (F := Ideal) p (ix2 r 0) = (A : EReal) := by
  unfold row
  pointwise
  exact hp

theorem pick_coe {lane : IVec S256x128 32} {c : Vec Ideal S256x128 .f32} {C : Fin 128 → ℝ} {r : Fin 256} (b : Fin 128)
    (hl : ∀ d : Fin 128, lane (ix2 r d) = BitVec.ofNat 32 d) (hc : ∀ d, c (ix2 r d) = (C d : EReal)) :
    pick (F := Ideal) lane (BitVec.ofNat 32 b) c (ix2 r 0) = (C b : EReal) := by
  unfold pick
  pointwise
  simp only [hl, hc, eq_ofNat, select_ofBool]
  rw [Finset.sum_eq_single b]
  · simp
  · intro d _ hd
    simp [hd]
  · simp

theorem w_coe
    {z : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    (c : Fin 256) :
    w (F := Ideal) after lane (BitVec.ofNat 32 b) cb q k (ix2 r c) = ((wt z t (256 * b + c) : ℝ) : EReal) := by
  have hs : ∀ c : Fin 256, score (F := Ideal) k q (ix2 r c) = ((z t (256 * b + c) : ℝ) : EReal) := fun c => by
    rw [score_coe hk hq, hz]
  have hln : ∀ c : Fin 256, logNot (F := Ideal) (score k q) (ix2 r c) = ((ln z t (256 * b + c) : ℝ) : EReal) := fun c => by
    have := c.isLt
    rw [logNot_coe (hs c), ln, if_pos (by omega)]
  have hc : pick (F := Ideal) lane (BitVec.ofNat 32 b) cb (ix2 r 0) = ((later z t b : ℝ) : EReal) := by
    rw [← hCb]; exact pick_coe ⟨b, by omega⟩ hl hC
  have := c.isLt
  unfold w
  rw [weight_coe hs hln ha hc c, ← wt_block z t hb c, if_pos (by omega)]

theorem d_coe
    {z g : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    {o : Vec Ideal S256x128 .bf16} {v : Vec Ideal S256x128 .bf16} {V : Fin 256 → Fin 128 → ℝ} {O : Fin 256 → Fin 128 → ℝ}
    (hv : ∀ c d, v (ix2 c d) = (V c d : EReal)) (ho : ∀ r d, o (ix2 r d) = (O r d : EReal))
    (hg : ∀ c : Fin 256, ∑ d, O r d * V c d = g t (256 * b + c))
    (c : Fin 256) :
    d (F := Ideal) after lane (BitVec.ofNat 32 b) cb q o k v (ix2 r c) = ((dw z g t (256 * b + c) : ℝ) : EReal) := by
  unfold d
  rw [mul_coe (score_coe hv ho r c) (w_coe hb hk hq hz ha hl hC hCb ht c), hg]; rfl

theorem x_coe
    {z g : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    (ht : 256 * (b + 1) ≤ t)
    {o : Vec Ideal S256x128 .bf16} {v : Vec Ideal S256x128 .bf16} {V : Fin 256 → Fin 128 → ℝ} {O : Fin 256 → Fin 128 → ℝ}
    (hv : ∀ c d, v (ix2 c d) = (V c d : EReal)) (ho : ∀ r d, o (ix2 r d) = (O r d : EReal))
    (hg : ∀ c : Fin 256, ∑ d, O r d * V c d = g t (256 * b + c))
    {before : FVec Ideal S512x256 .bf16}
    (hbf : ∀ (k c : Fin 256), before (ix2 (⟨k, by omega⟩ : Fin 512) c) = (((if k < c then 1 else 0 : ℝ)) : EReal))
    {p : Vec Ideal S1x256x1 .f32} (hp : p (ix3 0 r 0) = ((earlier z g t b : ℝ) : EReal))
    (c : Fin 256) :
    x (F := Ideal) after before lane (BitVec.ofNat 32 b) cb q o k v p (ix2 r c) = ((dz z g t (256 * b + c) : ℝ) : EReal) := by
  have hs : ∀ c : Fin 256, score (F := Ideal) k q (ix2 r c) = ((z t (256 * b + c) : ℝ) : EReal) := fun c => by
    rw [score_coe hk hq, hz]
  have hd := fun c => d_coe hb hk hq hz ha hl hC hCb ht hv ho hg c
  have := c.isLt
  unfold x
  rw [dscore_coe hs hd hbf (row_coe hp) c, ← dz_block z g t hb c, if_pos (by omega)]

theorem wm_coe
    {z : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S256x256 1} (hm : ∀ c : Fin 256, m (ix2 r c) = BitVec.ofBool (decide (256 * b + c < t)))
    (c : Fin 256) :
    wm (F := Ideal) m after lane (BitVec.ofNat 32 b) cb q k (ix2 r c) = ((wt z t (256 * b + c) : ℝ) : EReal) := by
  have hs : ∀ c : Fin 256, score (F := Ideal) k q (ix2 r c) = ((z t (256 * b + c) : ℝ) : EReal) := fun c => by
    rw [score_coe hk hq, hz]
  have hln : ∀ c : Fin 256, keep m (logNot (F := Ideal) (score k q)) (ix2 r c) = ((ln z t (256 * b + c) : ℝ) : EReal) := fun c => by
    rw [keep_coe (hm c) (logNot_coe (hs c)), ln]
  have hc : pick (F := Ideal) lane (BitVec.ofNat 32 b) cb (ix2 r 0) = ((later z t b : ℝ) : EReal) := by
    rw [← hCb]; exact pick_coe ⟨b, by omega⟩ hl hC
  unfold wm
  rw [keep_coe (hm c) (weight_coe hs hln ha hc c), wt_block z t hb c]

theorem dm_coe
    {z g : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S256x256 1} (hm : ∀ c : Fin 256, m (ix2 r c) = BitVec.ofBool (decide (256 * b + c < t)))
    {o : Vec Ideal S256x128 .bf16} {v : Vec Ideal S256x128 .bf16} {V : Fin 256 → Fin 128 → ℝ} {O : Fin 256 → Fin 128 → ℝ}
    (hv : ∀ c d, v (ix2 c d) = (V c d : EReal)) (ho : ∀ r d, o (ix2 r d) = (O r d : EReal))
    (hg : ∀ c : Fin 256, ∑ d, O r d * V c d = g t (256 * b + c))
    (c : Fin 256) :
    dm (F := Ideal) m after lane (BitVec.ofNat 32 b) cb q o k v (ix2 r c) = ((dw z g t (256 * b + c) : ℝ) : EReal) := by
  unfold dm
  rw [mul_coe (score_coe hv ho r c) (wm_coe hb hk hq hz ha hl hC hCb hm c), hg]; rfl

theorem xm_coe
    {z g : ℕ → ℕ → ℝ} {t b : ℕ} (hb : b < 16) {r : Fin 256}
    {after : FVec Ideal S512x256 .bf16} {lane : IVec S256x128 32} {cb : Vec Ideal S256x128 .f32} {q : Vec Ideal S256x128 .bf16}
    {k : Vec Ideal S256x128 .bf16} {K : Fin 256 → Fin 128 → ℝ} {Q : Fin 256 → Fin 128 → ℝ}
    (hk : ∀ c d, k (ix2 c d) = (K c d : EReal)) (hq : ∀ r d, q (ix2 r d) = (Q r d : EReal))
    (hz : ∀ c : Fin 256, ∑ d, Q r d * K c d = z t (256 * b + c))
    (ha : ∀ (k c : Fin 256), after (ix2 (⟨k, by omega⟩ : Fin 512) c) = (((if c < k then 1 else 0 : ℝ)) : EReal))
    (hl : ∀ d : Fin 128, lane (ix2 r d) = BitVec.ofNat 32 d) {C : Fin 128 → ℝ} (hC : ∀ d, cb (ix2 r d) = (C d : EReal))
    (hCb : C ⟨b, by omega⟩ = later z t b)
    {m : IVec S256x256 1} (hm : ∀ c : Fin 256, m (ix2 r c) = BitVec.ofBool (decide (256 * b + c < t)))
    {o : Vec Ideal S256x128 .bf16} {v : Vec Ideal S256x128 .bf16} {V : Fin 256 → Fin 128 → ℝ} {O : Fin 256 → Fin 128 → ℝ}
    (hv : ∀ c d, v (ix2 c d) = (V c d : EReal)) (ho : ∀ r d, o (ix2 r d) = (O r d : EReal))
    (hg : ∀ c : Fin 256, ∑ d, O r d * V c d = g t (256 * b + c))
    {before : FVec Ideal S512x256 .bf16}
    (hbf : ∀ (k c : Fin 256), before (ix2 (⟨k, by omega⟩ : Fin 512) c) = (((if k < c then 1 else 0 : ℝ)) : EReal))
    {p : Vec Ideal S1x256x1 .f32} (hp : p (ix3 0 r 0) = ((earlier z g t b : ℝ) : EReal))
    (c : Fin 256) :
    xm (F := Ideal) m after before lane (BitVec.ofNat 32 b) cb q o k v p (ix2 r c) = ((dz z g t (256 * b + c) : ℝ) : EReal) := by
  have hs : ∀ c : Fin 256, score (F := Ideal) k q (ix2 r c) = ((z t (256 * b + c) : ℝ) : EReal) := fun c => by
    rw [score_coe hk hq, hz]
  have hd := fun c => dm_coe hb hk hq hz ha hl hC hCb hm hv ho hg c
  unfold xm
  rw [keep_coe (hm c) (dscore_coe hs hd hbf (row_coe hp) c), dz_block z g t hb c]

end T256

end Cert.KernelIdeal.Tile

end
-- ==== Proof.Trip.lean ====
/-
  What one trip of the loop over the earlier blocks of keys stores, in terms of what it reads.
-/
module

public import proofs.«01_k».proof.Proof.Tile
public import proofs.«01_k».proof.Proof.Gen.KernelIdeal.Loops

@[expose] public section

set_option maxRecDepth 16384

noncomputable section

namespace Cert.KernelIdeal.Tile

open Idealize.ShloMosaic Idealize.ShloMosaic.TcCoe Idealize.ShloMosaic.Tactic Cert.KernelIdeal Cert.KernelIdeal.Gen

variable {F : FTy → Type} [FloatOps F]

/-- The left half (one head) of a tile of queries. -/
abbrev loL : LoadRect S512x256 := (Rect.unit (s := S512x256) ![0, 0] ![512, 128] inb_S512x256_S512x128_0_0).toLoadRect
/-- The right half. -/
abbrev hiL : LoadRect S512x256 := (Rect.unit (s := S512x256) ![0, 128] ![512, 128] inb_S512x256_S512x128_0_128).toLoadRect
/-- The rows of block `k` of the keys, left half. -/
abbrev loK (i : grid0.Coords) (k : Fin (k0_t1_loop i).trips) : LoadRect S4096x256 :=
  (Rect.unit (s := S4096x256) (k0_off1 i k) ![256, 128] (k0_off1_inb i k)).toLoadRect
/-- The rows of block `k` of the keys, right half. -/
abbrev hiK (i : grid0.Coords) (k : Fin (k0_t1_loop i).trips) : LoadRect S4096x256 :=
  (Rect.unit (s := S4096x256) (k0_off2 i k) ![256, 128] (k0_off2_inb i k)).toLoadRect
/-- The sums over the earlier blocks, of one head. -/
abbrev loP : LoadRect S2x512x1 := (Rect.unit (s := S2x512x1) ![0, 0, 0] ![1, 512, 1] inb_S2x512x1_S1x512x1_0_0_0).toLoadRect
abbrev hiP : LoadRect S2x512x1 := (Rect.unit (s := S2x512x1) ![1, 0, 0] ![1, 512, 1] inb_S2x512x1_S1x512x1_1_0_0).toLoadRect
/-- The number of block `k`, as a word. -/
abbrev word (i : grid0.Coords) (k : Fin (k0_t1_loop i).trips) : BitVec 32 := Scf.iv 0#32 1#32 k

variable (𝒱 : Variants) (c : Dev nD) (bd : Option 𝒱.V) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (v9 : IVec S512x128 32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (k : Fin (k0_t1_loop i).trips)
  (f7 : BufTy.Contents (Elt F) arg7.view.ty) (f8 : BufTy.Contents (Elt F) arg8.view.ty)
  (f9 : BufTy.Contents (Elt F) arg9.view.ty) (f10 : BufTy.Contents (Elt F) arg10.view.ty)

theorem trip_pieces :
    tripL_k0_t1 (F := F) 𝒱 c bd i arg2 harg2 arg3 harg3 arg4 harg4 arg5 harg5 arg6 harg6 arg7 harg7 arg8 harg8 arg9 harg9 arg10 harg10
      v9 X2 X3 X4 X5 X6 k f7 f8 f9 f10
    = ([⟨Rect.unit ![0, 128] ![512, 128] inb_S512x256_S512x128_0_128,
          T512.addQ (T512.x k0_pay62 k0_pay63 v9 (word i k) (arg6.view.readAt (Elt F) hiL X6) (arg2.view.readAt (Elt F) hiL X2) (arg5.view.readAt (Elt F) hiL X5) (arg3.view.readAt (Elt F) (hiK i k) X3) (arg4.view.readAt (Elt F) (hiK i k) X4) (arg10.view.readAt (Elt F) hiP f10)) (arg3.view.readAt (Elt F) (hiK i k) X3) (arg7.view.readAt (Elt F) hiL f7)⟩,
        ⟨Rect.unit ![0, 0] ![512, 128] inb_S512x256_S512x128_0_0,
          T512.addQ (T512.x k0_pay62 k0_pay63 v9 (word i k) (arg6.view.readAt (Elt F) loL X6) (arg2.view.readAt (Elt F) loL X2) (arg5.view.readAt (Elt F) loL X5) (arg3.view.readAt (Elt F) (loK i k) X3) (arg4.view.readAt (Elt F) (loK i k) X4) (arg10.view.readAt (Elt F) loP f10)) (arg3.view.readAt (Elt F) (loK i k) X3) (arg7.view.readAt (Elt F) loL f7)⟩],
       [⟨Rect.unit (k0_off2 i k) ![256, 128] (k0_off2_inb i k),
          T512.addK (T512.x k0_pay62 k0_pay63 v9 (word i k) (arg6.view.readAt (Elt F) hiL X6) (arg2.view.readAt (Elt F) hiL X2) (arg5.view.readAt (Elt F) hiL X5) (arg3.view.readAt (Elt F) (hiK i k) X3) (arg4.view.readAt (Elt F) (hiK i k) X4) (arg10.view.readAt (Elt F) hiP f10)) (arg2.view.readAt (Elt F) hiL X2) (arg8.view.readAt (Elt F) (hiK i k) f8)⟩,
        ⟨Rect.unit (k0_off1 i k) ![256, 128] (k0_off1_inb i k),
          T512.addK (T512.x k0_pay62 k0_pay63 v9 (word i k) (arg6.view.readAt (Elt F) loL X6) (arg2.view.readAt (Elt F) loL X2) (arg5.view.readAt (Elt F) loL X5) (arg3.view.readAt (Elt F) (loK i k) X3) (arg4.view.readAt (Elt F) (loK i k) X4) (arg10.view.readAt (Elt F) loP f10)) (arg2.view.readAt (Elt F) loL X2) (arg8.view.readAt (Elt F) (loK i k) f8)⟩],
       [⟨Rect.unit (k0_off2 i k) ![256, 128] (k0_off2_inb i k),
          T512.addK (T512.w k0_pay62 v9 (word i k) (arg6.view.readAt (Elt F) hiL X6) (arg2.view.readAt (Elt F) hiL X2) (arg3.view.readAt (Elt F) (hiK i k) X3)) (arg5.view.readAt (Elt F) hiL X5) (arg9.view.readAt (Elt F) (hiK i k) f9)⟩,
        ⟨Rect.unit (k0_off1 i k) ![256, 128] (k0_off1_inb i k),
          T512.addK (T512.w k0_pay62 v9 (word i k) (arg6.view.readAt (Elt F) loL X6) (arg2.view.readAt (Elt F) loL X2) (arg3.view.readAt (Elt F) (loK i k) X3)) (arg5.view.readAt (Elt F) loL X5) (arg9.view.readAt (Elt F) (loK i k) f9)⟩],
       [⟨Rect.unit ![1, 0, 0] ![1, 512, 1] inb_S2x512x1_S1x512x1_1_0_0,
          T512.addP (T512.row (arg10.view.readAt (Elt F) hiP f10)) (T512.total (T512.d k0_pay62 v9 (word i k) (arg6.view.readAt (Elt F) hiL X6) (arg2.view.readAt (Elt F) hiL X2) (arg5.view.readAt (Elt F) hiL X5) (arg3.view.readAt (Elt F) (hiK i k) X3) (arg4.view.readAt (Elt F) (hiK i k) X4)))⟩,
        ⟨Rect.unit ![0, 0, 0] ![1, 512, 1] inb_S2x512x1_S1x512x1_0_0_0,
          T512.addP (T512.row (arg10.view.readAt (Elt F) loP f10)) (T512.total (T512.d k0_pay62 v9 (word i k) (arg6.view.readAt (Elt F) loL X6) (arg2.view.readAt (Elt F) loL X2) (arg5.view.readAt (Elt F) loL X5) (arg3.view.readAt (Elt F) (loK i k) X3) (arg4.view.readAt (Elt F) (loK i k) X4)))⟩]) := by
  unfold tripL_k0_t1 trip_k0_t1
  sl_unfold_words
  rfl

end Cert.KernelIdeal.Tile

end
-- ==== Proof.Band.lean ====
/-
  What one grid point stores, as lists of writes: the loop over the earlier blocks of keys, then the two blocks on the
  diagonal, for the first tile of queries of a pair of heads (which also sets the key and value accumulators to zero) and
  for a later one.
-/
module

public import proofs.«01_k».proof.Proof.Trip
public import proofs.«01_k».proof.Proof.Gen.KernelIdeal.Frame.RunA
public import proofs.«01_k».proof.Proof.Gen.KernelIdeal.Frame.RunB
import all proofs.«01_k».proof.Proof.Gen.KernelIdeal.Frame.RunA
import all proofs.«01_k».proof.Proof.Gen.KernelIdeal.Frame.RunB

@[expose] public section

set_option maxRecDepth 16384

noncomputable section

namespace Cert.KernelIdeal.Tile

open Idealize.ShloMosaic Idealize.ShloMosaic.TcCoe Idealize.ShloMosaic.Tactic Cert.KernelIdeal Cert.KernelIdeal.Gen

variable {F : FTy → Type} [FloatOps F]

/-- The rows of the upper (`loB0`) or lower (`loB1`) diagonal block of keys, left half. -/
abbrev loB0 (i : grid0.Coords) : Rect S4096x256 := Rect.unit (s := S4096x256) (k0_off5 i 0#32) ![256, 128] (k0_off5_inb i 0)
abbrev loB1 (i : grid0.Coords) : Rect S4096x256 := Rect.unit (s := S4096x256) (k0_off5 i 1#32) ![256, 128] (k0_off5_inb i 1)
/-- Those rows, right half. -/
abbrev hiB0 (i : grid0.Coords) : Rect S4096x256 := Rect.unit (s := S4096x256) (k0_off6 i 0#32) ![256, 128] (k0_off6_inb i 0)
abbrev hiB1 (i : grid0.Coords) : Rect S4096x256 := Rect.unit (s := S4096x256) (k0_off6 i 1#32) ![256, 128] (k0_off6_inb i 1)
abbrev loQ : Rect S512x256 := Rect.unit (s := S512x256) ![0, 0] ![512, 128] inb_S512x256_S512x128_0_0
abbrev hiQ : Rect S512x256 := Rect.unit (s := S512x256) ![0, 128] ![512, 128] inb_S512x256_S512x128_0_128
/-- The lower half of a tile of queries. -/
abbrev loR : Rect S512x256 := Rect.unit (s := S512x256) ![256, 0] ![256, 128] inb_S512x256_S256x128_256_0
abbrev hiR : Rect S512x256 := Rect.unit (s := S512x256) ![256, 128] ![256, 128] inb_S512x256_S256x128_256_128
abbrev loS : Rect S2x512x1 := Rect.unit (s := S2x512x1) ![0, 0, 0] ![1, 512, 1] inb_S2x512x1_S1x512x1_0_0_0
abbrev hiS : Rect S2x512x1 := Rect.unit (s := S2x512x1) ![1, 0, 0] ![1, 512, 1] inb_S2x512x1_S1x512x1_1_0_0
abbrev loT : Rect S2x512x1 := Rect.unit (s := S2x512x1) ![0, 256, 0] ![1, 256, 1] inb_S2x512x1_S1x256x1_0_256_0
abbrev hiT : Rect S2x512x1 := Rect.unit (s := S2x512x1) ![1, 256, 0] ![1, 256, 1] inb_S2x512x1_S1x256x1_1_256_0

/-- The number of a diagonal block, as a word. -/
abbrev wordB (i : grid0.Coords) (j : BitVec 32) : BitVec 32 := Scalar.addi (Scalar.muli (BitVec.ofNat 32 (i 1).val) 2#32) j
/-- The column of each entry of a tile. -/
abbrev lane : IVec S512x128 32 := iota .tc S512x128 32 [1] iota_S512x128_d1_w32
abbrev laneB : IVec S256x128 32 := extractStridedSlice S256x128 ![256, 0] lane slices_S512x128_o256_0_S256x128

/-- The writes of the query, key and value gradients and of the sums over the earlier blocks, newest first. -/
structure Writes (F : FTy → Type) where
  q : List (View.Piece (Elt F) S512x256 .f32)
  k : List (View.Piece (Elt F) S4096x256 .f32)
  v : List (View.Piece (Elt F) S4096x256 .f32)
  p : List (View.Piece (Elt F) S2x512x1 .f32)

/-- Two writes, each computed from what the same place held before. -/
def two {s : Shape} (m : Memref sig .tc .vmem s .f32) (G : BufTy.Contents (Elt F) m.view.ty)
    (N : List (View.Piece (Elt F) s .f32)) (r₁ r₂ : Rect s) (u₁ : Vec F r₁.shape .f32 → Vec F r₁.shape .f32)
    (u₂ : Vec F r₂.shape .f32 → Vec F r₂.shape .f32) : List (View.Piece (Elt F) s .f32) :=
  ⟨r₂, u₂ (m.view.readAt (Elt F) r₂.toLoadRect
      (m.view.writes (Elt F) G (⟨r₁, u₁ (m.view.readAt (Elt F) r₁.toLoadRect (m.view.writes (Elt F) G N))⟩ :: N)))⟩
    :: ⟨r₁, u₁ (m.view.readAt (Elt F) r₁.toLoadRect (m.view.writes (Elt F) G N))⟩ :: N

/-- Two writes of given vectors. -/
def put {s : Shape} (N : List (View.Piece (Elt F) s .f32)) (r₁ r₂ : Rect s) (w₁ : Vec F r₁.shape .f32)
    (w₂ : Vec F r₂.shape .f32) : List (View.Piece (Elt F) s .f32) := ⟨r₂, w₂⟩ :: ⟨r₁, w₁⟩ :: N

variable (c : Dev nD) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)
  (G7 : BufTy.Contents (Elt F) arg7.view.ty) (G8 : BufTy.Contents (Elt F) arg8.view.ty)
  (G9 : BufTy.Contents (Elt F) arg9.view.ty) (G10 : BufTy.Contents (Elt F) arg10.view.ty)

/-- The upper block on the diagonal. -/
def bandA (N : Writes F) : Writes F where
  q := two arg7 G7 N.q loQ hiQ
    (T512.addQ (T512.xm k0_pay74 k0_pay62 k0_pay63 lane (wordB i 0#32) (arg6.view.readAt (Elt F) loQ.toLoadRect X6) (arg2.view.readAt (Elt F) loQ.toLoadRect X2) (arg5.view.readAt (Elt F) loQ.toLoadRect X5) (arg3.view.readAt (Elt F) (loB0 i).toLoadRect X3) (arg4.view.readAt (Elt F) (loB0 i).toLoadRect X4) (arg10.view.readAt (Elt F) loS.toLoadRect (arg10.view.writes (Elt F) G10 N.p))) (arg3.view.readAt (Elt F) (loB0 i).toLoadRect X3))
    (T512.addQ (T512.xm k0_pay74 k0_pay62 k0_pay63 lane (wordB i 0#32) (arg6.view.readAt (Elt F) hiQ.toLoadRect X6) (arg2.view.readAt (Elt F) hiQ.toLoadRect X2) (arg5.view.readAt (Elt F) hiQ.toLoadRect X5) (arg3.view.readAt (Elt F) (hiB0 i).toLoadRect X3) (arg4.view.readAt (Elt F) (hiB0 i).toLoadRect X4) (arg10.view.readAt (Elt F) hiS.toLoadRect (arg10.view.writes (Elt F) G10 N.p))) (arg3.view.readAt (Elt F) (hiB0 i).toLoadRect X3))
  k := two arg8 G8 N.k (loB0 i) (hiB0 i)
    (T512.addK (T512.xm k0_pay74 k0_pay62 k0_pay63 lane (wordB i 0#32) (arg6.view.readAt (Elt F) loQ.toLoadRect X6) (arg2.view.readAt (Elt F) loQ.toLoadRect X2) (arg5.view.readAt (Elt F) loQ.toLoadRect X5) (arg3.view.readAt (Elt F) (loB0 i).toLoadRect X3) (arg4.view.readAt (Elt F) (loB0 i).toLoadRect X4) (arg10.view.readAt (Elt F) loS.toLoadRect (arg10.view.writes (Elt F) G10 N.p))) (arg2.view.readAt (Elt F) loQ.toLoadRect X2))
    (T512.addK (T512.xm k0_pay74 k0_pay62 k0_pay63 lane (wordB i 0#32) (arg6.view.readAt (Elt F) hiQ.toLoadRect X6) (arg2.view.readAt (Elt F) hiQ.toLoadRect X2) (arg5.view.readAt (Elt F) hiQ.toLoadRect X5) (arg3.view.readAt (Elt F) (hiB0 i).toLoadRect X3) (arg4.view.readAt (Elt F) (hiB0 i).toLoadRect X4) (arg10.view.readAt (Elt F) hiS.toLoadRect (arg10.view.writes (Elt F) G10 N.p))) (arg2.view.readAt (Elt F) hiQ.toLoadRect X2))
  v := two arg9 G9 N.v (loB0 i) (hiB0 i)
    (T512.addK (T512.wm k0_pay74 k0_pay62 lane (wordB i 0#32) (arg6.view.readAt (Elt F) loQ.toLoadRect X6) (arg2.view.readAt (Elt F) loQ.toLoadRect X2) (arg3.view.readAt (Elt F) (loB0 i).toLoadRect X3)) (arg5.view.readAt (Elt F) loQ.toLoadRect X5))
    (T512.addK (T512.wm k0_pay74 k0_pay62 lane (wordB i 0#32) (arg6.view.readAt (Elt F) hiQ.toLoadRect X6) (arg2.view.readAt (Elt F) hiQ.toLoadRect X2) (arg3.view.readAt (Elt F) (hiB0 i).toLoadRect X3)) (arg5.view.readAt (Elt F) hiQ.toLoadRect X5))
  p := put N.p loS hiS
    (T512.addP (T512.row (arg10.view.readAt (Elt F) loS.toLoadRect (arg10.view.writes (Elt F) G10 N.p))) (T512.total (T512.dm k0_pay74 k0_pay62 lane (wordB i 0#32) (arg6.view.readAt (Elt F) loQ.toLoadRect X6) (arg2.view.readAt (Elt F) loQ.toLoadRect X2) (arg5.view.readAt (Elt F) loQ.toLoadRect X5) (arg3.view.readAt (Elt F) (loB0 i).toLoadRect X3) (arg4.view.readAt (Elt F) (loB0 i).toLoadRect X4))))
    (T512.addP (T512.row (arg10.view.readAt (Elt F) hiS.toLoadRect (arg10.view.writes (Elt F) G10 N.p))) (T512.total (T512.dm k0_pay74 k0_pay62 lane (wordB i 0#32) (arg6.view.readAt (Elt F) hiQ.toLoadRect X6) (arg2.view.readAt (Elt F) hiQ.toLoadRect X2) (arg5.view.readAt (Elt F) hiQ.toLoadRect X5) (arg3.view.readAt (Elt F) (hiB0 i).toLoadRect X3) (arg4.view.readAt (Elt F) (hiB0 i).toLoadRect X4))))

/-- The lower block on the diagonal. -/
def bandB (N : Writes F) : Writes F where
  q := two arg7 G7 N.q loR hiR
    (T256.addQ (T256.xm k0_pay112 k0_pay62 k0_pay63 laneB (wordB i 1#32) (arg6.view.readAt (Elt F) loR.toLoadRect X6) (arg2.view.readAt (Elt F) loR.toLoadRect X2) (arg5.view.readAt (Elt F) loR.toLoadRect X5) (arg3.view.readAt (Elt F) (loB1 i).toLoadRect X3) (arg4.view.readAt (Elt F) (loB1 i).toLoadRect X4) (arg10.view.readAt (Elt F) loT.toLoadRect (arg10.view.writes (Elt F) G10 N.p))) (arg3.view.readAt (Elt F) (loB1 i).toLoadRect X3))
    (T256.addQ (T256.xm k0_pay112 k0_pay62 k0_pay63 laneB (wordB i 1#32) (arg6.view.readAt (Elt F) hiR.toLoadRect X6) (arg2.view.readAt (Elt F) hiR.toLoadRect X2) (arg5.view.readAt (Elt F) hiR.toLoadRect X5) (arg3.view.readAt (Elt F) (hiB1 i).toLoadRect X3) (arg4.view.readAt (Elt F) (hiB1 i).toLoadRect X4) (arg10.view.readAt (Elt F) hiT.toLoadRect (arg10.view.writes (Elt F) G10 N.p))) (arg3.view.readAt (Elt F) (hiB1 i).toLoadRect X3))
  k := two arg8 G8 N.k (loB1 i) (hiB1 i)
    (T256.addK (T256.xm k0_pay112 k0_pay62 k0_pay63 laneB (wordB i 1#32) (arg6.view.readAt (Elt F) loR.toLoadRect X6) (arg2.view.readAt (Elt F) loR.toLoadRect X2) (arg5.view.readAt (Elt F) loR.toLoadRect X5) (arg3.view.readAt (Elt F) (loB1 i).toLoadRect X3) (arg4.view.readAt (Elt F) (loB1 i).toLoadRect X4) (arg10.view.readAt (Elt F) loT.toLoadRect (arg10.view.writes (Elt F) G10 N.p))) (arg2.view.readAt (Elt F) loR.toLoadRect X2))
    (T256.addK (T256.xm k0_pay112 k0_pay62 k0_pay63 laneB (wordB i 1#32) (arg6.view.readAt (Elt F) hiR.toLoadRect X6) (arg2.view.readAt (Elt F) hiR.toLoadRect X2) (arg5.view.readAt (Elt F) hiR.toLoadRect X5) (arg3.view.readAt (Elt F) (hiB1 i).toLoadRect X3) (arg4.view.readAt (Elt F) (hiB1 i).toLoadRect X4) (arg10.view.readAt (Elt F) hiT.toLoadRect (arg10.view.writes (Elt F) G10 N.p))) (arg2.view.readAt (Elt F) hiR.toLoadRect X2))
  v := two arg9 G9 N.v (loB1 i) (hiB1 i)
    (T256.addK (T256.wm k0_pay112 k0_pay62 laneB (wordB i 1#32) (arg6.view.readAt (Elt F) loR.toLoadRect X6) (arg2.view.readAt (Elt F) loR.toLoadRect X2) (arg3.view.readAt (Elt F) (loB1 i).toLoadRect X3)) (arg5.view.readAt (Elt F) loR.toLoadRect X5))
    (T256.addK (T256.wm k0_pay112 k0_pay62 laneB (wordB i 1#32) (arg6.view.readAt (Elt F) hiR.toLoadRect X6) (arg2.view.readAt (Elt F) hiR.toLoadRect X2) (arg3.view.readAt (Elt F) (hiB1 i).toLoadRect X3)) (arg5.view.readAt (Elt F) hiR.toLoadRect X5))
  p := put N.p loT hiT
    (T256.addP (T256.row (arg10.view.readAt (Elt F) loT.toLoadRect (arg10.view.writes (Elt F) G10 N.p))) (T256.total (T256.dm k0_pay112 k0_pay62 laneB (wordB i 1#32) (arg6.view.readAt (Elt F) loR.toLoadRect X6) (arg2.view.readAt (Elt F) loR.toLoadRect X2) (arg5.view.readAt (Elt F) loR.toLoadRect X5) (arg3.view.readAt (Elt F) (loB1 i).toLoadRect X3) (arg4.view.readAt (Elt F) (loB1 i).toLoadRect X4))))
    (T256.addP (T256.row (arg10.view.readAt (Elt F) hiT.toLoadRect (arg10.view.writes (Elt F) G10 N.p))) (T256.total (T256.dm k0_pay112 k0_pay62 laneB (wordB i 1#32) (arg6.view.readAt (Elt F) hiR.toLoadRect X6) (arg2.view.readAt (Elt F) hiR.toLoadRect X2) (arg5.view.readAt (Elt F) hiR.toLoadRect X5) (arg3.view.readAt (Elt F) (hiB1 i).toLoadRect X3) (arg4.view.readAt (Elt F) (hiB1 i).toLoadRect X4))))

/-- The loop over the earlier blocks (its second half, for a step that does not divide, makes no trip). -/
def loop (I : Writes F) : Writes F :=
  let L := pb_k0_t1 (F := F) Variants.none c none i arg2 harg2 arg3 harg3 arg4 harg4 arg5 harg5 arg6 harg6 arg7 harg7 arg8 harg8 arg9 harg9 arg10 harg10 lane X2 X3 X4 X5 X6
    (arg7.view.writes (Elt F) G7 I.q) (arg8.view.writes (Elt F) G8 I.k) (arg9.view.writes (Elt F) G9 I.v)
    (arg10.view.writes (Elt F) G10 I.p) (k0_t1_loop i).trips
  ⟨L.1 ++ I.q, L.2.1 ++ I.k, L.2.2.1 ++ I.v, L.2.2.2 ++ I.p⟩

def loop2 (I : Writes F) : Writes F :=
  let L := pb_k0_t2 (F := F) Variants.none c none i arg2 harg2 arg3 harg3 arg4 harg4 arg5 harg5 arg6 harg6 arg7 harg7 arg8 harg8 arg9 harg9 arg10 harg10 lane (k0_t2_loop i).lb X2 X3 X4 X5 X6
    (arg7.view.writes (Elt F) G7 I.q) (arg8.view.writes (Elt F) G8 I.k) (arg9.view.writes (Elt F) G9 I.v)
    (arg10.view.writes (Elt F) G10 I.p) (k0_t2_loop i).trips
  ⟨L.1 ++ I.q, L.2.1 ++ I.k, L.2.2.1 ++ I.v, L.2.2.2 ++ I.p⟩

/-- All the writes of a grid point, after those that set its accumulators. -/
def point (I : Writes F) : Writes F :=
  bandB i arg2 arg3 arg4 arg5 arg6 arg7 arg8 arg9 arg10 X2 X3 X4 X5 X6 G7 G8 G9 G10 (bandA i arg2 arg3 arg4 arg5 arg6 arg7 arg8 arg9 arg10 X2 X3 X4 X5 X6 G7 G8 G9 G10
    (loop2 c i arg2 harg2 arg3 harg3 arg4 harg4 arg5 harg5 arg6 harg6 arg7 harg7 arg8 harg8 arg9 harg9 arg10 harg10 X2 X3 X4 X5 X6 G7 G8 G9 G10 (loop c i arg2 harg2 arg3 harg3 arg4 harg4 arg5 harg5 arg6 harg6 arg7 harg7 arg8 harg8 arg9 harg9 arg10 harg10 X2 X3 X4 X5 X6 G7 G8 G9 G10 I)))

/-- The writes that set the accumulators. -/
def initA : Writes F :=
  ⟨[⟨Rect.unit ![0, 0] ![512, 256] inb_S512x256_S512x256_0_0, k0_pay60⟩],
   [⟨Rect.unit ![0, 0] ![4096, 256] inb_S4096x256_S4096x256_0_0, k0_pay58⟩],
   [⟨Rect.unit ![0, 0] ![4096, 256] inb_S4096x256_S4096x256_0_0, k0_pay59⟩],
   [⟨Rect.unit ![0, 0, 0] ![2, 512, 1] inb_S2x512x1_S2x512x1_0_0_0, k0_pay61⟩]⟩

def initB : Writes F :=
  ⟨[⟨Rect.unit ![0, 0] ![512, 256] inb_S512x256_S512x256_0_0, k0_pay60⟩], [], [],
   [⟨Rect.unit ![0, 0, 0] ![2, 512, 1] inb_S2x512x1_S2x512x1_0_0_0, k0_pay61⟩]⟩

variable (x0 : Vec F S512x256 .bf16) (x1 : Vec F S4096x256 .bf16) (x2 : Vec F S4096x256 .bf16) (x3 : Vec F S512x256 .bf16)
  (x4 : Vec F S512x256 .f32) (xo6 xo7 : Vec F S4096x256 .f32)

set_option maxHeartbeats 4000000 in
theorem runA_q (hc : cond0_0 i) :
    (kernelRun0_A (F := F) c i arg2 harg2 arg3 harg3 arg4 harg4 arg5 harg5 arg6 harg6 arg7 harg7 arg8 harg8 arg9 harg9 arg10 harg10 hc x0 x1 x2 x3 x4).1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk arg8.view.junk arg9.view.junk arg10.view.junk initA).q := by
  unfold kernelRun0_A
  sl_unfold_run_names

  rfl

set_option maxHeartbeats 4000000 in
theorem runA_k (hc : cond0_0 i) :
    (kernelRun0_A (F := F) c i arg2 harg2 arg3 harg3 arg4 harg4 arg5 harg5 arg6 harg6 arg7 harg7 arg8 harg8 arg9 harg9 arg10 harg10 hc x0 x1 x2 x3 x4).2.1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk arg8.view.junk arg9.view.junk arg10.view.junk initA).k := by
  unfold kernelRun0_A
  sl_unfold_run_names

  rfl

set_option maxHeartbeats 4000000 in
theorem runA_v (hc : cond0_0 i) :
    (kernelRun0_A (F := F) c i arg2 harg2 arg3 harg3 arg4 harg4 arg5 harg5 arg6 harg6 arg7 harg7 arg8 harg8 arg9 harg9 arg10 harg10 hc x0 x1 x2 x3 x4).2.2.1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk arg8.view.junk arg9.view.junk arg10.view.junk initA).v := by
  unfold kernelRun0_A
  sl_unfold_run_names

  rfl

set_option maxHeartbeats 4000000 in
theorem runB_q (hc : ¬cond0_0 i) :
    (kernelRun0_B (F := F) c i arg2 harg2 arg3 harg3 arg4 harg4 arg5 harg5 arg6 harg6 arg7 harg7 arg8 harg8 arg9 harg9 arg10 harg10 hc x0 x1 x2 x3 x4 xo6 xo7).1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk (harg8.unread xo6) (harg9.unread xo7) arg10.view.junk initB).q := by
  unfold kernelRun0_B
  sl_unfold_run_names
  simp only [point, loop2, loop, initB, List.append_nil]
  rfl

set_option maxHeartbeats 4000000 in
theorem runB_k (hc : ¬cond0_0 i) :
    (kernelRun0_B (F := F) c i arg2 harg2 arg3 harg3 arg4 harg4 arg5 harg5 arg6 harg6 arg7 harg7 arg8 harg8 arg9 harg9 arg10 harg10 hc x0 x1 x2 x3 x4 xo6 xo7).2.1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk (harg8.unread xo6) (harg9.unread xo7) arg10.view.junk initB).k := by
  unfold kernelRun0_B
  sl_unfold_run_names
  simp only [point, loop2, loop, initB, List.append_nil]
  rfl

set_option maxHeartbeats 4000000 in
theorem runB_v (hc : ¬cond0_0 i) :
    (kernelRun0_B (F := F) c i arg2 harg2 arg3 harg3 arg4 harg4 arg5 harg5 arg6 harg6 arg7 harg7 arg8 harg8 arg9 harg9 arg10 harg10 hc x0 x1 x2 x3 x4 xo6 xo7).2.2.1
    = (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4)
        arg7.view.junk (harg8.unread xo6) (harg9.unread xo7) arg10.view.junk initB).v := by
  unfold kernelRun0_B
  sl_unfold_run_names
  simp only [point, loop2, loop, initB, List.append_nil]
  rfl

end Cert.KernelIdeal.Tile

end
-- ==== Proof.Head.lean ====
/-
  One block of keys for one head, over the extended reals: what it adds to the three gradients and to the sum over the
  earlier blocks, in terms of the weights and cotangents of the whole rows.
-/
module

public import proofs.«01_k».proof.Proof.TileValue
public import proofs.«01_k».proof.Proof.Band

@[expose] public section

set_option maxRecDepth 16384

noncomputable section

namespace Cert.KernelIdeal.Tile

open Idealize.ShloMosaic Cert.KernelIdeal Cert.KernelIdeal.Gen Cert.Spec

/-- The products of the rows of two arrays. -/
def rows (q k : ℕ → Fin 128 → ℝ) (t s : ℕ) : ℝ := ∑ d, q t d * k s d

theorem lane_apply (r : Fin 512) (d : Fin 128) : lane (ix2 r d) = BitVec.ofNat 32 d := by
  unfold lane
  pointwise

theorem laneB_apply (r : Fin 256) (d : Fin 128) : laneB (ix2 r d) = BitVec.ofNat 32 d := by
  unfold laneB lane
  pointwise

theorem low_bits : ∀ k : Fin 256, IntOp.andi (BitVec.ofNat 32 k) 255#32 = BitVec.ofNat 32 k := by decide +kernel

theorem sitofp_ofBool (p : Prop) [Decidable p] :
    FloatOps.sitofp (F := Ideal) .f32 (BitVec.setWidth 32 (BitVec.ofBool (decide p))) = ((if p then 1 else 0 : ℝ) : EReal) := by
  show (((BitVec.setWidth 32 (BitVec.ofBool (decide p))).toInt : ℝ) : EReal) = _
  by_cases h : p <;> simp [h]

theorem after_apply (k c : Fin 256) :
    k0_pay62 (F := Ideal) (ix2 (⟨k, by omega⟩ : Fin 512) c) = ((if c < k then 1 else 0 : ℝ) : EReal) := by
  unfold k0_pay62
  pointwise
  rw [low_bits, WordCmp.cmpi_sgt_ofNat (by omega) (by omega), sitofp_ofBool]
  simp only [Fin.lt_def]

theorem before_apply (k c : Fin 256) :
    k0_pay63 (F := Ideal) (ix2 (⟨k, by omega⟩ : Fin 512) c) = ((if k < c then 1 else 0 : ℝ) : EReal) := by
  unfold k0_pay63
  pointwise
  rw [low_bits, WordCmp.cmpi_slt_ofNat (by omega) (by omega), sitofp_ofBool]
  simp only [Fin.lt_def]

theorem maskA_apply (b : ℕ) (r : Fin 512) (c : Fin 256) :
    k0_pay74 (ix2 r c) = BitVec.ofBool (decide (256 * b + c < 256 * b + r)) := by
  have h : ∀ x : BitVec 32, IntOp.addi 0#32 x = x := fun x => BitVec.zero_add x
  unfold k0_pay74
  pointwise
  rw [h, h, WordCmp.cmpi_slt_ofNat (by omega) (by omega)]
  simp only [Nat.add_lt_add_iff_left]

theorem maskB_apply (b : ℕ) (r : Fin 256) (c : Fin 256) :
    k0_pay112 (ix2 r c) = BitVec.ofBool (decide (256 * b + c < 256 * b + r)) := by
  have h : ∀ x : ℕ, IntOp.addi 256#32 (BitVec.ofNat 32 x) = BitVec.ofNat 32 (256 + x) := fun x => (BitVec.ofNat_add 256 x).symm
  unfold k0_pay112
  pointwise
  rw [h, h, WordCmp.cmpi_slt_ofNat (by omega) (by omega)]
  simp only [Nat.add_lt_add_iff_left]

/-- What a tile of 512 queries from `t` on and block `b` of the keys read of one head. -/
structure In512 (q k v o : ℕ → Fin 128 → ℝ) (t b : ℕ) (qv ov : Vec Ideal S512x128 .bf16) (kv vv : Vec Ideal S256x128 .bf16)
    (cv : Vec Ideal S512x128 .f32) : Prop where
  hb : b < 16
  hq : ∀ (r : Fin 512) d, qv (ix2 r d) = (q (t + r) d : EReal)
  ho : ∀ (r : Fin 512) d, ov (ix2 r d) = (o (t + r) d : EReal)
  hk : ∀ (c : Fin 256) d, kv (ix2 c d) = (k (256 * b + c) d : EReal)
  hv : ∀ (c : Fin 256) d, vv (ix2 c d) = (v (256 * b + c) d : EReal)
  hc : ∀ r : Fin 512, ∃ C : Fin 128 → ℝ, (∀ d, cv (ix2 r d) = (C d : EReal)) ∧ ∀ h : b < 128, C ⟨b, h⟩ = later (rows q k) (t + r) b

/-- What a tile of 256 queries from `t` on and block `b` of the keys read of one head. -/
structure In256 (q k v o : ℕ → Fin 128 → ℝ) (t b : ℕ) (qv ov : Vec Ideal S256x128 .bf16) (kv vv : Vec Ideal S256x128 .bf16)
    (cv : Vec Ideal S256x128 .f32) : Prop where
  hb : b < 16
  hq : ∀ (r : Fin 256) d, qv (ix2 r d) = (q (t + r) d : EReal)
  ho : ∀ (r : Fin 256) d, ov (ix2 r d) = (o (t + r) d : EReal)
  hk : ∀ (c : Fin 256) d, kv (ix2 c d) = (k (256 * b + c) d : EReal)
  hv : ∀ (c : Fin 256) d, vv (ix2 c d) = (v (256 * b + c) d : EReal)
  hc : ∀ r : Fin 256, ∃ C : Fin 128 → ℝ, (∀ d, cv (ix2 r d) = (C d : EReal)) ∧ ∀ h : b < 128, C ⟨b, h⟩ = later (rows q k) (t + r) b

/-! ## The loop over the earlier blocks -/

section

variable {q k v o : ℕ → Fin 128 → ℝ} {t b : ℕ} {qv ov : Vec Ideal S512x128 .bf16} {kv vv : Vec Ideal S256x128 .bf16}
  {cv : Vec Ideal S512x128 .f32} (H : In512 q k v o t b qv ov kv vv cv) (ht : 256 * (b + 1) ≤ t)

include H ht

theorem loopw (r : Fin 512) (c : Fin 256) :
    T512.w (F := Ideal) k0_pay62 lane (BitVec.ofNat 32 b) cv qv kv (ix2 r c) = ((wt (rows q k) (t + r) (256 * b + c) : ℝ) : EReal) := by
  obtain ⟨C, hC, hCb⟩ := H.hc r
  have hb := H.hb
  exact T512.w_coe H.hb H.hk H.hq (fun _ => rfl) after_apply (lane_apply r) hC (hCb (by omega)) (by omega) c

theorem loopd (r : Fin 512) (c : Fin 256) :
    T512.d (F := Ideal) k0_pay62 lane (BitVec.ofNat 32 b) cv qv ov kv vv (ix2 r c)
      = ((dw (rows q k) (rows o v) (t + r) (256 * b + c) : ℝ) : EReal) := by
  obtain ⟨C, hC, hCb⟩ := H.hc r
  have hb := H.hb
  exact T512.d_coe H.hb H.hk H.hq (fun _ => rfl) after_apply (lane_apply r) hC (hCb (by omega)) (by omega) H.hv H.ho (fun _ => rfl) c

theorem loopP {p : Vec Ideal S1x512x1 .f32} (r : Fin 512) (hp : p (ix3 0 r 0) = ((earlier (rows q k) (rows o v) (t + r) b : ℝ) : EReal)) :
    T512.addP (F := Ideal) (T512.row p) (T512.total (T512.d k0_pay62 lane (BitVec.ofNat 32 b) cv qv ov kv vv)) (ix3 0 r 0)
      = ((earlier (rows q k) (rows o v) (t + r) (b + 1) : ℝ) : EReal) := by
  rw [T512.addP_coe (T512.row_coe hp) (T512.total_coe fun c => loopd H ht r c), earlier_succ]

variable {p : Vec Ideal S1x512x1 .f32}

theorem loopx (r : Fin 512) (hp : p (ix3 0 r 0) = ((earlier (rows q k) (rows o v) (t + r) b : ℝ) : EReal)) (c : Fin 256) :
    T512.x (F := Ideal) k0_pay62 k0_pay63 lane (BitVec.ofNat 32 b) cv qv ov kv vv p (ix2 r c)
      = ((dz (rows q k) (rows o v) (t + r) (256 * b + c) : ℝ) : EReal) := by
  obtain ⟨C, hC, hCb⟩ := H.hc r
  have hb := H.hb
  exact T512.x_coe H.hb H.hk H.hq (fun _ => rfl) after_apply (lane_apply r) hC (hCb (by omega)) (by omega) H.hv H.ho (fun _ => rfl)
    before_apply hp c

theorem loopQ {acc : Vec Ideal S512x128 .f32} {A : ℝ} (r : Fin 512) (d : Fin 128)
    (hp : p (ix3 0 r 0) = ((earlier (rows q k) (rows o v) (t + r) b : ℝ) : EReal)) (ha : acc (ix2 r d) = (A : EReal)) :
    T512.addQ (F := Ideal) (T512.x k0_pay62 k0_pay63 lane (BitVec.ofNat 32 b) cv qv ov kv vv p) kv acc (ix2 r d)
      = ((A + ∑ c : Fin 256, dz (rows q k) (rows o v) (t + r) (256 * b + c) * k (256 * b + c) d : ℝ) : EReal) :=
  T512.addQ_coe (fun c => loopx H ht r hp c) H.hk ha

theorem loopK {acc : Vec Ideal S256x128 .f32} {A : ℝ} (c : Fin 256) (d : Fin 128)
    (hp : ∀ r : Fin 512, p (ix3 0 r 0) = ((earlier (rows q k) (rows o v) (t + r) b : ℝ) : EReal)) (ha : acc (ix2 c d) = (A : EReal)) :
    T512.addK (F := Ideal) (T512.x k0_pay62 k0_pay63 lane (BitVec.ofNat 32 b) cv qv ov kv vv p) qv acc (ix2 c d)
      = ((A + ∑ r : Fin 512, dz (rows q k) (rows o v) (t + r) (256 * b + c) * q (t + r) d : ℝ) : EReal) :=
  T512.addK_coe (fun r c => loopx H ht r (hp r) c) H.hq ha

theorem loopV {acc : Vec Ideal S256x128 .f32} {A : ℝ} (c : Fin 256) (d : Fin 128) (ha : acc (ix2 c d) = (A : EReal)) :
    T512.addK (F := Ideal) (T512.w k0_pay62 lane (BitVec.ofNat 32 b) cv qv kv) ov acc (ix2 c d)
      = ((A + ∑ r : Fin 512, wt (rows q k) (t + r) (256 * b + c) * o (t + r) d : ℝ) : EReal) :=
  T512.addK_coe (fun r c => loopw H ht r c) H.ho ha

end

/-! ## The upper block on the diagonal -/

section

variable {q k v o : ℕ → Fin 128 → ℝ} {t b : ℕ} {qv ov : Vec Ideal S512x128 .bf16} {kv vv : Vec Ideal S256x128 .bf16}
  {cv : Vec Ideal S512x128 .f32} (H : In512 q k v o t b qv ov kv vv cv) (ht : t = 256 * b)

include H ht

theorem upperw (r : Fin 512) (c : Fin 256) :
    T512.wm (F := Ideal) k0_pay74 k0_pay62 lane (BitVec.ofNat 32 b) cv qv kv (ix2 r c) = ((wt (rows q k) (t + r) (256 * b + c) : ℝ) : EReal) := by
  obtain ⟨C, hC, hCb⟩ := H.hc r
  have hb := H.hb
  exact T512.wm_coe H.hb H.hk H.hq (fun _ => rfl) after_apply (lane_apply r) hC (hCb (by omega)) (fun c => by rw [ht]; exact maskA_apply b r c) c

theorem upperd (r : Fin 512) (c : Fin 256) :
    T512.dm (F := Ideal) k0_pay74 k0_pay62 lane (BitVec.ofNat 32 b) cv qv ov kv vv (ix2 r c)
      = ((dw (rows q k) (rows o v) (t + r) (256 * b + c) : ℝ) : EReal) := by
  obtain ⟨C, hC, hCb⟩ := H.hc r
  have hb := H.hb
  exact T512.dm_coe H.hb H.hk H.hq (fun _ => rfl) after_apply (lane_apply r) hC (hCb (by omega)) (fun c => by rw [ht]; exact maskA_apply b r c) H.hv H.ho (fun _ => rfl) c

theorem upperP {p : Vec Ideal S1x512x1 .f32} (r : Fin 512) (hp : p (ix3 0 r 0) = ((earlier (rows q k) (rows o v) (t + r) b : ℝ) : EReal)) :
    T512.addP (F := Ideal) (T512.row p) (T512.total (T512.dm k0_pay74 k0_pay62 lane (BitVec.ofNat 32 b) cv qv ov kv vv)) (ix3 0 r 0)
      = ((earlier (rows q k) (rows o v) (t + r) (b + 1) : ℝ) : EReal) := by
  rw [T512.addP_coe (T512.row_coe hp) (T512.total_coe fun c => upperd H ht r c), earlier_succ]

variable {p : Vec Ideal S1x512x1 .f32}

theorem upperx (r : Fin 512) (hp : p (ix3 0 r 0) = ((earlier (rows q k) (rows o v) (t + r) b : ℝ) : EReal)) (c : Fin 256) :
    T512.xm (F := Ideal) k0_pay74 k0_pay62 k0_pay63 lane (BitVec.ofNat 32 b) cv qv ov kv vv p (ix2 r c)
      = ((dz (rows q k) (rows o v) (t + r) (256 * b + c) : ℝ) : EReal) := by
  obtain ⟨C, hC, hCb⟩ := H.hc r
  have hb := H.hb
  exact T512.xm_coe H.hb H.hk H.hq (fun _ => rfl) after_apply (lane_apply r) hC (hCb (by omega)) (fun c => by rw [ht]; exact maskA_apply b r c) H.hv H.ho (fun _ => rfl)
    before_apply hp c

theorem upperQ {acc : Vec Ideal S512x128 .f32} {A : ℝ} (r : Fin 512) (d : Fin 128)
    (hp : p (ix3 0 r 0) = ((earlier (rows q k) (rows o v) (t + r) b : ℝ) : EReal)) (ha : acc (ix2 r d) = (A : EReal)) :
    T512.addQ (F := Ideal) (T512.xm k0_pay74 k0_pay62 k0_pay63 lane (BitVec.ofNat 32 b) cv qv ov kv vv p) kv acc (ix2 r d)
      = ((A + ∑ c : Fin 256, dz (rows q k) (rows o v) (t + r) (256 * b + c) * k (256 * b + c) d : ℝ) : EReal) :=
  T512.addQ_coe (fun c => upperx H ht r hp c) H.hk ha

theorem upperK {acc : Vec Ideal S256x128 .f32} {A : ℝ} (c : Fin 256) (d : Fin 128)
    (hp : ∀ r : Fin 512, p (ix3 0 r 0) = ((earlier (rows q k) (rows o v) (t + r) b : ℝ) : EReal)) (ha : acc (ix2 c d) = (A : EReal)) :
    T512.addK (F := Ideal) (T512.xm k0_pay74 k0_pay62 k0_pay63 lane (BitVec.ofNat 32 b) cv qv ov kv vv p) qv acc (ix2 c d)
      = ((A + ∑ r : Fin 512, dz (rows q k) (rows o v) (t + r) (256 * b + c) * q (t + r) d : ℝ) : EReal) :=
  T512.addK_coe (fun r c => upperx H ht r (hp r) c) H.hq ha

theorem upperV {acc : Vec Ideal S256x128 .f32} {A : ℝ} (c : Fin 256) (d : Fin 128) (ha : acc (ix2 c d) = (A : EReal)) :
    T512.addK (F := Ideal) (T512.wm k0_pay74 k0_pay62 lane (BitVec.ofNat 32 b) cv qv kv) ov acc (ix2 c d)
      = ((A + ∑ r : Fin 512, wt (rows q k) (t + r) (256 * b + c) * o (t + r) d : ℝ) : EReal) :=
  T512.addK_coe (fun r c => upperw H ht r c) H.ho ha

end

/-! ## The lower block on the diagonal -/

section

variable {q k v o : ℕ → Fin 128 → ℝ} {t b : ℕ} {qv ov : Vec Ideal S256x128 .bf16} {kv vv : Vec Ideal S256x128 .bf16}
  {cv : Vec Ideal S256x128 .f32} (H : In256 q k v o t b qv ov kv vv cv) (ht : t = 256 * b)

include H ht

theorem lowerw (r : Fin 256) (c : Fin 256) :
    T256.wm (F := Ideal) k0_pay112 k0_pay62 laneB (BitVec.ofNat 32 b) cv qv kv (ix2 r c) = ((wt (rows q k) (t + r) (256 * b + c) : ℝ) : EReal) := by
  obtain ⟨C, hC, hCb⟩ := H.hc r
  have hb := H.hb
  exact T256.wm_coe H.hb H.hk H.hq (fun _ => rfl) after_apply (laneB_apply r) hC (hCb (by omega)) (fun c => by rw [ht]; exact maskB_apply b r c) c

theorem lowerd (r : Fin 256) (c : Fin 256) :
    T256.dm (F := Ideal) k0_pay112 k0_pay62 laneB (BitVec.ofNat 32 b) cv qv ov kv vv (ix2 r c)
      = ((dw (rows q k) (rows o v) (t + r) (256 * b + c) : ℝ) : EReal) := by
  obtain ⟨C, hC, hCb⟩ := H.hc r
  have hb := H.hb
  exact T256.dm_coe H.hb H.hk H.hq (fun _ => rfl) after_apply (laneB_apply r) hC (hCb (by omega)) (fun c => by rw [ht]; exact maskB_apply b r c) H.hv H.ho (fun _ => rfl) c

theorem lowerP {p : Vec Ideal S1x256x1 .f32} (r : Fin 256) (hp : p (ix3 0 r 0) = ((earlier (rows q k) (rows o v) (t + r) b : ℝ) : EReal)) :
    T256.addP (F := Ideal) (T256.row p) (T256.total (T256.dm k0_pay112 k0_pay62 laneB (BitVec.ofNat 32 b) cv qv ov kv vv)) (ix3 0 r 0)
      = ((earlier (rows q k) (rows o v) (t + r) (b + 1) : ℝ) : EReal) := by
  rw [T256.addP_coe (T256.row_coe hp) (T256.total_coe fun c => lowerd H ht r c), earlier_succ]

variable {p : Vec Ideal S1x256x1 .f32}

theorem lowerx (r : Fin 256) (hp : p (ix3 0 r 0) = ((earlier (rows q k) (rows o v) (t + r) b : ℝ) : EReal)) (c : Fin 256) :
    T256.xm (F := Ideal) k0_pay112 k0_pay62 k0_pay63 laneB (BitVec.ofNat 32 b) cv qv ov kv vv p (ix2 r c)
      = ((dz (rows q k) (rows o v) (t + r) (256 * b + c) : ℝ) : EReal) := by
  obtain ⟨C, hC, hCb⟩ := H.hc r
  have hb := H.hb
  exact T256.xm_coe H.hb H.hk H.hq (fun _ => rfl) after_apply (laneB_apply r) hC (hCb (by omega)) (fun c => by rw [ht]; exact maskB_apply b r c) H.hv H.ho (fun _ => rfl)
    before_apply hp c

theorem lowerQ {acc : Vec Ideal S256x128 .f32} {A : ℝ} (r : Fin 256) (d : Fin 128)
    (hp : p (ix3 0 r 0) = ((earlier (rows q k) (rows o v) (t + r) b : ℝ) : EReal)) (ha : acc (ix2 r d) = (A : EReal)) :
    T256.addQ (F := Ideal) (T256.xm k0_pay112 k0_pay62 k0_pay63 laneB (BitVec.ofNat 32 b) cv qv ov kv vv p) kv acc (ix2 r d)
      = ((A + ∑ c : Fin 256, dz (rows q k) (rows o v) (t + r) (256 * b + c) * k (256 * b + c) d : ℝ) : EReal) :=
  T256.addQ_coe (fun c => lowerx H ht r hp c) H.hk ha

theorem lowerK {acc : Vec Ideal S256x128 .f32} {A : ℝ} (c : Fin 256) (d : Fin 128)
    (hp : ∀ r : Fin 256, p (ix3 0 r 0) = ((earlier (rows q k) (rows o v) (t + r) b : ℝ) : EReal)) (ha : acc (ix2 c d) = (A : EReal)) :
    T256.addK (F := Ideal) (T256.xm k0_pay112 k0_pay62 k0_pay63 laneB (BitVec.ofNat 32 b) cv qv ov kv vv p) qv acc (ix2 c d)
      = ((A + ∑ r : Fin 256, dz (rows q k) (rows o v) (t + r) (256 * b + c) * q (t + r) d : ℝ) : EReal) :=
  T256.addK_coe (fun r c => lowerx H ht r (hp r) c) H.hq ha

theorem lowerV {acc : Vec Ideal S256x128 .f32} {A : ℝ} (c : Fin 256) (d : Fin 128) (ha : acc (ix2 c d) = (A : EReal)) :
    T256.addK (F := Ideal) (T256.wm k0_pay112 k0_pay62 laneB (BitVec.ofNat 32 b) cv qv kv) ov acc (ix2 c d)
      = ((A + ∑ r : Fin 256, wt (rows q k) (t + r) (256 * b + c) * o (t + r) d : ℝ) : EReal) :=
  T256.addK_coe (fun r c => lowerw H ht r c) H.ho ha

end

end Cert.KernelIdeal.Tile

end
-- ==== Proof.Words.lean ====
/-
  The words a grid point computes: how many trips its loop makes, the numbers of the blocks and where they begin.
-/
module

public import proofs.«01_k».proof.Proof.Band

@[expose] public section

set_option maxRecDepth 16384

namespace Cert.KernelIdeal.Tile

open Idealize.ShloMosaic Idealize.ShloMosaic.TcCoe Idealize.ShloMosaic.Tactic Cert.KernelIdeal Cert.KernelIdeal.Gen

/-- Which tile of queries a grid point works on. -/
abbrev tile (i : grid0.Coords) : ℕ := (i 1).val

theorem tile_lt (i : grid0.Coords) : tile i < 8 := (i 1).isLt

theorem trips1 (i : grid0.Coords) : (k0_t1_loop i).trips = 2 * tile i := by
  have h : ∀ n : Fin 8, Scf.trips (0#32)
      (Scalar.addi 0#32 (Scalar.muli (Scalar.divsi (Scalar.subi (Scalar.muli (BitVec.ofNat 32 n.val) 2#32) 0#32) 1#32) 1#32))
      1#32 = 2 * n.val := by decide +kernel
  exact h (i 1)

theorem trips2 (i : grid0.Coords) : (k0_t2_loop i).trips = 0 := by
  have h : ∀ n : Fin 8, Scf.trips
      (Scalar.addi 0#32 (Scalar.muli (Scalar.divsi (Scalar.subi (Scalar.muli (BitVec.ofNat 32 n.val) 2#32) 0#32) 1#32) 1#32))
      (Scalar.addi 0#32 (Scalar.subi (Scalar.muli (BitVec.ofNat 32 n.val) 2#32) 0#32)) 1#32 = 0 := by decide +kernel
  exact h (i 1)

theorem word_eq (i : grid0.Coords) (k : Fin (k0_t1_loop i).trips) : word i k = BitVec.ofNat 32 k := by
  simp [word, Scf.iv]

theorem trip_lt (i : grid0.Coords) (k : Fin (k0_t1_loop i).trips) : k.val < 2 * tile i := trips1 i ▸ k.isLt

theorem off1_eq (i : grid0.Coords) (k : Fin (k0_t1_loop i).trips) : k0_off1 i k = ![256 * k.val, 0] := by
  have hk : k.val < 16 := by have := trip_lt i k; have := tile_lt i; omega
  have h : ∀ n : Fin 16, (Scalar.indexCast (Scalar.muli (BitVec.ofNat 32 n.val) 256#32)).toNat = 256 * n.val := by decide +kernel
  have e : k0_off1 i k = ![(Scalar.indexCast (Scalar.muli (word i k) 256#32)).toNat, 0] := rfl
  rw [e, word_eq, h ⟨k.val, hk⟩]

theorem off2_eq (i : grid0.Coords) (k : Fin (k0_t1_loop i).trips) : k0_off2 i k = ![256 * k.val, 128] := by
  have hk : k.val < 16 := by have := trip_lt i k; have := tile_lt i; omega
  have h : ∀ n : Fin 16, (Scalar.indexCast (Scalar.muli (BitVec.ofNat 32 n.val) 256#32)).toNat = 256 * n.val := by decide +kernel
  have e : k0_off2 i k = ![(Scalar.indexCast (Scalar.muli (word i k) 256#32)).toNat, 128] := rfl
  rw [e, word_eq, h ⟨k.val, hk⟩]

theorem wordB_eq (i : grid0.Coords) (j : Fin 2) : wordB i (BitVec.ofNat 32 j.val) = BitVec.ofNat 32 (2 * tile i + j.val) := by
  have h : ∀ (n : Fin 8) (j : Fin 2), Scalar.addi (Scalar.muli (BitVec.ofNat 32 n.val) 2#32) (BitVec.ofNat 32 j.val)
      = BitVec.ofNat 32 (2 * n.val + j.val) := by decide +kernel
  exact h (i 1) j

theorem block_word : ∀ (n : Fin 8) (j : Fin 2),
    (Scalar.indexCast (Scalar.muli (Scalar.addi (Scalar.muli (BitVec.ofNat 32 n.val) 2#32) (BitVec.ofNat 32 j.val)) 256#32)).toNat
      = 256 * (2 * n.val + j.val) := by decide +kernel

theorem off5_eq (i : grid0.Coords) (j : Fin 2) : k0_off5 i (BitVec.ofNat 32 j.val) = ![256 * (2 * tile i + j.val), 0] :=
  congrArg (fun a => (![a, 0] : Fin 2 → ℕ)) (block_word (i 1) j)

theorem off6_eq (i : grid0.Coords) (j : Fin 2) : k0_off6 i (BitVec.ofNat 32 j.val) = ![256 * (2 * tile i + j.val), 128] :=
  congrArg (fun a => (![a, 128] : Fin 2 → ℕ)) (block_word (i 1) j)

end Cert.KernelIdeal.Tile

end
-- ==== Proof.Pair.lean ====
/-
  Reading what was written to the two halves (the two heads) of an array, one rectangle of rows at a time.
-/
module

public import proofs.«01_k».proof.Proof.Band
public import Idealize.ShloMosaic.Lib.WritesUnit
public import Idealize.ShloMosaic.Lib.Pointwise
public import Idealize.ShloMosaic.Lib.Pipeline.ValueKit.Tiles

@[expose] public section

set_option maxRecDepth 16384

noncomputable section

namespace Cert.KernelIdeal.Tile

open Idealize.ShloMosaic Idealize.ShloMosaic.TcCoe Cert.KernelIdeal Cert.KernelIdeal.Gen

/-- Column `d` of head `h`. -/
def col (h : Fin 2) (d : Fin 128) : Fin 256 := ⟨128 * h.val + d.val, by omega⟩

theorem col_zero (d : Fin 128) : (col 0 d).val = 0 + d.val := by simp [col]
theorem col_one (d : Fin 128) : (col 1 d).val = 128 + d.val := by simp [col]

section

variable {n m n' m' : ℕ} {e : EltTy} (A : Memref sig .tc .vmem (⟨2, ![n, m]⟩ : Shape) e) (f : BufTy.Contents (Elt Ideal) A.view.ty)

/-- A load of a rectangle, at an index. -/
theorem readAt_ix2 {off : Fin 2 → ℕ} (inb : ∀ a, off a + (![n', m'] : Fin 2 → ℕ) a ≤ (![n, m] : Fin 2 → ℕ) a) {o₀ o₁ : ℕ}
    (heq : off = ![o₀, o₁]) (r : Fin n') (d : Fin m') (r' : Fin n) (d' : Fin m) (hr : r'.val = o₀ + r.val) (hd : d'.val = o₁ + d.val) :
    A.view.readAt (Elt Ideal) (Rect.unit (s := ⟨2, ![n, m]⟩) off ![n', m'] inb).toLoadRect f (ix2 r d)
      = A.view.read (Elt Ideal) f (ix2 r' d') := by
  subst heq
  rw [View.readAt_eq_ld]
  exact View.ld_unit_apply_of (S := ⟨2, ![n, m]⟩) _ _ _ inb _ _ (Fin.forall_fin_two.mpr ⟨hr, hd⟩)

/-- What the newest write left in its rectangle. -/
theorem read_mem_ix2 {off : Fin 2 → ℕ} (inb : ∀ a, off a + (![n', m'] : Fin 2 → ℕ) a ≤ (![n, m] : Fin 2 → ℕ) a) {o₀ o₁ : ℕ}
    (heq : off = ![o₀, o₁]) (w : Vec Ideal (⟨2, ![n', m']⟩ : Shape) e) (N : List (View.Piece (Elt Ideal) ⟨2, ![n, m]⟩ e))
    (r : Fin n') (d : Fin m') (r' : Fin n) (d' : Fin m) (hr : r'.val = o₀ + r.val) (hd : d'.val = o₁ + d.val) :
    A.view.read (Elt Ideal) (A.view.writes (Elt Ideal) f (⟨Rect.unit (s := ⟨2, ![n, m]⟩) off ![n', m'] inb, w⟩ :: N)) (ix2 r' d')
      = w (ix2 r d) :=
  View.read_writes_cons_unit_of_mem (s := ⟨2, ![n, m]⟩) A.view f inb w N (ix2 r' d') (ix2 r d) heq (Fin.forall_fin_two.mpr ⟨hr, hd⟩)

/-- Outside of the newest write's rows. -/
theorem read_rows_ix2 {off : Fin 2 → ℕ} (inb : ∀ a, off a + (![n', m'] : Fin 2 → ℕ) a ≤ (![n, m] : Fin 2 → ℕ) a) {o₀ o₁ : ℕ}
    (heq : off = ![o₀, o₁]) (w : Vec Ideal (⟨2, ![n', m']⟩ : Shape) e) (N : List (View.Piece (Elt Ideal) ⟨2, ![n, m]⟩ e))
    (r' : Fin n) (d' : Fin m) (hr : r'.val < o₀ ∨ o₀ + n' ≤ r'.val) :
    A.view.read (Elt Ideal) (A.view.writes (Elt Ideal) f (⟨Rect.unit (s := ⟨2, ![n, m]⟩) off ![n', m'] inb, w⟩ :: N)) (ix2 r' d')
      = A.view.read (Elt Ideal) (A.view.writes (Elt Ideal) f N) (ix2 r' d') :=
  View.read_writes_cons_unit_of_not_mem (s := ⟨2, ![n, m]⟩) A.view f inb w N (ix2 r' d') heq 0 hr

/-- Outside of the newest write's columns. -/
theorem read_cols_ix2 {off : Fin 2 → ℕ} (inb : ∀ a, off a + (![n', m'] : Fin 2 → ℕ) a ≤ (![n, m] : Fin 2 → ℕ) a) {o₀ o₁ : ℕ}
    (heq : off = ![o₀, o₁]) (w : Vec Ideal (⟨2, ![n', m']⟩ : Shape) e) (N : List (View.Piece (Elt Ideal) ⟨2, ![n, m]⟩ e))
    (r' : Fin n) (d' : Fin m) (hd : d'.val < o₁ ∨ o₁ + m' ≤ d'.val) :
    A.view.read (Elt Ideal) (A.view.writes (Elt Ideal) f (⟨Rect.unit (s := ⟨2, ![n, m]⟩) off ![n', m'] inb, w⟩ :: N)) (ix2 r' d')
      = A.view.read (Elt Ideal) (A.view.writes (Elt Ideal) f N) (ix2 r' d') :=
  View.read_writes_cons_unit_of_not_mem (s := ⟨2, ![n, m]⟩) A.view f inb w N (ix2 r' d') heq 1 hd

end

section

variable {n n' : ℕ} (A : Memref sig .tc .vmem (⟨2, ![n, 256]⟩ : Shape) .f32) (G : BufTy.Contents (Elt Ideal) A.view.ty)
  (N : List (View.Piece (Elt Ideal) ⟨2, ![n, 256]⟩ .f32)) {offL offH : Fin 2 → ℕ}
  (inbL : ∀ a, offL a + (![n', 128] : Fin 2 → ℕ) a ≤ (![n, 256] : Fin 2 → ℕ) a)
  (inbH : ∀ a, offH a + (![n', 128] : Fin 2 → ℕ) a ≤ (![n, 256] : Fin 2 → ℕ) a) {o : ℕ} (eL : offL = ![o, 0]) (eH : offH = ![o, 128])
  {D U : Fin 2 → ℕ → Fin 128 → ℝ}
  (hN : ∀ (r : Fin n) h d, A.view.read (Elt Ideal) (A.view.writes (Elt Ideal) G N) (ix2 r (col h d)) = ((D h r d : ℝ) : EReal))

include eL eH hN

/-- After both heads' rows from `o` on were increased by `U`. -/
theorem pair_read (w₁ w₂ : Vec Ideal (⟨2, ![n', 128]⟩ : Shape) .f32)
    (h₁ : ∀ (r : Fin n') d, w₁ (ix2 r d) = ((D 0 (o + r) d + U 0 r d : ℝ) : EReal))
    (h₂ : ∀ (r : Fin n') d, w₂ (ix2 r d) = ((D 1 (o + r) d + U 1 r d : ℝ) : EReal)) (r : Fin n) (h : Fin 2) (d : Fin 128) :
    A.view.read (Elt Ideal) (A.view.writes (Elt Ideal) G (⟨Rect.unit (s := ⟨2, ![n, 256]⟩) offH ![n', 128] inbH, w₂⟩
        :: ⟨Rect.unit (s := ⟨2, ![n, 256]⟩) offL ![n', 128] inbL, w₁⟩ :: N)) (ix2 r (col h d))
      = ((D h r d + (if o ≤ r.val ∧ r.val < o + n' then U h (r - o) d else 0) : ℝ) : EReal) := by
  by_cases hr : o ≤ r.val ∧ r.val < o + n'
  · rw [if_pos hr]
    have hx : r.val = o + (r.val - o) := by omega
    have hlt : r.val - o < n' := by omega
    match h with
    | 0 =>
      rw [read_cols_ix2 A G inbH eH w₂ _ r (col 0 d) (Or.inl (by rw [col_zero]; omega)),
        read_mem_ix2 A G inbL eL w₁ N ⟨r.val - o, hlt⟩ d r (col 0 d) hx (col_zero d), h₁]
      simp only [← hx]
    | 1 =>
      rw [read_mem_ix2 A G inbH eH w₂ _ ⟨r.val - o, hlt⟩ d r (col 1 d) hx (col_one d), h₂]
      simp only [← hx]
  · rw [if_neg hr, add_zero, read_rows_ix2 A G inbH eH w₂ _ r (col h d) (by omega),
      read_rows_ix2 A G inbL eL w₁ N r (col h d) (by omega), hN]

/-- The same for writes that read the array as it is when they are made. -/
theorem two_read (u₁ u₂ : Vec Ideal (⟨2, ![n', 128]⟩ : Shape) .f32 → Vec Ideal (⟨2, ![n', 128]⟩ : Shape) .f32)
    (h₁ : ∀ acc : Vec Ideal (⟨2, ![n', 128]⟩ : Shape) .f32, (∀ (r : Fin n') d, acc (ix2 r d) = ((D 0 (o + r) d : ℝ) : EReal)) →
      ∀ (r : Fin n') d, u₁ acc (ix2 r d) = ((D 0 (o + r) d + U 0 r d : ℝ) : EReal))
    (h₂ : ∀ acc : Vec Ideal (⟨2, ![n', 128]⟩ : Shape) .f32, (∀ (r : Fin n') d, acc (ix2 r d) = ((D 1 (o + r) d : ℝ) : EReal)) →
      ∀ (r : Fin n') d, u₂ acc (ix2 r d) = ((D 1 (o + r) d + U 1 r d : ℝ) : EReal)) (r : Fin n) (h : Fin 2) (d : Fin 128) :
    A.view.read (Elt Ideal) (A.view.writes (Elt Ideal) G (two A G N (Rect.unit (s := ⟨2, ![n, 256]⟩) offL ![n', 128] inbL)
        (Rect.unit (s := ⟨2, ![n, 256]⟩) offH ![n', 128] inbH) u₁ u₂)) (ix2 r (col h d))
      = ((D h r d + (if o ≤ r.val ∧ r.val < o + n' then U h (r - o) d else 0) : ℝ) : EReal) := by
  have hb : ∀ r : Fin n', o + r.val < n := fun r => by
    have h0 := inbL 0
    rw [eL] at h0
    have h1 : o + n' ≤ n := h0
    omega
  refine pair_read A G N inbL inbH eL eH hN _ _ (h₁ _ fun r d => ?_) (h₂ _ fun r d => ?_) r h d
  · rw [readAt_ix2 A _ inbL eL r d ⟨o + r.val, hb r⟩ (col 0 d) rfl (col_zero d), hN]
  · rw [readAt_ix2 A _ inbH eH r d ⟨o + r.val, hb r⟩ (col 1 d) rfl (col_one d),
      read_cols_ix2 A G inbL eL _ N _ (col 1 d) (Or.inr (by rw [col_one]; omega)), hN]

end

end Cert.KernelIdeal.Tile

end
-- ==== Proof.Inputs.lean ====
/-
  What a grid point's writes leave in its accumulators, block by block: the gradients of its queries and the sums over the
  earlier blocks, and what it adds to the gradients of the keys and of the values.
-/
module

public import proofs.«01_k».proof.Proof.Head
public import proofs.«01_k».proof.Proof.Words
public import proofs.«01_k».proof.Proof.Pair

@[expose] public section

set_option maxRecDepth 16384

noncomputable section

namespace Cert.KernelIdeal.Tile

open Idealize.ShloMosaic Idealize.ShloMosaic.TcCoe Cert.KernelIdeal Cert.KernelIdeal.Gen Cert.Spec

/-- Both heads of an array: head, row, column. -/
abbrev Arr := Fin 2 → ℕ → Fin 128 → ℝ

/-- The gradient of the query scores' row `t` at key `s`, of head `h`. -/
def dzr (q k v o : Arr) (h : Fin 2) (t s : ℕ) : ℝ := dz (rows (q h) (k h)) (rows (o h) (v h)) t s
/-- The weight. -/
def wtr (q k : Arr) (h : Fin 2) (t s : ℕ) : ℝ := wt (rows (q h) (k h)) t s

/-- The gradient of query `t + r` from the keys before block `b`. -/
def accQ (q k v o : Arr) (t b : ℕ) : Arr := fun h r d => ∑ s ∈ Finset.range (256 * b), dzr q k v o h (t + r) s * k h s d
/-- The gradient of the keys before block `b` from the queries `t`, …, `t + 511`, on top of `E`. -/
def accK (q k v o E : Arr) (t b : ℕ) : Arr := fun h s d =>
  E h s d + if s < 256 * b then ∑ r : Fin 512, dzr q k v o h (t + r) s * q h (t + r) d else 0
/-- The gradient of the values before block `b`. -/
def accV (q k o E : Arr) (t b : ℕ) : Arr := fun h s d =>
  E h s d + if s < 256 * b then ∑ r : Fin 512, wtr q k h (t + r) s * o h (t + r) d else 0

theorem accQ_succ (q k v o : Arr) (t b : ℕ) (h : Fin 2) (r : ℕ) (d : Fin 128) :
    accQ q k v o t (b + 1) h r d
      = accQ q k v o t b h r d + ∑ c : Fin 256, dzr q k v o h (t + r) (256 * b + c) * k h (256 * b + c) d := by
  unfold accQ
  rw [show 256 * (b + 1) = 256 * b + 256 by ring, Finset.sum_range_add,
    Finset.sum_range (fun x => dzr q k v o h (t + r) (256 * b + x) * k h (256 * b + x) d)]

theorem block_succ (x : ℝ) (F : ℕ → ℝ) (b s : ℕ) :
    x + (if s < 256 * (b + 1) then F s else 0)
      = (x + (if s < 256 * b then F s else 0)) + (if 256 * b ≤ s ∧ s < 256 * b + 256 then F (256 * b + (s - 256 * b)) else 0) := by
  by_cases h₁ : s < 256 * b
  · rw [if_pos (by omega), if_pos h₁, if_neg (by omega), add_zero]
  · by_cases h₂ : s < 256 * b + 256
    · rw [if_pos (by omega), if_neg h₁, if_pos (by omega), add_zero, show 256 * b + (s - 256 * b) = s by omega]
    · rw [if_neg (by omega), if_neg h₁, if_neg (by omega), add_zero, add_zero]

theorem accK_succ (q k v o E : Arr) (t b : ℕ) (h : Fin 2) (s : ℕ) (d : Fin 128) :
    accK q k v o E t (b + 1) h s d = accK q k v o E t b h s d + (if 256 * b ≤ s ∧ s < 256 * b + 256 then
      ∑ r : Fin 512, dzr q k v o h (t + r) (256 * b + (s - 256 * b)) * q h (t + r) d else 0) :=
  block_succ (E h s d) (fun s => ∑ r : Fin 512, dzr q k v o h (t + r) s * q h (t + r) d) b s

theorem accV_succ (q k o E : Arr) (t b : ℕ) (h : Fin 2) (s : ℕ) (d : Fin 128) :
    accV q k o E t (b + 1) h s d = accV q k o E t b h s d + (if 256 * b ≤ s ∧ s < 256 * b + 256 then
      ∑ r : Fin 512, wtr q k h (t + r) (256 * b + (s - 256 * b)) * o h (t + r) d else 0) :=
  block_succ (E h s d) (fun s => ∑ r : Fin 512, wtr q k h (t + r) s * o h (t + r) d) b s

/-! ## The sums over the earlier blocks -/

section

variable {n n' : ℕ} (A : Memref sig .tc .vmem (⟨3, ![2, n, 1]⟩ : Shape) .f32) (f : BufTy.Contents (Elt Ideal) A.view.ty)

theorem readAt_ix3 {o₀ o₁ : ℕ} (inb : ∀ a, (![o₀, o₁, 0] : Fin 3 → ℕ) a + (![1, n', 1] : Fin 3 → ℕ) a ≤ (![2, n, 1] : Fin 3 → ℕ) a)
    (r : Fin n') (h : Fin 2) (r' : Fin n) (hh : h.val = o₀) (hr : r'.val = o₁ + r.val) :
    A.view.readAt (Elt Ideal) (Rect.unit (s := ⟨3, ![2, n, 1]⟩) ![o₀, o₁, 0] ![1, n', 1] inb).toLoadRect f (ix3 0 r 0)
      = A.view.read (Elt Ideal) f (ix3 h r' 0) := by
  rw [View.readAt_eq_ld]
  refine View.ld_unit_apply_of (S := ⟨3, ![2, n, 1]⟩) _ _ _ inb _ _ fun a => ?_
  match a with
  | 0 => exact hh
  | 1 => exact hr
  | 2 => rfl

theorem read_mem_ix3 {o₀ o₁ : ℕ} (inb : ∀ a, (![o₀, o₁, 0] : Fin 3 → ℕ) a + (![1, n', 1] : Fin 3 → ℕ) a ≤ (![2, n, 1] : Fin 3 → ℕ) a)
    (w : Vec Ideal (⟨3, ![1, n', 1]⟩ : Shape) .f32) (N : List (View.Piece (Elt Ideal) ⟨3, ![2, n, 1]⟩ .f32))
    (r : Fin n') (h : Fin 2) (r' : Fin n) (hh : h.val = o₀) (hr : r'.val = o₁ + r.val) :
    A.view.read (Elt Ideal) (A.view.writes (Elt Ideal) f (⟨Rect.unit (s := ⟨3, ![2, n, 1]⟩) ![o₀, o₁, 0] ![1, n', 1] inb, w⟩ :: N))
      (ix3 h r' 0) = w (ix3 0 r 0) := by
  refine View.read_writes_cons_unit_of_mem (s := ⟨3, ![2, n, 1]⟩) A.view f inb w N (ix3 h r' 0) (ix3 0 r 0) rfl fun a => ?_
  match a with
  | 0 => exact hh
  | 1 => exact hr
  | 2 => rfl

theorem read_head_ix3 {o₀ o₁ : ℕ} (inb : ∀ a, (![o₀, o₁, 0] : Fin 3 → ℕ) a + (![1, n', 1] : Fin 3 → ℕ) a ≤ (![2, n, 1] : Fin 3 → ℕ) a)
    (w : Vec Ideal (⟨3, ![1, n', 1]⟩ : Shape) .f32) (N : List (View.Piece (Elt Ideal) ⟨3, ![2, n, 1]⟩ .f32))
    (h : Fin 2) (r' : Fin n) (hh : h.val < o₀) :
    A.view.read (Elt Ideal) (A.view.writes (Elt Ideal) f (⟨Rect.unit (s := ⟨3, ![2, n, 1]⟩) ![o₀, o₁, 0] ![1, n', 1] inb, w⟩ :: N))
      (ix3 h r' 0) = A.view.read (Elt Ideal) (A.view.writes (Elt Ideal) f N) (ix3 h r' 0) :=
  View.read_writes_cons_unit_of_not_mem (s := ⟨3, ![2, n, 1]⟩) A.view f inb w N (ix3 h r' 0) rfl 0 (Or.inl hh)

end

/-- The two heads' sums, written one after the other. -/
theorem sums_read (A : Memref sig .tc .vmem S2x512x1 .f32) (f : BufTy.Contents (Elt Ideal) A.view.ty)
    (N : List (View.Piece (Elt Ideal) S2x512x1 .f32)) (w₁ w₂ : Vec Ideal S1x512x1 .f32) {P : Fin 2 → ℕ → ℝ}
    (h₁ : ∀ r : Fin 512, w₁ (ix3 0 r 0) = ((P 0 r : ℝ) : EReal)) (h₂ : ∀ r : Fin 512, w₂ (ix3 0 r 0) = ((P 1 r : ℝ) : EReal))
    (h : Fin 2) (r : Fin 512) :
    A.view.read (Elt Ideal) (A.view.writes (Elt Ideal) f (⟨hiS, w₂⟩ :: ⟨loS, w₁⟩ :: N)) (ix3 h r 0) = ((P h r : ℝ) : EReal) := by
  match h with
  | 0 =>
    exact (read_head_ix3 (n := 512) (n' := 512) A f inb_S2x512x1_S1x512x1_1_0_0 w₂ _ 0 r Nat.zero_lt_one).trans
      ((read_mem_ix3 (n := 512) (n' := 512) A f inb_S2x512x1_S1x512x1_0_0_0 w₁ N r 0 r rfl (Nat.zero_add _).symm).trans (h₁ r))
  | 1 => exact (read_mem_ix3 (n := 512) (n' := 512) A f inb_S2x512x1_S1x512x1_1_0_0 w₂ _ r 1 r rfl (Nat.zero_add _).symm).trans (h₂ r)

/-! ## What a grid point reads -/

variable (c : Dev nD) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (q k v o : Arr)

/-- The inputs hold the queries and the cotangents from row `t` on, all keys and values, and the sums over later blocks. -/
structure Ins (t : ℕ) : Prop where
  h2 : ∀ (r : Fin 512) h d, arg2.view.read (Elt Ideal) X2 (ix2 r (col h d)) = ((q h (t + r) d : ℝ) : EReal)
  h3 : ∀ (s : Fin 4096) h d, arg3.view.read (Elt Ideal) X3 (ix2 s (col h d)) = ((k h s d : ℝ) : EReal)
  h4 : ∀ (s : Fin 4096) h d, arg4.view.read (Elt Ideal) X4 (ix2 s (col h d)) = ((v h s d : ℝ) : EReal)
  h5 : ∀ (r : Fin 512) h d, arg5.view.read (Elt Ideal) X5 (ix2 r (col h d)) = ((o h (t + r) d : ℝ) : EReal)
  h6 : ∀ (r : Fin 512) (h : Fin 2), ∃ C : Fin 128 → ℝ, (∀ d, arg6.view.read (Elt Ideal) X6 (ix2 r (col h d)) = (C d : EReal)) ∧
    ∀ (b : ℕ) (hb : b < 16), C ⟨b, by omega⟩ = later (rows (q h) (k h)) (t + r) b

variable {X2 X3 X4 X5 X6 q k v o}

theorem loop_lo {t : ℕ} (H : Ins arg2 arg3 arg4 arg5 arg6 X2 X3 X4 X5 X6 q k v o t) (n : Fin (k0_t1_loop i).trips) :
    In512 (q 0) (k 0) (v 0) (o 0) t n.val
      (arg2.view.readAt (Elt Ideal) loL X2) (arg5.view.readAt (Elt Ideal) loL X5) (arg3.view.readAt (Elt Ideal) (loK i n) X3)
      (arg4.view.readAt (Elt Ideal) (loK i n) X4) (arg6.view.readAt (Elt Ideal) loL X6) where
  hb := by have := trip_lt i n; have := tile_lt i; omega
  hq r d := by
    refine (readAt_ix2 (n := 512) (m := 256) (n' := 512) (m' := 128) arg2 X2 inb_S512x256_S512x128_0_0 rfl r d (⟨0 + r.val, by omega⟩ : Fin 512) (col 0 d) rfl (col_zero d)).trans ((H.h2 _ _ _).trans ?_)
    simp only [Nat.zero_add]
  ho r d := by
    refine (readAt_ix2 (n := 512) (m := 256) (n' := 512) (m' := 128) arg5 X5 inb_S512x256_S512x128_0_0 rfl r d (⟨0 + r.val, by omega⟩ : Fin 512) (col 0 d) rfl (col_zero d)).trans ((H.h5 _ _ _).trans ?_)
    simp only [Nat.zero_add]
  hk c d := (readAt_ix2 (n := 4096) (m := 256) (n' := 256) (m' := 128) arg3 X3 (k0_off1_inb i n) (off1_eq i n) c d (⟨256 * n.val + c.val, by have := tile_lt i; have := trip_lt i n; omega⟩ : Fin 4096) (col 0 d) rfl (col_zero d)).trans (H.h3 _ _ _)
  hv c d := (readAt_ix2 (n := 4096) (m := 256) (n' := 256) (m' := 128) arg4 X4 (k0_off1_inb i n) (off1_eq i n) c d (⟨256 * n.val + c.val, by have := tile_lt i; have := trip_lt i n; omega⟩ : Fin 4096) (col 0 d) rfl (col_zero d)).trans (H.h4 _ _ _)
  hc r := by
    obtain ⟨C, hC, hCb⟩ := H.h6 (⟨0 + r.val, by omega⟩ : Fin 512) 0
    refine ⟨C, fun d => ?_, fun _ => ?_⟩
    · exact (readAt_ix2 (n := 512) (m := 256) (n' := 512) (m' := 128) arg6 X6 inb_S512x256_S512x128_0_0 rfl r d (⟨0 + r.val, by omega⟩ : Fin 512) (col 0 d) rfl (col_zero d)).trans (hC d)
    · rw [hCb _ (by have := trip_lt i n; have := tile_lt i; omega)]
      simp only [Nat.zero_add]

theorem loop_hi {t : ℕ} (H : Ins arg2 arg3 arg4 arg5 arg6 X2 X3 X4 X5 X6 q k v o t) (n : Fin (k0_t1_loop i).trips) :
    In512 (q 1) (k 1) (v 1) (o 1) t n.val
      (arg2.view.readAt (Elt Ideal) hiL X2) (arg5.view.readAt (Elt Ideal) hiL X5) (arg3.view.readAt (Elt Ideal) (hiK i n) X3)
      (arg4.view.readAt (Elt Ideal) (hiK i n) X4) (arg6.view.readAt (Elt Ideal) hiL X6) where
  hb := by have := trip_lt i n; have := tile_lt i; omega
  hq r d := by
    refine (readAt_ix2 (n := 512) (m := 256) (n' := 512) (m' := 128) arg2 X2 inb_S512x256_S512x128_0_128 rfl r d (⟨0 + r.val, by omega⟩ : Fin 512) (col 1 d) rfl (col_one d)).trans ((H.h2 _ _ _).trans ?_)
    simp only [Nat.zero_add]
  ho r d := by
    refine (readAt_ix2 (n := 512) (m := 256) (n' := 512) (m' := 128) arg5 X5 inb_S512x256_S512x128_0_128 rfl r d (⟨0 + r.val, by omega⟩ : Fin 512) (col 1 d) rfl (col_one d)).trans ((H.h5 _ _ _).trans ?_)
    simp only [Nat.zero_add]
  hk c d := (readAt_ix2 (n := 4096) (m := 256) (n' := 256) (m' := 128) arg3 X3 (k0_off2_inb i n) (off2_eq i n) c d (⟨256 * n.val + c.val, by have := tile_lt i; have := trip_lt i n; omega⟩ : Fin 4096) (col 1 d) rfl (col_one d)).trans (H.h3 _ _ _)
  hv c d := (readAt_ix2 (n := 4096) (m := 256) (n' := 256) (m' := 128) arg4 X4 (k0_off2_inb i n) (off2_eq i n) c d (⟨256 * n.val + c.val, by have := tile_lt i; have := trip_lt i n; omega⟩ : Fin 4096) (col 1 d) rfl (col_one d)).trans (H.h4 _ _ _)
  hc r := by
    obtain ⟨C, hC, hCb⟩ := H.h6 (⟨0 + r.val, by omega⟩ : Fin 512) 1
    refine ⟨C, fun d => ?_, fun _ => ?_⟩
    · exact (readAt_ix2 (n := 512) (m := 256) (n' := 512) (m' := 128) arg6 X6 inb_S512x256_S512x128_0_128 rfl r d (⟨0 + r.val, by omega⟩ : Fin 512) (col 1 d) rfl (col_one d)).trans (hC d)
    · rw [hCb _ (by have := trip_lt i n; have := tile_lt i; omega)]
      simp only [Nat.zero_add]

theorem upper_lo {t : ℕ} (H : Ins arg2 arg3 arg4 arg5 arg6 X2 X3 X4 X5 X6 q k v o t) :
    In512 (q 0) (k 0) (v 0) (o 0) t (2 * tile i)
      (arg2.view.readAt (Elt Ideal) loQ.toLoadRect X2) (arg5.view.readAt (Elt Ideal) loQ.toLoadRect X5) (arg3.view.readAt (Elt Ideal) (loB0 i).toLoadRect X3)
      (arg4.view.readAt (Elt Ideal) (loB0 i).toLoadRect X4) (arg6.view.readAt (Elt Ideal) loQ.toLoadRect X6) where
  hb := by have := tile_lt i; omega
  hq r d := by
    refine (readAt_ix2 (n := 512) (m := 256) (n' := 512) (m' := 128) arg2 X2 inb_S512x256_S512x128_0_0 rfl r d (⟨0 + r.val, by omega⟩ : Fin 512) (col 0 d) rfl (col_zero d)).trans ((H.h2 _ _ _).trans ?_)
    simp only [Nat.zero_add]
  ho r d := by
    refine (readAt_ix2 (n := 512) (m := 256) (n' := 512) (m' := 128) arg5 X5 inb_S512x256_S512x128_0_0 rfl r d (⟨0 + r.val, by omega⟩ : Fin 512) (col 0 d) rfl (col_zero d)).trans ((H.h5 _ _ _).trans ?_)
    simp only [Nat.zero_add]
  hk c d := (readAt_ix2 (n := 4096) (m := 256) (n' := 256) (m' := 128) arg3 X3 (k0_off5_inb i 0) (off5_eq i 0) c d (⟨256 * (2 * tile i) + c.val, by have := tile_lt i; omega⟩ : Fin 4096) (col 0 d) rfl (col_zero d)).trans (H.h3 _ _ _)
  hv c d := (readAt_ix2 (n := 4096) (m := 256) (n' := 256) (m' := 128) arg4 X4 (k0_off5_inb i 0) (off5_eq i 0) c d (⟨256 * (2 * tile i) + c.val, by have := tile_lt i; omega⟩ : Fin 4096) (col 0 d) rfl (col_zero d)).trans (H.h4 _ _ _)
  hc r := by
    obtain ⟨C, hC, hCb⟩ := H.h6 (⟨0 + r.val, by omega⟩ : Fin 512) 0
    refine ⟨C, fun d => ?_, fun _ => ?_⟩
    · exact (readAt_ix2 (n := 512) (m := 256) (n' := 512) (m' := 128) arg6 X6 inb_S512x256_S512x128_0_0 rfl r d (⟨0 + r.val, by omega⟩ : Fin 512) (col 0 d) rfl (col_zero d)).trans (hC d)
    · rw [hCb _ (by have := tile_lt i; omega)]
      simp only [Nat.zero_add]

theorem upper_hi {t : ℕ} (H : Ins arg2 arg3 arg4 arg5 arg6 X2 X3 X4 X5 X6 q k v o t) :
    In512 (q 1) (k 1) (v 1) (o 1) t (2 * tile i)
      (arg2.view.readAt (Elt Ideal) hiQ.toLoadRect X2) (arg5.view.readAt (Elt Ideal) hiQ.toLoadRect X5) (arg3.view.readAt (Elt Ideal) (hiB0 i).toLoadRect X3)
      (arg4.view.readAt (Elt Ideal) (hiB0 i).toLoadRect X4) (arg6.view.readAt (Elt Ideal) hiQ.toLoadRect X6) where
  hb := by have := tile_lt i; omega
  hq r d := by
    refine (readAt_ix2 (n := 512) (m := 256) (n' := 512) (m' := 128) arg2 X2 inb_S512x256_S512x128_0_128 rfl r d (⟨0 + r.val, by omega⟩ : Fin 512) (col 1 d) rfl (col_one d)).trans ((H.h2 _ _ _).trans ?_)
    simp only [Nat.zero_add]
  ho r d := by
    refine (readAt_ix2 (n := 512) (m := 256) (n' := 512) (m' := 128) arg5 X5 inb_S512x256_S512x128_0_128 rfl r d (⟨0 + r.val, by omega⟩ : Fin 512) (col 1 d) rfl (col_one d)).trans ((H.h5 _ _ _).trans ?_)
    simp only [Nat.zero_add]
  hk c d := (readAt_ix2 (n := 4096) (m := 256) (n' := 256) (m' := 128) arg3 X3 (k0_off6_inb i 0) (off6_eq i 0) c d (⟨256 * (2 * tile i) + c.val, by have := tile_lt i; omega⟩ : Fin 4096) (col 1 d) rfl (col_one d)).trans (H.h3 _ _ _)
  hv c d := (readAt_ix2 (n := 4096) (m := 256) (n' := 256) (m' := 128) arg4 X4 (k0_off6_inb i 0) (off6_eq i 0) c d (⟨256 * (2 * tile i) + c.val, by have := tile_lt i; omega⟩ : Fin 4096) (col 1 d) rfl (col_one d)).trans (H.h4 _ _ _)
  hc r := by
    obtain ⟨C, hC, hCb⟩ := H.h6 (⟨0 + r.val, by omega⟩ : Fin 512) 1
    refine ⟨C, fun d => ?_, fun _ => ?_⟩
    · exact (readAt_ix2 (n := 512) (m := 256) (n' := 512) (m' := 128) arg6 X6 inb_S512x256_S512x128_0_128 rfl r d (⟨0 + r.val, by omega⟩ : Fin 512) (col 1 d) rfl (col_one d)).trans (hC d)
    · rw [hCb _ (by have := tile_lt i; omega)]
      simp only [Nat.zero_add]

theorem lower_lo {t : ℕ} (H : Ins arg2 arg3 arg4 arg5 arg6 X2 X3 X4 X5 X6 q k v o t) :
    In256 (q 0) (k 0) (v 0) (o 0) (t + 256) (2 * tile i + 1)
      (arg2.view.readAt (Elt Ideal) loR.toLoadRect X2) (arg5.view.readAt (Elt Ideal) loR.toLoadRect X5) (arg3.view.readAt (Elt Ideal) (loB1 i).toLoadRect X3)
      (arg4.view.readAt (Elt Ideal) (loB1 i).toLoadRect X4) (arg6.view.readAt (Elt Ideal) loR.toLoadRect X6) where
  hb := by have := tile_lt i; omega
  hq r d := by
    refine (readAt_ix2 (n := 512) (m := 256) (n' := 256) (m' := 128) arg2 X2 inb_S512x256_S256x128_256_0 rfl r d (⟨256 + r.val, by omega⟩ : Fin 512) (col 0 d) rfl (col_zero d)).trans ((H.h2 _ _ _).trans ?_)
    simp only [← Nat.add_assoc]
  ho r d := by
    refine (readAt_ix2 (n := 512) (m := 256) (n' := 256) (m' := 128) arg5 X5 inb_S512x256_S256x128_256_0 rfl r d (⟨256 + r.val, by omega⟩ : Fin 512) (col 0 d) rfl (col_zero d)).trans ((H.h5 _ _ _).trans ?_)
    simp only [← Nat.add_assoc]
  hk c d := (readAt_ix2 (n := 4096) (m := 256) (n' := 256) (m' := 128) arg3 X3 (k0_off5_inb i 1) (off5_eq i 1) c d (⟨256 * (2 * tile i + 1) + c.val, by have := tile_lt i; omega⟩ : Fin 4096) (col 0 d) rfl (col_zero d)).trans (H.h3 _ _ _)
  hv c d := (readAt_ix2 (n := 4096) (m := 256) (n' := 256) (m' := 128) arg4 X4 (k0_off5_inb i 1) (off5_eq i 1) c d (⟨256 * (2 * tile i + 1) + c.val, by have := tile_lt i; omega⟩ : Fin 4096) (col 0 d) rfl (col_zero d)).trans (H.h4 _ _ _)
  hc r := by
    obtain ⟨C, hC, hCb⟩ := H.h6 (⟨256 + r.val, by omega⟩ : Fin 512) 0
    refine ⟨C, fun d => ?_, fun _ => ?_⟩
    · exact (readAt_ix2 (n := 512) (m := 256) (n' := 256) (m' := 128) arg6 X6 inb_S512x256_S256x128_256_0 rfl r d (⟨256 + r.val, by omega⟩ : Fin 512) (col 0 d) rfl (col_zero d)).trans (hC d)
    · rw [hCb _ (by have := tile_lt i; omega)]
      simp only [← Nat.add_assoc]

theorem lower_hi {t : ℕ} (H : Ins arg2 arg3 arg4 arg5 arg6 X2 X3 X4 X5 X6 q k v o t) :
    In256 (q 1) (k 1) (v 1) (o 1) (t + 256) (2 * tile i + 1)
      (arg2.view.readAt (Elt Ideal) hiR.toLoadRect X2) (arg5.view.readAt (Elt Ideal) hiR.toLoadRect X5) (arg3.view.readAt (Elt Ideal) (hiB1 i).toLoadRect X3)
      (arg4.view.readAt (Elt Ideal) (hiB1 i).toLoadRect X4) (arg6.view.readAt (Elt Ideal) hiR.toLoadRect X6) where
  hb := by have := tile_lt i; omega
  hq r d := by
    refine (readAt_ix2 (n := 512) (m := 256) (n' := 256) (m' := 128) arg2 X2 inb_S512x256_S256x128_256_128 rfl r d (⟨256 + r.val, by omega⟩ : Fin 512) (col 1 d) rfl (col_one d)).trans ((H.h2 _ _ _).trans ?_)
    simp only [← Nat.add_assoc]
  ho r d := by
    refine (readAt_ix2 (n := 512) (m := 256) (n' := 256) (m' := 128) arg5 X5 inb_S512x256_S256x128_256_128 rfl r d (⟨256 + r.val, by omega⟩ : Fin 512) (col 1 d) rfl (col_one d)).trans ((H.h5 _ _ _).trans ?_)
    simp only [← Nat.add_assoc]
  hk c d := (readAt_ix2 (n := 4096) (m := 256) (n' := 256) (m' := 128) arg3 X3 (k0_off6_inb i 1) (off6_eq i 1) c d (⟨256 * (2 * tile i + 1) + c.val, by have := tile_lt i; omega⟩ : Fin 4096) (col 1 d) rfl (col_one d)).trans (H.h3 _ _ _)
  hv c d := (readAt_ix2 (n := 4096) (m := 256) (n' := 256) (m' := 128) arg4 X4 (k0_off6_inb i 1) (off6_eq i 1) c d (⟨256 * (2 * tile i + 1) + c.val, by have := tile_lt i; omega⟩ : Fin 4096) (col 1 d) rfl (col_one d)).trans (H.h4 _ _ _)
  hc r := by
    obtain ⟨C, hC, hCb⟩ := H.h6 (⟨256 + r.val, by omega⟩ : Fin 512) 1
    refine ⟨C, fun d => ?_, fun _ => ?_⟩
    · exact (readAt_ix2 (n := 512) (m := 256) (n' := 256) (m' := 128) arg6 X6 inb_S512x256_S256x128_256_128 rfl r d (⟨256 + r.val, by omega⟩ : Fin 512) (col 1 d) rfl (col_one d)).trans (hC d)
    · rw [hCb _ (by have := tile_lt i; omega)]
      simp only [← Nat.add_assoc]

end Cert.KernelIdeal.Tile

end
-- ==== Proof.State.lean ====
/-
  The accumulators of a grid point after each block of keys, and at the end.
-/
module

public import proofs.«01_k».proof.Proof.Inputs

@[expose] public section

set_option maxRecDepth 16384

noncomputable section

namespace Cert.KernelIdeal.Tile

open Idealize.ShloMosaic Idealize.ShloMosaic.TcCoe Cert.KernelIdeal Cert.KernelIdeal.Gen Cert.Spec

variable (c : Dev nD) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (q k v o Ek Ev : Arr)
  (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)
  (G7 : BufTy.Contents (Elt Ideal) arg7.view.ty) (G8 : BufTy.Contents (Elt Ideal) arg8.view.ty)
  (G9 : BufTy.Contents (Elt Ideal) arg9.view.ty) (G10 : BufTy.Contents (Elt Ideal) arg10.view.ty)

/-- What the accumulators hold after the blocks of keys before `b`. -/
structure Holds (t b : ℕ) : Prop where
  h7 : ∀ (r : Fin 512) h d, arg7.view.read (Elt Ideal) f7 (ix2 r (col h d)) = ((accQ q k v o t b h r d : ℝ) : EReal)
  h8 : ∀ (s : Fin 4096) h d, arg8.view.read (Elt Ideal) f8 (ix2 s (col h d)) = ((accK q k v o Ek t b h s d : ℝ) : EReal)
  h9 : ∀ (s : Fin 4096) h d, arg9.view.read (Elt Ideal) f9 (ix2 s (col h d)) = ((accV q k o Ev t b h s d : ℝ) : EReal)
  h10 : ∀ (r : Fin 512) (h : Fin 2), arg10.view.read (Elt Ideal) f10 (ix3 h r 0)
    = ((earlier (rows (q h) (k h)) (rows (o h) (v h)) (t + r) b : ℝ) : EReal)

/-- The accumulators' contents after a list of writes. -/
abbrev Writes.Holds (N : Writes Ideal) (t b : ℕ) : Prop :=
  Tile.Holds arg7 arg8 arg9 arg10 q k v o Ek Ev (arg7.view.writes (Elt Ideal) G7 N.q) (arg8.view.writes (Elt Ideal) G8 N.k)
    (arg9.view.writes (Elt Ideal) G9 N.v) (arg10.view.writes (Elt Ideal) G10 N.p) t b

variable {X2 X3 X4 X5 X6 q k v o Ek Ev f7 f8 f9 f10}

set_option maxHeartbeats 1000000 in
theorem trip_holds {t : ℕ} (H : Ins arg2 arg3 arg4 arg5 arg6 X2 X3 X4 X5 X6 q k v o t) (n : Fin (k0_t1_loop i).trips) (hn : 256 * (n.val + 1) ≤ t)
    (S : Holds arg7 arg8 arg9 arg10 q k v o Ek Ev f7 f8 f9 f10 t n.val) :
    Holds arg7 arg8 arg9 arg10 q k v o Ek Ev
      (arg7.view.writes (Elt Ideal) f7 (tripL_k0_t1 (F := Ideal) Variants.none c none i arg2 harg2 arg3 harg3 arg4 harg4 arg5 harg5 arg6 harg6 arg7 harg7 arg8 harg8 arg9 harg9 arg10 harg10 lane X2 X3 X4 X5 X6 n f7 f8 f9 f10).1)
      (arg8.view.writes (Elt Ideal) f8 (tripL_k0_t1 (F := Ideal) Variants.none c none i arg2 harg2 arg3 harg3 arg4 harg4 arg5 harg5 arg6 harg6 arg7 harg7 arg8 harg8 arg9 harg9 arg10 harg10 lane X2 X3 X4 X5 X6 n f7 f8 f9 f10).2.1)
      (arg9.view.writes (Elt Ideal) f9 (tripL_k0_t1 (F := Ideal) Variants.none c none i arg2 harg2 arg3 harg3 arg4 harg4 arg5 harg5 arg6 harg6 arg7 harg7 arg8 harg8 arg9 harg9 arg10 harg10 lane X2 X3 X4 X5 X6 n f7 f8 f9 f10).2.2.1)
      (arg10.view.writes (Elt Ideal) f10 (tripL_k0_t1 (F := Ideal) Variants.none c none i arg2 harg2 arg3 harg3 arg4 harg4 arg5 harg5 arg6 harg6 arg7 harg7 arg8 harg8 arg9 harg9 arg10 harg10 lane X2 X3 X4 X5 X6 n f7 f8 f9 f10).2.2.2) t (n.val + 1) := by
  have L0 := loop_lo i arg2 arg3 arg4 arg5 arg6 H n
  have L1 := loop_hi i arg2 arg3 arg4 arg5 arg6 H n
  have P0 := (fun r => (readAt_ix3 (n := 512) (n' := 512) arg10 f10 inb_S2x512x1_S1x512x1_0_0_0 r 0 r rfl (Nat.zero_add _).symm).trans (S.h10 r 0))
  have P1 := (fun r => (readAt_ix3 (n := 512) (n' := 512) arg10 f10 inb_S2x512x1_S1x512x1_1_0_0 r 1 r rfl (Nat.zero_add _).symm).trans (S.h10 r 1))
  have hlt := trip_lt i n
  have hti := tile_lt i
  rw [trip_pieces]
  simp only [word_eq]
  refine ⟨fun r h d => ?_, fun s h d => ?_, fun s h d => ?_, fun r h => ?_⟩
  · refine (pair_read (n := 512) (n' := 512) (o := 0) arg7 f7 [] inb_S512x256_S512x128_0_0 inb_S512x256_S512x128_0_128 rfl rfl
      (D := accQ q k v o t n.val)
      (U := fun h r d => ∑ c : Fin 256, dzr q k v o h (t + r) (256 * n.val + c) * k h (256 * n.val + c) d)
      S.h7 _ _ (fun r d => ?_) (fun r d => ?_) r h d).trans ?_
    · rw [Nat.zero_add]
      exact loopQ L0 hn r d (P0 r) ((readAt_ix2 (n := 512) (m := 256) (n' := 512) (m' := 128) arg7 f7 inb_S512x256_S512x128_0_0 rfl r d r (col 0 d) (Nat.zero_add _).symm (col_zero d)).trans (S.h7 r 0 d))
    · rw [Nat.zero_add]
      exact loopQ L1 hn r d (P1 r) ((readAt_ix2 (n := 512) (m := 256) (n' := 512) (m' := 128) arg7 f7 inb_S512x256_S512x128_0_128 rfl r d r (col 1 d) (Nat.zero_add _).symm (col_one d)).trans (S.h7 r 1 d))
    · rw [if_pos ⟨Nat.zero_le _, by omega⟩, Nat.sub_zero, accQ_succ]
  · refine (pair_read (n := 4096) (n' := 256) (o := 256 * n.val) arg8 f8 [] (k0_off1_inb i n) (k0_off2_inb i n) (off1_eq i n) (off2_eq i n)
      (D := accK q k v o Ek t n.val)
      (U := fun h c d => ∑ r : Fin 512, dzr q k v o h (t + r) (256 * n.val + c) * q h (t + r) d)
      S.h8 _ _ (fun r d => ?_) (fun r d => ?_) s h d).trans ?_
    · exact loopK L0 hn r d P0 ((readAt_ix2 (n := 4096) (m := 256) (n' := 256) (m' := 128) arg8 f8 (k0_off1_inb i n) (off1_eq i n) r d ⟨256 * n.val + r, by omega⟩ (col 0 d) rfl (col_zero d)).trans (S.h8 _ 0 d))
    · exact loopK L1 hn r d P1 ((readAt_ix2 (n := 4096) (m := 256) (n' := 256) (m' := 128) arg8 f8 (k0_off2_inb i n) (off2_eq i n) r d ⟨256 * n.val + r, by omega⟩ (col 1 d) rfl (col_one d)).trans (S.h8 _ 1 d))
    · rw [accK_succ]
  · refine (pair_read (n := 4096) (n' := 256) (o := 256 * n.val) arg9 f9 [] (k0_off1_inb i n) (k0_off2_inb i n) (off1_eq i n) (off2_eq i n)
      (D := accV q k o Ev t n.val)
      (U := fun h c d => ∑ r : Fin 512, wtr q k h (t + r) (256 * n.val + c) * o h (t + r) d)
      S.h9 _ _ (fun r d => ?_) (fun r d => ?_) s h d).trans ?_
    · exact loopV L0 hn r d ((readAt_ix2 (n := 4096) (m := 256) (n' := 256) (m' := 128) arg9 f9 (k0_off1_inb i n) (off1_eq i n) r d ⟨256 * n.val + r, by omega⟩ (col 0 d) rfl (col_zero d)).trans (S.h9 _ 0 d))
    · exact loopV L1 hn r d ((readAt_ix2 (n := 4096) (m := 256) (n' := 256) (m' := 128) arg9 f9 (k0_off2_inb i n) (off2_eq i n) r d ⟨256 * n.val + r, by omega⟩ (col 1 d) rfl (col_one d)).trans (S.h9 _ 1 d))
    · rw [accV_succ]
  · exact sums_read arg10 f10 [] _ _ (P := fun h r => earlier (rows (q h) (k h)) (rows (o h) (v h)) (t + r) (n.val + 1))
      (fun r => loopP L0 hn r (P0 r)) (fun r => loopP L1 hn r (P1 r)) h r

theorem loop_holds {t : ℕ} (H : Ins arg2 arg3 arg4 arg5 arg6 X2 X3 X4 X5 X6 q k v o t) (ht : t = 256 * (2 * tile i)) {I : Writes Ideal}
    (S : I.Holds arg7 arg8 arg9 arg10 q k v o Ek Ev G7 G8 G9 G10 t 0) :
    (loop c i arg2 harg2 arg3 harg3 arg4 harg4 arg5 harg5 arg6 harg6 arg7 harg7 arg8 harg8 arg9 harg9 arg10 harg10 X2 X3 X4 X5 X6 G7 G8 G9 G10 I).Holds arg7 arg8 arg9 arg10 q k v o Ek Ev G7 G8 G9 G10 t (2 * tile i) := by
  have key : ∀ n, n ≤ (k0_t1_loop i).trips → Holds arg7 arg8 arg9 arg10 q k v o Ek Ev
      (arg7.view.writes (Elt Ideal) (arg7.view.writes (Elt Ideal) G7 I.q) (pb_k0_t1 (F := Ideal) Variants.none c none i arg2 harg2 arg3 harg3 arg4 harg4 arg5 harg5 arg6 harg6 arg7 harg7 arg8 harg8 arg9 harg9 arg10 harg10 lane X2 X3 X4 X5 X6 (arg7.view.writes (Elt Ideal) G7 I.q) (arg8.view.writes (Elt Ideal) G8 I.k) (arg9.view.writes (Elt Ideal) G9 I.v) (arg10.view.writes (Elt Ideal) G10 I.p) n).1)
      (arg8.view.writes (Elt Ideal) (arg8.view.writes (Elt Ideal) G8 I.k) (pb_k0_t1 (F := Ideal) Variants.none c none i arg2 harg2 arg3 harg3 arg4 harg4 arg5 harg5 arg6 harg6 arg7 harg7 arg8 harg8 arg9 harg9 arg10 harg10 lane X2 X3 X4 X5 X6 (arg7.view.writes (Elt Ideal) G7 I.q) (arg8.view.writes (Elt Ideal) G8 I.k) (arg9.view.writes (Elt Ideal) G9 I.v) (arg10.view.writes (Elt Ideal) G10 I.p) n).2.1)
      (arg9.view.writes (Elt Ideal) (arg9.view.writes (Elt Ideal) G9 I.v) (pb_k0_t1 (F := Ideal) Variants.none c none i arg2 harg2 arg3 harg3 arg4 harg4 arg5 harg5 arg6 harg6 arg7 harg7 arg8 harg8 arg9 harg9 arg10 harg10 lane X2 X3 X4 X5 X6 (arg7.view.writes (Elt Ideal) G7 I.q) (arg8.view.writes (Elt Ideal) G8 I.k) (arg9.view.writes (Elt Ideal) G9 I.v) (arg10.view.writes (Elt Ideal) G10 I.p) n).2.2.1)
      (arg10.view.writes (Elt Ideal) (arg10.view.writes (Elt Ideal) G10 I.p) (pb_k0_t1 (F := Ideal) Variants.none c none i arg2 harg2 arg3 harg3 arg4 harg4 arg5 harg5 arg6 harg6 arg7 harg7 arg8 harg8 arg9 harg9 arg10 harg10 lane X2 X3 X4 X5 X6 (arg7.view.writes (Elt Ideal) G7 I.q) (arg8.view.writes (Elt Ideal) G8 I.k) (arg9.view.writes (Elt Ideal) G9 I.v) (arg10.view.writes (Elt Ideal) G10 I.p) n).2.2.2) t n := by
    intro n
    induction n with
    | zero => exact fun _ => S
    | succ n ih =>
      intro hle
      have hlt := trip_lt i ⟨n, hle⟩
      have := trip_holds c i arg2 harg2 arg3 harg3 arg4 harg4 arg5 harg5 arg6 harg6 arg7 harg7 arg8 harg8 arg9 harg9 arg10 harg10 H ⟨n, hle⟩ (by subst ht; exact Nat.mul_le_mul_left _ hlt) (ih (Nat.le_of_succ_le hle))
      rw [pb_k0_t1_succ (F := Ideal) Variants.none c none i arg2 harg2 arg3 harg3 arg4 harg4 arg5 harg5 arg6 harg6 arg7 harg7 arg8 harg8 arg9 harg9 arg10 harg10 lane X2 X3 X4 X5 X6 _ _ _ _ ⟨n, hle⟩]
      simpa only [View.writes_append] using this
  have := key _ (le_refl _)
  rw [trips1] at this
  unfold loop Writes.Holds
  simp only [View.writes_append, trips1]
  exact this

theorem loop2_eq (I : Writes Ideal) : loop2 c i arg2 harg2 arg3 harg3 arg4 harg4 arg5 harg5 arg6 harg6 arg7 harg7 arg8 harg8 arg9 harg9 arg10 harg10 X2 X3 X4 X5 X6 G7 G8 G9 G10 I = I := by
  unfold loop2
  rw [trips2]
  rfl

set_option maxHeartbeats 1000000 in
theorem bandA_holds {t : ℕ} (H : Ins arg2 arg3 arg4 arg5 arg6 X2 X3 X4 X5 X6 q k v o t) (ht : t = 256 * (2 * tile i)) {N : Writes Ideal}
    (S : N.Holds arg7 arg8 arg9 arg10 q k v o Ek Ev G7 G8 G9 G10 t (2 * tile i)) :
    (bandA i arg2 arg3 arg4 arg5 arg6 arg7 arg8 arg9 arg10 X2 X3 X4 X5 X6 G7 G8 G9 G10 N).Holds arg7 arg8 arg9 arg10 q k v o Ek Ev G7 G8 G9 G10 t (2 * tile i + 1) := by
  have L0 := upper_lo i arg2 arg3 arg4 arg5 arg6 H
  have L1 := upper_hi i arg2 arg3 arg4 arg5 arg6 H
  have P0 := (fun r => (readAt_ix3 (n := 512) (n' := 512) arg10 (arg10.view.writes (Elt Ideal) G10 N.p) inb_S2x512x1_S1x512x1_0_0_0 r 0 r rfl (Nat.zero_add _).symm).trans (S.h10 r 0))
  have P1 := (fun r => (readAt_ix3 (n := 512) (n' := 512) arg10 (arg10.view.writes (Elt Ideal) G10 N.p) inb_S2x512x1_S1x512x1_1_0_0 r 1 r rfl (Nat.zero_add _).symm).trans (S.h10 r 1))
  have hti := tile_lt i
  have hw : wordB i 0#32 = BitVec.ofNat 32 (2 * tile i) := wordB_eq i 0
  unfold Writes.Holds bandA
  simp only [hw]
  refine ⟨fun r h d => ?_, fun s h d => ?_, fun s h d => ?_, fun r h => ?_⟩
  · refine (two_read (n := 512) (n' := 512) (o := 0) arg7 G7 N.q inb_S512x256_S512x128_0_0 inb_S512x256_S512x128_0_128 rfl rfl
      (D := accQ q k v o t (2 * tile i))
      (U := fun h r d => ∑ c : Fin 256, dzr q k v o h (t + r) (256 * (2 * tile i) + c) * k h (256 * (2 * tile i) + c) d)
      S.h7 _ _ (fun acc ha r d => ?_) (fun acc ha r d => ?_) r h d).trans ?_
    · have := ha r d
      rw [Nat.zero_add] at this ⊢
      exact upperQ L0 ht r d (P0 r) this
    · have := ha r d
      rw [Nat.zero_add] at this ⊢
      exact upperQ L1 ht r d (P1 r) this
    · rw [if_pos ⟨Nat.zero_le _, by omega⟩, Nat.sub_zero, accQ_succ]
  · refine (two_read (n := 4096) (n' := 256) (o := 256 * (2 * tile i)) arg8 G8 N.k (k0_off5_inb i 0) (k0_off6_inb i 0) (off5_eq i 0) (off6_eq i 0)
      (D := accK q k v o Ek t (2 * tile i))
      (U := fun h c d => ∑ r : Fin 512, dzr q k v o h (t + r) (256 * (2 * tile i) + c) * q h (t + r) d)
      S.h8 _ _ (fun acc ha r d => ?_) (fun acc ha r d => ?_) s h d).trans ?_
    · exact upperK L0 ht r d P0 (ha r d)
    · exact upperK L1 ht r d P1 (ha r d)
    · rw [accK_succ]
  · refine (two_read (n := 4096) (n' := 256) (o := 256 * (2 * tile i)) arg9 G9 N.v (k0_off5_inb i 0) (k0_off6_inb i 0) (off5_eq i 0) (off6_eq i 0)
      (D := accV q k o Ev t (2 * tile i))
      (U := fun h c d => ∑ r : Fin 512, wtr q k h (t + r) (256 * (2 * tile i) + c) * o h (t + r) d)
      S.h9 _ _ (fun acc ha r d => ?_) (fun acc ha r d => ?_) s h d).trans ?_
    · exact upperV L0 ht r d (ha r d)
    · exact upperV L1 ht r d (ha r d)
    · rw [accV_succ]
  · exact sums_read arg10 G10 N.p _ _ (P := fun h r => earlier (rows (q h) (k h)) (rows (o h) (v h)) (t + r) (2 * tile i + 1))
      (fun r => upperP L0 ht r (P0 r)) (fun r => upperP L1 ht r (P1 r)) h r

/-- The queries `t`, …, `t + 255` have no key in the last block. -/
theorem accQ_last {t b : ℕ} (ht : t + 256 = 256 * b) (h : Fin 2) (r : ℕ) (d : Fin 128) :
    accQ q k v o t b h r d + (if 256 ≤ r ∧ r < 256 + 256 then
        ∑ c : Fin 256, dzr q k v o h (t + 256 + (r - 256)) (256 * b + c) * k h (256 * b + c) d else 0)
      = if r < 512 then accQ q k v o t (b + 1) h r d else accQ q k v o t b h r d := by
  by_cases h1 : r < 256
  · rw [if_neg (by omega), if_pos (by omega), accQ_succ]
    congr 1
    refine (Finset.sum_eq_zero fun c _ => ?_).symm
    unfold dzr dz
    rw [if_neg (by omega), zero_mul]
  · by_cases h2 : r < 512
    · rw [if_pos (by omega), if_pos h2, accQ_succ, show t + 256 + (r - 256) = t + r by omega]
    · rw [if_neg (by omega), if_neg h2, add_zero]

/-- A sum over the tile's queries, where the upper half contributes nothing. -/
theorem lower_half (F : ℕ → ℝ) (t : ℕ) (h : ∀ r < 256, F (t + r) = 0) :
    ∑ r : Fin 256, F (t + 256 + r) = ∑ r : Fin 512, F (t + r) := by
  rw [← Finset.sum_range (fun r => F (t + 256 + r)), ← Finset.sum_range (fun r => F (t + r)), Finset.sum_range_add _ 256 256,
    Finset.sum_eq_zero fun r hr => h r (Finset.mem_range.mp hr), zero_add]
  exact Finset.sum_congr rfl fun r _ => by rw [Nat.add_assoc]

set_option maxHeartbeats 1000000 in
theorem bandB_holds {t : ℕ} (H : Ins arg2 arg3 arg4 arg5 arg6 X2 X3 X4 X5 X6 q k v o t) (ht : t = 256 * (2 * tile i)) {N : Writes Ideal}
    (S : N.Holds arg7 arg8 arg9 arg10 q k v o Ek Ev G7 G8 G9 G10 t (2 * tile i + 1)) :
    (∀ (r : Fin 512) h d, arg7.view.read (Elt Ideal) (arg7.view.writes (Elt Ideal) G7 (bandB i arg2 arg3 arg4 arg5 arg6 arg7 arg8 arg9 arg10 X2 X3 X4 X5 X6 G7 G8 G9 G10 N).q) (ix2 r (col h d))
      = ((accQ q k v o t (2 * tile i + 1 + 1) h r d : ℝ) : EReal)) ∧
    (∀ (s : Fin 4096) h d, arg8.view.read (Elt Ideal) (arg8.view.writes (Elt Ideal) G8 (bandB i arg2 arg3 arg4 arg5 arg6 arg7 arg8 arg9 arg10 X2 X3 X4 X5 X6 G7 G8 G9 G10 N).k) (ix2 s (col h d))
      = ((accK q k v o Ek t (2 * tile i + 1 + 1) h s d : ℝ) : EReal)) ∧
    (∀ (s : Fin 4096) h d, arg9.view.read (Elt Ideal) (arg9.view.writes (Elt Ideal) G9 (bandB i arg2 arg3 arg4 arg5 arg6 arg7 arg8 arg9 arg10 X2 X3 X4 X5 X6 G7 G8 G9 G10 N).v) (ix2 s (col h d))
      = ((accV q k o Ev t (2 * tile i + 1 + 1) h s d : ℝ) : EReal)) := by
  have L0 := lower_lo i arg2 arg3 arg4 arg5 arg6 H
  have L1 := lower_hi i arg2 arg3 arg4 arg5 arg6 H
  have ht' : t + 256 = 256 * (2 * tile i + 1) := by omega
  have P0 : ∀ r : Fin 256, _ := fun r : Fin 256 => (readAt_ix3 (n := 512) (n' := 256) arg10 (arg10.view.writes (Elt Ideal) G10 N.p) inb_S2x512x1_S1x256x1_0_256_0 r 0 ⟨256 + r.val, by omega⟩ rfl rfl).trans ((S.h10 _ 0).trans (by rw [← Nat.add_assoc]))
  have P1 : ∀ r : Fin 256, _ := fun r : Fin 256 => (readAt_ix3 (n := 512) (n' := 256) arg10 (arg10.view.writes (Elt Ideal) G10 N.p) inb_S2x512x1_S1x256x1_1_256_0 r 1 ⟨256 + r.val, by omega⟩ rfl rfl).trans ((S.h10 _ 1).trans (by rw [← Nat.add_assoc]))
  have hti := tile_lt i
  have hw : wordB i 1#32 = BitVec.ofNat 32 (2 * tile i + 1) := wordB_eq i 1
  unfold bandB
  simp only [hw]
  refine ⟨fun r h d => ?_, fun s h d => ?_, fun s h d => ?_⟩
  · refine (two_read (n := 512) (n' := 256) (o := 256) arg7 G7 N.q inb_S512x256_S256x128_256_0 inb_S512x256_S256x128_256_128 rfl rfl
      (D := accQ q k v o t (2 * tile i + 1))
      (U := fun h r d => ∑ c : Fin 256, dzr q k v o h (t + 256 + r) (256 * (2 * tile i + 1) + c) * k h (256 * (2 * tile i + 1) + c) d)
      S.h7 _ _ (fun acc ha r d => ?_) (fun acc ha r d => ?_) r h d).trans ?_
    · exact lowerQ L0 ht' r d (P0 r) (ha r d)
    · exact lowerQ L1 ht' r d (P1 r) (ha r d)
    · rw [accQ_last ht', if_pos r.isLt]
  · refine (two_read (n := 4096) (n' := 256) (o := 256 * (2 * tile i + 1)) arg8 G8 N.k (k0_off5_inb i 1) (k0_off6_inb i 1) (off5_eq i 1) (off6_eq i 1)
      (D := accK q k v o Ek t (2 * tile i + 1))
      (U := fun h c d => ∑ r : Fin 512, dzr q k v o h (t + r) (256 * (2 * tile i + 1) + c) * q h (t + r) d)
      S.h8 _ _ (fun acc ha r d => (lowerK L0 ht' r d P0 (ha r d)).trans ?_) (fun acc ha r d => (lowerK L1 ht' r d P1 (ha r d)).trans ?_) s h d).trans ?_
    · exact congrArg _ (congrArg _ (lower_half (fun x => dzr q k v o 0 x (256 * (2 * tile i + 1) + r) * q 0 x d) t
        fun x hx => by unfold dzr dz; rw [if_neg (by omega), zero_mul]))
    · exact congrArg _ (congrArg _ (lower_half (fun x => dzr q k v o 1 x (256 * (2 * tile i + 1) + r) * q 1 x d) t
        fun x hx => by unfold dzr dz; rw [if_neg (by omega), zero_mul]))
    · rw [accK_succ q k v o Ek t (2 * tile i + 1)]
  · refine (two_read (n := 4096) (n' := 256) (o := 256 * (2 * tile i + 1)) arg9 G9 N.v (k0_off5_inb i 1) (k0_off6_inb i 1) (off5_eq i 1) (off6_eq i 1)
      (D := accV q k o Ev t (2 * tile i + 1))
      (U := fun h c d => ∑ r : Fin 512, wtr q k h (t + r) (256 * (2 * tile i + 1) + c) * o h (t + r) d)
      S.h9 _ _ (fun acc ha r d => (lowerV L0 ht' r d (ha r d)).trans ?_) (fun acc ha r d => (lowerV L1 ht' r d (ha r d)).trans ?_) s h d).trans ?_
    · exact congrArg _ (congrArg _ (lower_half (fun x => wtr q k 0 x (256 * (2 * tile i + 1) + r) * o 0 x d) t
        fun x hx => by unfold wtr wt; rw [if_neg (by omega), zero_mul]))
    · exact congrArg _ (congrArg _ (lower_half (fun x => wtr q k 1 x (256 * (2 * tile i + 1) + r) * o 1 x d) t
        fun x hx => by unfold wtr wt; rw [if_neg (by omega), zero_mul]))
    · rw [accV_succ q k o Ev t (2 * tile i + 1)]

/-- What a grid point leaves, from accumulators holding nothing but `Ek` and `Ev`. -/
theorem point_holds {t : ℕ} (H : Ins arg2 arg3 arg4 arg5 arg6 X2 X3 X4 X5 X6 q k v o t) (ht : t = 256 * (2 * tile i)) {I : Writes Ideal}
    (S : I.Holds arg7 arg8 arg9 arg10 q k v o Ek Ev G7 G8 G9 G10 t 0) :
    (∀ (r : Fin 512) h d, arg7.view.read (Elt Ideal) (arg7.view.writes (Elt Ideal) G7 (point c i arg2 harg2 arg3 harg3 arg4 harg4 arg5 harg5 arg6 harg6 arg7 harg7 arg8 harg8 arg9 harg9 arg10 harg10 X2 X3 X4 X5 X6 G7 G8 G9 G10 I).q) (ix2 r (col h d))
      = ((accQ q k v o t (2 * tile i + 1 + 1) h r d : ℝ) : EReal)) ∧
    (∀ (s : Fin 4096) h d, arg8.view.read (Elt Ideal) (arg8.view.writes (Elt Ideal) G8 (point c i arg2 harg2 arg3 harg3 arg4 harg4 arg5 harg5 arg6 harg6 arg7 harg7 arg8 harg8 arg9 harg9 arg10 harg10 X2 X3 X4 X5 X6 G7 G8 G9 G10 I).k) (ix2 s (col h d))
      = ((accK q k v o Ek t (2 * tile i + 1 + 1) h s d : ℝ) : EReal)) ∧
    (∀ (s : Fin 4096) h d, arg9.view.read (Elt Ideal) (arg9.view.writes (Elt Ideal) G9 (point c i arg2 harg2 arg3 harg3 arg4 harg4 arg5 harg5 arg6 harg6 arg7 harg7 arg8 harg8 arg9 harg9 arg10 harg10 X2 X3 X4 X5 X6 G7 G8 G9 G10 I).v) (ix2 s (col h d))
      = ((accV q k o Ev t (2 * tile i + 1 + 1) h s d : ℝ) : EReal)) := by
  unfold point
  rw [loop2_eq]
  exact bandB_holds i arg2 arg3 arg4 arg5 arg6 arg7 arg8 arg9 arg10 G7 G8 G9 G10 H ht (bandA_holds i arg2 arg3 arg4 arg5 arg6 arg7 arg8 arg9 arg10 G7 G8 G9 G10 H ht
    (loop_holds c i arg2 harg2 arg3 harg3 arg4 harg4 arg5 harg5 arg6 harg6 arg7 harg7 arg8 harg8 arg9 harg9 arg10 harg10 G7 G8 G9 G10 H ht S))

end Cert.KernelIdeal.Tile

end
-- ==== Proof.Point.lean ====
/-
  What a grid point leaves in its blocks of the three results.
-/
module

public import proofs.«01_k».proof.Proof.State
public import proofs.«01_k».proof.Proof.Gen.KernelIdeal.Value

@[expose] public section

set_option maxRecDepth 16384

noncomputable section

namespace Cert.KernelIdeal.Tile

open Idealize.ShloMosaic Idealize.ShloMosaic.TcCoe Cert.KernelIdeal Cert.KernelIdeal.Gen Cert.Spec

/-! ## A run's results are what its writes leave in the buffers -/

section

variable {F : FTy → Type} [FloatOps F]
variable (c : Dev nD) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (x0 : Vec F S512x256 .bf16) (x1 : Vec F S4096x256 .bf16) (x2 : Vec F S4096x256 .bf16) (x3 : Vec F S512x256 .bf16)
  (x4 : Vec F S512x256 .f32) (xo6 xo7 : Vec F S4096x256 .f32)

theorem left_A_5 (hc : cond0_0 i) :
    out0_A_5 (F := F) c i arg2 harg2 arg3 harg3 arg4 harg4 arg5 harg5 arg6 harg6 arg7 harg7 arg8 harg8 arg9 harg9 arg10 harg10 hc x0 x1 x2 x3 x4
      = arg7.view.read (Elt F) (arg7.view.writes (Elt F) arg7.view.junk (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk arg8.view.junk arg9.view.junk arg10.view.junk initA).q) := by
  have hcov := cover0_A_5 (F := F) c i arg2 harg2 arg3 harg3 arg4 harg4 arg5 harg5 arg6 harg6 arg7 harg7 arg8 harg8 arg9 harg9 arg10 harg10 hc x0 x1 x2 x3 x4
  rw [← runA_q c i arg2 harg2 arg3 harg3 arg4 harg4 arg5 harg5 arg6 harg6 arg7 harg7 arg8 harg8 arg9 harg9 arg10 harg10 x0 x1 x2 x3 x4 hc]
  exact (View.read_writes_eq_canon VO0_5 _ _ hcov).trans (View.read_writes_eq_canon arg7.view _ _ hcov).symm

theorem left_A_6 (hc : cond0_0 i) :
    out0_A_6 (F := F) c i arg2 harg2 arg3 harg3 arg4 harg4 arg5 harg5 arg6 harg6 arg7 harg7 arg8 harg8 arg9 harg9 arg10 harg10 hc x0 x1 x2 x3 x4
      = arg8.view.read (Elt F) (arg8.view.writes (Elt F) arg8.view.junk (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk arg8.view.junk arg9.view.junk arg10.view.junk initA).k) := by
  have hcov := cover0_A_6 (F := F) c i arg2 harg2 arg3 harg3 arg4 harg4 arg5 harg5 arg6 harg6 arg7 harg7 arg8 harg8 arg9 harg9 arg10 harg10 hc x0 x1 x2 x3 x4
  rw [← runA_k c i arg2 harg2 arg3 harg3 arg4 harg4 arg5 harg5 arg6 harg6 arg7 harg7 arg8 harg8 arg9 harg9 arg10 harg10 x0 x1 x2 x3 x4 hc]
  exact (View.read_writes_eq_canon VO0_6 _ _ hcov).trans (View.read_writes_eq_canon arg8.view _ _ hcov).symm

theorem left_A_7 (hc : cond0_0 i) :
    out0_A_7 (F := F) c i arg2 harg2 arg3 harg3 arg4 harg4 arg5 harg5 arg6 harg6 arg7 harg7 arg8 harg8 arg9 harg9 arg10 harg10 hc x0 x1 x2 x3 x4
      = arg9.view.read (Elt F) (arg9.view.writes (Elt F) arg9.view.junk (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk arg8.view.junk arg9.view.junk arg10.view.junk initA).v) := by
  have hcov := cover0_A_7 (F := F) c i arg2 harg2 arg3 harg3 arg4 harg4 arg5 harg5 arg6 harg6 arg7 harg7 arg8 harg8 arg9 harg9 arg10 harg10 hc x0 x1 x2 x3 x4
  rw [← runA_v c i arg2 harg2 arg3 harg3 arg4 harg4 arg5 harg5 arg6 harg6 arg7 harg7 arg8 harg8 arg9 harg9 arg10 harg10 x0 x1 x2 x3 x4 hc]
  exact (View.read_writes_eq_canon VO0_7 _ _ hcov).trans (View.read_writes_eq_canon arg9.view _ _ hcov).symm

theorem left_B_5 (hc : ¬cond0_0 i) :
    out0_B_5 (F := F) c i arg2 harg2 arg3 harg3 arg4 harg4 arg5 harg5 arg6 harg6 arg7 harg7 arg8 harg8 arg9 harg9 arg10 harg10 hc x0 x1 x2 x3 x4 xo6 xo7
      = arg7.view.read (Elt F) (arg7.view.writes (Elt F) arg7.view.junk (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk (harg8.unread xo6) (harg9.unread xo7) arg10.view.junk initB).q) := by
  have hcov := cover0_B_5 (F := F) c i arg2 harg2 arg3 harg3 arg4 harg4 arg5 harg5 arg6 harg6 arg7 harg7 arg8 harg8 arg9 harg9 arg10 harg10 hc x0 x1 x2 x3 x4 xo6 xo7
  rw [← runB_q c i arg2 harg2 arg3 harg3 arg4 harg4 arg5 harg5 arg6 harg6 arg7 harg7 arg8 harg8 arg9 harg9 arg10 harg10 x0 x1 x2 x3 x4 xo6 xo7 hc]
  exact (View.read_writes_eq_canon VO0_5 _ _ hcov).trans (View.read_writes_eq_canon arg7.view _ _ hcov).symm

theorem left_B_6 (hc : ¬cond0_0 i) :
    out0_B_6 (F := F) c i arg2 harg2 arg3 harg3 arg4 harg4 arg5 harg5 arg6 harg6 arg7 harg7 arg8 harg8 arg9 harg9 arg10 harg10 hc x0 x1 x2 x3 x4 xo6 xo7
      = arg8.view.read (Elt F) (arg8.view.writes (Elt F) (harg8.unread xo6) (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk (harg8.unread xo6) (harg9.unread xo7) arg10.view.junk initB).k) := by
  rw [← runB_k c i arg2 harg2 arg3 harg3 arg4 harg4 arg5 harg5 arg6 harg6 arg7 harg7 arg8 harg8 arg9 harg9 arg10 harg10 x0 x1 x2 x3 x4 xo6 xo7 hc]
  rfl

theorem left_B_7 (hc : ¬cond0_0 i) :
    out0_B_7 (F := F) c i arg2 harg2 arg3 harg3 arg4 harg4 arg5 harg5 arg6 harg6 arg7 harg7 arg8 harg8 arg9 harg9 arg10 harg10 hc x0 x1 x2 x3 x4 xo6 xo7
      = arg9.view.read (Elt F) (arg9.view.writes (Elt F) (harg9.unread xo7) (point c i arg2 harg2 arg3 harg3 arg4 harg4 arg5 harg5 arg6 harg6 arg7 harg7 arg8 harg8 arg9 harg9 arg10 harg10 (harg2.unread x0) (harg3.unread x1) (harg4.unread x2) (harg5.unread x3) (harg6.unread x4) arg7.view.junk (harg8.unread xo6) (harg9.unread xo7) arg10.view.junk initB).v) := by
  rw [← runB_v c i arg2 harg2 arg3 harg3 arg4 harg4 arg5 harg5 arg6 harg6 arg7 harg7 arg8 harg8 arg9 harg9 arg10 harg10 x0 x1 x2 x3 x4 xo6 xo7 hc]
  rfl

end

/-! ## The sums at the end of a point -/

theorem dz_zero (z g : ℕ → ℕ → ℝ) {t s : ℕ} (h : t ≤ s) : dz z g t s = 0 := by
  unfold dz
  rw [if_neg (by omega)]

theorem wt_zero (z : ℕ → ℕ → ℝ) {t s : ℕ} (h : t ≤ s) : wt z t s = 0 := by
  unfold wt
  rw [if_neg (by omega)]

theorem accQ_end (q k v o : Arr) {t n : ℕ} (ht : t = 256 * (2 * n)) (hn : n < 8) (h : Fin 2) {r : ℕ} (hr : r < 512) (d : Fin 128) :
    accQ q k v o t (2 * n + 1 + 1) h r d = ∑ s ∈ Finset.range len, dzr q k v o h (t + r) s * k h s d := by
  unfold accQ
  refine Finset.sum_subset (fun s hs => ?_) (fun s _ hs => ?_)
  · rw [Finset.mem_range] at *
    show s < 4096
    omega
  · rw [Finset.mem_range] at hs
    unfold dzr
    rw [dz_zero _ _ (by omega), zero_mul]

/-- The queries of one more tile. -/
theorem accK_end (q k v o E : Arr) {t n : ℕ} (ht : t = 256 * (2 * n)) {h : Fin 2} {s : ℕ} {d : Fin 128}
    (hE : E h s d = ∑ x ∈ Finset.range (512 * n), dzr q k v o h x s * q h x d) :
    accK q k v o E t (2 * n + 1 + 1) h s d = ∑ x ∈ Finset.range (512 * (n + 1)), dzr q k v o h x s * q h x d := by
  have e : (if s < 256 * (2 * n + 1 + 1) then ∑ r : Fin 512, dzr q k v o h (t + r) s * q h (t + r) d else 0)
      = ∑ r : Fin 512, dzr q k v o h (t + r) s * q h (t + r) d := by
    by_cases hs : s < 256 * (2 * n + 1 + 1)
    · exact if_pos hs
    · rw [if_neg hs]
      refine (Finset.sum_eq_zero fun r _ => ?_).symm
      unfold dzr
      rw [dz_zero _ _ (by omega), zero_mul]
  unfold accK
  rw [e, hE, show 512 * (n + 1) = 512 * n + 512 by ring, Finset.sum_range_add,
    Finset.sum_range (fun x => dzr q k v o h (512 * n + x) s * q h (512 * n + x) d), show t = 512 * n by omega]

theorem accV_end (q k o E : Arr) {t n : ℕ} (ht : t = 256 * (2 * n)) {h : Fin 2} {s : ℕ} {d : Fin 128}
    (hE : E h s d = ∑ x ∈ Finset.range (512 * n), wtr q k h x s * o h x d) :
    accV q k o E t (2 * n + 1 + 1) h s d = ∑ x ∈ Finset.range (512 * (n + 1)), wtr q k h x s * o h x d := by
  have e : (if s < 256 * (2 * n + 1 + 1) then ∑ r : Fin 512, wtr q k h (t + r) s * o h (t + r) d else 0)
      = ∑ r : Fin 512, wtr q k h (t + r) s * o h (t + r) d := by
    by_cases hs : s < 256 * (2 * n + 1 + 1)
    · exact if_pos hs
    · rw [if_neg hs]
      refine (Finset.sum_eq_zero fun r _ => ?_).symm
      unfold wtr
      rw [wt_zero _ (by omega), zero_mul]
  unfold accV
  rw [e, hE, show 512 * (n + 1) = 512 * n + 512 by ring, Finset.sum_range_add,
    Finset.sum_range (fun x => wtr q k h (512 * n + x) s * o h (512 * n + x) d), show t = 512 * n by omega]

theorem pay60_apply (j : S512x256.Idx) : k0_pay60 (F := Ideal) j = ((0 : ℝ) : EReal) := by
  unfold k0_pay60
  pointwise
  norm_num

theorem pay58_apply (j : S4096x256.Idx) : k0_pay58 (F := Ideal) j = ((0 : ℝ) : EReal) := by
  unfold k0_pay58
  pointwise
  norm_num

theorem pay59_apply (j : S4096x256.Idx) : k0_pay59 (F := Ideal) j = ((0 : ℝ) : EReal) := by
  unfold k0_pay59
  pointwise
  norm_num

theorem pay61_apply (j : S2x512x1.Idx) : k0_pay61 (F := Ideal) j = ((0 : ℝ) : EReal) := by
  unfold k0_pay61
  pointwise
  norm_num

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulators as a point sets them -/

section

variable (arg7 : Memref sig .tc .vmem S512x256 .f32) (arg8 : Memref sig .tc .vmem S4096x256 .f32) (harg8 : arg8.IsWhole)
  (arg9 : Memref sig .tc .vmem S4096x256 .f32) (harg9 : arg9.IsWhole) (arg10 : Memref sig .tc .vmem S2x512x1 .f32)
  (G7 : BufTy.Contents (Elt Ideal) arg7.view.ty) (G8 : BufTy.Contents (Elt Ideal) arg8.view.ty)
  (G9 : BufTy.Contents (Elt Ideal) arg9.view.ty) (G10 : BufTy.Contents (Elt Ideal) arg10.view.ty) (q k v o Ek Ev : Arr) (t : ℕ)

theorem init7 (r : Fin 512) (h : Fin 2) (d : Fin 128) :
    arg7.view.read (Elt Ideal) (arg7.view.writes (Elt Ideal) G7 [⟨Rect.unit ![0, 0] ![512, 256] inb_S512x256_S512x256_0_0, k0_pay60 (F := Ideal)⟩])
      (ix2 r (col h d)) = ((accQ q k v o t 0 h r d : ℝ) : EReal) := by
  refine (View.read_writes_cons_unit_of_mem (s := S512x256) arg7.view G7 inb_S512x256_S512x256_0_0 (k0_pay60 (F := Ideal)) []
    (ix2 r (col h d)) (ix2 r (col h d)) rfl fun a => ?_).trans ?_
  · match a with
    | 0 => exact (Nat.zero_add _).symm
    | 1 => exact (Nat.zero_add _).symm
  · rw [pay60_apply]
    rfl

theorem init10 (r : Fin 512) (h : Fin 2) :
    arg10.view.read (Elt Ideal) (arg10.view.writes (Elt Ideal) G10 [⟨Rect.unit ![0, 0, 0] ![2, 512, 1] inb_S2x512x1_S2x512x1_0_0_0, k0_pay61 (F := Ideal)⟩])
      (ix3 h r 0) = ((earlier (rows (q h) (k h)) (rows (o h) (v h)) (t + r) 0 : ℝ) : EReal) := by
  refine (View.read_writes_cons_unit_of_mem (s := S2x512x1) arg10.view G10 inb_S2x512x1_S2x512x1_0_0_0 (k0_pay61 (F := Ideal)) []
    (ix3 h r 0) (ix3 h r 0) rfl fun a => ?_).trans ?_
  · match a with
    | 0 => exact (Nat.zero_add _).symm
    | 1 => exact (Nat.zero_add _).symm
    | 2 => exact (Nat.zero_add _).symm
  · rw [pay61_apply]
    rfl

theorem initA_holds : (initA : Writes Ideal).Holds arg7 arg8 arg9 arg10 q k v o (fun _ _ _ => 0) (fun _ _ _ => 0) G7 G8 G9 G10 t 0 := by
  refine ⟨init7 arg7 G7 q k v o t, fun s h d => ?_, fun s h d => ?_, init10 arg10 G10 q k v o t⟩
  · refine (View.read_writes_cons_unit_of_mem (s := S4096x256) arg8.view G8 inb_S4096x256_S4096x256_0_0 (k0_pay58 (F := Ideal)) []
      (ix2 s (col h d)) (ix2 s (col h d)) rfl fun a => ?_).trans ?_
    · match a with
      | 0 => exact (Nat.zero_add _).symm
      | 1 => exact (Nat.zero_add _).symm
    · rw [pay58_apply]
      unfold accK
      rw [if_neg (by omega), add_zero]
  · refine (View.read_writes_cons_unit_of_mem (s := S4096x256) arg9.view G9 inb_S4096x256_S4096x256_0_0 (k0_pay59 (F := Ideal)) []
      (ix2 s (col h d)) (ix2 s (col h d)) rfl fun a => ?_).trans ?_
    · match a with
      | 0 => exact (Nat.zero_add _).symm
      | 1 => exact (Nat.zero_add _).symm
    · rw [pay59_apply]
      unfold accV
      rw [if_neg (by omega), add_zero]

theorem initB_holds {xo6 xo7 : Vec Ideal S4096x256 .f32}
    (h6 : ∀ (s : Fin 4096) h d, xo6 (ix2 s (col h d)) = ((Ek h s d : ℝ) : EReal))
    (h7 : ∀ (s : Fin 4096) h d, xo7 (ix2 s (col h d)) = ((Ev h s d : ℝ) : EReal)) :
    (initB : Writes Ideal).Holds arg7 arg8 arg9 arg10 q k v o Ek Ev G7 (harg8.unread xo6) (harg9.unread xo7) G10 t 0 := by
  refine ⟨init7 arg7 G7 q k v o t, fun s h d => ?_, fun s h d => ?_, init10 arg10 G10 q k v o t⟩
  · refine (congrFun (harg8.read_unread xo6) _).trans ((h6 s h d).trans ?_)
    unfold accK
    rw [if_neg (by omega), add_zero]
  · refine (congrFun (harg9.read_unread xo7) _).trans ((h7 s h d).trans ?_)
    unfold accV
    rw [if_neg (by omega), add_zero]

end

/-! ## The values a run leaves -/

section

variable (c : Dev nD) (i : grid0.Coords)
  (arg2 : Memref sig .tc .vmem S512x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S512x256 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S2x512x1 .f32) (harg10 : arg10.IsWhole)
  (x0 : Vec Ideal S512x256 .bf16) (x1 : Vec Ideal S4096x256 .bf16) (x2 : Vec Ideal S4096x256 .bf16)
  (x3 : Vec Ideal S512x256 .bf16) (x4 : Vec Ideal S512x256 .f32) (xo6 xo7 : Vec Ideal S4096x256 .f32)
  {q k v o : Arr} {t : ℕ}
  (H : Ins arg2 arg3 arg4 arg5 arg6 (harg2.unread x0) (harg3.unread x1) (harg4.unread x2) (harg5.unread x3) (harg6.unread x4) q k v o t) (ht : t = 256 * (2 * tile i))

include H ht

theorem vals_A (hc : cond0_0 i) (h0 : tile i = 0) :
    (∀ (r : Fin 512) h d, out0_A_5 c i arg2 harg2 arg3 harg3 arg4 harg4 arg5 harg5 arg6 harg6 arg7 harg7 arg8 harg8 arg9 harg9 arg10 harg10 hc x0 x1 x2 x3 x4 (ix2 r (col h d))
      = ((∑ s ∈ Finset.range len, dzr q k v o h (t + r) s * k h s d : ℝ) : EReal)) ∧
    (∀ (s : Fin 4096) h d, out0_A_6 c i arg2 harg2 arg3 harg3 arg4 harg4 arg5 harg5 arg6 harg6 arg7 harg7 arg8 harg8 arg9 harg9 arg10 harg10 hc x0 x1 x2 x3 x4 (ix2 s (col h d))
      = ((∑ x ∈ Finset.range (512 * (tile i + 1)), dzr q k v o h x s * q h x d : ℝ) : EReal)) ∧
    (∀ (s : Fin 4096) h d, out0_A_7 c i arg2 harg2 arg3 harg3 arg4 harg4 arg5 harg5 arg6 harg6 arg7 harg7 arg8 harg8 arg9 harg9 arg10 harg10 hc x0 x1 x2 x3 x4 (ix2 s (col h d))
      = ((∑ x ∈ Finset.range (512 * (tile i + 1)), wtr q k h x s * o h x d : ℝ) : EReal)) := by
  obtain ⟨a5, a6, a7⟩ := point_holds c i arg2 harg2 arg3 harg3 arg4 harg4 arg5 harg5 arg6 harg6 arg7 harg7 arg8 harg8 arg9 harg9 arg10 harg10 _ _ _ _ H ht
    (initA_holds arg7 arg8 arg9 arg10 arg7.view.junk arg8.view.junk arg9.view.junk arg10.view.junk q k v o t)
  refine ⟨fun r h d => ?_, fun s h d => ?_, fun s h d => ?_⟩
  · rw [left_A_5, a5 r h d, accQ_end _ _ _ _ ht (tile_lt _) h r.isLt d]
  · rw [left_A_6, a6 s h d, accK_end _ _ _ _ _ ht (by rw [h0]; rfl)]
  · rw [left_A_7, a7 s h d, accV_end _ _ _ _ ht (by rw [h0]; rfl)]

theorem vals_B (hc : ¬cond0_0 i)
    (h6 : ∀ (s : Fin 4096) h d, xo6 (ix2 s (col h d))
      = ((∑ x ∈ Finset.range (512 * tile i), dzr q k v o h x s * q h x d : ℝ) : EReal))
    (h7 : ∀ (s : Fin 4096) h d, xo7 (ix2 s (col h d))
      = ((∑ x ∈ Finset.range (512 * tile i), wtr q k h x s * o h x d : ℝ) : EReal)) :
    (∀ (r : Fin 512) h d, out0_B_5 c i arg2 harg2 arg3 harg3 arg4 harg4 arg5 harg5 arg6 harg6 arg7 harg7 arg8 harg8 arg9 harg9 arg10 harg10 hc x0 x1 x2 x3 x4 xo6 xo7 (ix2 r (col h d))
      = ((∑ s ∈ Finset.range len, dzr q k v o h (t + r) s * k h s d : ℝ) : EReal)) ∧
    (∀ (s : Fin 4096) h d, out0_B_6 c i arg2 harg2 arg3 harg3 arg4 harg4 arg5 harg5 arg6 harg6 arg7 harg7 arg8 harg8 arg9 harg9 arg10 harg10 hc x0 x1 x2 x3 x4 xo6 xo7 (ix2 s (col h d))
      = ((∑ x ∈ Finset.range (512 * (tile i + 1)), dzr q k v o h x s * q h x d : ℝ) : EReal)) ∧
    (∀ (s : Fin 4096) h d, out0_B_7 c i arg2 harg2 arg3 harg3 arg4 harg4 arg5 harg5 arg6 harg6 arg7 harg7 arg8 harg8 arg9 harg9 arg10 harg10 hc x0 x1 x2 x3 x4 xo6 xo7 (ix2 s (col h d))
      = ((∑ x ∈ Finset.range (512 * (tile i + 1)), wtr q k h x s * o h x d : ℝ) : EReal)) := by
  obtain ⟨a5, a6, a7⟩ := point_holds c i arg2 harg2 arg3 harg3 arg4 harg4 arg5 harg5 arg6 harg6 arg7 harg7 arg8 harg8 arg9 harg9 arg10 harg10 _ _ _ _ H ht
    (initB_holds arg7 arg8 harg8 arg9 harg9 arg10 arg7.view.junk arg10.view.junk q k v o
      (fun h s d => ∑ x ∈ Finset.range (512 * tile i), dzr q k v o h x s * q h x d)
      (fun h s d => ∑ x ∈ Finset.range (512 * tile i), wtr q k h x s * o h x d) t h6 h7)
  refine ⟨fun r h d => ?_, fun s h d => ?_, fun s h d => ?_⟩
  · rw [left_B_5, a5 r h d, accQ_end _ _ _ _ ht (tile_lt _) h r.isLt d]
  · rw [left_B_6, a6 s h d, accK_end _ _ _ _ _ ht rfl]
  · rw [left_B_7, a7 s h d, accV_end _ _ _ _ ht rfl]

end

end Cert.KernelIdeal.Tile

end
-- ==== Proof.Array.lean ====
/-
  The three results of the kernel, entry by entry.
-/
module

public import proofs.«01_k».proof.Proof.Point

@[expose] public section

set_option maxRecDepth 16384

noncomputable section

namespace Cert.KernelIdeal.Tile

open Idealize.ShloMosaic Idealize.ShloMosaic.TcCoe Cert.KernelIdeal Cert.KernelIdeal.Gen Cert.Spec
open Idealize.ShloMosaic.Pipeline (Dat)

/-- Head `n` of an array whose columns are the heads one after the other. -/
def head (X : ℕ → ℕ → ℝ) (n : ℕ) : ℕ → Fin 128 → ℝ := fun s d => X s (128 * n + d)

/-- The gradient of the query `t`, column `e`. -/
def gradQ (Q K V O : ℕ → ℕ → ℝ) (t e : ℕ) : ℝ :=
  ∑ s ∈ Finset.range len, dz (rows (head Q (e / 128)) (head K (e / 128))) (rows (head O (e / 128)) (head V (e / 128))) t s * K s e
/-- The gradient of the key `s`, column `e`. -/
def gradK (Q K V O : ℕ → ℕ → ℝ) (s e : ℕ) : ℝ :=
  ∑ t ∈ Finset.range len, dz (rows (head Q (e / 128)) (head K (e / 128))) (rows (head O (e / 128)) (head V (e / 128))) t s * Q t e
/-- The gradient of the value `s`, column `e`. -/
def gradV (Q K O : ℕ → ℕ → ℝ) (s e : ℕ) : ℝ :=
  ∑ t ∈ Finset.range len, wt (rows (head Q (e / 128)) (head K (e / 128))) t s * O t e

/-- The two heads of pair `p`. -/
def hd (X : ℕ → ℕ → ℝ) (p : ℕ) : Arr := fun h => head X (2 * p + h)

theorem hd_apply (X : ℕ → ℕ → ℝ) (p : ℕ) (h : Fin 2) (s : ℕ) (d : Fin 128) : hd X p h s d = X s (256 * p + col h d) := by
  show X s _ = X s _
  congr 1
  show 128 * (2 * p + h) + d = 256 * p + (128 * h + d)
  ring

variable (m : (ℓ : Loc nD τ sig) → Buf (Elt Ideal) ℓ) (c : Dev nD) (Q K V O : ℕ → ℕ → ℝ)

/-- What the region finds in its five inputs. -/
structure Finds : Prop where
  h0 : ∀ (s : Fin 4096) (e : Fin 1024), Gen.V m c main_arg0 (ix2 s e) = ((Q s e : ℝ) : EReal)
  h1 : ∀ (s : Fin 4096) (e : Fin 1024), Gen.V m c main_arg1 (ix2 s e) = ((K s e : ℝ) : EReal)
  h2 : ∀ (s : Fin 4096) (e : Fin 1024), Gen.V m c main_arg2 (ix2 s e) = ((V s e : ℝ) : EReal)
  h3 : ∀ (s : Fin 4096) (e : Fin 1024), Gen.V m c main_arg3 (ix2 s e) = ((O s e : ℝ) : EReal)
  h4 : ∀ (s : Fin 4096) (n : ℕ) (hn : n < 8), ∃ C : Fin 128 → ℝ,
    (∀ d : Fin 128, Gen.V m c main_v23 (ix2 s ⟨128 * n + d, by omega⟩) = (C d : EReal)) ∧
    ∀ (b : ℕ) (hb : b < 16), C ⟨b, by omega⟩ = later (rows (head Q n) (head K n)) s b

theorem N_eq : cfg0.N = 32 := rfl

theorem tile_coords : ∀ t : Fin cfg0.N, tile (grid0.coords t) = t.val % 8 :=
  (by decide +kernel : ∀ t : Fin grid0.N, tile (grid0.coords t) = t.val % 8)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = 0 ∧ win0_1.index t 1 = t.val / 8 :=
  (by decide +kernel : ∀ t : Fin grid0.N, win0_1.index t 0 = 0 ∧ win0_1.index t 1 = t.val / 8)
theorem index2 : ∀ t : Fin cfg0.N, win0_2.index t 0 = 0 ∧ win0_2.index t 1 = t.val / 8 :=
  (by decide +kernel : ∀ t : Fin grid0.N, win0_2.index t 0 = 0 ∧ win0_2.index t 1 = t.val / 8)
theorem index3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem index4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem index5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem index6 : ∀ t : Fin cfg0.N, win0_6.index t 0 = 0 ∧ win0_6.index t 1 = t.val / 8 :=
  (by decide +kernel : ∀ t : Fin grid0.N, win0_6.index t 0 = 0 ∧ win0_6.index t 1 = t.val / 8)
theorem index7 : ∀ t : Fin cfg0.N, win0_7.index t 0 = 0 ∧ win0_7.index t 1 = t.val / 8 :=
  (by decide +kernel : ∀ t : Fin grid0.N, win0_7.index t 0 = 0 ∧ win0_7.index t 1 = t.val / 8)

theorem block0 (t : Fin cfg0.N) (r : Fin 512) (e : Fin 256) :
    iblk m c 0 t (ix2 r e) = Gen.V m c main_arg0 (ix2 ⟨512 * (t.val % 8) + r.val, by omega⟩ ⟨256 * (t.val / 8) + e, by have := t.isLt; have := N_eq; omega⟩) := by
  have hi := index0 t
  unfold iblk
  rw [View.read_apply]
  show Gen.V m c main_arg0 _ = Gen.V m c main_arg0 _
  congr 1
  funext a
  apply Fin.ext
  match a with
  | ⟨0, _⟩ => show win0_0.index t 0 * 512 + 1 * r.val = 512 * (t.val % 8) + r.val; rw [hi.1]; omega
  | ⟨1, _⟩ => show win0_0.index t 1 * 256 + 1 * e.val = 256 * (t.val / 8) + e.val; rw [hi.2]; omega

theorem block1 (t : Fin cfg0.N) (r : Fin 4096) (e : Fin 256) :
    iblk m c 1 t (ix2 r e) = Gen.V m c main_arg1 (ix2 r ⟨256 * (t.val / 8) + e, by have := t.isLt; have := N_eq; omega⟩) := by
  have hi := index1 t
  unfold iblk
  rw [View.read_apply]
  show Gen.V m c main_arg1 _ = Gen.V m c main_arg1 _
  congr 1
  funext a
  apply Fin.ext
  match a with
  | ⟨0, _⟩ => show win0_1.index t 0 * 4096 + 1 * r.val = r.val; rw [hi.1]; omega
  | ⟨1, _⟩ => show win0_1.index t 1 * 256 + 1 * e.val = 256 * (t.val / 8) + e.val; rw [hi.2]; omega

theorem block2 (t : Fin cfg0.N) (r : Fin 4096) (e : Fin 256) :
    iblk m c 2 t (ix2 r e) = Gen.V m c main_arg2 (ix2 r ⟨256 * (t.val / 8) + e, by have := t.isLt; have := N_eq; omega⟩) := by
  have hi := index2 t
  unfold iblk
  rw [View.read_apply]
  show Gen.V m c main_arg2 _ = Gen.V m c main_arg2 _
  congr 1
  funext a
  apply Fin.ext
  match a with
  | ⟨0, _⟩ => show win0_2.index t 0 * 4096 + 1 * r.val = r.val; rw [hi.1]; omega
  | ⟨1, _⟩ => show win0_2.index t 1 * 256 + 1 * e.val = 256 * (t.val / 8) + e.val; rw [hi.2]; omega

theorem block3 (t : Fin cfg0.N) (r : Fin 512) (e : Fin 256) :
    iblk m c 3 t (ix2 r e) = Gen.V m c main_arg3 (ix2 ⟨512 * (t.val % 8) + r.val, by omega⟩ ⟨256 * (t.val / 8) + e, by have := t.isLt; have := N_eq; omega⟩) := by
  have hi := index3 t
  unfold iblk
  rw [View.read_apply]
  show Gen.V m c main_arg3 _ = Gen.V m c main_arg3 _
  congr 1
  funext a
  apply Fin.ext
  match a with
  | ⟨0, _⟩ => show win0_3.index t 0 * 512 + 1 * r.val = 512 * (t.val % 8) + r.val; rw [hi.1]; omega
  | ⟨1, _⟩ => show win0_3.index t 1 * 256 + 1 * e.val = 256 * (t.val / 8) + e.val; rw [hi.2]; omega

theorem block4 (t : Fin cfg0.N) (r : Fin 512) (e : Fin 256) :
    iblk m c 4 t (ix2 r e) = Gen.V m c main_v23 (ix2 ⟨512 * (t.val % 8) + r.val, by omega⟩ ⟨256 * (t.val / 8) + e, by have := t.isLt; have := N_eq; omega⟩) := by
  have hi := index4 t
  unfold iblk
  rw [View.read_apply]
  show Gen.V m c main_v23 _ = Gen.V m c main_v23 _
  congr 1
  funext a
  apply Fin.ext
  match a with
  | ⟨0, _⟩ => show win0_4.index t 0 * 512 + 1 * r.val = 512 * (t.val % 8) + r.val; rw [hi.1]; omega
  | ⟨1, _⟩ => show win0_4.index t 1 * 256 + 1 * e.val = 256 * (t.val / 8) + e.val; rw [hi.2]; omega

variable {m c Q K V O}

/-- A point's inputs. -/
theorem Finds.ins (H : Finds m c Q K V O) (t : Fin cfg0.N) :
    Ins (ms0_0 t) (ms0_1 t) (ms0_2 t) (ms0_3 t) (ms0_4 t)
      ((hs0_0 t).unread (iblk m c 0 t)) ((hs0_1 t).unread (iblk m c 1 t)) ((hs0_2 t).unread (iblk m c 2 t))
      ((hs0_3 t).unread (iblk m c 3 t)) ((hs0_4 t).unread (iblk m c 4 t))
      (hd Q (t.val / 8)) (hd K (t.val / 8)) (hd V (t.val / 8)) (hd O (t.val / 8)) (512 * (t.val % 8)) where
  h2 r h d := by rw [(hs0_0 t).read_unread, block0, H.h0, hd_apply]
  h3 r h d := by rw [(hs0_1 t).read_unread, block1, H.h1, hd_apply]
  h4 r h d := by rw [(hs0_2 t).read_unread, block2, H.h2, hd_apply]
  h5 r h d := by rw [(hs0_3 t).read_unread, block3, H.h3, hd_apply]
  h6 r h := by
    have hN := N_eq
    have ht := t.isLt
    obtain ⟨C, hC, hCb⟩ := H.h4 ⟨512 * (t.val % 8) + r.val, by omega⟩ (2 * (t.val / 8) + h.val) (by omega)
    refine ⟨C, fun d => ?_, hCb⟩
    rw [(hs0_4 t).read_unread, block4, ← hC d]
    congr 2
    refine Fin.ext ?_
    show 256 * (t.val / 8) + (128 * h.val + d.val) = 128 * (2 * (t.val / 8) + h.val) + d.val
    ring

/-- What point `n` leaves in its three blocks. -/
structure Left (Q K V O : ℕ → ℕ → ℝ) (n : ℕ) (B : Vec Ideal S512x256 .f32 × Vec Ideal S4096x256 .f32 × Vec Ideal S4096x256 .f32) : Prop where
  h5 : ∀ (r : Fin 512) h d, B.1 (ix2 r (col h d)) = ((∑ s ∈ Finset.range len,
    dzr (hd Q (n / 8)) (hd K (n / 8)) (hd V (n / 8)) (hd O (n / 8)) h (512 * (n % 8) + r) s * hd K (n / 8) h s d : ℝ) : EReal)
  h6 : ∀ (s : Fin 4096) h d, B.2.1 (ix2 s (col h d)) = ((∑ t ∈ Finset.range (512 * (n % 8 + 1)),
    dzr (hd Q (n / 8)) (hd K (n / 8)) (hd V (n / 8)) (hd O (n / 8)) h t s * hd Q (n / 8) h t d : ℝ) : EReal)
  h7 : ∀ (s : Fin 4096) h d, B.2.2 (ix2 s (col h d)) = ((∑ t ∈ Finset.range (512 * (n % 8 + 1)),
    wtr (hd Q (n / 8)) (hd K (n / 8)) h t s * hd O (n / 8) h t d : ℝ) : EReal)

set_option maxHeartbeats 1000000 in
theorem Finds.left_A (H : Finds m c Q K V O) (t : Fin cfg0.N) (h0 : t.val % 8 = 0) :
    Left Q K V O t.val (outsAt0 m c t.val t.isLt) := by
  have hT := tile_coords t
  have ht : 512 * (t.val % 8) = 256 * (2 * tile (grid0.coords t)) := by rw [hT]; ring
  have A := vals_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (H.ins t) ht ((hcond0_0 t).mpr h0) (by rw [hT]; exact h0)
  rw [hT] at A
  rw [outsAt0_A m c t h0]
  exact ⟨A.1, A.2.1, A.2.2⟩

set_option maxHeartbeats 1000000 in
theorem Finds.left_B (H : Finds m c Q K V O) (t : Fin cfg0.N) (h0 : ¬t.val % 8 = 0)
    (L : Left Q K V O (t.val - 1) (outsAt0 m c (t.val - 1) (Nat.lt_of_le_of_lt (Nat.sub_le _ _) t.isLt))) :
    Left Q K V O t.val (outsAt0 m c t.val t.isLt) := by
  have hT := tile_coords t
  have ht : 512 * (t.val % 8) = 256 * (2 * tile (grid0.coords t)) := by rw [hT]; ring
  have hd8 : (t.val - 1) / 8 = t.val / 8 := by omega
  have hm8 : (t.val - 1) % 8 + 1 = t.val % 8 := by omega
  have L6 := L.h6
  have L7 := L.h7
  rw [hd8, hm8, ← hT] at L6 L7
  have B := vals_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) _ _ (H.ins t) ht (fun h => h0 ((hcond0_0 t).mp h)) L6 L7
  rw [hT] at B
  rw [outsAt0_B m c t h0]
  exact ⟨B.1, B.2.1, B.2.2⟩

theorem Finds.left (H : Finds m c Q K V O) : ∀ (n : ℕ) (hn : n < cfg0.N), Left Q K V O n (outsAt0 m c n hn)
  | 0, hn => H.left_A ⟨0, hn⟩ rfl
  | n + 1, hn => by
    by_cases h0 : (n + 1) % 8 = 0
    · exact H.left_A ⟨n + 1, hn⟩ h0
    · exact H.left_B ⟨n + 1, hn⟩ h0 (H.left n (Nat.lt_of_succ_lt hn))

/-! ## The arrays -/

variable (Q K V O)

/-- The three results. -/
def resQ : Vec Ideal S4096x1024 .f32 := fun i => ((gradQ Q K V O (i 0).val (i 1).val : ℝ) : EReal)
def resK : Vec Ideal S4096x1024 .f32 := fun i => ((gradK Q K V O (i 0).val (i 1).val : ℝ) : EReal)
def resV : Vec Ideal S4096x1024 .f32 := fun i => ((gradV Q K O (i 0).val (i 1).val : ℝ) : EReal)

variable {Q K V O}

theorem head_of (X : ℕ → ℕ → ℝ) (p : ℕ) (h : Fin 2) (d : Fin 128) : head X ((256 * p + (col h d).val) / 128) = hd X p h := by
  have : (256 * p + (col h d).val) / 128 = 2 * p + h.val := by
    show (256 * p + (128 * h.val + d.val)) / 128 = _
    omega
  rw [this]
  rfl

/-- Every column of a block is a column of one of its two heads. -/
theorem exists_col (e : Fin 256) : ∃ h d, e = col h d :=
  ⟨⟨e.val / 128, by omega⟩, ⟨e.val % 128, by omega⟩, Fin.ext (Nat.div_add_mod e.val 128).symm⟩

theorem Finds.flushed5 (H : Finds m c Q K V O) (t : Fin cfg0.N) (_hf : (cfg0.win 5).flush t = true) :
    (dats m 0 c).flushed 5 t = ((cfg0.win 5).blk t).view.read (Elt Ideal) (resQ Q K V O : Buf (Elt Ideal) ((c : Thread nD τ).loc main_v24_0)) := by
  have hi := index5 t
  have L := (H.left t.val t.isLt).h5
  rw [Value.flushed5]
  funext j
  rw [View.read_apply]
  show (outsAt0 m c t.val t.isLt).1 j = ((gradQ Q K V O (win0_5.index t 0 * 512 + 1 * (j 0).val) (win0_5.index t 1 * 256 + 1 * (j 1).val) : ℝ) : EReal)
  obtain ⟨r, e, rfl⟩ : ∃ r e, j = ix2 (n0 := 512) (n1 := 256) r e := ⟨j 0, j 1, eq_ix2 j⟩
  obtain ⟨h, d, rfl⟩ := exists_col e
  rw [L r h d]
  show _ = ((gradQ Q K V O (win0_5.index t 0 * 512 + 1 * r.val) (win0_5.index t 1 * 256 + 1 * (col h d).val) : ℝ) : EReal)
  rw [show win0_5.index t 0 * 512 + 1 * r.val = 512 * (t.val % 8) + r.val by rw [hi.1]; omega,
    show win0_5.index t 1 * 256 + 1 * (col h d).val = 256 * (t.val / 8) + (col h d).val by rw [hi.2]; omega]
  unfold gradQ
  simp only [head_of, hd_apply]
  rfl

theorem Finds.array5 (H : Finds m c Q K V O) : (dats m 0 c).arrAt 5 cfg0.N = resQ Q K V O :=
  (dats m 0 c).arrAt_eq_of_cover 5 (resQ Q K V O) (H.flushed5) fun i => by
    have h0 : (i 0 : Nat) < 4096 := (i 0).isLt
    have h1 : (i 1 : Nat) < 1024 := (i 1).isLt
    obtain ⟨t, ht⟩ : ∃ t : Fin cfg0.N, t.val = 8 * ((i 1 : Nat) / 256) + (i 0 : Nat) / 512 := ⟨⟨8 * ((i 1 : Nat) / 256) + (i 0 : Nat) / 512, by show _ < 32; omega⟩, rfl⟩
    have hi := index5 t
    refine ⟨t, flush0_5 _, ?_⟩
    show i ∈ ((View.whole main_v24_0).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]
      omega
    | ⟨1, _⟩ =>
      show win0_5.index t 1 * 256 ≤ (i 1 : Nat) ∧ (i 1 : Nat) < win0_5.index t 1 * 256 + 256
      rw [hi.2]
      omega

theorem Finds.flushed6 (H : Finds m c Q K V O) (t : Fin cfg0.N) (hf : (cfg0.win 6).flush t = true) :
    (dats m 0 c).flushed 6 t = ((cfg0.win 6).blk t).view.read (Elt Ideal) (resK Q K V O : Buf (Elt Ideal) ((c : Thread nD τ).loc main_v24_1)) := by
  have hi := index6 t
  have h7 : t.val % 8 = 7 := (flush0_6 t).mp hf
  have L := (H.left t.val t.isLt).h6
  rw [Value.flushed6]
  funext j
  rw [View.read_apply]
  show (outsAt0 m c t.val t.isLt).2.1 j = ((gradK Q K V O (win0_6.index t 0 * 4096 + 1 * (j 0).val) (win0_6.index t 1 * 256 + 1 * (j 1).val) : ℝ) : EReal)
  obtain ⟨r, e, rfl⟩ : ∃ r e, j = ix2 (n0 := 4096) (n1 := 256) r e := ⟨j 0, j 1, eq_ix2 j⟩
  obtain ⟨h, d, rfl⟩ := exists_col e
  rw [L r h d]
  show _ = ((gradK Q K V O (win0_6.index t 0 * 4096 + 1 * r.val) (win0_6.index t 1 * 256 + 1 * (col h d).val) : ℝ) : EReal)
  rw [show win0_6.index t 0 * 4096 + 1 * r.val = r.val by rw [hi.1]; omega,
    show win0_6.index t 1 * 256 + 1 * (col h d).val = 256 * (t.val / 8) + (col h d).val by rw [hi.2]; omega, h7]
  unfold gradK
  simp only [head_of, hd_apply]
  rfl

theorem Finds.array6 (H : Finds m c Q K V O) : (dats m 0 c).arrAt 6 cfg0.N = resK Q K V O :=
  (dats m 0 c).arrAt_eq_of_cover 6 (resK Q K V O) (H.flushed6) fun i => by
    have h0 : (i 0 : Nat) < 4096 := (i 0).isLt
    have h1 : (i 1 : Nat) < 1024 := (i 1).isLt
    obtain ⟨t, ht⟩ : ∃ t : Fin cfg0.N, t.val = 8 * ((i 1 : Nat) / 256) + 7 := ⟨⟨8 * ((i 1 : Nat) / 256) + 7, by show _ < 32; omega⟩, rfl⟩
    have hi := index6 t
    refine ⟨t, (flush0_6 t).mpr (by omega), ?_⟩
    show i ∈ ((View.whole main_v24_1).slice (win0_6.rect t)).set
    rw [View.set_slice_whole, Rect.mem_set_unit]
    intro a
    match a with
    | ⟨0, _⟩ =>
      show win0_6.index t 0 * 4096 ≤ (i 0 : Nat) ∧ (i 0 : Nat) < win0_6.index t 0 * 4096 + 4096
      rw [hi.1]
      omega
    | ⟨1, _⟩ =>
      show win0_6.index t 1 * 256 ≤ (i 1 : Nat) ∧ (i 1 : Nat) < win0_6.index t 1 * 256 + 256
      rw [hi.2]
      omega

theorem Finds.flushed7 (H : Finds m c Q K V O) (t : Fin cfg0.N) (hf : (cfg0.win 7).flush t = true) :
    (dats m 0 c).flushed 7 t = ((cfg0.win 7).blk t).view.read (Elt Ideal) (resV Q K O : Buf (Elt Ideal) ((c : Thread nD τ).loc main_v24_2)) := by
  have hi := index7 t
  have h7 : t.val % 8 = 7 := (flush0_7 t).mp hf
  have L := (H.left t.val t.isLt).h7
  rw [Value.flushed7]
  funext j
  rw [View.read_apply]
  show (outsAt0 m c t.val t.isLt).2.2 j = ((gradV Q K O (win0_7.index t 0 * 4096 + 1 * (j 0).val) (win0_7.index t 1 * 256 + 1 * (j 1).val) : ℝ) : EReal)
  obtain ⟨r, e, rfl⟩ : ∃ r e, j = ix2 (n0 := 4096) (n1 := 256) r e := ⟨j 0, j 1, eq_ix2 j⟩
  obtain ⟨h, d, rfl⟩ := exists_col e
  rw [L r h d]
  show _ = ((gradV Q K O (win0_7.index t 0 * 4096 + 1 * r.val) (win0_7.index t 1 * 256 + 1 * (col h d).val) : ℝ) : EReal)
  rw [show win0_7.index t 0 * 4096 + 1 * r.val = r.val by rw [hi.1]; omega,
    show win0_7.index t 1 * 256 + 1 * (col h d).val = 256 * (t.val / 8) + (col h d).val by rw [hi.2]; omega, h7]
  unfold gradV
  simp only [head_of, hd_apply]
  rfl

theorem Finds.array7 (H : Finds m c Q K V O) : (dats m 0 c).arrAt 7 cfg0.N = resV Q K O :=
  (dats m 0 c).arrAt_eq_of_cover 7 (resV Q K O) (H.flushed7) fun i => by
    have h0 : (i 0 : Nat) < 4096 := (i 0).isLt
    have h1 : (i 1 : Nat) < 1024 := (i 1).isLt
    obtain ⟨t, ht⟩ : ∃ t : Fin cfg0.N, t.val = 8 * ((i 1 : Nat) / 256) + 7 := ⟨⟨8 * ((i 1 : Nat) / 256) + 7, by show _ < 32; omega⟩, rfl⟩
    have hi := index7 t
    refine ⟨t, (flush0_7 t).mpr (by omega), ?_⟩
    show i ∈ ((View.whole main_v24_2).slice (win0_7.rect t)).set
    rw [View.set_slice_whole, Rect.mem_set_unit]
    intro a
    match a with
    | ⟨0, _⟩ =>
      show win0_7.index t 0 * 4096 ≤ (i 0 : Nat) ∧ (i 0 : Nat) < win0_7.index t 0 * 4096 + 4096
      rw [hi.1]
      omega
    | ⟨1, _⟩ =>
      show win0_7.index t 1 * 256 ≤ (i 1 : Nat) ∧ (i 1 : Nat) < win0_7.index t 1 * 256 + 256
      rw [hi.2]
      omega

end Cert.KernelIdeal.Tile

end
-- ==== Proof.HostValue.lean ====
/-
The table over the reals: column `b` of a head holds the sum of `log (1 - sigmoid z)` over the later blocks.
-/
module

public import proofs.«01_k».proof.Proof.HostStage
public import proofs.«01_k».proof.Proof.Array

@[expose] public section

set_option maxRecDepth 16384

noncomputable section

namespace Cert.KernelIdeal.Table

open Cert.KernelIdeal Cert.KernelIdeal.Gen Idealize.ShloMosaic Idealize.ShloMosaic.TcCoe Idealize.ShloMosaic.Pointwise
open Cert.Spec Cert.KernelIdeal.Tile

theorem fill_read (i : S8x4096x4096.Idx) : fill (F := Ideal) i = 0 := by
  unfold fill
  pointwise

theorem zero_read (i : S_.Idx) : zero (F := Ideal) i = 0 := by
  unfold zero
  pointwise

theorem softplus_coe {x : FVec Ideal S8x4096x4096 .f32} {i : S8x4096x4096.Idx} {r : ℝ} (hx : x i = (r : EReal)) :
    softplus x i = ((sp r : ℝ) : EReal) := by
  unfold softplus
  pointwise
  simp only [fill_read, hx]
  exact softplus_real r

theorem mask_read (n : Fin 8) (t s : Fin 4096) : mask (ix3 n t s) = BitVec.ofBool (decide (s.val < t.val)) := by
  unfold mask
  pointwise
  exact WordCmp.cmpi_slt_ofNat (by omega) (by omega)

theorem logNot_coe {z : FVec Ideal S8x4096x4096 .f32} {n : Fin 8} {Z : ℕ → ℕ → ℝ}
    (hz : ∀ t s : Fin 4096, z (ix3 n t s) = ((Z t s : ℝ) : EReal)) (t s : Fin 4096) :
    logNot z (ix3 n t s) = ((ln Z t s : ℝ) : EReal) := by
  have h : Host.negf (Host.negf z) (ix3 n t s) = ((Z t s : ℝ) : EReal) := by
    pointwise
    rw [hz, ← EReal.coe_neg, ← EReal.coe_neg, neg_neg]
  unfold logNot
  pointwise
  rw [mask_read, select_decide, softplus_coe h, fill_read, ← EReal.coe_zero, ← EReal.coe_neg, coe_if]
  rfl

theorem heads_coe {x : FVec Ideal S4096x1024 .bf16} {X : ℕ → ℕ → ℝ}
    (hx : ∀ (s : Fin 4096) (e : Fin 1024), x (ix2 s e) = ((X s e : ℝ) : EReal)) (n : Fin 8) (s : Fin 4096) (d : Fin 128) :
    heads x (ix3 n s d) = ((head X n s d : ℝ) : EReal) := by
  unfold heads
  pointwise
  rw [hx]
  show ((X s (n * 128 + d) : ℝ) : EReal) = ((X s (128 * n + d) : ℝ) : EReal)
  rw [Nat.mul_comm]

theorem score_coe {x y : FVec Ideal S4096x1024 .bf16} {X Y : ℕ → ℕ → ℝ}
    (hx : ∀ (s : Fin 4096) (e : Fin 1024), x (ix2 s e) = ((X s e : ℝ) : EReal))
    (hy : ∀ (s : Fin 4096) (e : Fin 1024), y (ix2 s e) = ((Y s e : ℝ) : EReal)) (n : Fin 8) (t s : Fin 4096) :
    score (heads x) (heads y) (ix3 n t s) = ((rows (head X n) (head Y n) t s : ℝ) : EReal) := by
  unfold score
  pointwise
  simp only [heads_coe hx, heads_coe hy, ← EReal.coe_mul]
  exact coe_sum _

theorem blocks_coe {x : FVec Ideal S8x4096x4096 .f32} {n : Fin 8} {t : Fin 4096} {f : ℕ → ℝ}
    (hx : ∀ j : Fin 4096, x (ix3 n t j) = ((f j.val : ℝ) : EReal)) (b : Fin 16) :
    blocks x (ix3 n t b) = ((∑ k : Fin 256, f (256 * b + k) : ℝ) : EReal) := by
  unfold blocks
  pointwise
  rw [← coe_sum]
  refine Finset.sum_congr rfl fun k _ => ?_
  rw [hx]
  show ((f (b * 256 + k) : ℝ) : EReal) = _
  rw [Nat.mul_comm]

/-- The sum over the later blocks of the sums over each. -/
theorem sum_later (f : ℕ → ℝ) (b : ℕ) :
    (∑ j ∈ Finset.range 16, if b < j then ∑ k : Fin 256, f (256 * j + k) else 0)
      = ∑ j ∈ Finset.range len, if (b + 1) * 256 ≤ j then f j else 0 := by
  have h : ∀ M : ℕ, (∑ j ∈ Finset.range M, if b < j then ∑ k : Fin 256, f (256 * j + k) else 0)
      = ∑ j ∈ Finset.range (256 * M), if (b + 1) * 256 ≤ j then f j else 0 := by
    intro M
    induction M with
    | zero => simp
    | succ M ih =>
      rw [Finset.sum_range_succ, ih, show 256 * (M + 1) = 256 * M + 256 by ring, Finset.sum_range_add]
      congr 1
      rw [Finset.sum_range]
      by_cases hb : b < M
      · rw [if_pos hb]
        exact Finset.sum_congr rfl fun k _ => (if_pos (by omega)).symm
      · rw [if_neg hb]
        exact (Finset.sum_eq_zero fun k _ => if_neg (by omega)).symm
  exact h 16

theorem sumFrom_read {x : FVec Ideal S8x4096x16 .f32} {n : Fin 8} {t : Fin 4096} {s : Fin 16} {f : ℕ → ℝ}
    (hx : ∀ j : Fin 16, x (ix3 n t j) = ((f j.val : ℝ) : EReal)) :
    Host.reduceWindowAdd ![1, 1, 16] ![1, 1, 1] ![0, 0, 0] ![0, 0, 15] x zero reduceWindows_S8x4096x16_S8x4096x16_w1s1p0_0_w1s1p0_0_w16s1p0_15 h_S_ (ix3 n t s)
      = ((∑ j ∈ Finset.range 16, if s.val ≤ j then f j else 0 : ℝ) : EReal) := by
  have h := window_read (A := 8) (B := 4096) (N := 16) (lo := 0) (hi := 15) x (zero (F := Ideal)) zero_read
    reduceWindows_S8x4096x16_S8x4096x16_w1s1p0_0_w1s1p0_0_w16s1p0_15 h_S_ n t s f hx
  rw [sum_from] at h
  exact h

theorem after_coe {x : FVec Ideal S8x4096x16 .f32} {n : Fin 8} {t : Fin 4096} {s : Fin 16} {f : ℕ → ℝ}
    (hx : ∀ j : Fin 16, x (ix3 n t j) = ((f j.val : ℝ) : EReal)) :
    after x (ix3 n t s) = ((∑ j ∈ Finset.range 16, if s.val < j then f j else 0 : ℝ) : EReal) := by
  unfold after
  pointwise
  rw [sumFrom_read hx, hx, ← EReal.coe_sub]
  congr 1
  have hs : s.val ∈ Finset.range 16 := Finset.mem_range.mpr s.isLt
  rw [sub_eq_iff_eq_add, ← Finset.sum_ite_eq' (Finset.range 16) s.val f |>.trans (if_pos hs), ← Finset.sum_add_distrib]
  refine Finset.sum_congr rfl fun j _ => ?_
  rcases lt_trichotomy s.val j with h | h | h
  · simp [h, h.le, h.ne']
  · simp [h]
  · simp [h.not_ge, h.not_gt, h.ne]

theorem table_coe {x : FVec Ideal S8x4096x16 .f32} {n : Fin 8} {t : Fin 4096} {f : ℕ → ℝ}
    (hx : ∀ j : Fin 16, x (ix3 n t j) = ((f j.val : ℝ) : EReal)) (d : Fin 128) :
    table x (ix2 t (⟨128 * n + d, by omega⟩ : Fin 1024)) = ((if d.val < 16 then f d else 0 : ℝ) : EReal) := by
  unfold table
  pointwise
  by_cases h : d.val < 16
  · rw [dif_pos h, if_pos h]
    exact hx ⟨d, h⟩
  · rw [dif_neg h, if_neg h]
    simp [FloatOps.sitofp]

variable {m : (ℓ : Loc nD τ sig) → Buf (Elt Ideal) ℓ} {c : Dev nD} {Q K V O : ℕ → ℕ → ℝ}

/-- Where the four arguments are real numbers, the region finds them and the table of the later blocks. -/
theorem finds
    (h0 : ∀ (s : Fin 4096) (e : Fin 1024), m ((c : Thread nD τ).loc main_arg0) (ix2 s e) = ((Q s e : ℝ) : EReal))
    (h1 : ∀ (s : Fin 4096) (e : Fin 1024), m ((c : Thread nD τ).loc main_arg1) (ix2 s e) = ((K s e : ℝ) : EReal))
    (h2 : ∀ (s : Fin 4096) (e : Fin 1024), m ((c : Thread nD τ).loc main_arg2) (ix2 s e) = ((V s e : ℝ) : EReal))
    (h3 : ∀ (s : Fin 4096) (e : Fin 1024), m ((c : Thread nD τ).loc main_arg3) (ix2 s e) = ((O s e : ℝ) : EReal)) :
    Finds m c Q K V O where
  h0 s e := (congrFun (V_main_arg0 m c) _).trans (h0 s e)
  h1 s e := (congrFun (V_main_arg1 m c) _).trans (h1 s e)
  h2 s e := (congrFun (V_main_arg2 m c) _).trans (h2 s e)
  h3 s e := (congrFun (V_main_arg3 m c) _).trans (h3 s e)
  h4 s n hn := by
    refine ⟨fun d => if d.val < 16 then later (rows (head Q n) (head K n)) s d.val else 0, fun d => ?_, fun b hb => if_pos hb⟩
    have hl := logNot_coe (n := ⟨n, hn⟩) (score_coe h0 h1 _)
    have hb := blocks_coe (n := ⟨n, hn⟩) (t := s) (f := ln (rows (head Q n) (head K n)) s) (hl s)
    have ha := fun b : Fin 16 => (after_coe (n := ⟨n, hn⟩) (t := s) (s := b)
      (f := fun b => ∑ k : Fin 256, ln (rows (head Q n) (head K n)) s (256 * b + k)) hb).trans
      (congrArg Real.toEReal (sum_later (ln (rows (head Q n) (head K n)) s) b))
    exact (congrFun (V_table m c) _).trans (table_coe (n := ⟨n, hn⟩) (t := s)
      (f := later (rows (head Q n) (head K n)) s) ha d)

end Cert.KernelIdeal.Table

end
-- ==== Proof.RefStage.lean ====
/-
What the reference computes, stage by stage.

The reference differentiates the stick-breaking attention `w = exp (log (sigmoid z) + sum of log (1 - sigmoid z) over the
keys in between)`.  Its operations are gathered here into stages, each a definition over whole arrays, and the three
results are stated as one chain of stages.
-/
module

public import proofs.«01_k».proof.Proof.Gen.ReferenceIdeal.Run

@[expose] public section

set_option maxRecDepth 16384

noncomputable section

namespace Cert.ReferenceIdeal.Stage

open Cert.ReferenceIdeal Cert.ReferenceIdeal.Gen Idealize.ShloMosaic Idealize.ShloMosaic.TcCoe

variable {F : FTy → Type} [FloatOps F]

/-- An argument as [head, position, feature]. -/
def heads (x : FVec F S4096x1024 .bf16) : FVec F S8x4096x128 .f32 :=
  transpose S8x4096x128 [1, 0, 2] (shapeCast _ (extf .f32 x bitsLt_bf16_f32) shapeCasts_S4096x1024_S4096x8x128) transposes_S4096x8x128_S8x4096x128_1_0_2

/-- The products of the rows of two arrays, head by head. -/
def score (x y : FVec F S8x4096x128 .f32) : FVec F S8x4096x4096 .f32 :=
  Host.dotGeneral dot_S8x4096x128_S8x4096x128_S8x4096x4096_2_2_1_1_0_0 none x y

/-- Which keys come before the query. -/
def mask : IVec S8x4096x4096 1 :=
  broadcastInDim S8x4096x4096 ![1, 2] bcast_S4096x4096_S8x4096x4096_1_2 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- One word everywhere. -/
def fill (w : BitVec 32) : FVec F S8x4096x4096 .f32 :=
  broadcastInDim S8x4096x4096 ![] bcast_S_S8x4096x4096 (constant S_ .f32 w)

/-- `log (1 + exp x)`, with the larger of `x` and zero taken out. -/
def softplus (x : FVec F S8x4096x4096 .f32) : FVec F S8x4096x4096 .f32 :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))

/-- Zero in place of an infinite entry. -/
def finitePart (x : FVec F S8x4096x4096 .f32) : FVec F S8x4096x4096 .f32 :=
  select (cmpf .oeq x (fill 0x7F800000#32)) (fill 0x00000000#32) x

/-- The derivative of `softplus`. -/
def slope (x : FVec F S8x4096x4096 .f32) : FVec F S8x4096x4096 .f32 :=
  Host.exp (subf (finitePart x) (finitePart (softplus x)))

/-- The entries of the keys before the query, another word elsewhere. -/
def keep (w : BitVec 32) (x : FVec F S8x4096x4096 .f32) : FVec F S8x4096x4096 .f32 :=
  select mask x (fill w)

/-- The start value of a running sum. -/
def zero : FVec F S_ .f32 := broadcastInDim S_ ![] bcast_S_S_ (constant S_ .f32 0x00000000#32)

/-- The sum over the keys after each key. -/
def after (x : FVec F S8x4096x4096 .f32) : FVec F S8x4096x4096 .f32 :=
  subf (Host.reduceWindowAdd ![1, 1, 4096] ![1, 1, 1] ![0, 0, 0] ![0, 0, 4095] x zero reduceWindows_S8x4096x4096_S8x4096x4096_w1s1p0_0_w1s1p0_0_w4096s1p0_4095 h_S_) x

/-- The sum over the keys before each key. -/
def before (x : FVec F S8x4096x4096 .f32) : FVec F S8x4096x4096 .f32 :=
  addf (Host.negf x) (Host.reduceWindowAdd ![1, 1, 4096] ![1, 1, 1] ![0, 0, 4095] ![0, 0, 0] x zero reduceWindows_S8x4096x4096_S8x4096x4096_w1s1p0_0_w1s1p0_0_w4096s1p4095_0 h_S_)

/-- The weights. -/
def weights (z : FVec F S8x4096x4096 .f32) : FVec F S8x4096x4096 .f32 :=
  Host.exp (keep 0xFF800000#32 (addf (Host.negf (softplus (Host.negf z)))
    (after (keep 0x00000000#32 (Host.negf (softplus (Host.negf (Host.negf z))))))))

/-- The cotangent of the logarithm of the weights. -/
def dlog (z g : FVec F S8x4096x4096 .f32) : FVec F S8x4096x4096 .f32 :=
  keep 0x00000000#32 (mulf g (weights z))

/-- The cotangent of the scores. -/
def dscore (z g : FVec F S8x4096x4096 .f32) : FVec F S8x4096x4096 .f32 :=
  addf (Host.negf (mulf (Host.negf (dlog z g)) (slope (Host.negf z))))
    (Host.negf (Host.negf (mulf (Host.negf (keep 0x00000000#32 (before (dlog z g)))) (slope (Host.negf (Host.negf z))))))

/-- A result as [position, head and feature]. -/
def join (x : FVec F S8x4096x128 .f32) : FVec F S4096x1024 .f32 :=
  shapeCast _ (transpose S4096x8x128 [1, 0, 2] x transposes_S8x4096x128_S4096x8x128_1_0_2) shapeCasts_S4096x8x128_S4096x1024

/-- The gradient of the queries. -/
def dq (q k v o : FVec F S4096x1024 .bf16) : FVec F S4096x1024 .f32 :=
  join (Host.dotGeneral dot_S8x4096x4096_S8x4096x128_S8x4096x128_2_1_1_2_0_0 none (dscore (score (heads q) (heads k)) (score (heads o) (heads v))) (heads k))

/-- The gradient of the keys. -/
def dk (q k v o : FVec F S4096x1024 .bf16) : FVec F S4096x1024 .f32 :=
  join (Host.dotGeneral dot_S8x4096x4096_S8x4096x128_S8x4096x128_1_1_2_2_0_0 none (dscore (score (heads q) (heads k)) (score (heads o) (heads v))) (heads q))

/-- The gradient of the values. -/
def dv (q k o : FVec F S4096x1024 .bf16) : FVec F S4096x1024 .f32 :=
  join (transpose S8x4096x128 [0, 2, 1] (Host.dotGeneral dot_S8x4096x128_S8x4096x4096_S8x128x4096_1_1_2_2_0_0 none (heads o) (weights (score (heads q) (heads k)))) transposes_S8x128x4096_S8x4096x128_0_2_1)

variable (m : (ℓ : Loc nD τ sig) → Buf (Elt F) ℓ) (c : Dev nD)

theorem out2 : Value.res_out2 m c = dv (m ((c.tc : Thread nD τ).loc main_arg0)) (m ((c.tc : Thread nD τ).loc main_arg1)) (m ((c.tc : Thread nD τ).loc main_arg3)) := by
  unfold Value.res_out2 Value.res_main_v48
  rfl

set_option maxHeartbeats 2000000 in
theorem out1 : Value.res_out1 m c = dk (m ((c.tc : Thread nD τ).loc main_arg0)) (m ((c.tc : Thread nD τ).loc main_arg1)) (m ((c.tc : Thread nD τ).loc main_arg2)) (m ((c.tc : Thread nD τ).loc main_arg3)) := by
  unfold Value.res_out1 Value.res_main_v50
  rfl

set_option maxHeartbeats 2000000 in
theorem out0 : Value.res_out0 m c = dq (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v52
  rfl

end Cert.ReferenceIdeal.Stage

end
-- ==== Proof.RefValue.lean ====
/-
The reference's stages over the reals.

Where the scores of one head are real numbers, every stage of the reference is the real quantity that it is named for, and
the three results are the gradients of the attention.
-/
module

public import proofs.«01_k».proof.Proof.RefStage
public import proofs.«01_k».proof.Proof.Math
public import proofs.«01_k».proof.Proof.HostMath
public import Idealize.ShloMosaic.Lib.Pointwise
public import Idealize.ShloMosaic.Lib.WordCmp

@[expose] public section

set_option maxRecDepth 16384

noncomputable section

namespace Cert.ReferenceIdeal.Stage

open Cert.ReferenceIdeal Cert.ReferenceIdeal.Gen Idealize.ShloMosaic Idealize.ShloMosaic.TcCoe Idealize.ShloMosaic.Pointwise
open Cert.Spec

theorem fill_zero (i : S8x4096x4096.Idx) : fill (F := Ideal) 0x00000000#32 i = 0 := by
  unfold fill
  pointwise

theorem fill_top (i : S8x4096x4096.Idx) : fill (F := Ideal) 0x7F800000#32 i = ⊤ := by
  unfold fill
  pointwise
  simp [Ideal.ofBits, Ideal.ieee]

theorem fill_bot (i : S8x4096x4096.Idx) : fill (F := Ideal) 0xFF800000#32 i = ⊥ := by
  unfold fill
  pointwise
  simp [Ideal.ofBits, Ideal.ieee]

theorem softplus_coe {x : FVec Ideal S8x4096x4096 .f32} {i : S8x4096x4096.Idx} {r : ℝ} (hx : x i = (r : EReal)) :
    softplus x i = ((sp r : ℝ) : EReal) := by
  unfold softplus
  pointwise
  simp only [fill_zero, hx]
  exact softplus_real r

theorem mask_read (n : Fin 8) (t s : Fin 4096) : mask (ix3 n t s) = BitVec.ofBool (decide (s.val < t.val)) := by
  unfold mask
  pointwise
  exact WordCmp.cmpi_slt_ofNat (by omega) (by omega)

theorem finitePart_coe {x : FVec Ideal S8x4096x4096 .f32} {i : S8x4096x4096.Idx} {r : ℝ} (hx : x i = (r : EReal)) :
    finitePart x i = ((r : ℝ) : EReal) := by
  unfold finitePart
  pointwise
  simp only [fill_zero, fill_top, hx]
  rw [if_neg (EReal.coe_ne_top r)]

theorem heads_read (x : FVec Ideal S4096x1024 .bf16) (n : Fin 8) (s : Fin 4096) (d : Fin 128) :
    heads x (ix3 n s d) = x (ix2 s (⟨128 * n + d, by omega⟩ : Fin 1024)) := by
  unfold heads
  pointwise
  congr 3
  omega

theorem join_read (x : FVec Ideal S8x4096x128 .f32) (s : Fin 4096) (e : Fin 1024) :
    join x (ix2 s e) = x (ix3 (⟨e / 128, by omega⟩ : Fin 8) s (⟨e % 128, by omega⟩ : Fin 128)) := by
  unfold join
  pointwise

theorem score_read (x y : FVec Ideal S8x4096x128 .f32) (n : Fin 8) (t s : Fin 4096) :
    score x y (ix3 n t s) = ∑ d : Fin 128, x (ix3 n t d) * y (ix3 n s d) := by
  unfold score
  pointwise

theorem zero_read (i : S_.Idx) : zero (F := Ideal) i = 0 := by
  unfold zero
  pointwise

theorem neg_coe {x : FVec Ideal S8x4096x4096 .f32} {i : S8x4096x4096.Idx} {r : ℝ} (hx : x i = (r : EReal)) :
    Host.negf x i = ((-r : ℝ) : EReal) := by
  pointwise
  rw [hx, EReal.coe_neg]

theorem slope_coe {x : FVec Ideal S8x4096x4096 .f32} {i : S8x4096x4096.Idx} {r : ℝ} (hx : x i = (r : EReal)) :
    slope x i = ((sg r : ℝ) : EReal) := by
  unfold slope
  pointwise
  rw [finitePart_coe hx, finitePart_coe (softplus_coe hx), ← EReal.coe_sub, Ideal.exp_coe, exp_sub_sp]

theorem keep_coe {x : FVec Ideal S8x4096x4096 .f32} {n : Fin 8} {t s : Fin 4096} {r : ℝ} (hx : x (ix3 n t s) = (r : EReal)) :
    keep 0x00000000#32 x (ix3 n t s) = ((if s.val < t.val then r else 0 : ℝ) : EReal) := by
  unfold keep
  pointwise
  rw [mask_read, select_decide, hx, fill_zero, ← EReal.coe_zero, coe_if]

theorem sumFrom_read {x : FVec Ideal S8x4096x4096 .f32} {n : Fin 8} {t s : Fin 4096} {f : ℕ → ℝ}
    (hx : ∀ j : Fin 4096, x (ix3 n t j) = ((f j.val : ℝ) : EReal)) :
    Host.reduceWindowAdd ![1, 1, 4096] ![1, 1, 1] ![0, 0, 0] ![0, 0, 4095] x zero reduceWindows_S8x4096x4096_S8x4096x4096_w1s1p0_0_w1s1p0_0_w4096s1p0_4095 h_S_ (ix3 n t s)
      = ((∑ j ∈ Finset.range 4096, if s.val ≤ j then f j else 0 : ℝ) : EReal) := by
  have h := window_read (A := 8) (B := 4096) (N := 4096) (lo := 0) (hi := 4095) x (zero (F := Ideal)) zero_read
    reduceWindows_S8x4096x4096_S8x4096x4096_w1s1p0_0_w1s1p0_0_w4096s1p0_4095 h_S_ n t s f hx
  rw [sum_from] at h
  exact h

theorem sumTo_read {x : FVec Ideal S8x4096x4096 .f32} {n : Fin 8} {t s : Fin 4096} {f : ℕ → ℝ}
    (hx : ∀ j : Fin 4096, x (ix3 n t j) = ((f j.val : ℝ) : EReal)) :
    Host.reduceWindowAdd ![1, 1, 4096] ![1, 1, 1] ![0, 0, 4095] ![0, 0, 0] x zero reduceWindows_S8x4096x4096_S8x4096x4096_w1s1p0_0_w1s1p0_0_w4096s1p4095_0 h_S_ (ix3 n t s)
      = ((∑ j ∈ Finset.range 4096, if j ≤ s.val then f j else 0 : ℝ) : EReal) := by
  have h := window_read (A := 8) (B := 4096) (N := 4096) (lo := 4095) (hi := 0) x (zero (F := Ideal)) zero_read
    reduceWindows_S8x4096x4096_S8x4096x4096_w1s1p0_0_w1s1p0_0_w4096s1p4095_0 h_S_ n t s f hx
  rw [sum_to 4095 s.val s.isLt] at h
  exact h

theorem after_coe {x : FVec Ideal S8x4096x4096 .f32} {n : Fin 8} {t s : Fin 4096} {f : ℕ → ℝ}
    (hx : ∀ j : Fin 4096, x (ix3 n t j) = ((f j.val : ℝ) : EReal)) :
    after x (ix3 n t s) = ((∑ j ∈ Finset.range len, if s.val < j then f j else 0 : ℝ) : EReal) := by
  unfold after
  pointwise
  rw [sumFrom_read hx, hx, ← EReal.coe_sub]
  congr 1
  have hs : s.val ∈ Finset.range 4096 := Finset.mem_range.mpr s.isLt
  rw [sub_eq_iff_eq_add, ← Finset.sum_ite_eq' (Finset.range 4096) s.val f |>.trans (if_pos hs), len, ← Finset.sum_add_distrib]
  refine Finset.sum_congr rfl fun j _ => ?_
  rcases lt_trichotomy s.val j with h | h | h
  · simp [h, h.le, h.ne']
  · simp [h]
  · simp [h.not_ge, h.not_gt, h.ne]

theorem before_coe {x : FVec Ideal S8x4096x4096 .f32} {n : Fin 8} {t s : Fin 4096} {f : ℕ → ℝ}
    (hx : ∀ j : Fin 4096, x (ix3 n t j) = ((f j.val : ℝ) : EReal)) :
    before x (ix3 n t s) = ((∑ j ∈ Finset.range len, if j < s.val then f j else 0 : ℝ) : EReal) := by
  unfold before
  pointwise
  rw [sumTo_read hx, hx, ← EReal.coe_neg, ← EReal.coe_add]
  congr 1
  have hs : s.val ∈ Finset.range 4096 := Finset.mem_range.mpr s.isLt
  rw [neg_add_eq_iff_eq_add, ← Finset.sum_ite_eq' (Finset.range 4096) s.val f |>.trans (if_pos hs), len, ← Finset.sum_add_distrib]
  refine Finset.sum_congr rfl fun j _ => ?_
  rcases lt_trichotomy s.val j with h | h | h
  · simp [h.not_ge, h.not_gt, h.ne']
  · simp [h]
  · simp [h, h.le, h.ne]

section

variable {z g : FVec Ideal S8x4096x4096 .f32} {n : Fin 8} {Z G : ℕ → ℕ → ℝ}
  (hz : ∀ t s : Fin 4096, z (ix3 n t s) = ((Z t s : ℝ) : EReal)) (hg : ∀ t s : Fin 4096, g (ix3 n t s) = ((G t s : ℝ) : EReal))

include hz

theorem weights_coe (t s : Fin 4096) : weights z (ix3 n t s) = ((wt Z t s : ℝ) : EReal) := by
  have hl : ∀ j : Fin 4096, keep 0x00000000#32 (Host.negf (softplus (Host.negf (Host.negf z)))) (ix3 n t j) = ((ln Z t j : ℝ) : EReal) := fun j => by
    rw [keep_coe (neg_coe (softplus_coe (neg_coe (neg_coe (hz t j))))), neg_neg]
    rfl
  have ha := after_coe (s := s) hl
  have hs := softplus_coe (neg_coe (hz t s))
  unfold weights
  rw [keep]
  pointwise
  rw [mask_read, select_decide, hs, ha, fill_bot, ← EReal.coe_neg, sp_neg, neg_sub, ← EReal.coe_add]
  unfold wt
  by_cases h : s.val < t.val
  · rw [if_pos h, if_pos h, Ideal.exp_coe]
    rfl
  · rw [if_neg h, if_neg h]
    simp

include hg

theorem dlog_coe (t s : Fin 4096) : dlog z g (ix3 n t s) = ((dw Z G t s : ℝ) : EReal) := by
  have h : mulf g (weights z) (ix3 n t s) = ((G t s * wt Z t s : ℝ) : EReal) := by
    pointwise
    rw [hg, weights_coe hz, ← EReal.coe_mul]
  unfold dlog
  rw [keep_coe h]
  congr 1
  by_cases hs : s.val < t.val
  · rw [if_pos hs]; rfl
  · rw [if_neg hs, dw_of_le _ _ (by omega)]

theorem dscore_coe (t s : Fin 4096) : dscore z g (ix3 n t s) = ((dz Z G t s : ℝ) : EReal) := by
  have hd := dlog_coe hz hg
  have hb := keep_coe (before_coe (s := s) (hd t))
  have h1 := slope_coe (neg_coe (hz t s))
  have h2 := slope_coe (neg_coe (neg_coe (hz t s)))
  rw [neg_neg] at h2
  unfold dscore
  pointwise
  rw [hd, hb, h1, h2, sg_neg]
  simp only [← EReal.coe_neg, ← EReal.coe_mul, ← EReal.coe_add]
  congr 1
  unfold dz
  by_cases hs : s.val < t.val
  · rw [if_pos hs, if_pos hs]
    unfold pre
    ring
  · rw [if_neg hs, if_neg hs, dw_of_le _ _ (by omega)]
    simp

end

/-! ## The three results -/

section

variable {q k v o : FVec Ideal S4096x1024 .bf16} {Q K V O : ℕ → ℕ → ℝ}

/-- The features of head `n` of an array over [position, head and feature]. -/
def part (X : ℕ → ℕ → ℝ) (n : ℕ) : ℕ → Fin 128 → ℝ := fun s d => X s (128 * n + d)

/-- The products of the rows of head `n` of two arrays. -/
def prods (X Y : ℕ → ℕ → ℝ) (n t s : ℕ) : ℝ := ∑ d : Fin 128, part X n t d * part Y n s d

theorem heads_coe {x : FVec Ideal S4096x1024 .bf16} {X : ℕ → ℕ → ℝ}
    (hx : ∀ (s : Fin 4096) (e : Fin 1024), x (ix2 s e) = ((X s e : ℝ) : EReal)) (n : Fin 8) (s : Fin 4096) (d : Fin 128) :
    heads x (ix3 n s d) = ((part X n s d : ℝ) : EReal) := by
  rw [heads_read, hx]
  rfl

theorem score_coe {x y : FVec Ideal S4096x1024 .bf16} {X Y : ℕ → ℕ → ℝ}
    (hx : ∀ (s : Fin 4096) (e : Fin 1024), x (ix2 s e) = ((X s e : ℝ) : EReal))
    (hy : ∀ (s : Fin 4096) (e : Fin 1024), y (ix2 s e) = ((Y s e : ℝ) : EReal)) (n : Fin 8) (t s : Fin 4096) :
    score (heads x) (heads y) (ix3 n t s) = ((prods X Y n t s : ℝ) : EReal) := by
  rw [score_read]
  simp only [heads_coe hx, heads_coe hy, ← EReal.coe_mul]
  exact coe_sum' _ _

/-- A sum over the positions. -/
theorem sum_positions (f : ℕ → ℝ) : ∑ s : Fin 4096, ((f s.val : ℝ) : EReal) = ((∑ s ∈ Finset.range len, f s : ℝ) : EReal) := by
  rw [coe_sum', len, Finset.sum_range]

theorem part_div (X : ℕ → ℕ → ℝ) (s : ℕ) (e : Fin 1024) :
    part X (e.val / 128) s (⟨e.val % 128, by omega⟩ : Fin 128) = X s e := by
  unfold part
  congr 1
  exact Nat.div_add_mod _ _

variable (hq : ∀ (s : Fin 4096) (e : Fin 1024), q (ix2 s e) = ((Q s e : ℝ) : EReal))
  (hk : ∀ (s : Fin 4096) (e : Fin 1024), k (ix2 s e) = ((K s e : ℝ) : EReal))
  (hv : ∀ (s : Fin 4096) (e : Fin 1024), v (ix2 s e) = ((V s e : ℝ) : EReal))
  (ho : ∀ (s : Fin 4096) (e : Fin 1024), o (ix2 s e) = ((O s e : ℝ) : EReal))

include hq hk ho

theorem dv_coe (s : Fin 4096) (e : Fin 1024) :
    dv q k o (ix2 s e) = ((∑ t ∈ Finset.range len, wt (prods Q K (e / 128)) t s * O t e : ℝ) : EReal) := by
  unfold dv
  rw [join_read]
  pointwise
  simp only [heads_coe ho, weights_coe (score_coe hq hk _), part_div, ← EReal.coe_mul]
  rw [← sum_positions]
  refine Finset.sum_congr rfl fun t _ => ?_
  rw [mul_comm]

include hv

theorem dq_coe (t : Fin 4096) (e : Fin 1024) :
    dq q k v o (ix2 t e) = ((∑ s ∈ Finset.range len, dz (prods Q K (e / 128)) (prods O V (e / 128)) t s * K s e : ℝ) : EReal) := by
  unfold dq
  rw [join_read]
  pointwise
  simp only [heads_coe hk, dscore_coe (score_coe hq hk _) (score_coe ho hv _), part_div, ← EReal.coe_mul]
  exact sum_positions (fun s => dz (prods Q K (e / 128)) (prods O V (e / 128)) t s * K s e)

theorem dk_coe (s : Fin 4096) (e : Fin 1024) :
    dk q k v o (ix2 s e) = ((∑ t ∈ Finset.range len, dz (prods Q K (e / 128)) (prods O V (e / 128)) t s * Q t e : ℝ) : EReal) := by
  unfold dk
  rw [join_read]
  pointwise
  simp only [heads_coe hq, dscore_coe (score_coe hq hk _) (score_coe ho hv _), part_div, ← EReal.coe_mul]
  exact sum_positions (fun t => dz (prods Q K (e / 128)) (prods O V (e / 128)) t s * Q t e)

end

end Cert.ReferenceIdeal.Stage

end
-- ==== Proof.Equal.lean ====
/-
The kernel and the reference end with the same three gradients.

Both sides are the gradients over the reals: the kernel by its arrays at the end of the region, the reference by its
composed term.
-/
module

public import proofs.«01_k».proof.Proof.HostValue
public import proofs.«01_k».proof.Proof.RefValue
public import proofs.«01_k».proof.Proof.Finite

@[expose] public section

set_option maxRecDepth 16384

noncomputable section

namespace Cert.Equal

open Idealize.ShloMosaic Idealize.ShloMosaic.TcCoe Idealize.ShloMosaic.Pointwise Idealize.SL.Sem Cert.Spec

/-- The real numbers of an array, zero outside it. -/
def reals (x : FVec Ideal Cert.KernelIdeal.S4096x1024 .bf16) (s e : ℕ) : ℝ :=
  if h : s < 4096 ∧ e < 1024 then (x (ix2 (⟨s, h.1⟩ : Fin 4096) (⟨e, h.2⟩ : Fin 1024))).toReal else 0

theorem reals_eq {x : FVec Ideal Cert.KernelIdeal.S4096x1024 .bf16} (hx : ∀ i, x i = ((x i).toReal : EReal)) (s : Fin 4096) (e : Fin 1024) :
    x (ix2 s e) = ((reals x s e : ℝ) : EReal) := by
  unfold reals
  rw [dif_pos ⟨s.isLt, e.isLt⟩]
  exact hx _

section

variable {q k v o : FVec Ideal Cert.KernelIdeal.S4096x1024 .bf16} {Q K V O : ℕ → ℕ → ℝ}
  (hq : ∀ (s : Fin 4096) (e : Fin 1024), q (ix2 s e) = ((Q s e : ℝ) : EReal))
  (hk : ∀ (s : Fin 4096) (e : Fin 1024), k (ix2 s e) = ((K s e : ℝ) : EReal))
  (hv : ∀ (s : Fin 4096) (e : Fin 1024), v (ix2 s e) = ((V s e : ℝ) : EReal))
  (ho : ∀ (s : Fin 4096) (e : Fin 1024), o (ix2 s e) = ((O s e : ℝ) : EReal))

include hq hk ho

theorem dv_eq : Cert.ReferenceIdeal.Stage.dv (F := Ideal) q k o = Cert.KernelIdeal.Tile.resV Q K O := by
  funext i
  rw [eq_ix2 i]
  exact Cert.ReferenceIdeal.Stage.dv_coe hq hk ho (i 0) (i 1)

include hv

theorem dq_eq : Cert.ReferenceIdeal.Stage.dq (F := Ideal) q k v o = Cert.KernelIdeal.Tile.resQ Q K V O := by
  funext i
  rw [eq_ix2 i]
  exact Cert.ReferenceIdeal.Stage.dq_coe hq hk hv ho (i 0) (i 1)

theorem dk_eq : Cert.ReferenceIdeal.Stage.dk (F := Ideal) q k v o = Cert.KernelIdeal.Tile.resK Q K V O := by
  funext i
  rw [eq_ix2 i]
  exact Cert.ReferenceIdeal.Stage.dk_coe hq hk hv ho (i 0) (i 1)

end

/-- The claim over the reals. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hm
  have := Cert.Pre_finite.facts
  have hr := fun (c : Dev Cert.KernelIdeal.nD) => Cert.Pre_finite.real_args (hpre c)
  have h0 := fun c => reals_eq fun i => (hr c i).1
  have h1 := fun c => reals_eq fun i => (hr c i).2.1
  have h2 := fun c => reals_eq fun i => (hr c i).2.2.1
  have h3 := fun c => reals_eq fun i => (hr c i).2.2.2
  refine ⟨fun c => Cert.KernelIdeal.Tile.resQ (reals (m ((c.tc : Thread _ _).loc Cert.KernelIdeal.main_arg0))) (reals (m ((c.tc : Thread _ _).loc Cert.KernelIdeal.main_arg1)))
      (reals (m ((c.tc : Thread _ _).loc Cert.KernelIdeal.main_arg2))) (reals (m ((c.tc : Thread _ _).loc Cert.KernelIdeal.main_arg3))),
    fun c => Cert.KernelIdeal.Tile.resK (reals (m ((c.tc : Thread _ _).loc Cert.KernelIdeal.main_arg0))) (reals (m ((c.tc : Thread _ _).loc Cert.KernelIdeal.main_arg1)))
      (reals (m ((c.tc : Thread _ _).loc Cert.KernelIdeal.main_arg2))) (reals (m ((c.tc : Thread _ _).loc Cert.KernelIdeal.main_arg3))),
    fun c => Cert.KernelIdeal.Tile.resV (reals (m ((c.tc : Thread _ _).loc Cert.KernelIdeal.main_arg0))) (reals (m ((c.tc : Thread _ _).loc Cert.KernelIdeal.main_arg1)))
      (reals (m ((c.tc : Thread _ _).loc Cert.KernelIdeal.main_arg3))), ?_, ?_⟩
  · refine (θ_run Cert.KernelIdeal.defs _ _).mono (fun r h c => ?_) (Cert.KernelIdeal.Value.run_blocks m g)
    have hf := Cert.KernelIdeal.Table.finds (h0 c) (h1 c) (h2 c) (h3 c)
    obtain ⟨a, b, d, k⟩ := h c
    exact ⟨a.trans hf.array5, b.trans hf.array6, d.trans hf.array7, k⟩
  · refine (θ_run Cert.ReferenceIdeal.defs _ _).mono (fun r h c => ?_) (Cert.ReferenceIdeal.Value.run m' g')
    obtain ⟨a, b, d, k⟩ := h c
    obtain ⟨e0, e1, e2, e3⟩ := hm c
    refine ⟨a.trans ?_, b.trans ?_, d.trans ?_, k⟩
    · refine (Cert.ReferenceIdeal.Stage.out0 m' c).trans ?_
      rw [e0, e1, e2, e3]
      exact dq_eq (h0 c) (h1 c) (h2 c) (h3 c)
    · refine (Cert.ReferenceIdeal.Stage.out1 m' c).trans ?_
      rw [e0, e1, e2, e3]
      exact dk_eq (h0 c) (h1 c) (h2 c) (h3 c)
    · refine (Cert.ReferenceIdeal.Stage.out2 m' c).trans ?_
      rw [e0, e1, e3]
      exact dv_eq (h0 c) (h1 c) (h3 c)

end Cert.Equal

end
-- ==== Proof.Gate.lean ====
/-
The first product of the feed-forward block and its gate.

The kernel multiplies a block of rows by two blocks of the weights' columns, one of each half, and applies the gate to
the two products.  The three results are the gated product and the two products.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Gate

open Idealize.ShloMosaic Idealize.ShloMosaic.TcCoe Idealize.ShloMosaic.Pointwise Idealize.SL.Sem
open Cert.Kernel2Ideal Cert.Kernel2Ideal.Gen

variable (x : FVec Ideal S4096x1024 .bf16) (w : FVec Ideal S1024x5632 .f32)

/-- The product of the rows with the first half of the columns. -/
def first : FVec Ideal S4096x2816 .bf16 := fun i =>
  ∑ k : Fin 1024, x (ix2 (⟨(i 0).val, (i 0).isLt⟩ : Fin 4096) k) * w (ix2 k (⟨(i 1).val, lt_of_lt_of_le (i 1).isLt (by decide)⟩ : Fin 5632))

/-- The product of the rows with the second half of the columns. -/
def second : FVec Ideal S4096x2816 .bf16 := fun i =>
  ∑ k : Fin 1024, x (ix2 (⟨(i 0).val, (i 0).isLt⟩ : Fin 4096) k)
    * w (ix2 k (⟨2816 + (i 1).val, Nat.add_lt_add_left (i 1).isLt 2816⟩ : Fin 5632))

/-- The gated product. -/
def gated : FVec Ideal S4096x2816 .bf16 := fun i => first x w i * Ideal.logistic (first x w i) * second x w i

/-- The blocks of a grid point. -/
theorem index : ∀ t : Fin cfg0.N, win0_0.index t = ![t.val / 11, 0] ∧ win0_1.index t = ![t.val % 11, 0] ∧ win0_2.index t = ![t.val % 11 + 11, 0]
      ∧ win0_3.index t = ![t.val / 11, t.val % 11] ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0] ∧ win0_2.index t = ![t.val % 11 + 11, 0]
      ∧ win0_3.index t = ![t.val / 11, t.val % 11] ∧ win0_4.index t = ![t.val / 11, t.val % 11] ∧ win0_5.index t = ![t.val / 11, t.val % 11])

variable (m : (ℓ : Loc nD τ sig) → Buf (Elt Ideal) ℓ) (c : Dev nD)

theorem array_gated : (dats m 0 c).arrAt 3 cfg0.N = gated (m ((c : Thread nD τ).loc main_arg0)) (m ((c : Thread nD τ).loc main_arg1)) := by
  refine (dats m 0 c).arrAt_eq_of_covers 3 _ (by decide +kernel) fun t hf y => ?_
  obtain ⟨e0, e1, e2, e3, e4, e5⟩ := index t
  blk_simp
  rw [after0_3]
  frame_out
  unfold k0_pay3 k0_pay1 k0_pay2
  pointwise
  unfold gated first second
  blk_point [iblk, Gen.V, e0, e1, e2, e3]

theorem array_first : (dats m 0 c).arrAt 4 cfg0.N = first (m ((c : Thread nD τ).loc main_arg0)) (m ((c : Thread nD τ).loc main_arg1)) := by
  refine (dats m 0 c).arrAt_eq_of_covers 4 _ (by decide +kernel) fun t hf y => ?_
  obtain ⟨e0, e1, e2, e3, e4, e5⟩ := index t
  blk_simp
  rw [after0_4]
  frame_out
  unfold k0_pay4 k0_pay1
  pointwise
  unfold first
  blk_point [iblk, Gen.V, e0, e1, e2, e4]

theorem array_second : (dats m 0 c).arrAt 5 cfg0.N = second (m ((c : Thread nD τ).loc main_arg0)) (m ((c : Thread nD τ).loc main_arg1)) := by
  refine (dats m 0 c).arrAt_eq_of_covers 5 _ (by decide +kernel) fun t hf y => ?_
  obtain ⟨e0, e1, e2, e3, e4, e5⟩ := index t
  blk_simp
  rw [after0_5]
  frame_out
  unfold k0_pay5 k0_pay2
  pointwise
  unfold second
  blk_point [iblk, Gen.V, e0, e1, e2, e5]

/-- The reference's first half. -/
theorem reference_first : extractStridedSlice S4096x2816 ![0, 0] (Host.dotGeneral (F := Ideal) Cert.Reference2Ideal.dot_S4096x1024_S1024x5632_S4096x5632_1_0_0_1_n_n none
      (extf .f32 x Cert.Reference2Ideal.Gen.bitsLt_bf16_f32) w) Cert.Reference2Ideal.Gen.slices_S4096x5632_S4096x2816_0_0 = first x w := by
  funext i
  pointwise
  unfold first
  exact Finset.sum_congr rfl fun k _ => by congr 2

/-- The reference's second half. -/
theorem reference_second : extractStridedSlice S4096x2816 ![0, 2816] (Host.dotGeneral (F := Ideal) Cert.Reference2Ideal.dot_S4096x1024_S1024x5632_S4096x5632_1_0_0_1_n_n none
      (extf .f32 x Cert.Reference2Ideal.Gen.bitsLt_bf16_f32) w) Cert.Reference2Ideal.Gen.slices_S4096x5632_S4096x2816_0_2816 = second x w := by
  funext i
  pointwise
  unfold second
  exact Finset.sum_congr rfl fun k _ => by congr 2

/-- The gate as the reference writes it. -/
theorem reference_gate (g u : FVec Ideal S4096x2816 .f32) (i : S4096x2816.Idx) :
    truncf .bf16 (mulf (mulf g (Host.divf (broadcastInDim S4096x2816 ![] Cert.Reference2Ideal.Gen.bcast_S_S4096x2816 (constant Cert.Reference2Ideal.S_ .f32 0x3F800000#32))
      (addf (broadcastInDim S4096x2816 ![] Cert.Reference2Ideal.Gen.bcast_S_S4096x2816 (constant Cert.Reference2Ideal.S_ .f32 0x3F800000#32)) (Host.exp (Host.negf g))))) u)
      Cert.Reference2Ideal.Gen.bitsLt_bf16_f32 i = g i * Ideal.logistic (g i) * u i := by
  pointwise
  rfl

/-- The claim over the reals. -/
theorem algebraic : Cert.algebraic_Kernel2Ideal_Reference2Ideal (hKernel2Ideal := Cert.Kernel2Ideal.Gen.facts)
    (hReference2Ideal := Cert.Reference2Ideal.Gen.facts) := by
  intro m g m' g' _ hm
  refine ⟨fun c => gated (m ((c : Thread nD τ).loc main_arg0)) (m ((c : Thread nD τ).loc main_arg1)),
    fun c => first (m ((c : Thread nD τ).loc main_arg0)) (m ((c : Thread nD τ).loc main_arg1)),
    fun c => second (m ((c : Thread nD τ).loc main_arg0)) (m ((c : Thread nD τ).loc main_arg1)), ?_, ?_⟩
  · refine (θ_run Cert.Kernel2Ideal.defs _ _).mono (fun r h c => ?_) (Value.run_blocks m g)
    exact ⟨(h c).1.trans (array_gated m c), (h c).2.1.trans (array_first m c), (h c).2.2.1.trans (array_second m c), (h c).2.2.2⟩
  · refine (θ_run Cert.Reference2Ideal.defs _ _).mono (fun r h c => ?_) (Cert.Reference2Ideal.Value.run m' g')
    obtain ⟨h0, h1, h2, h3⟩ := h c
    rw [(hm c).1, (hm c).2, reference_first, reference_second] at h0
    refine ⟨h0.trans (funext fun i => reference_gate _ _ i), h1.trans ?_, h2.trans ?_, h3⟩
    · rw [(hm c).1, (hm c).2]
      exact reference_first _ _
    · rw [(hm c).1, (hm c).2]
      exact reference_second _ _

end Cert.Gate

end
-- ==== Proof.DwIn.lean ====
/-
The gradient of the weights of the feed-forward block's first product.

Each entry of the result is the sum over the 4096 rows of a product of two entries. A grid point computes one block of
the result in one step, so its sum is the reference's sum.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.DwIn

open Idealize.ShloMosaic Idealize.ShloMosaic.TcCoe Idealize.ShloMosaic.Pointwise Idealize.SL.Sem
open Cert.Kernel3Ideal Cert.Kernel3Ideal.Gen

/-- The product of the transpose of the first array and the second array. -/
def prod (x : FVec Ideal S4096x5632 .bf16) (y : FVec Ideal S4096x1024 .bf16) : FVec Ideal S5632x1024 .bf16 := fun i =>
  ∑ k : Fin 4096, x (ix2 k (⟨(i 0).val, (i 0).isLt⟩ : Fin 5632)) * y (ix2 k (⟨(i 1).val, (i 1).isLt⟩ : Fin 1024))

/-- The blocks of a grid point. -/
theorem index : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg1)) (m ((c : Thread nD τ).loc main_arg0)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x5632 .bf16) (y : FVec Ideal S4096x1024 .bf16) :
    truncf .bf16 (transpose S5632x1024 [1, 0] (transpose Cert.Reference3Ideal.S1024x5632 [1, 0] (Host.dotGeneral (F := Ideal) Cert.Reference3Ideal.dot_S4096x5632_S4096x1024_S5632x1024_0_0_1_1_n_n none
      (extf .f32 x Cert.Reference3Ideal.Gen.bitsLt_bf16_f32) (extf .f32 y Cert.Reference3Ideal.Gen.bitsLt_bf16_f32)) Cert.Reference3Ideal.Gen.transposes_S5632x1024_S1024x5632_1_0)
      Cert.Reference3Ideal.Gen.transposes_S1024x5632_S5632x1024_1_0) Cert.Reference3Ideal.Gen.bitsLt_bf16_f32 = prod x y := by
  funext i
  pointwise
  unfold prod
  exact Finset.sum_congr rfl fun k _ => rfl

/-- The claim over the reals. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => prod (m ((c : Thread nD τ).loc main_arg1)) (m ((c : Thread nD τ).loc main_arg0)), ?_, ?_⟩
  · refine (θ_run Cert.Kernel3Ideal.defs _ _).mono (fun r h c => ?_) (Value.run_blocks m g)
    exact ⟨(h c).1.trans (array m c), (h c).2⟩
  · refine (θ_run Cert.Reference3Ideal.defs _ _).mono (fun r h c => ?_) (Cert.Reference3Ideal.Value.run m' g')
    refine ⟨(h c).1.trans ?_, (h c).2⟩
    rw [(hm c).1, (hm c).2]
    exact reference _ _

end Cert.DwIn

end
-- ==== Proof.DwOut.lean ====
/-
The gradient of the weights of the feed-forward block's second product.

Each entry of the result is the sum over the 4096 rows of a product of two entries. A grid point computes one block of
the result in one step, so its sum is the reference's sum.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.DwOut

open Idealize.ShloMosaic Idealize.ShloMosaic.TcCoe Idealize.ShloMosaic.Pointwise Idealize.SL.Sem
open Cert.Kernel4Ideal Cert.Kernel4Ideal.Gen

/-- The product of the transpose of the first array and the second array. -/
def prod (x : FVec Ideal S4096x2816 .bf16) (y : FVec Ideal S4096x1024 .bf16) : FVec Ideal S2816x1024 .bf16 := fun i =>
  ∑ k : Fin 4096, x (ix2 k (⟨(i 0).val, (i 0).isLt⟩ : Fin 2816)) * y (ix2 k (⟨(i 1).val, (i 1).isLt⟩ : Fin 1024))

/-- The blocks of a grid point. -/
theorem index : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x2816 .bf16) (y : FVec Ideal S4096x1024 .bf16) :
    truncf .bf16 (transpose S2816x1024 [1, 0] (Host.dotGeneral (F := Ideal) Cert.Reference4Ideal.dot_S4096x1024_S4096x2816_S1024x2816_0_0_1_1_n_n none
      (extf .f32 y Cert.Reference4Ideal.Gen.bitsLt_bf16_f32) (extf .f32 x Cert.Reference4Ideal.Gen.bitsLt_bf16_f32)) Cert.Reference4Ideal.Gen.transposes_S1024x2816_S2816x1024_1_0) Cert.Reference4Ideal.Gen.bitsLt_bf16_f32 = prod x y := by
  funext i
  pointwise
  unfold prod
  exact Finset.sum_congr rfl fun k _ => mul_comm _ _

/-- The claim over the reals. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => prod (m ((c : Thread nD τ).loc main_arg0)) (m ((c : Thread nD τ).loc main_arg1)), ?_, ?_⟩
  · refine (θ_run Cert.Kernel4Ideal.defs _ _).mono (fun r h c => ?_) (Value.run_blocks m g)
    exact ⟨(h c).1.trans (array m c), (h c).2⟩
  · refine (θ_run Cert.Reference4Ideal.defs _ _).mono (fun r h c => ?_) (Cert.Reference4Ideal.Value.run m' g')
    refine ⟨(h c).1.trans ?_, (h c).2⟩
    rw [(hm c).1, (hm c).2]
    exact reference _ _

end Cert.DwOut

end
-- ==== Proof.NormMath.lean ====
/-
The gradient of a root-mean-square norm, over the reals.

The kernels write it as `d + s g - x s³ (mean of x g)`, with `s` the reciprocal root of `u`, the mean of the squares plus
a small constant.  The references differentiate `x s`: they add twice the product of `x` and the derivative of `s` by
`u`, which is `-s / (2u)`, with `g` the gradient at the scaled row.  The two agree for all numbers, infinite ones
included: an infinite `x` makes `u` infinite and `s` zero.
-/
module

public import Idealize.ShloMosaic.Lib.Pointwise

@[expose] public section

noncomputable section

namespace Cert.NormMath

open Idealize.ShloMosaic

/-- The word of zero. -/
theorem word_zero : Ideal.ofBits FTy.f32 0x00000000#32 = 0 := by
  simp [Ideal.ofBits, Ideal.ieee]

/-- The word of one. -/
theorem word_one : Ideal.ofBits FTy.f32 0x3F800000#32 = 1 := by
  simp [Ideal.ofBits, Ideal.ieee]
  rw [← EReal.coe_mul]
  norm_num

/-- The word of the row's length. -/
theorem word_n : Ideal.ofBits FTy.f32 0x44800000#32 = ((1024 : ℝ) : EReal) := by
  simp [Ideal.ofBits, Ideal.ieee]
  rw [← EReal.coe_mul]
  norm_num

/-- The word of minus one half. -/
theorem word_half : Ideal.ofBits FTy.f32 0xBF000000#32 = ((-(1 / 2) : ℝ) : EReal) := by
  simp [Ideal.ofBits, Ideal.ieee]
  rw [← EReal.coe_mul]
  norm_num

/-- The small constant under the root. -/
theorem word_eps : ∃ e : ℝ, 0 < e ∧ Ideal.ofBits FTy.f32 0x358637BD#32 = (e : EReal) := by
  refine ⟨_, ?_, by simp [Ideal.ofBits, Ideal.ieee]; rfl⟩
  norm_num

variable {ι : Type} [Fintype ι]

/-- The mean of the squares of a row, plus the small constant. -/
def under (x : ι → EReal) : EReal :=
  Ideal.div (∑ k, x k * x k) (Ideal.ofBits FTy.f32 0x44800000#32) + Ideal.ofBits FTy.f32 0x358637BD#32

/-- What the kernels write for an entry of the gradient. -/
def kernelDx (d : EReal) (x g : ι → EReal) (i : ι) : EReal :=
  (d + Ideal.rsqrt (under x) * g i)
    - x i * (Ideal.rsqrt (under x) * Ideal.rsqrt (under x) * Ideal.rsqrt (under x))
      * Ideal.div (∑ k, x k * g k) (Ideal.ofBits FTy.f32 0x44800000#32)

/-- What multiplies `x` in the references' entry. -/
def slope (x g : ι → EReal) : EReal :=
  Ideal.div ((∑ k, x k * g k) * (Ideal.ofBits FTy.f32 0xBF000000#32 * Ideal.div (Ideal.rsqrt (under x)) (under x)))
    (Ideal.ofBits FTy.f32 0x44800000#32)

/-- What the references write for an entry of the gradient. -/
def referenceDx (d : EReal) (x g : ι → EReal) (i : ι) : EReal :=
  ((d + g i * Ideal.rsqrt (under x)) + x i * slope x g) + slope x g * x i

/-- A square is not negative, of an infinite number either. -/
theorem square_nonneg (a : EReal) : 0 ≤ a * a := by
  induction a with
  | bot => simp
  | coe a => exact_mod_cast mul_self_nonneg a
  | top => simp

/-- What stands under the root is infinite or a positive number. -/
theorem under_cases (x : ι → EReal) : under x = ⊤ ∨ ∃ u : ℝ, 0 < u ∧ under x = (u : EReal) := by
  obtain ⟨e, he, hw⟩ := word_eps
  have hs : 0 ≤ ∑ k, x k * x k := Finset.sum_nonneg fun k _ => square_nonneg (x k)
  unfold under
  rw [word_n, hw, Ideal.div_coe (by norm_num : (1024 : ℝ) ≠ 0)]
  revert hs
  generalize ∑ k, x k * x k = q
  intro hs
  induction q with
  | bot => simp at hs
  | coe q =>
    refine Or.inr ⟨q * (1 / 1024) + e, ?_, by rw [EReal.coe_add, EReal.coe_mul]⟩
    have hq : 0 ≤ q := by exact_mod_cast hs
    exact add_pos_of_nonneg_of_pos (mul_nonneg hq (by norm_num)) he
  | top =>
    refine Or.inl ?_
    rw [EReal.top_mul_coe_of_pos (by norm_num), EReal.top_add_coe]

/-- Twice the half. -/
theorem halves (p : EReal) {b : ℝ} (hb : 0 < b) : p * ((-(b / 2) : ℝ) : EReal) + p * ((-(b / 2) : ℝ) : EReal) = -(p * (b : EReal)) := by
  have h : -(b / 2) < 0 := by linarith
  induction p with
  | bot =>
    rw [EReal.bot_mul_coe_of_neg h, EReal.bot_mul_coe_of_pos hb]
    rfl
  | coe p =>
    rw [← EReal.coe_mul, ← EReal.coe_mul, ← EReal.coe_add, ← EReal.coe_neg]
    congr 1
    ring
  | top =>
    rw [EReal.top_mul_coe_of_neg h, EReal.top_mul_coe_of_pos hb]
    rfl

/-- The two forms of the gradient are equal, of infinite numbers as well. -/
theorem dx_eq (d : EReal) (x g : ι → EReal) (i : ι) : kernelDx d x g i = referenceDx d x g i := by
  have hn : (1024 : ℝ) ≠ 0 := by norm_num
  unfold kernelDx referenceDx slope
  rw [word_n, word_half]
  generalize ∑ k, x k * g k = q
  obtain hu | ⟨u, hpos, hu⟩ := under_cases x
  · rw [hu]
    simp [Ideal.div]
  · rw [hu]
    have hs : Ideal.rsqrt (u : EReal) = (((Real.sqrt u)⁻¹ : ℝ) : EReal) := by
      rw [Ideal.rsqrt_coe, if_neg hpos.le.not_gt, if_neg hpos.ne']
    have h0 : 0 < (Real.sqrt u)⁻¹ := inv_pos.mpr (Real.sqrt_pos.mpr hpos)
    have h1 : (Real.sqrt u)⁻¹ * (Real.sqrt u)⁻¹ = 1 / u := by
      rw [← mul_inv, Real.mul_self_sqrt hpos.le, one_div]
    rw [hs]
    generalize (Real.sqrt u)⁻¹ = s at h0 h1
    simp only [Ideal.div_coe hn, Ideal.div_coe hpos.ne', ← EReal.coe_mul]
    have hb : 0 < s * (1 / u) * (1 / 1024) := by positivity
    have hl : x i * ((s * s * s : ℝ) : EReal) * (q * ((1 / 1024 : ℝ) : EReal)) = x i * q * ((s * (1 / u) * (1 / 1024) : ℝ) : EReal) := by
      rw [mul_mul_mul_comm, ← EReal.coe_mul, h1, mul_comm s]
    have hr : q * ((-(1 / 2) * (s * (1 / u)) : ℝ) : EReal) * ((1 / 1024 : ℝ) : EReal) = q * ((-(s * (1 / u) * (1 / 1024) / 2) : ℝ) : EReal) := by
      rw [mul_assoc, ← EReal.coe_mul]
      congr 2
      ring
    rw [hl, hr, sub_eq_add_neg, ← halves _ hb, mul_comm (q * _) (x i), ← mul_assoc, mul_comm (g i)]
    simp only [add_assoc]

end Cert.NormMath

end
-- ==== Proof.NormStage.lean ====
/-
The gradient through a root-mean-square norm and the residual stream, for whole arrays.

`dx` and `dg` are the two results, of the rows `x`, the gain `g`, the gradient `r` at the norm's result and the gradient
`d` of the residual stream.  The references' operations are gathered into stages and read at an index.
-/
module

public import proofs.«01_k».proof.Proof.Gen.Reference12Ideal.Run
public import proofs.«01_k».proof.Proof.NormMath
public import Idealize.ShloMosaic.Lib.Pointwise

@[expose] public section

set_option maxRecDepth 16384

noncomputable section

namespace Cert.NormStage

open Idealize.ShloMosaic Idealize.ShloMosaic.Pointwise
open Cert.Reference12Ideal Cert.Reference12Ideal.Gen

/-- The gradient of the rows. -/
def dx (d x r : FVec Ideal S4096x1024 .f32) (g : FVec Ideal S1024 .f32) : FVec Ideal S4096x1024 .f32 := fun i =>
  NormMath.kernelDx (d (ix2 (⟨(i 0).val, (i 0).isLt⟩ : Fin 4096) (⟨(i 1).val, (i 1).isLt⟩ : Fin 1024)))
    (fun k : Fin 1024 => x (ix2 (⟨(i 0).val, (i 0).isLt⟩ : Fin 4096) k))
    (fun k : Fin 1024 => r (ix2 (⟨(i 0).val, (i 0).isLt⟩ : Fin 4096) k) * g (ix1 k)) (⟨(i 1).val, (i 1).isLt⟩ : Fin 1024)

/-- What a row adds to the gradient of the gain. -/
def part (x r : FVec Ideal S4096x1024 .f32) (s : Fin 4096) (k : Fin 1024) : EReal :=
  r (ix2 s k) * x (ix2 s k) * Ideal.rsqrt (NormMath.under fun l : Fin 1024 => x (ix2 s l))

/-- The gradient of the gain. -/
def dg (x r : FVec Ideal S4096x1024 .f32) : FVec Ideal S1x1024 .f32 := fun i =>
  ∑ s : Fin 4096, part x r s (⟨(i 1).val, (i 1).isLt⟩ : Fin 1024)

/-! ## The references' operations -/

/-- The gain, one copy for each row. -/
def gains (g : FVec Ideal S1024 .f32) : FVec Ideal S4096x1024 .f32 :=
  broadcastInDim S4096x1024 ![0, 1] bcast_S1x1024_S4096x1024_0_1 (broadcastInDim S1x1024 ![1] bcast_S1024_S1x1024_1 g)

/-- The mean of the squares of each row, plus the small constant. -/
def under (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- Its reciprocal root, one copy for each column. -/
def scale (x : FVec Ideal S4096x1024 .f32) : FVec Ideal S4096x1024 .f32 :=
  broadcastInDim S4096x1024 ![0, 1] bcast_S4096x1_S4096x1024_0_1 (Host.rsqrt (under x))

/-- The derivative by the sum of a row's squares, times the number `1/2` that the two factors of a square share. -/
def slope (x y : FVec Ideal S4096x1024 .f32) : FVec Ideal S4096x1024 .f32 :=
  broadcastInDim S4096x1024 ![0] bcast_S4096_S4096x1024_0 (Host.reduceAdd (Host.divf (mulf
    (shapeCast S4096x1 (Host.reduceAdd (mulf x y) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (under x)) (under x))))
    (broadcastInDim S4096x1 ![] bcast_S_S4096x1 (constant S_ .f32 0x44800000#32))) (constant S_ .f32 0x00000000#32) reducesTo_S4096x1_S4096_d1 h_S_)

/-- The gradient of the rows. -/
def rows (d x y : FVec Ideal S4096x1024 .f32) : FVec Ideal S4096x1024 .f32 :=
  addf (addf (addf d (mulf y (scale x))) (mulf x (slope x y))) (mulf (slope x y) x)

/-- The gradient of the gain. -/
def gain (x r : FVec Ideal S4096x1024 .f32) : FVec Ideal S1x1024 .f32 :=
  shapeCast S1x1024 (Host.reduceAdd (shapeCast S1x1024 (Host.reduceAdd (mulf (mulf x (scale x)) r) (constant S_ .f32 0x00000000#32)
    reducesTo_S4096x1024_S1024_d0 h_S_) shapeCasts_S1024_S1x1024) (constant S_ .f32 0x00000000#32) reducesTo_S1x1024_S1024_d0 h_S_) shapeCasts_S1024_S1x1024

/-! ## Read at an index -/

theorem gains_read (g : FVec Ideal S1024 .f32) (s : Fin 4096) (k : Fin 1024) : gains g (ix2 s k) = g (ix1 k) := by
  unfold gains
  pointwise

theorem under_read (x : FVec Ideal S4096x1024 .f32) (s : Fin 4096) (z : Fin 1) :
    under x (ix2 s z) = NormMath.under fun l : Fin 1024 => x (ix2 s l) := by
  unfold under NormMath.under
  pointwise

theorem scale_read (x : FVec Ideal S4096x1024 .f32) (s : Fin 4096) (k : Fin 1024) :
    scale x (ix2 s k) = Ideal.rsqrt (NormMath.under fun l : Fin 1024 => x (ix2 s l)) := by
  unfold scale
  pointwise
  rw [under_read]

theorem slope_read (x y : FVec Ideal S4096x1024 .f32) (s : Fin 4096) (k : Fin 1024) :
    slope x y (ix2 s k) = NormMath.slope (fun l : Fin 1024 => x (ix2 s l)) fun l : Fin 1024 => y (ix2 s l) := by
  unfold slope NormMath.slope
  pointwise
  simp only [under_read, Fin.sum_univ_one]

/-- The gradient of the rows. -/
theorem rows_eq (d x r : FVec Ideal S4096x1024 .f32) (g : FVec Ideal S1024 .f32) :
    rows d x (mulf r (gains g)) = dx d x r g := by
  funext i
  obtain ⟨s, k, rfl⟩ : ∃ (s : Fin 4096) (k : Fin 1024), i = ix2 s k := ⟨i 0, i 1, eq_ix2 i⟩
  have h : ∀ l, mulf r (gains g) (ix2 s l) = r (ix2 s l) * g (ix1 l) := fun l => by
    pointwise
    rw [gains_read]
  unfold rows
  pointwise
  rw [scale_read, slope_read, gains_read]
  simp only [h]
  exact (NormMath.dx_eq (d (ix2 s k)) (fun l => x (ix2 s l)) (fun l => r (ix2 s l) * g (ix1 l)) k).symm

/-- The gradient of the gain. -/
theorem gain_eq (x r : FVec Ideal S4096x1024 .f32) : gain x r = dg x r := by
  funext i
  obtain ⟨z, k, rfl⟩ : ∃ (z : Fin 1) (k : Fin 1024), i = ix2 z k := ⟨i 0, i 1, eq_ix2 i⟩
  unfold gain
  pointwise
  simp only [Fin.sum_univ_one, scale_read]
  refine Finset.sum_congr rfl fun s _ => ?_
  unfold part
  rw [mul_assoc, mul_comm (Ideal.rsqrt _), ← mul_assoc, mul_comm (x _)]
  rfl

end Cert.NormStage

end
-- ==== Proof.Dx.lean ====
/-
The gradient of the feed-forward layer's first product through the norm before it.

The kernel multiplies the gradient by the weights transposed, one half of the hidden units at each of two grid points,
and keeps the first half's sum in a scratch buffer.  The second point sends the sum through the norm, adds the gradient
of the residual stream, and adds the block's rows to the gradient of the gain.
-/
module

public import proofs.«01_k».proof.Defs
public import proofs.«01_k».proof.Proof.Gen.Kernel5Ideal.Value
public import proofs.«01_k».proof.Proof.Gen.Reference5Ideal.Run
public import proofs.«01_k».proof.Proof.NormStage
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Dx

open Idealize.ShloMosaic Idealize.ShloMosaic.TcCoe Idealize.ShloMosaic.Pointwise Idealize.SL.Sem
open Cert.Kernel5Ideal Cert.Kernel5Ideal.Gen

/-- The gradient at the norm's result. -/
def prod (a : FVec Ideal S4096x5632 .bf16) (w : FVec Ideal S1024x5632 .f32) : FVec Ideal S4096x1024 .f32 := fun i =>
  ∑ k : Fin 5632, a (ix2 (⟨(i 0).val, (i 0).isLt⟩ : Fin 4096) k) * w (ix2 (⟨(i 1).val, (i 1).isLt⟩ : Fin 1024) k)

/-- The blocks of a grid point. -/
theorem index : ∀ t : Fin cfg0.N, win0_0.index t = ![t.val / 2, t.val % 2] ∧ win0_1.index t = ![t.val % 2, 0] ∧ win0_2.index t = ![t.val / 2, 0]
      ∧ win0_3.index t = ![0, 0] ∧ win0_4.index t = ![t.val / 2, 0] ∧ win0_5.index t = ![t.val / 2, 0]
      ∧ win0_6.index t = ![t.val / 2, 0] :=
  (by decide +kernel : ∀ t : Fin grid0.N, win0_0.index t = ![t.val / 2, t.val % 2] ∧ win0_1.index t = ![t.val % 2, 0] ∧ win0_2.index t = ![t.val / 2, 0]
      ∧ win0_3.index t = ![0, 0] ∧ win0_4.index t = ![t.val / 2, 0] ∧ win0_5.index t = ![t.val / 2, 0]
      ∧ win0_6.index t = ![t.val / 2, 0])

theorem row_lt (t : Fin cfg0.N) (r : Fin 512) : t.val / 2 * 512 + r.val < 4096 := by
  have h : t.val < 16 := t.isLt
  omega

/-- A row of a grid point's block, in the array. -/
def row (t : Fin cfg0.N) (r : Fin 512) : Fin 4096 := ⟨t.val / 2 * 512 + r.val, row_lt t r⟩

theorem unit_lt (t : Fin cfg0.N) (l : Fin 2816) : t.val % 2 * 2816 + l.val < 5632 := by omega

/-- A hidden unit of a grid point's half, in the array. -/
def unit (t : Fin cfg0.N) (l : Fin 2816) : Fin 5632 := ⟨t.val % 2 * 2816 + l.val, unit_lt t l⟩

variable (m : (ℓ : Loc nD τ sig) → Buf (Elt Ideal) ℓ) (c : Dev nD)

/-- What a grid point adds to the product. -/
def half (a : FVec Ideal S4096x5632 .bf16) (w : FVec Ideal S1024x5632 .f32) (t : Fin cfg0.N) (r : Fin 512) (k : Fin 1024) : EReal :=
  ∑ l : Fin 2816, a (ix2 (row t r) (unit t l)) * w (ix2 k (unit t l))

/-- The two halves of a product. -/
theorem halves (a : FVec Ideal S4096x5632 .bf16) (w : FVec Ideal S1024x5632 .f32) (p t : Fin cfg0.N) (hp : p.val % 2 = 0) (ht : t.val % 2 = 1)
    (h : p.val / 2 = t.val / 2) (r : Fin 512) (k : Fin 1024) : half a w p r k + half a w t r k = prod a w (ix2 (row t r) k) := by
  have h2 : row p r = row t r := by
    unfold row
    refine Fin.ext ?_
    dsimp only
    omega
  unfold prod
  refine Eq.trans ?_ (Fin.sum_mul_add_fin 2 2816 fun l : Fin 5632 => a (ix2 (row t r) l) * w (ix2 k l))
  rw [Fin.sum_univ_two]
  unfold half
  rw [h2]
  unfold unit
  simp only [hp, ht]
  rfl

theorem step (a : FVec Ideal S512x1024 .f32) (t : Fin cfg0.N) (r : Fin 512) (k : Fin 1024) :
    k0_pay3 (F := Ideal) a (iblk m c 0 t) (iblk m c 1 t) (ix2 r k) = a (ix2 r k)
      + half (m ((c : Thread nD τ).loc main_arg3)) (m ((c : Thread nD τ).loc main_arg2)) t r k := by
  obtain ⟨e0, e1, -⟩ := index t
  unfold k0_pay3
  pointwise
  unfold half row unit
  blk_point [iblk, Gen.V, e0, e1]

/-- The point before. -/
def before (t : Fin cfg0.N) : Fin cfg0.N := ⟨t.val - 1, Nat.lt_of_le_of_lt (Nat.sub_le _ _) t.isLt⟩

/-- The scratch buffer at the second point of two. -/
def acc (t : Fin cfg0.N) : FVec Ideal S512x1024 .f32 :=
  k0_pay3 (F := Ideal) (k0_pay3 (F := Ideal) (k0_pay1 (F := Ideal)) (iblk m c 0 (before t)) (iblk m c 1 (before t))) (iblk m c 0 t) (iblk m c 1 t)

theorem tile (t : Fin cfg0.N) (h : t.val % 2 = 1) (r : Fin 512) (k : Fin 1024) :
    acc m c t (ix2 r k) = prod (m ((c : Thread nD τ).loc main_arg3)) (m ((c : Thread nD τ).loc main_arg2)) (ix2 (row t r) k) := by
  have z : k0_pay1 (F := Ideal) (ix2 r k) = 0 := by
    unfold k0_pay1
    pointwise
  unfold acc
  rw [step, step, z, zero_add]
  refine halves _ _ (before t) t ?_ h ?_ r k
  · unfold before
    dsimp only
    omega
  · unfold before
    dsimp only
    omega

/-- The scratch buffer after the first point of two. -/
theorem scratch (t : Fin cfg0.N) (h : t.val % 2 = 0) :
    (outsAt0 m c t.val t.isLt).2.2.2 = k0_pay3 (F := Ideal) (k0_pay1 (F := Ideal)) (iblk m c 0 t) (iblk m c 1 t) := by
  by_cases h1 : t.val % 16 = 0
  · rw [outsAt0_A m c t h h1 (by omega)]
    frame_out
  · rw [outsAt0_C m c t h h1 (by omega)]
    frame_out

theorem scratch_before (t : Fin cfg0.N) (h : t.val % 2 = 1) :
    (outsAt0 m c (t.val - 1) (Nat.lt_of_le_of_lt (Nat.sub_le _ _) t.isLt)).2.2.2
      = k0_pay3 (F := Ideal) (k0_pay1 (F := Ideal)) (iblk m c 0 (before t)) (iblk m c 1 (before t)) := by
  refine scratch m c (before t) ?_
  unfold before
  dsimp only
  omega

theorem rows_read (t : Fin cfg0.N) (r : Fin 512) (k : Fin 1024) :
    iblk m c 2 t (ix2 r k) = m ((c : Thread nD τ).loc main_arg0) (ix2 (row t r) k) := by
  obtain ⟨-, -, e2, -⟩ := index t
  unfold row
  blk_point [iblk, Gen.V, e2]

theorem gain_read (t : Fin cfg0.N) (z : Fin 1) (k : Fin 1024) :
    iblk m c 3 t (ix2 z k) = m ((c : Thread nD τ).loc main_arg1) (ix1 k) := by
  obtain ⟨-, -, -, e3, -⟩ := index t
  blk_point [iblk, Gen.V, e3]

theorem stream_read (t : Fin cfg0.N) (r : Fin 512) (k : Fin 1024) :
    iblk m c 4 t (ix2 r k) = m ((c : Thread nD τ).loc main_arg4) (ix2 (row t r) k) := by
  obtain ⟨-, -, -, -, e4, -⟩ := index t
  unfold row
  blk_point [iblk, Gen.V, e4]

/-- The gradient of a block's rows. -/
theorem pay6_apply (r x : FVec Ideal S512x1024 .f32) (g : FVec Ideal S1x1024 .f32) (d : FVec Ideal S512x1024 .f32) (s : Fin 512) (k : Fin 1024) :
    k0_pay6 (F := Ideal) r x g d (ix2 s k)
      = NormMath.kernelDx (d (ix2 s k)) (fun l : Fin 1024 => x (ix2 s l)) (fun l : Fin 1024 => r (ix2 s l) * g (ix2 0 l)) k := by
  unfold k0_pay6 k0_pay5 NormMath.kernelDx NormMath.under
  pointwise

/-- The rows' gradient of a block is that of the array. -/
theorem block (t : Fin cfg0.N) (h : t.val % 2 = 1) (r : Fin 512) (k : Fin 1024) :
    k0_pay6 (F := Ideal) (acc m c t) (iblk m c 2 t) (iblk m c 3 t) (iblk m c 4 t) (ix2 r k)
      = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) (ix2 (row t r) k) := by
  refine (pay6_apply _ _ _ _ r k).trans ?_
  simp only [tile m c t h, rows_read, gain_read, stream_read]
  rfl

theorem array_dx : (dats m 0 c).arrAt 5 cfg0.N
    = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
  refine (dats m 0 c).arrAt_eq_of_covers 5 _ (by decide +kernel) fun t hf y => ?_
  obtain ⟨-, -, -, -, -, e5, -⟩ := index t
  blk_simp
  obtain ⟨r, k, rfl⟩ : ∃ (r : Fin 512) (k : Fin 1024), y = ix2 r k := ⟨y 0, y 1, eq_ix2 y⟩
  have h : t.val % 2 = 1 := (flush0_5 t).mp hf
  rw [after0_5]
  refine Eq.trans ?_ ((block m c t h r k).trans ?_)
  · rw [outsAt0_B m c t (by omega) (by omega) h]
    frame_out
    simp only [read_unread_whole, scratch_before m c t h]
    rfl
  · unfold row
    blk_point [e5]

theorem array_dx_bf16 : (dats m 0 c).arrAt 6 cfg0.N
    = truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32 := by
  refine (dats m 0 c).arrAt_eq_of_covers 6 _ (by decide +kernel) fun t hf y => ?_
  obtain ⟨-, -, -, -, -, -, e6⟩ := index t
  blk_simp
  obtain ⟨r, k, rfl⟩ : ∃ (r : Fin 512) (k : Fin 1024), y = ix2 r k := ⟨y 0, y 1, eq_ix2 y⟩
  have h : t.val % 2 = 1 := (flush0_6 t).mp hf
  rw [after0_6]
  refine Eq.trans ?_ ((block m c t h r k).trans ?_)
  · rw [outsAt0_B m c t (by omega) (by omega) h]
    frame_out
    simp only [read_unread_whole, scratch_before m c t h]
    rfl
  · unfold row
    pointwise
    blk_point [e6]

/-- What a block adds to the gradient of the gain. -/
theorem pay4_apply (a : FVec Ideal S1x1024 .f32) (r x : FVec Ideal S512x1024 .f32) (z : Fin 1) (k : Fin 1024) :
    k0_pay4 (F := Ideal) (k0_pay8 a) (k0_pay9 r x) (ix2 z k)
      = a (ix2 z k) + ∑ s : Fin 512, r (ix2 s k) * x (ix2 s k) * Ideal.rsqrt (NormMath.under fun l : Fin 1024 => x (ix2 s l)) := by
  unfold k0_pay4 k0_pay8 k0_pay9 k0_pay5 NormMath.under
  pointwise

/-- The part of a grid point. -/
def add (t : Fin cfg0.N) : FVec Ideal S1x1024 .f32 := fun j =>
  ∑ s : Fin 512, NormStage.part (m ((c : Thread nD τ).loc main_arg0))
    (prod (m ((c : Thread nD τ).loc main_arg3)) (m ((c : Thread nD τ).loc main_arg2))) (row t s) (⟨(j 1).val, (j 1).isLt⟩ : Fin 1024)

theorem add_eq (a : FVec Ideal S1x1024 .f32) (t : Fin cfg0.N) (h : t.val % 2 = 1) (j : S1x1024.Idx) :
    k0_pay4 (F := Ideal) (k0_pay8 a) (k0_pay9 (acc m c t) (iblk m c 2 t)) j = a j + add m c t j := by
  obtain ⟨z, k, rfl⟩ : ∃ (z : Fin 1) (k : Fin 1024), j = ix2 z k := ⟨j 0, j 1, eq_ix2 j⟩
  refine (pay4_apply _ _ _ z k).trans ?_
  simp only [tile m c t h, rows_read]
  rfl

theorem zero_eq (j : S1x1024.Idx) : k0_pay2 (F := Ideal) j = 0 := by
  unfold k0_pay2
  pointwise

/-- What a grid point adds to the gradient of the gain: nothing at the first of two. -/
def term (t : Fin cfg0.N) : FVec Ideal S1x1024 .f32 := fun j => if t.val % 2 = 1 then add m c t j else 0

theorem gain_step (t : Fin cfg0.N) (h : ¬t.val % 16 = 0) (j : S1x1024.Idx) :
    (outsAt0 m c t.val t.isLt).2.2.1 j = (outsAt0 m c (t.val - 1) (Nat.lt_of_le_of_lt (Nat.sub_le _ _) t.isLt)).2.2.1 j + term m c t j := by
  unfold term
  by_cases h1 : t.val % 2 = 1
  · rw [outsAt0_B m c t (by omega) h h1, if_pos h1]
    frame_out
    simp only [read_unread_whole, scratch_before m c t h1]
    exact add_eq m c _ t h1 j
  · rw [outsAt0_C m c t (by omega) h h1, if_neg h1, add_zero]
    unfold out0_C_7
    rfl

theorem array_dg : (dats m 0 c).arrAt 7 cfg0.N
    = NormStage.dg (m ((c : Thread nD τ).loc main_arg0)) (prod (m ((c : Thread nD τ).loc main_arg3)) (m ((c : Thread nD τ).loc main_arg2))) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) (term m c)
    (fun t h j => by
      rw [outsAt0_A m c t (by omega) h (by omega)]
      frame_out
      unfold term
      rw [zero_eq, if_neg (by omega), add_zero])
    (fun t h j => gain_step m c t h j) (le_of_eq N_0) t0_15 rfl j, zero_add]
  refine (Fin.sum_mul_add_fin 8 2 (term m c · j)).symm.trans ?_
  simp only [Fin.sum_univ_two]
  unfold NormStage.dg
  refine Eq.trans ?_ (Fin.sum_mul_add_fin 8 512 _)
  refine Finset.sum_congr rfl fun a _ => ?_
  unfold term add row
  rw [if_neg (by dsimp only; omega), if_pos (by dsimp only; omega), zero_add]
  refine Finset.sum_congr rfl fun s _ => ?_
  congr 2
  dsimp only
  omega

/-- The product as the reference writes it. -/
theorem reference_prod (a : FVec Ideal S4096x5632 .bf16) (w : FVec Ideal S1024x5632 .f32) :
    Host.dotGeneral (F := Ideal) Cert.Reference5Ideal.dot_S4096x5632_S1024x5632_S4096x1024_1_1_0_0_n_n none
      (extf .f32 a Cert.Reference5Ideal.Gen.bitsLt_bf16_f32) w = prod a w := by
  funext i
  pointwise
  unfold prod
  rfl

/-- The claim over the reals. -/
theorem algebraic : Cert.algebraic_Kernel5Ideal_Reference5Ideal (hKernel5Ideal := Cert.Kernel5Ideal.Gen.facts)
    (hReference5Ideal := Cert.Reference5Ideal.Gen.facts) := by
  intro m g m' g' _ hm
  refine ⟨fun c => NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)),
    fun c => truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32,
    fun c => NormStage.dg (m ((c : Thread nD τ).loc main_arg0)) (prod (m ((c : Thread nD τ).loc main_arg3)) (m ((c : Thread nD τ).loc main_arg2))), ?_, ?_⟩
  · refine (θ_run Cert.Kernel5Ideal.defs _ _).mono (fun r h c => ?_) (Value.run_blocks m g)
    obtain ⟨h0, h1, h2, h3⟩ := h c
    exact ⟨h0.trans (array_dx m c), h1.trans (array_dx_bf16 m c), h2.trans (array_dg m c), h3⟩
  · refine (θ_run Cert.Reference5Ideal.defs _ _).mono (fun r h c => ?_) (Cert.Reference5Ideal.Value.run m' g')
    obtain ⟨h0, h1, h2, h3⟩ := h c
    obtain ⟨a0, a1, a2, a3, a4⟩ := hm c
    have hx : Cert.Reference5Ideal.Value.res_main_v39 m' c
        = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
      unfold Cert.Reference5Ideal.Value.res_main_v39
      rw [a0, a1, a2, a3, a4, reference_prod]
      exact NormStage.rows_eq _ _ _ _
    have hy : Cert.Reference5Ideal.Value.res_main_v40 m' c = truncf (F := Ideal) (s := S4096x1024) (φ := .f32) .bf16 (Cert.Reference5Ideal.Value.res_main_v39 m' c) bitsLt_bf16_f32 := by
      unfold Cert.Reference5Ideal.Value.res_main_v40 Cert.Reference5Ideal.Value.res_main_v39
      rfl
    refine ⟨h0.trans hx, h1.trans (hy.trans (by rw [hx])), h2.trans ?_, h3⟩
    rw [a0, a2, a3, reference_prod]
    exact NormStage.gain_eq _ _

end Cert.Dx

end
-- ==== Proof.Out.lean ====
/-
The second product of the feed-forward block, the residual stream and the norm after it.

The kernel adds the rows of the residual stream to the product and norms the sum.  A grid point has whole rows, so it
computes its block of both results in one step.
-/
module

public import proofs.«01_k».proof.Defs
public import proofs.«01_k».proof.Proof.Gen.Kernel6Ideal.Value
public import proofs.«01_k».proof.Proof.Gen.Reference6Ideal.Run
public import proofs.«01_k».proof.Proof.NormMath
public import Idealize.ShloMosaic.Lib.Pipeline.ValueKit
public import Idealize.ShloMosaic.Lib.Pointwise

@[expose] public section

set_option maxRecDepth 16384

noncomputable section

namespace Cert.Out

open Idealize.ShloMosaic Idealize.ShloMosaic.TcCoe Idealize.ShloMosaic.Pointwise Idealize.SL.Sem
open Cert.Kernel6Ideal Cert.Kernel6Ideal.Gen

/-- The residual stream plus the product. -/
def out (h : FVec Ideal S4096x1024 .f32) (a : FVec Ideal S4096x2816 .bf16) (w : FVec Ideal S2816x1024 .f32) : FVec Ideal S4096x1024 .f32 := fun i =>
  (∑ k : Fin 2816, a (ix2 (⟨(i 0).val, (i 0).isLt⟩ : Fin 4096) k) * w (ix2 k (⟨(i 1).val, (i 1).isLt⟩ : Fin 1024)))
    + h (ix2 (⟨(i 0).val, (i 0).isLt⟩ : Fin 4096) (⟨(i 1).val, (i 1).isLt⟩ : Fin 1024))

/-- The norm of an array's rows, scaled. -/
def normed (o : FVec Ideal S4096x1024 .f32) (g : FVec Ideal S1024 .f32) : FVec Ideal S4096x1024 .bf16 := fun i =>
  o (ix2 (⟨(i 0).val, (i 0).isLt⟩ : Fin 4096) (⟨(i 1).val, (i 1).isLt⟩ : Fin 1024))
    * Ideal.rsqrt (NormMath.under fun k : Fin 1024 => o (ix2 (⟨(i 0).val, (i 0).isLt⟩ : Fin 4096) k))
    * g (ix1 (⟨(i 1).val, (i 1).isLt⟩ : Fin 1024))

/-- The blocks of a grid point. -/
theorem index : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0])

variable (m : (ℓ : Loc nD τ sig) → Buf (Elt Ideal) ℓ) (c : Dev nD)

theorem array_out : (dats m 0 c).arrAt 4 cfg0.N
    = out (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5⟩ := index t
  blk_simp
  rw [after0_4]
  unfold outsAt0
  frame_out
  unfold k0_pay3 k0_pay2 k0_pay1
  pointwise
  unfold out
  blk_point [iblk, Gen.V, e0, e1, e2, e3, e4]

/-- A row of a grid point's block is a row of the array. -/
theorem row_lt (t : Fin cfg0.N) (r : Fin 512) : t.val * 512 + r.val < 4096 := by
  have h : t.val < 8 := t.isLt
  omega

theorem tile (t : Fin cfg0.N) (r : Fin 512) (k : Fin 1024) :
    k0_pay3 (F := Ideal) (k0_pay2 k0_pay1 (iblk m c 0 t) (iblk m c 1 t)) (iblk m c 2 t) (ix2 r k)
      = out (m ((c : Thread nD τ).loc main_arg0)) (m ((c : Thread nD τ).loc main_arg1)) (m ((c : Thread nD τ).loc main_arg2))
          (ix2 (⟨t.val * 512 + r.val, row_lt t r⟩ : Fin 4096) k) := by
  obtain ⟨e0, e1, e2, e3, e4, e5⟩ := index t
  unfold k0_pay3 k0_pay2 k0_pay1
  pointwise
  unfold out
  blk_point [iblk, Gen.V, e0, e1, e2, e3]

/-- The norm of a block. -/
theorem pay4_apply (u v : FVec Ideal S512x1024 .f32) (g : FVec Ideal S1x1024 .f32) (r : Fin 512) (k : Fin 1024) :
    k0_pay4 (F := Ideal) u v g (ix2 r k)
      = k0_pay3 (F := Ideal) u v (ix2 r k) * Ideal.rsqrt (NormMath.under fun l : Fin 1024 => k0_pay3 (F := Ideal) u v (ix2 r l)) * g (ix2 0 k) := by
  unfold k0_pay4 NormMath.under
  pointwise

theorem array_normed : (dats m 0 c).arrAt 5 cfg0.N
    = normed (out (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  obtain ⟨e0, e1, e2, e3, e4, e5⟩ := index t
  blk_simp
  rw [after0_5]
  unfold outsAt0
  frame_out
  obtain ⟨r, k, rfl⟩ : ∃ (r : Fin 512) (k : Fin 1024), y = ix2 r k := ⟨y 0, y 1, eq_ix2 y⟩
  refine (pay4_apply _ _ _ r k).trans ?_
  simp only [tile]
  unfold normed
  blk_point [iblk, Gen.V, e3, e5]

/-- The reference's first result. -/
theorem reference_out (h : FVec Ideal S4096x1024 .f32) (a : FVec Ideal S4096x2816 .bf16) (w : FVec Ideal S2816x1024 .f32) :
    addf h (Host.dotGeneral (F := Ideal) Cert.Reference6Ideal.dot_S4096x2816_S2816x1024_S4096x1024_1_0_0_1_n_n none
      (extf .f32 a Cert.Reference6Ideal.Gen.bitsLt_bf16_f32) w) = out h a w := by
  funext i
  pointwise
  unfold out
  rw [add_comm]
  exact congrArg₂ (fun p q : EReal => p + q) rfl (congrArg h (eq_ix2 i))

/-- The norm as the reference writes it. -/
theorem reference_normed (o : FVec Ideal S4096x1024 .f32) (g : FVec Ideal S1024 .f32) :
    truncf .bf16 (mulf (mulf o (broadcastInDim S4096x1024 ![0, 1] Cert.Reference6Ideal.Gen.bcast_S4096x1_S4096x1024_0_1 (Host.rsqrt (addf
      (Host.divf (broadcastInDim Cert.Reference6Ideal.S4096x1 ![0] Cert.Reference6Ideal.Gen.bcast_S4096_S4096x1_0
        (Host.reduceAdd (mulf o o) (constant Cert.Reference6Ideal.S_ .f32 0x00000000#32) Cert.Reference6Ideal.Gen.reducesTo_S4096x1024_S4096_d1 Cert.Reference6Ideal.Gen.h_S_))
        (broadcastInDim Cert.Reference6Ideal.S4096x1 ![] Cert.Reference6Ideal.Gen.bcast_S_S4096x1 (constant Cert.Reference6Ideal.S_ .f32 0x44800000#32)))
      (broadcastInDim Cert.Reference6Ideal.S4096x1 ![] Cert.Reference6Ideal.Gen.bcast_S_S4096x1 (constant Cert.Reference6Ideal.S_ .f32 0x358637BD#32))))))
      (broadcastInDim S4096x1024 ![0, 1] Cert.Reference6Ideal.Gen.bcast_S1x1024_S4096x1024_0_1
        (broadcastInDim Cert.Reference6Ideal.S1x1024 ![1] Cert.Reference6Ideal.Gen.bcast_S1024_S1x1024_1 g)))
      Cert.Reference6Ideal.Gen.bitsLt_bf16_f32 = normed o g := by
  funext i
  pointwise
  unfold normed NormMath.under
  congr 1
  congr 1
  exact congrArg o (eq_ix2 i)

/-- The claim over the reals. -/
theorem algebraic : Cert.algebraic_Kernel6Ideal_Reference6Ideal (hKernel6Ideal := Cert.Kernel6Ideal.Gen.facts)
    (hReference6Ideal := Cert.Reference6Ideal.Gen.facts) := by
  intro m g m' g' _ hm
  refine ⟨fun c => out (m ((c : Thread nD τ).loc main_arg0)) (m ((c : Thread nD τ).loc main_arg1)) (m ((c : Thread nD τ).loc main_arg2)),
    fun c => normed (out (m ((c : Thread nD τ).loc main_arg0)) (m ((c : Thread nD τ).loc main_arg1)) (m ((c : Thread nD τ).loc main_arg2)))
      (m ((c : Thread nD τ).loc main_arg3)), ?_, ?_⟩
  · refine (θ_run Cert.Kernel6Ideal.defs _ _).mono (fun r h c => ?_) (Value.run_blocks m g)
    exact ⟨(h c).1.trans (array_out m c), (h c).2.1.trans (array_normed m c), (h c).2.2⟩
  · refine (θ_run Cert.Reference6Ideal.defs _ _).mono (fun r h c => ?_) (Cert.Reference6Ideal.Value.run m' g')
    obtain ⟨h0, h1, h2⟩ := h c
    rw [(hm c).1, (hm c).2.1, (hm c).2.2.1, reference_out] at h0
    rw [(hm c).1, (hm c).2.1, (hm c).2.2.1, (hm c).2.2.2, reference_out] at h1
    exact ⟨h0, h1.trans (reference_normed _ _), h2⟩

end Cert.Out

end
-- ==== Proof.DwMix.lean ====
/-
The gradient of the weights of the recurrent mixer's projection.

Each entry of the result is the sum over the 4096 rows of a product of two entries. A grid point computes one block of
the result in one step, so its sum is the reference's sum.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.DwMix

open Idealize.ShloMosaic Idealize.ShloMosaic.TcCoe Idealize.ShloMosaic.Pointwise Idealize.SL.Sem
open Cert.Kernel7Ideal Cert.Kernel7Ideal.Gen

/-- The product of the transpose of the first array and the second array. -/
def prod (x : FVec Ideal S4096x4096 .bf16) (y : FVec Ideal S4096x1024 .bf16) : FVec Ideal S4096x1024 .bf16 := fun i =>
  ∑ k : Fin 4096, x (ix2 k (⟨(i 0).val, (i 0).isLt⟩ : Fin 4096)) * y (ix2 k (⟨(i 1).val, (i 1).isLt⟩ : Fin 1024))

/-- The blocks of a grid point. -/
theorem index : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg1)) (m ((c : Thread nD τ).loc main_arg0)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x4096 .bf16) (y : FVec Ideal S4096x1024 .bf16) :
    truncf .bf16 (transpose S4096x1024 [1, 0] (transpose Cert.Reference7Ideal.S1024x4096 [1, 0] (Host.dotGeneral (F := Ideal) Cert.Reference7Ideal.dot_S4096x4096_S4096x1024_S4096x1024_0_0_1_1_n_n none
      (extf .f32 x Cert.Reference7Ideal.Gen.bitsLt_bf16_f32) (extf .f32 y Cert.Reference7Ideal.Gen.bitsLt_bf16_f32)) Cert.Reference7Ideal.Gen.transposes_S4096x1024_S1024x4096_1_0)
      Cert.Reference7Ideal.Gen.transposes_S1024x4096_S4096x1024_1_0) Cert.Reference7Ideal.Gen.bitsLt_bf16_f32 = prod x y := by
  funext i
  pointwise
  unfold prod
  exact Finset.sum_congr rfl fun k _ => rfl

/-- The claim over the reals. -/
theorem algebraic : Cert.algebraic_Kernel7Ideal_Reference7Ideal (hKernel7Ideal := Cert.Kernel7Ideal.Gen.facts)
    (hReference7Ideal := Cert.Reference7Ideal.Gen.facts) := by
  intro m g m' g' _ hm
  refine ⟨fun c => prod (m ((c : Thread nD τ).loc main_arg1)) (m ((c : Thread nD τ).loc main_arg0)), ?_, ?_⟩
  · refine (θ_run Cert.Kernel7Ideal.defs _ _).mono (fun r h c => ?_) (Value.run_blocks m g)
    exact ⟨(h c).1.trans (array m c), (h c).2⟩
  · refine (θ_run Cert.Reference7Ideal.defs _ _).mono (fun r h c => ?_) (Cert.Reference7Ideal.Value.run m' g')
    refine ⟨(h c).1.trans ?_, (h c).2⟩
    rw [(hm c).1, (hm c).2]
    exact reference _ _

end Cert.DwMix

end
-- ==== Proof.DwSquare.lean ====
/-
The gradient of the weights of a square product.

Each entry of the result is the sum over the 4096 rows of a product of two entries. A grid point computes one block of
the result in one step, so its sum is the reference's sum.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.DwSquare

open Idealize.ShloMosaic Idealize.ShloMosaic.TcCoe Idealize.ShloMosaic.Pointwise Idealize.SL.Sem
open Cert.Kernel8Ideal Cert.Kernel8Ideal.Gen

/-- The product of the transpose of the first array and the second array. -/
def prod (x : FVec Ideal S4096x1024 .bf16) (y : FVec Ideal S4096x1024 .bf16) : FVec Ideal S1024x1024 .bf16 := fun i =>
  ∑ k : Fin 4096, x (ix2 k (⟨(i 0).val, (i 0).isLt⟩ : Fin 1024)) * y (ix2 k (⟨(i 1).val, (i 1).isLt⟩ : Fin 1024))

/-- The blocks of a grid point. -/
theorem index : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x1024 .bf16) (y : FVec Ideal S4096x1024 .bf16) :
    truncf .bf16 (transpose S1024x1024 [1, 0] (Host.dotGeneral (F := Ideal) Cert.Reference8Ideal.dot_S4096x1024_S4096x1024_S1024x1024_0_0_1_1_n_n none
      (extf .f32 y Cert.Reference8Ideal.Gen.bitsLt_bf16_f32) (extf .f32 x Cert.Reference8Ideal.Gen.bitsLt_bf16_f32)) Cert.Reference8Ideal.Gen.transposes_S1024x1024_S1024x1024_1_0) Cert.Reference8Ideal.Gen.bitsLt_bf16_f32 = prod x y := by
  funext i
  pointwise
  unfold prod
  exact Finset.sum_congr rfl fun k _ => mul_comm _ _

/-- The claim over the reals. -/
theorem algebraic : Cert.algebraic_Kernel8Ideal_Reference8Ideal (hKernel8Ideal := Cert.Kernel8Ideal.Gen.facts)
    (hReference8Ideal := Cert.Reference8Ideal.Gen.facts) := by
  intro m g m' g' _ hm
  refine ⟨fun c => prod (m ((c : Thread nD τ).loc main_arg0)) (m ((c : Thread nD τ).loc main_arg1)), ?_, ?_⟩
  · refine (θ_run Cert.Kernel8Ideal.defs _ _).mono (fun r h c => ?_) (Value.run_blocks m g)
    exact ⟨(h c).1.trans (array m c), (h c).2⟩
  · refine (θ_run Cert.Reference8Ideal.defs _ _).mono (fun r h c => ?_) (Cert.Reference8Ideal.Value.run m' g')
    refine ⟨(h c).1.trans ?_, (h c).2⟩
    rw [(hm c).1, (hm c).2]
    exact reference _ _

end Cert.DwSquare

end
-- ==== Proof.ProjMix.lean ====
/-
The first product of the recurrent mixer.

The weights are transposed before the kernel runs, and the kernel multiplies by the transpose of that; each grid point
computes one block of the result in one step.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.ProjMix

open Idealize.ShloMosaic Idealize.ShloMosaic.TcCoe Idealize.ShloMosaic.Pointwise Idealize.SL.Sem
open Cert.Kernel9Ideal Cert.Kernel9Ideal.Gen

/-- The product of the rows with the first 4096 columns of the weights. -/
def prod (x : FVec Ideal S4096x1024 .bf16) (w : FVec Ideal S1024x4112 .f32) : FVec Ideal S4096x4096 .f32 := fun i =>
  ∑ k : Fin 1024, x (ix2 (⟨(i 0).val, (i 0).isLt⟩ : Fin 4096) k)
    * w (ix2 k (⟨(i 1).val, lt_of_lt_of_le (i 1).isLt (by decide)⟩ : Fin 4112))

/-- The blocks of a grid point. -/
theorem index : ∀ t : Fin cfg0.N, win0_0.index t = ![t.val / 8, 0] ∧ win0_1.index t = ![t.val % 8, 0] ∧ win0_2.index t = ![t.val / 8, t.val % 8] :=
  (by decide +kernel : ∀ t : Fin grid0.N, win0_0.index t = ![t.val / 8, 0] ∧ win0_1.index t = ![t.val % 8, 0] ∧ win0_2.index t = ![t.val / 8, t.val % 8])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2
  pointwise
  unfold prod
  blk_point [iblk, Gen.V, e0, e1, e2]

/-- The reference's result is the same product. -/
theorem reference (x : FVec Ideal S4096x1024 .bf16) (w : FVec Ideal S1024x4112 .f32) :
    extractStridedSlice S4096x4096 ![0, 0] (Host.dotGeneral (F := Ideal) Cert.Reference9Ideal.dot_S4096x1024_S1024x4112_S4096x4112_1_0_0_1_n_n none
      (extf .f32 x Cert.Reference9Ideal.Gen.bitsLt_bf16_f32) w) Cert.Reference9Ideal.Gen.slices_S4096x4112_S4096x4096_0_0 = prod x w := by
  funext i
  pointwise
  unfold prod
  exact Finset.sum_congr rfl fun k _ => by congr 2

/-- The claim over the reals. -/
theorem algebraic : Cert.algebraic_Kernel9Ideal_Reference9Ideal (hKernel9Ideal := Cert.Kernel9Ideal.Gen.facts)
    (hReference9Ideal := Cert.Reference9Ideal.Gen.facts) := by
  intro m g m' g' _ hm
  refine ⟨fun c => prod (m ((c : Thread nD τ).loc main_arg0)) (m ((c : Thread nD τ).loc main_arg1)), ?_, ?_⟩
  · refine (θ_run Cert.Kernel9Ideal.defs _ _).mono (fun r h c => ?_) (Value.run_blocks m g)
    exact ⟨(h c).1.trans (array m c), (h c).2⟩
  · refine (θ_run Cert.Reference9Ideal.defs _ _).mono (fun r h c => ?_) (Cert.Reference9Ideal.Value.run m' g')
    refine ⟨(h c).1.trans ?_, (h c).2⟩
    rw [(hm c).1, (hm c).2]
    exact reference _ _

end Cert.ProjMix

end
-- ==== Proof.DxMix.lean ====
/-
The gradient of the input product of a mixer through the norm before it.

The kernel multiplies the gradient by the transposed columns of the weights it belongs to, adds what the other columns
gave, sends the sum through the norm and adds the gradient of the residual stream; each grid point has whole rows.  The gradient of the gain is summed over the grid points.
-/
module

public import proofs.«01_k».proof.Defs
public import proofs.«01_k».proof.Proof.Gen.Kernel10Ideal.Value
public import proofs.«01_k».proof.Proof.Gen.Reference10Ideal.Run
public import proofs.«01_k».proof.Proof.NormStage
public import Idealize.ShloMosaic.Lib.Pipeline.ValueKit
public import Idealize.ShloMosaic.Lib.Pointwise

@[expose] public section

set_option maxRecDepth 16384

noncomputable section

namespace Cert.DxMix

open Idealize.ShloMosaic Idealize.ShloMosaic.TcCoe Idealize.ShloMosaic.Pointwise Idealize.SL.Sem
open Cert.Kernel10Ideal Cert.Kernel10Ideal.Gen

/-- The gradient at the norm's result. -/
def prod (a : FVec Ideal S4096x4096 .bf16) (w : FVec Ideal S1024x4112 .f32) (e : FVec Ideal S4096x1024 .f32) : FVec Ideal S4096x1024 .f32 := fun i =>
  (∑ k : Fin 4096, a (ix2 (⟨(i 0).val, (i 0).isLt⟩ : Fin 4096) k)
      * w (ix2 (⟨(i 1).val, (i 1).isLt⟩ : Fin 1024) (⟨k.val, Nat.lt_of_lt_of_le k.isLt (by decide)⟩ : Fin 4112)))
    + e (ix2 (⟨(i 0).val, (i 0).isLt⟩ : Fin 4096) (⟨(i 1).val, (i 1).isLt⟩ : Fin 1024))

/-- The blocks of a grid point. -/
theorem index : ∀ t : Fin cfg0.N, win0_0.index t = ![t.val, 0] ∧ win0_1.index t = ![0, 0] ∧ win0_2.index t = ![t.val, 0]
      ∧ win0_3.index t = ![t.val, 0] ∧ win0_4.index t = ![0, 0] ∧ win0_5.index t = ![t.val, 0]
      ∧ win0_6.index t = ![t.val, 0] ∧ win0_7.index t = ![t.val, 0] :=
  (by decide +kernel : ∀ t : Fin grid0.N, win0_0.index t = ![t.val, 0] ∧ win0_1.index t = ![0, 0] ∧ win0_2.index t = ![t.val, 0]
      ∧ win0_3.index t = ![t.val, 0] ∧ win0_4.index t = ![0, 0] ∧ win0_5.index t = ![t.val, 0]
      ∧ win0_6.index t = ![t.val, 0] ∧ win0_7.index t = ![t.val, 0])

/-- A row of a grid point's block is a row of the array. -/
theorem row_lt (t : Fin cfg0.N) (r : Fin 256) : t.val * 256 + r.val < 4096 := by
  have h : t.val < 16 := t.isLt
  omega

/-- That row. -/
def row (t : Fin cfg0.N) (r : Fin 256) : Fin 4096 := ⟨t.val * 256 + r.val, row_lt t r⟩

variable (m : (ℓ : Loc nD τ sig) → Buf (Elt Ideal) ℓ) (c : Dev nD)

theorem tile (t : Fin cfg0.N) (r : Fin 256) (k : Fin 1024) :
    k0_pay5 (F := Ideal) (k0_pay3 (F := Ideal) (k0_pay1 (F := Ideal)) (iblk m c 0 t) (iblk m c 1 t)) (iblk m c 2 t) (ix2 r k)
      = prod (m ((c : Thread nD τ).loc main_arg3)) (m ((c : Thread nD τ).loc main_arg2)) (m ((c : Thread nD τ).loc main_arg4)) (ix2 (row t r) k) := by
  obtain ⟨e0, e1, e2, -⟩ := index t
  unfold k0_pay5 k0_pay3 k0_pay1
  pointwise
  unfold prod row
  blk_point [iblk, Gen.V, e0, e1, e2]

theorem rows_read (t : Fin cfg0.N) (r : Fin 256) (k : Fin 1024) :
    iblk m c 3 t (ix2 r k) = m ((c : Thread nD τ).loc main_arg0) (ix2 (row t r) k) := by
  obtain ⟨-, -, -, e3, -⟩ := index t
  unfold row
  blk_point [iblk, Gen.V, e3]

theorem gain_read (t : Fin cfg0.N) (z : Fin 1) (k : Fin 1024) :
    iblk m c 4 t (ix2 z k) = m ((c : Thread nD τ).loc main_arg1) (ix1 k) := by
  obtain ⟨-, -, -, -, e4, -⟩ := index t
  blk_point [iblk, Gen.V, e4]

theorem stream_read (t : Fin cfg0.N) (r : Fin 256) (k : Fin 1024) :
    iblk m c 5 t (ix2 r k) = m ((c : Thread nD τ).loc main_arg5) (ix2 (row t r) k) := by
  obtain ⟨-, -, -, -, -, e5, -⟩ := index t
  unfold row
  blk_point [iblk, Gen.V, e5]

/-- The gradient of a block's rows. -/
theorem pay7_apply (p e x : FVec Ideal S256x1024 .f32) (g : FVec Ideal S1x1024 .f32) (d : FVec Ideal S256x1024 .f32) (s : Fin 256) (k : Fin 1024) :
    k0_pay7 (F := Ideal) p e x g d (ix2 s k)
      = NormMath.kernelDx (d (ix2 s k)) (fun l : Fin 1024 => x (ix2 s l)) (fun l : Fin 1024 => k0_pay5 (F := Ideal) p e (ix2 s l) * g (ix2 0 l)) k := by
  unfold k0_pay7 k0_pay6 k0_pay5 NormMath.kernelDx NormMath.under
  pointwise

/-- The rows' gradient of a block is that of the array. -/
theorem block (t : Fin cfg0.N) (r : Fin 256) (k : Fin 1024) :
    k0_pay7 (F := Ideal) (k0_pay3 (k0_pay1 (F := Ideal)) (iblk m c 0 t) (iblk m c 1 t)) (iblk m c 2 t) (iblk m c 3 t) (iblk m c 4 t) (iblk m c 5 t) (ix2 r k)
      = NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1)) (ix2 (row t r) k) := by
  refine (pay7_apply _ _ _ _ _ r k).trans ?_
  simp only [tile, rows_read, gain_read, stream_read]
  rfl

theorem array_dx : (dats m 0 c).arrAt 6 cfg0.N
    = NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1)) := by
  refine (dats m 0 c).arrAt_eq_of_covers 6 _ (by decide +kernel) fun t hf y => ?_
  obtain ⟨-, -, -, -, -, -, e6, -⟩ := index t
  blk_simp
  obtain ⟨r, k, rfl⟩ : ∃ (r : Fin 256) (k : Fin 1024), y = ix2 r k := ⟨y 0, y 1, eq_ix2 y⟩
  rw [after0_6]
  refine Eq.trans ?_ ((block m c t r k).trans ?_)
  · by_cases h : t.val % 16 = 0
    · rw [outsAt0_A m c t h]
      frame_out
    · rw [outsAt0_B m c t h]
      frame_out
  · unfold row
    blk_point [e6]

theorem array_dx_bf16 : (dats m 0 c).arrAt 7 cfg0.N
    = truncf .bf16 (NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1))) bitsLt_bf16_f32 := by
  refine (dats m 0 c).arrAt_eq_of_covers 7 _ (by decide +kernel) fun t hf y => ?_
  obtain ⟨-, -, -, -, -, -, -, e7⟩ := index t
  blk_simp
  obtain ⟨r, k, rfl⟩ : ∃ (r : Fin 256) (k : Fin 1024), y = ix2 r k := ⟨y 0, y 1, eq_ix2 y⟩
  rw [after0_7]
  refine Eq.trans ?_ ((block m c t r k).trans ?_)
  · by_cases h : t.val % 16 = 0
    · rw [outsAt0_A m c t h]
      frame_out
      rfl
    · rw [outsAt0_B m c t h]
      frame_out
      rfl
  · unfold row
    pointwise
    blk_point [e7]

/-- What a block adds to the gradient of the gain. -/
theorem pay4_apply (a : FVec Ideal S1x1024 .f32) (q x : FVec Ideal S256x1024 .f32) (z : Fin 1) (k : Fin 1024) :
    k0_pay4 (F := Ideal) q x (k0_pay6 x) (k0_pay9 a) (ix2 z k)
      = a (ix2 z k) + ∑ s : Fin 256, q (ix2 s k) * x (ix2 s k) * Ideal.rsqrt (NormMath.under fun l : Fin 1024 => x (ix2 s l)) := by
  unfold k0_pay4 k0_pay9 k0_pay6 NormMath.under
  pointwise

/-- The part of a grid point. -/
def add (t : Fin cfg0.N) : FVec Ideal S1x1024 .f32 := fun j =>
  ∑ s : Fin 256, NormStage.part (m ((c : Thread nD τ).loc main_arg0))
    (prod (m ((c : Thread nD τ).loc main_arg3)) (m ((c : Thread nD τ).loc main_arg2)) (m ((c : Thread nD τ).loc main_arg4))) (row t s) (⟨(j 1).val, (j 1).isLt⟩ : Fin 1024)

theorem add_eq (a : FVec Ideal S1x1024 .f32) (t : Fin cfg0.N) (j : S1x1024.Idx) :
    k0_pay4 (F := Ideal) (k0_pay5 (k0_pay3 (k0_pay1 (F := Ideal)) (iblk m c 0 t) (iblk m c 1 t)) (iblk m c 2 t)) (iblk m c 3 t) (k0_pay6 (iblk m c 3 t)) (k0_pay9 a) j = a j + add m c t j := by
  obtain ⟨z, k, rfl⟩ : ∃ (z : Fin 1) (k : Fin 1024), j = ix2 z k := ⟨j 0, j 1, eq_ix2 j⟩
  refine (pay4_apply _ _ _ z k).trans ?_
  simp only [tile, rows_read]
  rfl

theorem zero_eq (j : S1x1024.Idx) : k0_pay2 (F := Ideal) j = 0 := by
  unfold k0_pay2
  pointwise

theorem array_dg : (dats m 0 c).arrAt 8 cfg0.N
    = NormStage.dg (m ((c : Thread nD τ).loc main_arg0)) (prod (m ((c : Thread nD τ).loc main_arg3)) (m ((c : Thread nD τ).loc main_arg2)) (m ((c : Thread nD τ).loc main_arg4))) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) (add m c)
    (fun t h j => by rw [outsAt0_A m c t h]; frame_out; rw [add_eq, zero_eq])
    (fun t h j => by rw [outsAt0_B m c t h]; frame_out; rw [add_eq])
    (le_of_eq N_0) t0_15 rfl j, zero_add]
  unfold add NormStage.dg row
  refine Fin.sum_mul_add_congr fun t k hl => ?_
  rfl

/-- The product as the reference writes it. -/
theorem reference_prod (a : FVec Ideal S4096x4096 .bf16) (w : FVec Ideal S1024x4112 .f32) (e : FVec Ideal S4096x1024 .f32) :
    addf e (Host.dotGeneral (F := Ideal) Cert.Reference10Ideal.dot_S4096x4096_S1024x4096_S4096x1024_1_1_0_0_n_n none
      (extf .f32 a Cert.Reference10Ideal.Gen.bitsLt_bf16_f32)
      (extractStridedSlice Cert.Reference10Ideal.S1024x4096 ![0, 0] w Cert.Reference10Ideal.Gen.slices_S1024x4112_S1024x4096_0_0)) = prod a w e := by
  funext i
  obtain ⟨s, k, rfl⟩ : ∃ (s : Fin 4096) (k : Fin 1024), i = ix2 s k := ⟨i 0, i 1, eq_ix2 i⟩
  pointwise
  unfold prod
  rw [add_comm]
  blk_point []

/-- The claim over the reals. -/
theorem algebraic : Cert.algebraic_Kernel10Ideal_Reference10Ideal (hKernel10Ideal := Cert.Kernel10Ideal.Gen.facts)
    (hReference10Ideal := Cert.Reference10Ideal.Gen.facts) := by
  intro m g m' g' _ hm
  refine ⟨fun c => NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1)),
    fun c => truncf .bf16 (NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1))) bitsLt_bf16_f32,
    fun c => NormStage.dg (m ((c : Thread nD τ).loc main_arg0)) (prod (m ((c : Thread nD τ).loc main_arg3)) (m ((c : Thread nD τ).loc main_arg2)) (m ((c : Thread nD τ).loc main_arg4))), ?_, ?_⟩
  · refine (θ_run Cert.Kernel10Ideal.defs _ _).mono (fun r h c => ?_) (Value.run_blocks m g)
    obtain ⟨h0, h1, h2, h3⟩ := h c
    exact ⟨h0.trans (array_dx m c), h1.trans (array_dx_bf16 m c), h2.trans (array_dg m c), h3⟩
  · refine (θ_run Cert.Reference10Ideal.defs _ _).mono (fun r h c => ?_) (Cert.Reference10Ideal.Value.run m' g')
    obtain ⟨h0, h1, h2, h3⟩ := h c
    obtain ⟨a0, a1, a2, a3, a4, a5⟩ := hm c
    have hx : Cert.Reference10Ideal.Value.res_main_v41 m' c
        = NormStage.dx (m ((c : Thread nD τ).loc main_arg5)) (m ((c : Thread nD τ).loc main_arg0))
          (prod (m ((c : Thread nD τ).loc main_arg3)) (m ((c : Thread nD τ).loc main_arg2)) (m ((c : Thread nD τ).loc main_arg4))) (m ((c : Thread nD τ).loc main_arg1)) := by
      unfold Cert.Reference10Ideal.Value.res_main_v41
      rw [a0, a1, a2, a3, a4, a5, reference_prod]
      exact NormStage.rows_eq _ _ _ _
    have hy : Cert.Reference10Ideal.Value.res_main_v42 m' c = truncf (F := Ideal) (s := S4096x1024) (φ := .f32) .bf16 (Cert.Reference10Ideal.Value.res_main_v41 m' c) bitsLt_bf16_f32 := by
      unfold Cert.Reference10Ideal.Value.res_main_v42 Cert.Reference10Ideal.Value.res_main_v41
      rfl
    refine ⟨h0.trans hx, h1.trans (hy.trans (by rw [hx])), h2.trans ?_, h3⟩
    rw [a0, a2, a3, a4, reference_prod]
    exact NormStage.gain_eq _ _

end Cert.DxMix

end
-- ==== Proof.OutMix.lean ====
/-
The output product of a mixer, the residual stream and the norm after it.

The kernel adds the rows of the residual stream to the product and norms the sum.  A grid point has whole rows, so it
computes its block of both results in one step.
-/
module

public import proofs.«01_k».proof.Defs
public import proofs.«01_k».proof.Proof.Gen.Kernel11Ideal.Value
public import proofs.«01_k».proof.Proof.Gen.Reference11Ideal.Run
public import proofs.«01_k».proof.Proof.NormMath
public import Idealize.ShloMosaic.Lib.Pipeline.ValueKit
public import Idealize.ShloMosaic.Lib.Pointwise

@[expose] public section

set_option maxRecDepth 16384

noncomputable section

namespace Cert.OutMix

open Idealize.ShloMosaic Idealize.ShloMosaic.TcCoe Idealize.ShloMosaic.Pointwise Idealize.SL.Sem
open Cert.Kernel11Ideal Cert.Kernel11Ideal.Gen

/-- The residual stream plus the product. -/
def out (h : FVec Ideal S4096x1024 .f32) (a : FVec Ideal S4096x1024 .bf16) (w : FVec Ideal S1024x1024 .f32) : FVec Ideal S4096x1024 .f32 := fun i =>
  (∑ k : Fin 1024, a (ix2 (⟨(i 0).val, (i 0).isLt⟩ : Fin 4096) k) * w (ix2 k (⟨(i 1).val, (i 1).isLt⟩ : Fin 1024)))
    + h (ix2 (⟨(i 0).val, (i 0).isLt⟩ : Fin 4096) (⟨(i 1).val, (i 1).isLt⟩ : Fin 1024))

/-- The norm of an array's rows, scaled. -/
def normed (o : FVec Ideal S4096x1024 .f32) (g : FVec Ideal S1024 .f32) : FVec Ideal S4096x1024 .bf16 := fun i =>
  o (ix2 (⟨(i 0).val, (i 0).isLt⟩ : Fin 4096) (⟨(i 1).val, (i 1).isLt⟩ : Fin 1024))
    * Ideal.rsqrt (NormMath.under fun k : Fin 1024 => o (ix2 (⟨(i 0).val, (i 0).isLt⟩ : Fin 4096) k))
    * g (ix1 (⟨(i 1).val, (i 1).isLt⟩ : Fin 1024))

/-- The blocks of a grid point. -/
theorem index : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0])

variable (m : (ℓ : Loc nD τ sig) → Buf (Elt Ideal) ℓ) (c : Dev nD)

theorem array_out : (dats m 0 c).arrAt 4 cfg0.N
    = out (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5⟩ := index t
  blk_simp
  rw [after0_4]
  unfold outsAt0
  frame_out
  unfold k0_pay3 k0_pay2 k0_pay1
  pointwise
  unfold out
  blk_point [iblk, Gen.V, e0, e1, e2, e3, e4]

/-- A row of a grid point's block is a row of the array. -/
theorem row_lt (t : Fin cfg0.N) (r : Fin 1024) : t.val * 1024 + r.val < 4096 := by
  have h : t.val < 4 := t.isLt
  omega

theorem tile (t : Fin cfg0.N) (r : Fin 1024) (k : Fin 1024) :
    k0_pay3 (F := Ideal) (k0_pay2 k0_pay1 (iblk m c 0 t) (iblk m c 1 t)) (iblk m c 2 t) (ix2 r k)
      = out (m ((c : Thread nD τ).loc main_arg0)) (m ((c : Thread nD τ).loc main_arg1)) (m ((c : Thread nD τ).loc main_arg2))
          (ix2 (⟨t.val * 1024 + r.val, row_lt t r⟩ : Fin 4096) k) := by
  obtain ⟨e0, e1, e2, e3, e4, e5⟩ := index t
  unfold k0_pay3 k0_pay2 k0_pay1
  pointwise
  unfold out
  blk_point [iblk, Gen.V, e0, e1, e2, e3]

/-- The norm of a block. -/
theorem pay4_apply (u v : FVec Ideal S1024x1024 .f32) (g : FVec Ideal S1x1024 .f32) (r : Fin 1024) (k : Fin 1024) :
    k0_pay4 (F := Ideal) u v g (ix2 r k)
      = k0_pay3 (F := Ideal) u v (ix2 r k) * Ideal.rsqrt (NormMath.under fun l : Fin 1024 => k0_pay3 (F := Ideal) u v (ix2 r l)) * g (ix2 0 k) := by
  unfold k0_pay4 NormMath.under
  pointwise

theorem array_normed : (dats m 0 c).arrAt 5 cfg0.N
    = normed (out (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  obtain ⟨e0, e1, e2, e3, e4, e5⟩ := index t
  blk_simp
  rw [after0_5]
  unfold outsAt0
  frame_out
  obtain ⟨r, k, rfl⟩ : ∃ (r : Fin 1024) (k : Fin 1024), y = ix2 r k := ⟨y 0, y 1, eq_ix2 y⟩
  refine (pay4_apply _ _ _ r k).trans ?_
  simp only [tile]
  unfold normed
  blk_point [iblk, Gen.V, e3, e5]

/-- The reference's first result. -/
theorem reference_out (h : FVec Ideal S4096x1024 .f32) (a : FVec Ideal S4096x1024 .bf16) (w : FVec Ideal S1024x1024 .f32) :
    addf h (Host.dotGeneral (F := Ideal) Cert.Reference11Ideal.dot_S4096x1024_S1024x1024_S4096x1024_1_0_0_1_n_n none
      (extf .f32 a Cert.Reference11Ideal.Gen.bitsLt_bf16_f32) w) = out h a w := by
  funext i
  pointwise
  unfold out
  rw [add_comm]
  exact congrArg₂ (fun p q : EReal => p + q) rfl (congrArg h (eq_ix2 i))

/-- The norm as the reference writes it. -/
theorem reference_normed (o : FVec Ideal S4096x1024 .f32) (g : FVec Ideal S1024 .f32) :
    truncf .bf16 (mulf (mulf o (broadcastInDim S4096x1024 ![0, 1] Cert.Reference11Ideal.Gen.bcast_S4096x1_S4096x1024_0_1 (Host.rsqrt (addf
      (Host.divf (broadcastInDim Cert.Reference11Ideal.S4096x1 ![0] Cert.Reference11Ideal.Gen.bcast_S4096_S4096x1_0
        (Host.reduceAdd (mulf o o) (constant Cert.Reference11Ideal.S_ .f32 0x00000000#32) Cert.Reference11Ideal.Gen.reducesTo_S4096x1024_S4096_d1 Cert.Reference11Ideal.Gen.h_S_))
        (broadcastInDim Cert.Reference11Ideal.S4096x1 ![] Cert.Reference11Ideal.Gen.bcast_S_S4096x1 (constant Cert.Reference11Ideal.S_ .f32 0x44800000#32)))
      (broadcastInDim Cert.Reference11Ideal.S4096x1 ![] Cert.Reference11Ideal.Gen.bcast_S_S4096x1 (constant Cert.Reference11Ideal.S_ .f32 0x358637BD#32))))))
      (broadcastInDim S4096x1024 ![0, 1] Cert.Reference11Ideal.Gen.bcast_S1x1024_S4096x1024_0_1
        (broadcastInDim Cert.Reference11Ideal.S1x1024 ![1] Cert.Reference11Ideal.Gen.bcast_S1024_S1x1024_1 g)))
      Cert.Reference11Ideal.Gen.bitsLt_bf16_f32 = normed o g := by
  funext i
  pointwise
  unfold normed NormMath.under
  congr 1
  congr 1
  exact congrArg o (eq_ix2 i)

/-- The claim over the reals. -/
theorem algebraic : Cert.algebraic_Kernel11Ideal_Reference11Ideal (hKernel11Ideal := Cert.Kernel11Ideal.Gen.facts)
    (hReference11Ideal := Cert.Reference11Ideal.Gen.facts) := by
  intro m g m' g' _ hm
  refine ⟨fun c => out (m ((c : Thread nD τ).loc main_arg0)) (m ((c : Thread nD τ).loc main_arg1)) (m ((c : Thread nD τ).loc main_arg2)),
    fun c => normed (out (m ((c : Thread nD τ).loc main_arg0)) (m ((c : Thread nD τ).loc main_arg1)) (m ((c : Thread nD τ).loc main_arg2)))
      (m ((c : Thread nD τ).loc main_arg3)), ?_, ?_⟩
  · refine (θ_run Cert.Kernel11Ideal.defs _ _).mono (fun r h c => ?_) (Value.run_blocks m g)
    exact ⟨(h c).1.trans (array_out m c), (h c).2.1.trans (array_normed m c), (h c).2.2⟩
  · refine (θ_run Cert.Reference11Ideal.defs _ _).mono (fun r h c => ?_) (Cert.Reference11Ideal.Value.run m' g')
    obtain ⟨h0, h1, h2⟩ := h c
    rw [(hm c).1, (hm c).2.1, (hm c).2.2.1, reference_out] at h0
    rw [(hm c).1, (hm c).2.1, (hm c).2.2.1, (hm c).2.2.2, reference_out] at h1
    exact ⟨h0, h1.trans (reference_normed _ _), h2⟩

end Cert.OutMix

end
-- ==== Proof.DxSquare.lean ====
/-
The gradient of a square product through the norm before it: two products of this shape.

The kernel multiplies the gradient by the weights transposed, sends it through the norm and adds the gradient of the
residual stream; each grid point has whole rows.  The gradient of the gain is summed over the grid points.
-/
module

public import proofs.«01_k».proof.Defs
public import proofs.«01_k».proof.Proof.Gen.Kernel12Ideal.Value
public import proofs.«01_k».proof.Proof.Gen.Reference12Ideal.Run
public import proofs.«01_k».proof.Proof.NormStage
public import Idealize.ShloMosaic.Lib.Pipeline.ValueKit
public import Idealize.ShloMosaic.Lib.Pointwise

@[expose] public section

set_option maxRecDepth 16384

noncomputable section

namespace Cert.DxSquare

open Idealize.ShloMosaic Idealize.ShloMosaic.TcCoe Idealize.ShloMosaic.Pointwise Idealize.SL.Sem
open Cert.Kernel12Ideal Cert.Kernel12Ideal.Gen

/-- The gradient at the norm's result. -/
def prod (a : FVec Ideal S4096x1024 .bf16) (w : FVec Ideal S1024x1024 .f32) : FVec Ideal S4096x1024 .f32 := fun i =>
  ∑ k : Fin 1024, a (ix2 (⟨(i 0).val, (i 0).isLt⟩ : Fin 4096) k) * w (ix2 (⟨(i 1).val, (i 1).isLt⟩ : Fin 1024) k)

/-- The blocks of a grid point. -/
theorem index : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![t.val, 0])

/-- A row of a grid point's block is a row of the array. -/
theorem row_lt (t : Fin cfg0.N) (r : Fin 1024) : t.val * 1024 + r.val < 4096 := by
  have h : t.val < 4 := t.isLt
  omega

/-- That row. -/
def row (t : Fin cfg0.N) (r : Fin 1024) : Fin 4096 := ⟨t.val * 1024 + r.val, row_lt t r⟩

variable (m : (ℓ : Loc nD τ sig) → Buf (Elt Ideal) ℓ) (c : Dev nD)

theorem tile (t : Fin cfg0.N) (r : Fin 1024) (k : Fin 1024) :
    k0_pay3 (F := Ideal) (k0_pay1 (F := Ideal)) (iblk m c 0 t) (iblk m c 1 t) (ix2 r k)
      = prod (m ((c : Thread nD τ).loc main_arg3)) (m ((c : Thread nD τ).loc main_arg2)) (ix2 (row t r) k) := by
  obtain ⟨e0, e1, -⟩ := index t
  unfold k0_pay3 k0_pay1
  pointwise
  unfold prod row
  blk_point [iblk, Gen.V, e0, e1]

theorem rows_read (t : Fin cfg0.N) (r : Fin 1024) (k : Fin 1024) :
    iblk m c 2 t (ix2 r k) = m ((c : Thread nD τ).loc main_arg0) (ix2 (row t r) k) := by
  obtain ⟨-, -, e2, -⟩ := index t
  unfold row
  blk_point [iblk, Gen.V, e2]

theorem gain_read (t : Fin cfg0.N) (z : Fin 1) (k : Fin 1024) :
    iblk m c 3 t (ix2 z k) = m ((c : Thread nD τ).loc main_arg1) (ix1 k) := by
  obtain ⟨-, -, -, e3, -⟩ := index t
  blk_point [iblk, Gen.V, e3]

theorem stream_read (t : Fin cfg0.N) (r : Fin 1024) (k : Fin 1024) :
    iblk m c 4 t (ix2 r k) = m ((c : Thread nD τ).loc main_arg4) (ix2 (row t r) k) := by
  obtain ⟨-, -, -, -, e4, -⟩ := index t
  unfold row
  blk_point [iblk, Gen.V, e4]

/-- The gradient of a block's rows. -/
theorem pay6_apply (r x : FVec Ideal S1024x1024 .f32) (g : FVec Ideal S1x1024 .f32) (d : FVec Ideal S1024x1024 .f32) (s : Fin 1024) (k : Fin 1024) :
    k0_pay6 (F := Ideal) r x g d (ix2 s k)
      = NormMath.kernelDx (d (ix2 s k)) (fun l : Fin 1024 => x (ix2 s l)) (fun l : Fin 1024 => r (ix2 s l) * g (ix2 0 l)) k := by
  unfold k0_pay6 k0_pay5 NormMath.kernelDx NormMath.under
  pointwise

/-- The rows' gradient of a block is that of the array. -/
theorem block (t : Fin cfg0.N) (r : Fin 1024) (k : Fin 1024) :
    k0_pay6 (F := Ideal) (k0_pay3 (k0_pay1 (F := Ideal)) (iblk m c 0 t) (iblk m c 1 t)) (iblk m c 2 t) (iblk m c 3 t) (iblk m c 4 t) (ix2 r k)
      = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) (ix2 (row t r) k) := by
  refine (pay6_apply _ _ _ _ r k).trans ?_
  simp only [tile, rows_read, gain_read, stream_read]
  rfl

theorem array_dx : (dats m 0 c).arrAt 5 cfg0.N
    = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
  refine (dats m 0 c).arrAt_eq_of_covers 5 _ (by decide +kernel) fun t hf y => ?_
  obtain ⟨-, -, -, -, -, e5, -⟩ := index t
  blk_simp
  obtain ⟨r, k, rfl⟩ : ∃ (r : Fin 1024) (k : Fin 1024), y = ix2 r k := ⟨y 0, y 1, eq_ix2 y⟩
  rw [after0_5]
  refine Eq.trans ?_ ((block m c t r k).trans ?_)
  · by_cases h : t.val % 4 = 0
    · rw [outsAt0_A m c t h]
      frame_out
    · rw [outsAt0_B m c t h]
      frame_out
  · unfold row
    blk_point [e5]

theorem array_dx_bf16 : (dats m 0 c).arrAt 6 cfg0.N
    = truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32 := by
  refine (dats m 0 c).arrAt_eq_of_covers 6 _ (by decide +kernel) fun t hf y => ?_
  obtain ⟨-, -, -, -, -, -, e6⟩ := index t
  blk_simp
  obtain ⟨r, k, rfl⟩ : ∃ (r : Fin 1024) (k : Fin 1024), y = ix2 r k := ⟨y 0, y 1, eq_ix2 y⟩
  rw [after0_6]
  refine Eq.trans ?_ ((block m c t r k).trans ?_)
  · by_cases h : t.val % 4 = 0
    · rw [outsAt0_A m c t h]
      frame_out
      rfl
    · rw [outsAt0_B m c t h]
      frame_out
      rfl
  · unfold row
    pointwise
    blk_point [e6]

/-- What a block adds to the gradient of the gain. -/
theorem pay4_apply (a : FVec Ideal S1x1024 .f32) (r x : FVec Ideal S1024x1024 .f32) (z : Fin 1) (k : Fin 1024) :
    k0_pay4 (F := Ideal) (k0_pay8 a) (k0_pay9 r x) (ix2 z k)
      = a (ix2 z k) + ∑ s : Fin 1024, r (ix2 s k) * x (ix2 s k) * Ideal.rsqrt (NormMath.under fun l : Fin 1024 => x (ix2 s l)) := by
  unfold k0_pay4 k0_pay8 k0_pay9 k0_pay5 NormMath.under
  pointwise

/-- The part of a grid point. -/
def add (t : Fin cfg0.N) : FVec Ideal S1x1024 .f32 := fun j =>
  ∑ s : Fin 1024, NormStage.part (m ((c : Thread nD τ).loc main_arg0))
    (prod (m ((c : Thread nD τ).loc main_arg3)) (m ((c : Thread nD τ).loc main_arg2))) (row t s) (⟨(j 1).val, (j 1).isLt⟩ : Fin 1024)

theorem add_eq (a : FVec Ideal S1x1024 .f32) (t : Fin cfg0.N) (j : S1x1024.Idx) :
    k0_pay4 (F := Ideal) (k0_pay8 a) (k0_pay9 (k0_pay3 (k0_pay1 (F := Ideal)) (iblk m c 0 t) (iblk m c 1 t)) (iblk m c 2 t)) j = a j + add m c t j := by
  obtain ⟨z, k, rfl⟩ : ∃ (z : Fin 1) (k : Fin 1024), j = ix2 z k := ⟨j 0, j 1, eq_ix2 j⟩
  refine (pay4_apply _ _ _ z k).trans ?_
  simp only [tile, rows_read]
  rfl

theorem zero_eq (j : S1x1024.Idx) : k0_pay2 (F := Ideal) j = 0 := by
  unfold k0_pay2
  pointwise

theorem array_dg : (dats m 0 c).arrAt 7 cfg0.N
    = NormStage.dg (m ((c : Thread nD τ).loc main_arg0)) (prod (m ((c : Thread nD τ).loc main_arg3)) (m ((c : Thread nD τ).loc main_arg2))) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0) (add m c)
    (fun t h j => by rw [outsAt0_A m c t h]; frame_out; rw [add_eq, zero_eq])
    (fun t h j => by rw [outsAt0_B m c t h]; frame_out; rw [add_eq])
    (le_of_eq N_0) t0_3 rfl j, zero_add]
  unfold add NormStage.dg row
  refine Fin.sum_mul_add_congr fun t k hl => ?_
  rfl

/-- The product as the reference writes it. -/
theorem reference_prod (a : FVec Ideal S4096x1024 .bf16) (w : FVec Ideal S1024x1024 .f32) :
    Host.dotGeneral (F := Ideal) Cert.Reference12Ideal.dot_S4096x1024_S1024x1024_S4096x1024_1_1_0_0_n_n none
      (extf .f32 a Cert.Reference12Ideal.Gen.bitsLt_bf16_f32) w = prod a w := by
  funext i
  pointwise
  unfold prod
  rfl

/-- The claim over the reals. -/
theorem algebraic : Cert.algebraic_Kernel12Ideal_Reference12Ideal (hKernel12Ideal := Cert.Kernel12Ideal.Gen.facts)
    (hReference12Ideal := Cert.Reference12Ideal.Gen.facts) := by
  intro m g m' g' _ hm
  refine ⟨fun c => NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)),
    fun c => truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32,
    fun c => NormStage.dg (m ((c : Thread nD τ).loc main_arg0)) (prod (m ((c : Thread nD τ).loc main_arg3)) (m ((c : Thread nD τ).loc main_arg2))), ?_, ?_⟩
  · refine (θ_run Cert.Kernel12Ideal.defs _ _).mono (fun r h c => ?_) (Value.run_blocks m g)
    obtain ⟨h0, h1, h2, h3⟩ := h c
    exact ⟨h0.trans (array_dx m c), h1.trans (array_dx_bf16 m c), h2.trans (array_dg m c), h3⟩
  · refine (θ_run Cert.Reference12Ideal.defs _ _).mono (fun r h c => ?_) (Cert.Reference12Ideal.Value.run m' g')
    obtain ⟨h0, h1, h2, h3⟩ := h c
    obtain ⟨a0, a1, a2, a3, a4⟩ := hm c
    have hx : Cert.Reference12Ideal.Value.res_main_v39 m' c
        = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
      unfold Cert.Reference12Ideal.Value.res_main_v39
      rw [a0, a1, a2, a3, a4, reference_prod]
      exact NormStage.rows_eq _ _ _ _
    have hy : Cert.Reference12Ideal.Value.res_main_v40 m' c = truncf (F := Ideal) (s := S4096x1024) (φ := .f32) .bf16 (Cert.Reference12Ideal.Value.res_main_v39 m' c) bitsLt_bf16_f32 := by
      unfold Cert.Reference12Ideal.Value.res_main_v40 Cert.Reference12Ideal.Value.res_main_v39
      rfl
    refine ⟨h0.trans hx, h1.trans (hy.trans (by rw [hx])), h2.trans ?_, h3⟩
    rw [a0, a2, a3, reference_prod]
    exact NormStage.gain_eq _ _

end Cert.DxSquare

end
-- ==== Proof.SumSquare.lean ====
/-
The sum over the devices of the gradients of the square weights of two layers.

Every device holds a piece of the gradient for this device's rows; the pieces of all eight lie one after another, and the
kernel adds them a block of columns at a time, the first piece first.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.SumSquare

open Idealize.ShloMosaic Idealize.ShloMosaic.TcCoe Idealize.ShloMosaic.Pointwise Idealize.SL.Sem
open Cert.Kernel13Ideal Cert.Kernel13Ideal.Gen

/-- The sum over the devices of the pieces of a layer. -/
def layer (x : FVec Ideal S8x128x1024 .bf16) (r : Fin 128) (k : Fin 1024) : EReal := ∑ d : Fin 8, x (ix3 d r k)

/-- The summed gradients of the layers, one layer after another. -/
def total (x0 x1 : FVec Ideal S8x128x1024 .bf16) : FVec Ideal S2x128x1024 .f32 := fun i =>
  if (i 0).val = 0 then layer x0 (i 1) (i 2)
  else layer x1 (i 1) (i 2)

/-- The sum over the devices of a layer's block of columns. -/
def layerBlock (x : FVec Ideal S8x128x128 .bf16) (r : Fin 128) (k : Fin 128) : EReal := ∑ d : Fin 8, x (ix3 d r k)

/-- What a grid point computes: the sums of its block of columns. -/
def block (x0 x1 : FVec Ideal S8x128x128 .bf16) : FVec Ideal S2x128x128 .f32 := fun y =>
  if (y 0).val = 0 then layerBlock x0 (y 1) (y 2)
  else layerBlock x1 (y 1) (y 2)

/-- The block a grid point leaves: each layer's sum is stored at the layer's place. -/
theorem out_eq (x0 x1 : FVec Ideal S8x128x128 .bf16) (y : S2x128x128.Idx) :
    out0_2 (F := Ideal) x0 x1 y = block x0 x1 y := by
  unfold out0_2
  refine View.canon_apply_of_pieces (Val := Elt Ideal) (e := .f32) (block x0 x1) _ (fun p hp x => ?_) y (cover0_2 _ _ y)
  simp only [List.mem_cons, List.mem_nil_iff, or_false] at hp
  rcases hp with rfl | rfl
  · unfold k0_pay1 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] :=
  (by decide +kernel : ∀ t : Fin grid0.N, win0_0.index t = ![0, 0, t.val] ∧ win0_1.index t = ![0, 0, t.val] ∧ win0_2.index t = ![0, 0, t.val])

variable (m : (ℓ : Loc nD τ sig) → Buf (Elt Ideal) ℓ) (c : Dev nD)

/-- The array the kernel leaves is the array of the sums. -/
theorem array : (dats m 0 c).arrAt 2 cfg0.N = total (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  refine (out_eq _ _ y).trans ?_
  unfold block total layerBlock layer
  blk_point [iblk, Gen.V, e0, e1, e2]

/-- The claim over the reals. -/
theorem algebraic : Cert.algebraic_Kernel13Ideal_Reference13Ideal (hKernel13Ideal := Cert.Kernel13Ideal.Gen.facts)
    (hReference13Ideal := Cert.Reference13Ideal.Gen.facts) := by
  intro m g m' g' _ hm
  refine ⟨fun c => total (m ((c : Thread nD τ).loc main_arg0)) (m ((c : Thread nD τ).loc main_arg1)), ?_, ?_⟩
  · refine (θ_run Cert.Kernel13Ideal.defs _ _).mono (fun r h c => ?_) (Value.run_blocks m g)
    exact ⟨(h c).1.trans (array m c), (h c).2⟩
  · refine (θ_run Cert.Reference13Ideal.defs _ _).mono (fun r h c => ?_) (Cert.Reference13Ideal.Value.run m' g')
    obtain ⟨h0, h1⟩ := h c
    obtain ⟨a0, a1⟩ := hm c
    rw [a0, a1] at h0
    refine ⟨h0.trans (funext fun i => ?_), h1⟩
    pointwise
    unfold total layer
    split_ifs <;> first | rfl | omega

end Cert.SumSquare

end
-- ==== Proof.SumGdnIn.lean ====
/-
The sum over the devices of the gradients of the first weight of the gated delta rule in two layers; every device's piece carries 528 rows of which the first 514 are rows of the weight.

Every device holds a piece of the gradient for this device's rows; the pieces of all eight lie one after another, and the
kernel adds them a block of columns at a time, the first piece first.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.SumGdnIn

open Idealize.ShloMosaic Idealize.ShloMosaic.TcCoe Idealize.ShloMosaic.Pointwise Idealize.SL.Sem
open Cert.Kernel14Ideal Cert.Kernel14Ideal.Gen

/-- The sum over the devices of the pieces of a layer. -/
def layer (x : FVec Ideal S8x528x1024 .bf16) (r : Fin 514) (k : Fin 1024) : EReal := ∑ d : Fin 8, x (ix3 d ⟨r.val, by have := r.isLt; omega⟩ k)

/-- The summed gradients of the layers, one layer after another. -/
def total (x0 x1 : FVec Ideal S8x528x1024 .bf16) : FVec Ideal S2x514x1024 .f32 := fun i =>
  if (i 0).val = 0 then layer x0 (i 1) (i 2)
  else layer x1 (i 1) (i 2)

/-- The sum over the devices of a layer's block of columns. -/
def layerBlock (x : FVec Ideal S8x528x128 .bf16) (r : Fin 514) (k : Fin 128) : EReal := ∑ d : Fin 8, x (ix3 d ⟨r.val, by have := r.isLt; omega⟩ k)

/-- What a grid point computes: the sums of its block of columns. -/
def block (x0 x1 : FVec Ideal S8x528x128 .bf16) : FVec Ideal S2x514x128 .f32 := fun y =>
  if (y 0).val = 0 then layerBlock x0 (y 1) (y 2)
  else layerBlock x1 (y 1) (y 2)

/-- The block a grid point leaves: each layer's sum is stored at the layer's place. -/
theorem out_eq (x0 x1 : FVec Ideal S8x528x128 .bf16) (y : S2x514x128.Idx) :
    out0_2 (F := Ideal) x0 x1 y = block x0 x1 y := by
  unfold out0_2
  refine View.canon_apply_of_pieces (Val := Elt Ideal) (e := .f32) (block x0 x1) _ (fun p hp x => ?_) y (cover0_2 _ _ y)
  simp only [List.mem_cons, List.mem_nil_iff, or_false] at hp
  rcases hp with rfl | rfl
  · unfold k0_pay1 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] :=
  (by decide +kernel : ∀ t : Fin grid0.N, win0_0.index t = ![0, 0, t.val] ∧ win0_1.index t = ![0, 0, t.val] ∧ win0_2.index t = ![0, 0, t.val])

variable (m : (ℓ : Loc nD τ sig) → Buf (Elt Ideal) ℓ) (c : Dev nD)

/-- The array the kernel leaves is the array of the sums. -/
theorem array : (dats m 0 c).arrAt 2 cfg0.N = total (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  refine (out_eq _ _ y).trans ?_
  unfold block total layerBlock layer
  blk_point [iblk, Gen.V, e0, e1, e2]

/-- The claim over the reals. -/
theorem algebraic : Cert.algebraic_Kernel14Ideal_Reference14Ideal (hKernel14Ideal := Cert.Kernel14Ideal.Gen.facts)
    (hReference14Ideal := Cert.Reference14Ideal.Gen.facts) := by
  intro m g m' g' _ hm
  refine ⟨fun c => total (m ((c : Thread nD τ).loc main_arg0)) (m ((c : Thread nD τ).loc main_arg1)), ?_, ?_⟩
  · refine (θ_run Cert.Kernel14Ideal.defs _ _).mono (fun r h c => ?_) (Value.run_blocks m g)
    exact ⟨(h c).1.trans (array m c), (h c).2⟩
  · refine (θ_run Cert.Reference14Ideal.defs _ _).mono (fun r h c => ?_) (Cert.Reference14Ideal.Value.run m' g')
    obtain ⟨h0, h1⟩ := h c
    obtain ⟨a0, a1⟩ := hm c
    rw [a0, a1] at h0
    refine ⟨h0.trans (funext fun i => ?_), h1⟩
    pointwise
    unfold total layer
    by_cases h : (i 0).val = 0
    · rw [dif_pos (by omega), if_pos h]
    · rw [dif_neg (by omega), if_neg h]

end Cert.SumGdnIn

end
-- ==== Proof.SumKeysValues.lean ====
/-
The sum over the devices of the gradients of the weight that makes the keys and values.

Every device holds a piece of the gradient for this device's rows; the pieces of all eight lie one after another, and the
kernel adds them a block of columns at a time, the first piece first.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.SumKeysValues

open Idealize.ShloMosaic Idealize.ShloMosaic.TcCoe Idealize.ShloMosaic.Pointwise Idealize.SL.Sem
open Cert.Kernel15Ideal Cert.Kernel15Ideal.Gen

/-- The sum over the devices of the pieces of a layer. -/
def layer (x : FVec Ideal S8x256x1024 .bf16) (r : Fin 256) (k : Fin 1024) : EReal := ∑ d : Fin 8, x (ix3 d r k)

/-- The summed gradient. -/
def total (x0 : FVec Ideal S8x256x1024 .bf16) : FVec Ideal S1x256x1024 .f32 := fun i =>
  layer x0 (i 1) (i 2)

/-- The sum over the devices of a layer's block of columns. -/
def layerBlock (x : FVec Ideal S8x256x128 .bf16) (r : Fin 256) (k : Fin 128) : EReal := ∑ d : Fin 8, x (ix3 d r k)

/-- What a grid point computes: the sums of its block of columns. -/
def block (x0 : FVec Ideal S8x256x128 .bf16) : FVec Ideal S1x256x128 .f32 := fun y =>
  layerBlock x0 (y 1) (y 2)

/-- The block a grid point leaves: each layer's sum is stored at the layer's place. -/
theorem out_eq (x0 : FVec Ideal S8x256x128 .bf16) (y : S1x256x128.Idx) :
    out0_1 (F := Ideal) x0 y = block x0 y := by
  unfold out0_1
  refine View.canon_apply_of_pieces (Val := Elt Ideal) (e := .f32) (block x0) _ (fun p hp x => ?_) y (cover0_1 _ y)
  simp only [List.mem_cons, List.mem_nil_iff, or_false] at hp
  subst hp
  · unfold k0_pay1 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [e1, e2]
    simp [layerBlock, Fin.sum_univ_eight]

/-- The blocks of a grid point. -/
theorem index : ∀ t : Fin cfg0.N, win0_0.index t = ![0, 0, t.val] ∧ win0_1.index t = ![0, 0, t.val] :=
  (by decide +kernel : ∀ t : Fin grid0.N, win0_0.index t = ![0, 0, t.val] ∧ win0_1.index t = ![0, 0, t.val])

variable (m : (ℓ : Loc nD τ sig) → Buf (Elt Ideal) ℓ) (c : Dev nD)

/-- The array the kernel leaves is the array of the sums. -/
theorem array : (dats m 0 c).arrAt 1 cfg0.N = total (m ((c : Thread nD τ).loc main_arg0)) := by
  refine (dats m 0 c).arrAt_eq_of_covers 1 _ (by decide +kernel) fun t hf y => ?_
  obtain ⟨e0, e1⟩ := index t
  blk_simp
  rw [after0_1]
  refine (out_eq _ y).trans ?_
  unfold block total layerBlock layer
  blk_point [iblk, Gen.V, e0, e1]

/-- The claim over the reals. -/
theorem algebraic : Cert.algebraic_Kernel15Ideal_Reference15Ideal (hKernel15Ideal := Cert.Kernel15Ideal.Gen.facts)
    (hReference15Ideal := Cert.Reference15Ideal.Gen.facts) := by
  intro m g m' g' _ hm
  refine ⟨fun c => total (m ((c : Thread nD τ).loc main_arg0)), ?_, ?_⟩
  · refine (θ_run Cert.Kernel15Ideal.defs _ _).mono (fun r h c => ?_) (Value.run_blocks m g)
    exact ⟨(h c).1.trans (array m c), (h c).2⟩
  · refine (θ_run Cert.Reference15Ideal.defs _ _).mono (fun r h c => ?_) (Cert.Reference15Ideal.Value.run m' g')
    obtain ⟨h0, h1⟩ := h c
    have a0 := hm c
    rw [a0] at h0
    refine ⟨h0.trans (funext fun i => ?_), h1⟩
    pointwise
    unfold total layer
    rfl

end Cert.SumKeysValues

end
-- ==== Proof.SumFfnIn.lean ====
/-
The sum over the devices of the gradients of the first weight of the feed-forward block in four layers.

Every device holds a piece of the gradient for this device's rows; the pieces of all eight lie one after another, and the
kernel adds them a block of columns at a time, the first piece first.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.SumFfnIn

open Idealize.ShloMosaic Idealize.ShloMosaic.TcCoe Idealize.ShloMosaic.Pointwise Idealize.SL.Sem
open Cert.Kernel16Ideal Cert.Kernel16Ideal.Gen

/-- The sum over the devices of the pieces of a layer. -/
def layer (x : FVec Ideal S8x704x1024 .bf16) (r : Fin 704) (k : Fin 1024) : EReal := ∑ d : Fin 8, x (ix3 d r k)

/-- The summed gradients of the layers, one layer after another. -/
def total (x0 x1 x2 x3 : FVec Ideal S8x704x1024 .bf16) : FVec Ideal S4x704x1024 .f32 := fun i =>
  if (i 0).val = 0 then layer x0 (i 1) (i 2)
  else if (i 0).val = 1 then layer x1 (i 1) (i 2)
  else if (i 0).val = 2 then layer x2 (i 1) (i 2)
  else layer x3 (i 1) (i 2)

/-- The sum over the devices of a layer's block of columns. -/
def layerBlock (x : FVec Ideal S8x704x128 .bf16) (r : Fin 704) (k : Fin 128) : EReal := ∑ d : Fin 8, x (ix3 d r k)

/-- What a grid point computes: the sums of its block of columns. -/
def block (x0 x1 x2 x3 : FVec Ideal S8x704x128 .bf16) : FVec Ideal S4x704x128 .f32 := fun y =>
  if (y 0).val = 0 then layerBlock x0 (y 1) (y 2)
  else if (y 0).val = 1 then layerBlock x1 (y 1) (y 2)
  else if (y 0).val = 2 then layerBlock x2 (y 1) (y 2)
  else layerBlock x3 (y 1) (y 2)

/-- The block a grid point leaves: each layer's sum is stored at the layer's place. -/
theorem out_eq (x0 x1 x2 x3 : FVec Ideal S8x704x128 .bf16) (y : S4x704x128.Idx) :
    out0_4 (F := Ideal) x0 x1 x2 x3 y = block x0 x1 x2 x3 y := by
  unfold out0_4
  refine View.canon_apply_of_pieces (Val := Elt Ideal) (e := .f32) (block x0 x1 x2 x3) _ (fun p hp x => ?_) y (cover0_4 _ _ _ _ y)
  simp only [List.mem_cons, List.mem_nil_iff, or_false] at hp
  rcases hp with rfl | rfl | rfl | rfl
  · unfold k0_pay1 k0_pay8 k0_pay9
    pointwise
    have h : ((r0_11.emb x) 0).val = 3 := by
      show 3 + 1 * (x 0).val = 3
      have := (x 0).isLt
      change (x 0).val < 1 at this
      omega
    have e1 : (r0_11.emb x) 1 = x 1 := Fin.ext (by show 0 + 1 * (x 1).val = (x 1).val; omega)
    have e2 : (r0_11.emb x) 2 = x 2 := Fin.ext (by show 0 + 1 * (x 2).val = (x 2).val; omega)
    unfold block
    rw [h, e1, e2]
    simp [layerBlock, Fin.sum_univ_eight]
  · unfold k0_pay7 k0_pay6
    pointwise
    have h : ((r0_10.emb x) 0).val = 2 := by
      show 2 + 1 * (x 0).val = 2
      have := (x 0).isLt
      change (x 0).val < 1 at this
      omega
    have e1 : (r0_10.emb x) 1 = x 1 := Fin.ext (by show 0 + 1 * (x 1).val = (x 1).val; omega)
    have e2 : (r0_10.emb x) 2 = x 2 := Fin.ext (by show 0 + 1 * (x 2).val = (x 2).val; omega)
    unfold block
    rw [h, e1, e2]
    simp [layerBlock, Fin.sum_univ_eight]
  · unfold k0_pay5 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val] ∧ win0_4.index t = ![0, 0, t.val])

variable (m : (ℓ : Loc nD τ sig) → Buf (Elt Ideal) ℓ) (c : Dev nD)

/-- The array the kernel leaves is the array of the sums. -/
theorem array : (dats m 0 c).arrAt 4 cfg0.N = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index t
  blk_simp
  rw [after0_4]
  refine (out_eq _ _ _ _ y).trans ?_
  unfold block total layerBlock layer
  blk_point [iblk, Gen.V, e0, e1, e2, e3, e4]

/-- The claim over the reals. -/
theorem algebraic : Cert.algebraic_Kernel16Ideal_Reference16Ideal (hKernel16Ideal := Cert.Kernel16Ideal.Gen.facts)
    (hReference16Ideal := Cert.Reference16Ideal.Gen.facts) := by
  intro m g m' g' _ hm
  refine ⟨fun c => total (m ((c : Thread nD τ).loc main_arg0)) (m ((c : Thread nD τ).loc main_arg1)) (m ((c : Thread nD τ).loc main_arg2)) (m ((c : Thread nD τ).loc main_arg3)), ?_, ?_⟩
  · refine (θ_run Cert.Kernel16Ideal.defs _ _).mono (fun r h c => ?_) (Value.run_blocks m g)
    exact ⟨(h c).1.trans (array m c), (h c).2⟩
  · refine (θ_run Cert.Reference16Ideal.defs _ _).mono (fun r h c => ?_) (Cert.Reference16Ideal.Value.run m' g')
    obtain ⟨h0, h1⟩ := h c
    obtain ⟨a0, a1, a2, a3⟩ := hm c
    rw [a0, a1, a2, a3] at h0
    refine ⟨h0.trans (funext fun i => ?_), h1⟩
    pointwise
    unfold total layer
    split_ifs <;> first | rfl | omega

end Cert.SumFfnIn

end
-- ==== Proof.SumFfnOut.lean ====
/-
The sum over the devices of the gradients of the second weight of the feed-forward block in four layers.

Every device holds a piece of the gradient for this device's rows; the pieces of all eight lie one after another, and the
kernel adds them a block of columns at a time, the first piece first.
-/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.SumFfnOut

open Idealize.ShloMosaic Idealize.ShloMosaic.TcCoe Idealize.ShloMosaic.Pointwise Idealize.SL.Sem
open Cert.Kernel17Ideal Cert.Kernel17Ideal.Gen

/-- The sum over the devices of the pieces of a layer. -/
def layer (x : FVec Ideal S8x352x1024 .bf16) (r : Fin 352) (k : Fin 1024) : EReal := ∑ d : Fin 8, x (ix3 d r k)

/-- The summed gradients of the layers, one layer after another. -/
def total (x0 x1 x2 x3 : FVec Ideal S8x352x1024 .bf16) : FVec Ideal S4x352x1024 .f32 := fun i =>
  if (i 0).val = 0 then layer x0 (i 1) (i 2)
  else if (i 0).val = 1 then layer x1 (i 1) (i 2)
  else if (i 0).val = 2 then layer x2 (i 1) (i 2)
  else layer x3 (i 1) (i 2)

/-- The sum over the devices of a layer's block of columns. -/
def layerBlock (x : FVec Ideal S8x352x128 .bf16) (r : Fin 352) (k : Fin 128) : EReal := ∑ d : Fin 8, x (ix3 d r k)

/-- What a grid point computes: the sums of its block of columns. -/
def block (x0 x1 x2 x3 : FVec Ideal S8x352x128 .bf16) : FVec Ideal S4x352x128 .f32 := fun y =>
  if (y 0).val = 0 then layerBlock x0 (y 1) (y 2)
  else if (y 0).val = 1 then layerBlock x1 (y 1) (y 2)
  else if (y 0).val = 2 then layerBlock x2 (y 1) (y 2)
  else layerBlock x3 (y 1) (y 2)

/-- The block a grid point leaves: each layer's sum is stored at the layer's place. -/
theorem out_eq (x0 x1 x2 x3 : FVec Ideal S8x352x128 .bf16) (y : S4x352x128.Idx) :
    out0_4 (F := Ideal) x0 x1 x2 x3 y = block x0 x1 x2 x3 y := by
  unfold out0_4
  refine View.canon_apply_of_pieces (Val := Elt Ideal) (e := .f32) (block x0 x1 x2 x3) _ (fun p hp x => ?_) y (cover0_4 _ _ _ _ y)
  simp only [List.mem_cons, List.mem_nil_iff, or_false] at hp
  rcases hp with rfl | rfl | rfl | rfl
  · unfold k0_pay1 k0_pay8 k0_pay9
    pointwise
    have h : ((r0_11.emb x) 0).val = 3 := by
      show 3 + 1 * (x 0).val = 3
      have := (x 0).isLt
      change (x 0).val < 1 at this
      omega
    have e1 : (r0_11.emb x) 1 = x 1 := Fin.ext (by show 0 + 1 * (x 1).val = (x 1).val; omega)
    have e2 : (r0_11.emb x) 2 = x 2 := Fin.ext (by show 0 + 1 * (x 2).val = (x 2).val; omega)
    unfold block
    rw [h, e1, e2]
    simp [layerBlock, Fin.sum_univ_eight]
  · unfold k0_pay7 k0_pay6
    pointwise
    have h : ((r0_10.emb x) 0).val = 2 := by
      show 2 + 1 * (x 0).val = 2
      have := (x 0).isLt
      change (x 0).val < 1 at this
      omega
    have e1 : (r0_10.emb x) 1 = x 1 := Fin.ext (by show 0 + 1 * (x 1).val = (x 1).val; omega)
    have e2 : (r0_10.emb x) 2 = x 2 := Fin.ext (by show 0 + 1 * (x 2).val = (x 2).val; omega)
    unfold block
    rw [h, e1, e2]
    simp [layerBlock, Fin.sum_univ_eight]
  · unfold k0_pay5 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val] ∧ win0_4.index t = ![0, 0, t.val])

variable (m : (ℓ : Loc nD τ sig) → Buf (Elt Ideal) ℓ) (c : Dev nD)

/-- The array the kernel leaves is the array of the sums. -/
theorem array : (dats m 0 c).arrAt 4 cfg0.N = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index t
  blk_simp
  rw [after0_4]
  refine (out_eq _ _ _ _ y).trans ?_
  unfold block total layerBlock layer
  blk_point [iblk, Gen.V, e0, e1, e2, e3, e4]

/-- The claim over the reals. -/
theorem algebraic : Cert.algebraic_Kernel17Ideal_Reference17Ideal (hKernel17Ideal := Cert.Kernel17Ideal.Gen.facts)
    (hReference17Ideal := Cert.Reference17Ideal.Gen.facts) := by
  intro m g m' g' _ hm
  refine ⟨fun c => total (m ((c : Thread nD τ).loc main_arg0)) (m ((c : Thread nD τ).loc main_arg1)) (m ((c : Thread nD τ).loc main_arg2)) (m ((c : Thread nD τ).loc main_arg3)), ?_, ?_⟩
  · refine (θ_run Cert.Kernel17Ideal.defs _ _).mono (fun r h c => ?_) (Value.run_blocks m g)
    exact ⟨(h c).1.trans (array m c), (h c).2⟩
  · refine (θ_run Cert.Reference17Ideal.defs _ _).mono (fun r h c => ?_) (Cert.Reference17Ideal.Value.run m' g')
    obtain ⟨h0, h1⟩ := h c
    obtain ⟨a0, a1, a2, a3⟩ := hm c
    rw [a0, a1, a2, a3] at h0
    refine ⟨h0.trans (funext fun i => ?_), h1⟩
    pointwise
    unfold total layer
    split_ifs <;> first | rfl | omega

end Cert.SumFfnOut

end
-- ==== Proof.SumPleProj.lean ====
/-
The sum over the devices of the gradients of the projection of the per-layer embedding in four layers.

Every device holds a piece of the gradient for this device's rows; the pieces of all eight lie one after another, and the
kernel adds them a block of columns at a time, the first piece first.
-/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.SumPleProj

open Idealize.ShloMosaic Idealize.ShloMosaic.TcCoe Idealize.ShloMosaic.Pointwise Idealize.SL.Sem
open Cert.Kernel18Ideal Cert.Kernel18Ideal.Gen

/-- The sum over the devices of the pieces of a layer. -/
def layer (x : FVec Ideal S8x32x1024 .bf16) (r : Fin 32) (k : Fin 1024) : EReal := ∑ d : Fin 8, x (ix3 d r k)

/-- The summed gradients of the layers, one layer after another. -/
def total (x0 x1 x2 x3 : FVec Ideal S8x32x1024 .bf16) : FVec Ideal S4x32x1024 .f32 := fun i =>
  if (i 0).val = 0 then layer x0 (i 1) (i 2)
  else if (i 0).val = 1 then layer x1 (i 1) (i 2)
  else if (i 0).val = 2 then layer x2 (i 1) (i 2)
  else layer x3 (i 1) (i 2)

/-- The sum over the devices of a layer's block of columns. -/
def layerBlock (x : FVec Ideal S8x32x128 .bf16) (r : Fin 32) (k : Fin 128) : EReal := ∑ d : Fin 8, x (ix3 d r k)

/-- What a grid point computes: the sums of its block of columns. -/
def block (x0 x1 x2 x3 : FVec Ideal S8x32x128 .bf16) : FVec Ideal S4x32x128 .f32 := fun y =>
  if (y 0).val = 0 then layerBlock x0 (y 1) (y 2)
  else if (y 0).val = 1 then layerBlock x1 (y 1) (y 2)
  else if (y 0).val = 2 then layerBlock x2 (y 1) (y 2)
  else layerBlock x3 (y 1) (y 2)

/-- The block a grid point leaves: each layer's sum is stored at the layer's place. -/
theorem out_eq (x0 x1 x2 x3 : FVec Ideal S8x32x128 .bf16) (y : S4x32x128.Idx) :
    out0_4 (F := Ideal) x0 x1 x2 x3 y = block x0 x1 x2 x3 y := by
  unfold out0_4
  refine View.canon_apply_of_pieces (Val := Elt Ideal) (e := .f32) (block x0 x1 x2 x3) _ (fun p hp x => ?_) y (cover0_4 _ _ _ _ y)
  simp only [List.mem_cons, List.mem_nil_iff, or_false] at hp
  rcases hp with rfl | rfl | rfl | rfl
  · unfold k0_pay1 k0_pay8 k0_pay9
    pointwise
    have h : ((r0_11.emb x) 0).val = 3 := by
      show 3 + 1 * (x 0).val = 3
      have := (x 0).isLt
      change (x 0).val < 1 at this
      omega
    have e1 : (r0_11.emb x) 1 = x 1 := Fin.ext (by show 0 + 1 * (x 1).val = (x 1).val; omega)
    have e2 : (r0_11.emb x) 2 = x 2 := Fin.ext (by show 0 + 1 * (x 2).val = (x 2).val; omega)
    unfold block
    rw [h, e1, e2]
    simp [layerBlock, Fin.sum_univ_eight]
  · unfold k0_pay7 k0_pay6
    pointwise
    have h : ((r0_10.emb x) 0).val = 2 := by
      show 2 + 1 * (x 0).val = 2
      have := (x 0).isLt
      change (x 0).val < 1 at this
      omega
    have e1 : (r0_10.emb x) 1 = x 1 := Fin.ext (by show 0 + 1 * (x 1).val = (x 1).val; omega)
    have e2 : (r0_10.emb x) 2 = x 2 := Fin.ext (by show 0 + 1 * (x 2).val = (x 2).val; omega)
    unfold block
    rw [h, e1, e2]
    simp [layerBlock, Fin.sum_univ_eight]
  · unfold k0_pay5 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val] ∧ win0_4.index t = ![0, 0, t.val])

variable (m : (ℓ : Loc nD τ sig) → Buf (Elt Ideal) ℓ) (c : Dev nD)

/-- The array the kernel leaves is the array of the sums. -/
theorem array : (dats m 0 c).arrAt 4 cfg0.N = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index t
  blk_simp
  rw [after0_4]
  refine (out_eq _ _ _ _ y).trans ?_
  unfold block total layerBlock layer
  blk_point [iblk, Gen.V, e0, e1, e2, e3, e4]

/-- The claim over the reals. -/
theorem algebraic : Cert.algebraic_Kernel18Ideal_Reference18Ideal (hKernel18Ideal := Cert.Kernel18Ideal.Gen.facts)
    (hReference18Ideal := Cert.Reference18Ideal.Gen.facts) := by
  intro m g m' g' _ hm
  refine ⟨fun c => total (m ((c : Thread nD τ).loc main_arg0)) (m ((c : Thread nD τ).loc main_arg1)) (m ((c : Thread nD τ).loc main_arg2)) (m ((c : Thread nD τ).loc main_arg3)), ?_, ?_⟩
  · refine (θ_run Cert.Kernel18Ideal.defs _ _).mono (fun r h c => ?_) (Value.run_blocks m g)
    exact ⟨(h c).1.trans (array m c), (h c).2⟩
  · refine (θ_run Cert.Reference18Ideal.defs _ _).mono (fun r h c => ?_) (Cert.Reference18Ideal.Value.run m' g')
    obtain ⟨h0, h1⟩ := h c
    obtain ⟨a0, a1, a2, a3⟩ := hm c
    rw [a0, a1, a2, a3] at h0
    refine ⟨h0.trans (funext fun i => ?_), h1⟩
    pointwise
    unfold total layer
    split_ifs <;> first | rfl | omega

end Cert.SumPleProj

end
-- ==== Proof.SumPleGate.lean ====
/-
The sum over the devices of the gradients of the gate of the per-layer embedding in four layers.

Every device holds a piece of the gradient for this device's rows; the pieces of all eight lie one after another, and the
kernel adds them a block of columns at a time, the first piece first.
-/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.SumPleGate

open Idealize.ShloMosaic Idealize.ShloMosaic.TcCoe Idealize.ShloMosaic.Pointwise Idealize.SL.Sem
open Cert.Kernel19Ideal Cert.Kernel19Ideal.Gen

/-- The sum over the devices of the pieces of a layer. -/
def layer (x : FVec Ideal S8x128x1024 .bf16) (r : Fin 128) (k : Fin 1024) : EReal := ∑ d : Fin 8, x (ix3 d r k)

/-- The summed gradients of the layers, one layer after another. -/
def total (x0 x1 x2 x3 : FVec Ideal S8x128x1024 .bf16) : FVec Ideal S4x128x1024 .f32 := fun i =>
  if (i 0).val = 0 then layer x0 (i 1) (i 2)
  else if (i 0).val = 1 then layer x1 (i 1) (i 2)
  else if (i 0).val = 2 then layer x2 (i 1) (i 2)
  else layer x3 (i 1) (i 2)

/-- The sum over the devices of a layer's block of columns. -/
def layerBlock (x : FVec Ideal S8x128x128 .bf16) (r : Fin 128) (k : Fin 128) : EReal := ∑ d : Fin 8, x (ix3 d r k)

/-- What a grid point computes: the sums of its block of columns. -/
def block (x0 x1 x2 x3 : FVec Ideal S8x128x128 .bf16) : FVec Ideal S4x128x128 .f32 := fun y =>
  if (y 0).val = 0 then layerBlock x0 (y 1) (y 2)
  else if (y 0).val = 1 then layerBlock x1 (y 1) (y 2)
  else if (y 0).val = 2 then layerBlock x2 (y 1) (y 2)
  else layerBlock x3 (y 1) (y 2)

/-- The block a grid point leaves: each layer's sum is stored at the layer's place. -/
theorem out_eq (x0 x1 x2 x3 : FVec Ideal S8x128x128 .bf16) (y : S4x128x128.Idx) :
    out0_4 (F := Ideal) x0 x1 x2 x3 y = block x0 x1 x2 x3 y := by
  unfold out0_4
  refine View.canon_apply_of_pieces (Val := Elt Ideal) (e := .f32) (block x0 x1 x2 x3) _ (fun p hp x => ?_) y (cover0_4 _ _ _ _ y)
  simp only [List.mem_cons, List.mem_nil_iff, or_false] at hp
  rcases hp with rfl | rfl | rfl | rfl
  · unfold k0_pay1 k0_pay8 k0_pay9
    pointwise
    have h : ((r0_11.emb x) 0).val = 3 := by
      show 3 + 1 * (x 0).val = 3
      have := (x 0).isLt
      change (x 0).val < 1 at this
      omega
    have e1 : (r0_11.emb x) 1 = x 1 := Fin.ext (by show 0 + 1 * (x 1).val = (x 1).val; omega)
    have e2 : (r0_11.emb x) 2 = x 2 := Fin.ext (by show 0 + 1 * (x 2).val = (x 2).val; omega)
    unfold block
    rw [h, e1, e2]
    simp [layerBlock, Fin.sum_univ_eight]
  · unfold k0_pay7 k0_pay6
    pointwise
    have h : ((r0_10.emb x) 0).val = 2 := by
      show 2 + 1 * (x 0).val = 2
      have := (x 0).isLt
      change (x 0).val < 1 at this
      omega
    have e1 : (r0_10.emb x) 1 = x 1 := Fin.ext (by show 0 + 1 * (x 1).val = (x 1).val; omega)
    have e2 : (r0_10.emb x) 2 = x 2 := Fin.ext (by show 0 + 1 * (x 2).val = (x 2).val; omega)
    unfold block
    rw [h, e1, e2]
    simp [layerBlock, Fin.sum_univ_eight]
  · unfold k0_pay5 k0_pay4
    pointwise
    have h : ((r0_9.emb x) 0).val = 1 := by
      show 1 + 1 * (x 0).val = 1
      have := (x 0).isLt
      change (x 0).val < 1 at this
      omega
    have e1 : (r0_9.emb x) 1 = x 1 := Fin.ext (by show 0 + 1 * (x 1).val = (x 1).val; omega)
    have e2 : (r0_9.emb x) 2 = x 2 := Fin.ext (by show 0 + 1 * (x 2).val = (x 2).val; omega)
    unfold block
    rw [h, e1, e2]
    simp [layerBlock, Fin.sum_univ_eight]
  · unfold k0_pay3 k0_pay2
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [h, e1, e2]
    simp [layerBlock, Fin.sum_univ_eight]

/-- The blocks of a grid point. -/
theorem index : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val] ∧ win0_4.index t = ![0, 0, t.val])

variable (m : (ℓ : Loc nD τ sig) → Buf (Elt Ideal) ℓ) (c : Dev nD)

/-- The array the kernel leaves is the array of the sums. -/
theorem array : (dats m 0 c).arrAt 4 cfg0.N = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index t
  blk_simp
  rw [after0_4]
  refine (out_eq _ _ _ _ y).trans ?_
  unfold block total layerBlock layer
  blk_point [iblk, Gen.V, e0, e1, e2, e3, e4]

/-- The claim over the reals. -/
theorem algebraic : Cert.algebraic_Kernel19Ideal_Reference19Ideal (hKernel19Ideal := Cert.Kernel19Ideal.Gen.facts)
    (hReference19Ideal := Cert.Reference19Ideal.Gen.facts) := by
  intro m g m' g' _ hm
  refine ⟨fun c => total (m ((c : Thread nD τ).loc main_arg0)) (m ((c : Thread nD τ).loc main_arg1)) (m ((c : Thread nD τ).loc main_arg2)) (m ((c : Thread nD τ).loc main_arg3)), ?_, ?_⟩
  · refine (θ_run Cert.Kernel19Ideal.defs _ _).mono (fun r h c => ?_) (Value.run_blocks m g)
    exact ⟨(h c).1.trans (array m c), (h c).2⟩
  · refine (θ_run Cert.Reference19Ideal.defs _ _).mono (fun r h c => ?_) (Cert.Reference19Ideal.Value.run m' g')
    obtain ⟨h0, h1⟩ := h c
    obtain ⟨a0, a1, a2, a3⟩ := hm c
    rw [a0, a1, a2, a3] at h0
    refine ⟨h0.trans (funext fun i => ?_), h1⟩
    pointwise
    unfold total layer
    split_ifs <;> first | rfl | omega

end Cert.SumPleGate

end
-- ==== Proof.Step.lean ====
/-
One step of the optimiser, for one entry of a weight.

The moving averages of the gradient and of its square, corrected for their start at zero, and the change of the weight with
its decay.
-/
module

public import proofs.«01_k».proof.Defs

@[expose] public section

noncomputable section

namespace Cert.Step

open Idealize.ShloMosaic

/-- A float literal as the number it stands for. -/
abbrev number (w : BitVec 32) : EReal := Ideal.ofBits .f32 w

/-- The new average of the gradients: nine tenths of the old one and a tenth of the gradient. -/
def firstMoment (g m : EReal) : EReal := number 0x3F666666#32 * m + number 0x3DCCCCCD#32 * g

/-- The new average of the squares. -/
def secondMoment (g v : EReal) : EReal := number 0x3F7FBE77#32 * v + number 0x3A83126F#32 * (g * g)

/-- The change of the weight: the corrected average over the root of the corrected average of squares, and the decay. -/
def change (w g m v : EReal) : EReal :=
  number 0xBA83126F#32 * (Ideal.div (Ideal.div (firstMoment g m) (number 0x3F26BD02#32))
      (Ideal.sqrt (Ideal.div (secondMoment g v) (number 0x3C231ACC#32)) + number 0x322BCC77#32)
    + number 0x3C23D70A#32 * w)

end Cert.Step

end
-- ==== Proof.StepSquare.lean ====
/-
The optimiser's step for the square weights of two layers, whose rows are shared out over the devices.

The kernel handles one block of the arrays at a grid point; every entry of the results depends on the same entry of the
arguments alone.
-/
module

public import proofs.«01_k».proof.Defs
public import proofs.«01_k».proof.Proof.Gen.Kernel20Ideal.Value
public import proofs.«01_k».proof.Proof.Gen.Reference20Ideal.Run
public import proofs.«01_k».proof.Proof.Step
public import Idealize.ShloMosaic.Lib.Pipeline.ValueKit
public import Idealize.ShloMosaic.Lib.Pointwise

@[expose] public section

set_option maxRecDepth 16384

noncomputable section

namespace Cert.StepSquare

open Idealize.ShloMosaic Idealize.ShloMosaic.TcCoe Idealize.ShloMosaic.Pointwise Idealize.SL.Sem
open Cert.Kernel20Ideal Cert.Kernel20Ideal.Gen Cert.Step

/-- A block of the change of the weight, entry by entry. -/
theorem block_change (w g m v : Vec Ideal S256x1024 .f32) (y : S256x1024.Idx) : k0_pay4 g m v w y = change (w y) (g y) (m y) (v y) := by
  unfold k0_pay4 k0_pay2 k0_pay3 k0_pay1
  pointwise
  rfl

/-- A block of the new first moment, entry by entry. -/
theorem block_firstMoment (g m : Vec Ideal S256x1024 .f32) (y : S256x1024.Idx) : k0_pay2 g m y = firstMoment (g y) (m y) := by
  unfold k0_pay2 k0_pay1
  pointwise
  rfl

/-- A block of the new second moment, entry by entry. -/
theorem block_secondMoment (g v : Vec Ideal S256x1024 .f32) (y : S256x1024.Idx) : k0_pay3 g v y = secondMoment (g y) (v y) := by
  unfold k0_pay3 k0_pay1
  pointwise
  rfl

variable (m : (ℓ : Loc nD τ sig) → Buf (Elt Ideal) ℓ) (c : Dev nD)

theorem array_change : (dats m 0 c).arrAt 4 cfg0.N = fun i => change (shapeCast S256x1024 (m ((c : Thread nD τ).loc main_arg0)) Cert.Kernel20Ideal.Gen.shapeCasts_S2x128x1024_S256x1024 i) (shapeCast S256x1024 (m ((c : Thread nD τ).loc main_arg1)) Cert.Kernel20Ideal.Gen.shapeCasts_S2x128x1024_S256x1024 i) (shapeCast S256x1024 (m ((c : Thread nD τ).loc main_arg2)) Cert.Kernel20Ideal.Gen.shapeCasts_S2x128x1024_S256x1024 i) (shapeCast S256x1024 (m ((c : Thread nD τ).loc main_arg3)) Cert.Kernel20Ideal.Gen.shapeCasts_S2x128x1024_S256x1024 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment (shapeCast S256x1024 (m ((c : Thread nD τ).loc main_arg1)) Cert.Kernel20Ideal.Gen.shapeCasts_S2x128x1024_S256x1024 i) (shapeCast S256x1024 (m ((c : Thread nD τ).loc main_arg2)) Cert.Kernel20Ideal.Gen.shapeCasts_S2x128x1024_S256x1024 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment (shapeCast S256x1024 (m ((c : Thread nD τ).loc main_arg1)) Cert.Kernel20Ideal.Gen.shapeCasts_S2x128x1024_S256x1024 i) (shapeCast S256x1024 (m ((c : Thread nD τ).loc main_arg3)) Cert.Kernel20Ideal.Gen.shapeCasts_S2x128x1024_S256x1024 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel20Ideal_Reference20Ideal (hKernel20Ideal := Cert.Kernel20Ideal.Gen.facts)
    (hReference20Ideal := Cert.Reference20Ideal.Gen.facts) := by
  intro m g m' g' _ hm
  refine ⟨fun c => fun i => change (shapeCast S256x1024 (m ((c : Thread nD τ).loc main_arg0)) Cert.Kernel20Ideal.Gen.shapeCasts_S2x128x1024_S256x1024 i) (shapeCast S256x1024 (m ((c : Thread nD τ).loc main_arg1)) Cert.Kernel20Ideal.Gen.shapeCasts_S2x128x1024_S256x1024 i) (shapeCast S256x1024 (m ((c : Thread nD τ).loc main_arg2)) Cert.Kernel20Ideal.Gen.shapeCasts_S2x128x1024_S256x1024 i) (shapeCast S256x1024 (m ((c : Thread nD τ).loc main_arg3)) Cert.Kernel20Ideal.Gen.shapeCasts_S2x128x1024_S256x1024 i),
    fun c => fun i => firstMoment (shapeCast S256x1024 (m ((c : Thread nD τ).loc main_arg1)) Cert.Kernel20Ideal.Gen.shapeCasts_S2x128x1024_S256x1024 i) (shapeCast S256x1024 (m ((c : Thread nD τ).loc main_arg2)) Cert.Kernel20Ideal.Gen.shapeCasts_S2x128x1024_S256x1024 i),
    fun c => fun i => secondMoment (shapeCast S256x1024 (m ((c : Thread nD τ).loc main_arg1)) Cert.Kernel20Ideal.Gen.shapeCasts_S2x128x1024_S256x1024 i) (shapeCast S256x1024 (m ((c : Thread nD τ).loc main_arg3)) Cert.Kernel20Ideal.Gen.shapeCasts_S2x128x1024_S256x1024 i), ?_, ?_⟩
  · refine (θ_run Cert.Kernel20Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference20Ideal.defs _ _).mono (fun r h c => ?_) (Cert.Reference20Ideal.Value.run m' g')
    obtain ⟨h0, h1, h2, h3⟩ := h c
    obtain ⟨a0, a1, a2, a3⟩ := hm c
    rw [a0, a1, a2, a3] at h0
    rw [a1, a2] at h1
    rw [a1, a3] at h2
    exact ⟨h0.trans rfl, h1.trans rfl, h2.trans rfl, h3⟩

end Cert.StepSquare

end
-- ==== Proof.StepGdnIn.lean ====
/-
The optimiser's step for the first weight of the gated delta rule, whose columns are shared out; the kernel works on the transposed weight.

The kernel handles one block of the arrays at a grid point; every entry of the results depends on the same entry of the
arguments alone.
-/
module

public import proofs.«01_k».proof.Defs
public import proofs.«01_k».proof.Proof.Gen.Kernel21Ideal.Value
public import proofs.«01_k».proof.Proof.Gen.Reference21Ideal.Run
public import proofs.«01_k».proof.Proof.Step
public import Idealize.ShloMosaic.Lib.Pipeline.ValueKit
public import Idealize.ShloMosaic.Lib.Pointwise

@[expose] public section

set_option maxRecDepth 16384

noncomputable section

namespace Cert.StepGdnIn

open Idealize.ShloMosaic Idealize.ShloMosaic.TcCoe Idealize.ShloMosaic.Pointwise Idealize.SL.Sem
open Cert.Kernel21Ideal Cert.Kernel21Ideal.Gen Cert.Step

/-- A block of the change of the weight, entry by entry. -/
theorem block_change (w g m v : Vec Ideal S1x514x256 .f32) (y : S1x514x256.Idx) : k0_pay1 (k0_pay7 g m v w) y = change (w y) (g y) (m y) (v y) := by
  unfold k0_pay1 k0_pay7 k0_pay5 k0_pay6 k0_pay4
  pointwise
  rfl

/-- A block of the new first moment, entry by entry. -/
theorem block_firstMoment (g m : Vec Ideal S1x514x256 .f32) (y : S1x514x256.Idx) : k0_pay2 (k0_pay5 g m) y = firstMoment (g y) (m y) := by
  unfold k0_pay2 k0_pay5 k0_pay4
  pointwise
  rfl

/-- A block of the new second moment, entry by entry. -/
theorem block_secondMoment (g v : Vec Ideal S1x514x256 .f32) (y : S1x514x256.Idx) : k0_pay3 (k0_pay6 g v) y = secondMoment (g y) (v y) := by
  unfold k0_pay3 k0_pay6 k0_pay4
  pointwise
  rfl

variable (m : (ℓ : Loc nD τ sig) → Buf (Elt Ideal) ℓ) (c : Dev nD)

theorem array_change : (dats m 0 c).arrAt 4 cfg0.N = fun i => change (transpose S2x514x1024 [0, 2, 1] (m ((c : Thread nD τ).loc main_arg0)) Cert.Kernel21Ideal.Gen.transposes_S2x1024x514_S2x514x1024_0_2_1 i) ((m ((c : Thread nD τ).loc main_arg1)) i) (transpose S2x514x1024 [0, 2, 1] (m ((c : Thread nD τ).loc main_arg2)) Cert.Kernel21Ideal.Gen.transposes_S2x1024x514_S2x514x1024_0_2_1 i) (transpose S2x514x1024 [0, 2, 1] (m ((c : Thread nD τ).loc main_arg3)) Cert.Kernel21Ideal.Gen.transposes_S2x1024x514_S2x514x1024_0_2_1 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment ((m ((c : Thread nD τ).loc main_arg1)) i) (transpose S2x514x1024 [0, 2, 1] (m ((c : Thread nD τ).loc main_arg2)) Cert.Kernel21Ideal.Gen.transposes_S2x1024x514_S2x514x1024_0_2_1 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment ((m ((c : Thread nD τ).loc main_arg1)) i) (transpose S2x514x1024 [0, 2, 1] (m ((c : Thread nD τ).loc main_arg3)) Cert.Kernel21Ideal.Gen.transposes_S2x1024x514_S2x514x1024_0_2_1 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel21Ideal_Reference21Ideal (hKernel21Ideal := Cert.Kernel21Ideal.Gen.facts)
    (hReference21Ideal := Cert.Reference21Ideal.Gen.facts) := by
  intro m g m' g' _ hm
  refine ⟨fun c => fun i => change (transpose S2x514x1024 [0, 2, 1] (m ((c : Thread nD τ).loc main_arg0)) Cert.Kernel21Ideal.Gen.transposes_S2x1024x514_S2x514x1024_0_2_1 i) ((m ((c : Thread nD τ).loc main_arg1)) i) (transpose S2x514x1024 [0, 2, 1] (m ((c : Thread nD τ).loc main_arg2)) Cert.Kernel21Ideal.Gen.transposes_S2x1024x514_S2x514x1024_0_2_1 i) (transpose S2x514x1024 [0, 2, 1] (m ((c : Thread nD τ).loc main_arg3)) Cert.Kernel21Ideal.Gen.transposes_S2x1024x514_S2x514x1024_0_2_1 i),
    fun c => fun i => firstMoment ((m ((c : Thread nD τ).loc main_arg1)) i) (transpose S2x514x1024 [0, 2, 1] (m ((c : Thread nD τ).loc main_arg2)) Cert.Kernel21Ideal.Gen.transposes_S2x1024x514_S2x514x1024_0_2_1 i),
    fun c => fun i => secondMoment ((m ((c : Thread nD τ).loc main_arg1)) i) (transpose S2x514x1024 [0, 2, 1] (m ((c : Thread nD τ).loc main_arg3)) Cert.Kernel21Ideal.Gen.transposes_S2x1024x514_S2x514x1024_0_2_1 i), ?_, ?_⟩
  · refine (θ_run Cert.Kernel21Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference21Ideal.defs _ _).mono (fun r h c => ?_) (Cert.Reference21Ideal.Value.run m' g')
    obtain ⟨h0, h1, h2, h3⟩ := h c
    obtain ⟨a0, a1, a2, a3⟩ := hm c
    rw [a0, a1, a2, a3] at h0
    rw [a1, a2] at h1
    rw [a1, a3] at h2
    refine ⟨h0.trans (funext fun i => ?_), h1.trans (funext fun i => ?_), h2.trans (funext fun i => ?_), h3⟩
    all_goals
      pointwise
      rfl

end Cert.StepGdnIn

end
-- ==== Proof.StepKeysValues.lean ====
/-
The optimiser's step for the weight that makes the keys and values.

The kernel handles one block of the arrays at a grid point; every entry of the results depends on the same entry of the
arguments alone.
-/
module

public import proofs.«01_k».proof.Defs
public import proofs.«01_k».proof.Proof.Gen.Kernel22Ideal.Value
public import proofs.«01_k».proof.Proof.Gen.Reference22Ideal.Run
public import proofs.«01_k».proof.Proof.Step
public import Idealize.ShloMosaic.Lib.Pipeline.ValueKit
public import Idealize.ShloMosaic.Lib.Pointwise

@[expose] public section

set_option maxRecDepth 16384

noncomputable section

namespace Cert.StepKeysValues

open Idealize.ShloMosaic Idealize.ShloMosaic.TcCoe Idealize.ShloMosaic.Pointwise Idealize.SL.Sem
open Cert.Kernel22Ideal Cert.Kernel22Ideal.Gen Cert.Step

/-- A block of the change of the weight, entry by entry. -/
theorem block_change (w g m v : Vec Ideal S256x256 .f32) (y : S256x256.Idx) : k0_pay3 g m v w y = change (w y) (g y) (m y) (v y) := by
  unfold k0_pay3 k0_pay1 k0_pay2
  pointwise
  rfl

/-- A block of the new first moment, entry by entry. -/
theorem block_firstMoment (g m : Vec Ideal S256x256 .f32) (y : S256x256.Idx) : k0_pay1 g m y = firstMoment (g y) (m y) := by
  unfold k0_pay1
  pointwise
  rfl

/-- A block of the new second moment, entry by entry. -/
theorem block_secondMoment (g v : Vec Ideal S256x256 .f32) (y : S256x256.Idx) : k0_pay2 g v y = secondMoment (g y) (v y) := by
  unfold k0_pay2
  pointwise
  rfl

variable (m : (ℓ : Loc nD τ sig) → Buf (Elt Ideal) ℓ) (c : Dev nD)

theorem array_change : (dats m 0 c).arrAt 4 cfg0.N = fun i => change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment ((m ((c : Thread nD τ).loc main_arg1)) i) ((m ((c : Thread nD τ).loc main_arg2)) i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment ((m ((c : Thread nD τ).loc main_arg1)) i) ((m ((c : Thread nD τ).loc main_arg3)) i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel22Ideal_Reference22Ideal (hKernel22Ideal := Cert.Kernel22Ideal.Gen.facts)
    (hReference22Ideal := Cert.Reference22Ideal.Gen.facts) := by
  intro m g m' g' _ hm
  refine ⟨fun c => fun i => change ((m ((c : Thread nD τ).loc main_arg0)) i) ((m ((c : Thread nD τ).loc main_arg1)) i) ((m ((c : Thread nD τ).loc main_arg2)) i) ((m ((c : Thread nD τ).loc main_arg3)) i),
    fun c => fun i => firstMoment ((m ((c : Thread nD τ).loc main_arg1)) i) ((m ((c : Thread nD τ).loc main_arg2)) i),
    fun c => fun i => secondMoment ((m ((c : Thread nD τ).loc main_arg1)) i) ((m ((c : Thread nD τ).loc main_arg3)) i), ?_, ?_⟩
  · refine (θ_run Cert.Kernel22Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference22Ideal.defs _ _).mono (fun r h c => ?_) (Cert.Reference22Ideal.Value.run m' g')
    obtain ⟨h0, h1, h2, h3⟩ := h c
    obtain ⟨a0, a1, a2, a3⟩ := hm c
    rw [a0, a1, a2, a3] at h0
    rw [a1, a2] at h1
    rw [a1, a3] at h2
    exact ⟨h0.trans rfl, h1.trans rfl, h2.trans rfl, h3⟩

end Cert.StepKeysValues

end
-- ==== Proof.StepFfnIn.lean ====
/-
The optimiser's step for the first weight of the feed-forward block, whose columns are shared out; the kernel works on the transposed weight.

The kernel handles one block of the arrays at a grid point; every entry of the results depends on the same entry of the
arguments alone.
-/
module

public import proofs.«01_k».proof.Defs
public import proofs.«01_k».proof.Proof.Gen.Kernel23Ideal.Value
public import proofs.«01_k».proof.Proof.Gen.Reference23Ideal.Run
public import proofs.«01_k».proof.Proof.Step
public import Idealize.ShloMosaic.Lib.Pipeline.ValueKit
public import Idealize.ShloMosaic.Lib.Pointwise

@[expose] public section

set_option maxRecDepth 16384

noncomputable section

namespace Cert.StepFfnIn

open Idealize.ShloMosaic Idealize.ShloMosaic.TcCoe Idealize.ShloMosaic.Pointwise Idealize.SL.Sem
open Cert.Kernel23Ideal Cert.Kernel23Ideal.Gen Cert.Step

/-- A block of the change of the weight, entry by entry. -/
theorem block_change (w g m v : Vec Ideal S1x704x256 .f32) (y : S1x704x256.Idx) : k0_pay1 (k0_pay7 g m v w) y = change (w y) (g y) (m y) (v y) := by
  unfold k0_pay1 k0_pay7 k0_pay5 k0_pay6 k0_pay4
  pointwise
  rfl

/-- A block of the new first moment, entry by entry. -/
theorem block_firstMoment (g m : Vec Ideal S1x704x256 .f32) (y : S1x704x256.Idx) : k0_pay2 (k0_pay5 g m) y = firstMoment (g y) (m y) := by
  unfold k0_pay2 k0_pay5 k0_pay4
  pointwise
  rfl

/-- A block of the new second moment, entry by entry. -/
theorem block_secondMoment (g v : Vec Ideal S1x704x256 .f32) (y : S1x704x256.Idx) : k0_pay3 (k0_pay6 g v) y = secondMoment (g y) (v y) := by
  unfold k0_pay3 k0_pay6 k0_pay4
  pointwise
  rfl

variable (m : (ℓ : Loc nD τ sig) → Buf (Elt Ideal) ℓ) (c : Dev nD)

theorem array_change : (dats m 0 c).arrAt 4 cfg0.N = fun i => change (transpose S4x704x1024 [0, 2, 1] (m ((c : Thread nD τ).loc main_arg0)) Cert.Kernel23Ideal.Gen.transposes_S4x1024x704_S4x704x1024_0_2_1 i) ((m ((c : Thread nD τ).loc main_arg1)) i) (transpose S4x704x1024 [0, 2, 1] (m ((c : Thread nD τ).loc main_arg2)) Cert.Kernel23Ideal.Gen.transposes_S4x1024x704_S4x704x1024_0_2_1 i) (transpose S4x704x1024 [0, 2, 1] (m ((c : Thread nD τ).loc main_arg3)) Cert.Kernel23Ideal.Gen.transposes_S4x1024x704_S4x704x1024_0_2_1 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment ((m ((c : Thread nD τ).loc main_arg1)) i) (transpose S4x704x1024 [0, 2, 1] (m ((c : Thread nD τ).loc main_arg2)) Cert.Kernel23Ideal.Gen.transposes_S4x1024x704_S4x704x1024_0_2_1 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment ((m ((c : Thread nD τ).loc main_arg1)) i) (transpose S4x704x1024 [0, 2, 1] (m ((c : Thread nD τ).loc main_arg3)) Cert.Kernel23Ideal.Gen.transposes_S4x1024x704_S4x704x1024_0_2_1 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel23Ideal_Reference23Ideal (hKernel23Ideal := Cert.Kernel23Ideal.Gen.facts)
    (hReference23Ideal := Cert.Reference23Ideal.Gen.facts) := by
  intro m g m' g' _ hm
  refine ⟨fun c => fun i => change (transpose S4x704x1024 [0, 2, 1] (m ((c : Thread nD τ).loc main_arg0)) Cert.Kernel23Ideal.Gen.transposes_S4x1024x704_S4x704x1024_0_2_1 i) ((m ((c : Thread nD τ).loc main_arg1)) i) (transpose S4x704x1024 [0, 2, 1] (m ((c : Thread nD τ).loc main_arg2)) Cert.Kernel23Ideal.Gen.transposes_S4x1024x704_S4x704x1024_0_2_1 i) (transpose S4x704x1024 [0, 2, 1] (m ((c : Thread nD τ).loc main_arg3)) Cert.Kernel23Ideal.Gen.transposes_S4x1024x704_S4x704x1024_0_2_1 i),
    fun c => fun i => firstMoment ((m ((c : Thread nD τ).loc main_arg1)) i) (transpose S4x704x1024 [0, 2, 1] (m ((c : Thread nD τ).loc main_arg2)) Cert.Kernel23Ideal.Gen.transposes_S4x1024x704_S4x704x1024_0_2_1 i),
    fun c => fun i => secondMoment ((m ((c : Thread nD τ).loc main_arg1)) i) (transpose S4x704x1024 [0, 2, 1] (m ((c : Thread nD τ).loc main_arg3)) Cert.Kernel23Ideal.Gen.transposes_S4x1024x704_S4x704x1024_0_2_1 i), ?_, ?_⟩
  · refine (θ_run Cert.Kernel23Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference23Ideal.defs _ _).mono (fun r h c => ?_) (Cert.Reference23Ideal.Value.run m' g')
    obtain ⟨h0, h1, h2, h3⟩ := h c
    obtain ⟨a0, a1, a2, a3⟩ := hm c
    rw [a0, a1, a2, a3] at h0
    rw [a1, a2] at h1
    rw [a1, a3] at h2
    refine ⟨h0.trans (funext fun i => ?_), h1.trans (funext fun i => ?_), h2.trans (funext fun i => ?_), h3⟩
    all_goals
      pointwise
      rfl

end Cert.StepFfnIn

end
-- ==== Proof.StepFfnOut.lean ====
/-
The optimiser's step for the second weight of the feed-forward block.

The kernel handles one block of the arrays at a grid point; every entry of the results depends on the same entry of the
arguments alone.
-/
module

public import proofs.«01_k».proof.Defs
public import proofs.«01_k».proof.Proof.Gen.Kernel24Ideal.Value
public import proofs.«01_k».proof.Proof.Gen.Reference24Ideal.Run
public import proofs.«01_k».proof.Proof.Step
public import Idealize.ShloMosaic.Lib.Pipeline.ValueKit
public import Idealize.ShloMosaic.Lib.Pointwise

@[expose] public section

set_option maxRecDepth 16384

noncomputable section

namespace Cert.StepFfnOut

open Idealize.ShloMosaic Idealize.ShloMosaic.TcCoe Idealize.ShloMosaic.Pointwise Idealize.SL.Sem
open Cert.Kernel24Ideal Cert.Kernel24Ideal.Gen Cert.Step

/-- A block of the change of the weight, entry by entry. -/
theorem block_change (w g m v : Vec Ideal S128x1024 .f32) (y : S128x1024.Idx) : k0_pay4 g m v w y = change (w y) (g y) (m y) (v y) := by
  unfold k0_pay4 k0_pay2 k0_pay3 k0_pay1
  pointwise
  rfl

/-- A block of the new first moment, entry by entry. -/
theorem block_firstMoment (g m : Vec Ideal S128x1024 .f32) (y : S128x1024.Idx) : k0_pay2 g m y = firstMoment (g y) (m y) := by
  unfold k0_pay2 k0_pay1
  pointwise
  rfl

/-- A block of the new second moment, entry by entry. -/
theorem block_secondMoment (g v : Vec Ideal S128x1024 .f32) (y : S128x1024.Idx) : k0_pay3 g v y = secondMoment (g y) (v y) := by
  unfold k0_pay3 k0_pay1
  pointwise
  rfl

variable (m : (ℓ : Loc nD τ sig) → Buf (Elt Ideal) ℓ) (c : Dev nD)

theorem array_change : (dats m 0 c).arrAt 4 cfg0.N = fun i => change (shapeCast S1408x1024 (m ((c : Thread nD τ).loc main_arg0)) Cert.Kernel24Ideal.Gen.shapeCasts_S4x352x1024_S1408x1024 i) (shapeCast S1408x1024 (m ((c : Thread nD τ).loc main_arg1)) Cert.Kernel24Ideal.Gen.shapeCasts_S4x352x1024_S1408x1024 i) (shapeCast S1408x1024 (m ((c : Thread nD τ).loc main_arg2)) Cert.Kernel24Ideal.Gen.shapeCasts_S4x352x1024_S1408x1024 i) (shapeCast S1408x1024 (m ((c : Thread nD τ).loc main_arg3)) Cert.Kernel24Ideal.Gen.shapeCasts_S4x352x1024_S1408x1024 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment (shapeCast S1408x1024 (m ((c : Thread nD τ).loc main_arg1)) Cert.Kernel24Ideal.Gen.shapeCasts_S4x352x1024_S1408x1024 i) (shapeCast S1408x1024 (m ((c : Thread nD τ).loc main_arg2)) Cert.Kernel24Ideal.Gen.shapeCasts_S4x352x1024_S1408x1024 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment (shapeCast S1408x1024 (m ((c : Thread nD τ).loc main_arg1)) Cert.Kernel24Ideal.Gen.shapeCasts_S4x352x1024_S1408x1024 i) (shapeCast S1408x1024 (m ((c : Thread nD τ).loc main_arg3)) Cert.Kernel24Ideal.Gen.shapeCasts_S4x352x1024_S1408x1024 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel24Ideal_Reference24Ideal (hKernel24Ideal := Cert.Kernel24Ideal.Gen.facts)
    (hReference24Ideal := Cert.Reference24Ideal.Gen.facts) := by
  intro m g m' g' _ hm
  refine ⟨fun c => fun i => change (shapeCast S1408x1024 (m ((c : Thread nD τ).loc main_arg0)) Cert.Kernel24Ideal.Gen.shapeCasts_S4x352x1024_S1408x1024 i) (shapeCast S1408x1024 (m ((c : Thread nD τ).loc main_arg1)) Cert.Kernel24Ideal.Gen.shapeCasts_S4x352x1024_S1408x1024 i) (shapeCast S1408x1024 (m ((c : Thread nD τ).loc main_arg2)) Cert.Kernel24Ideal.Gen.shapeCasts_S4x352x1024_S1408x1024 i) (shapeCast S1408x1024 (m ((c : Thread nD τ).loc main_arg3)) Cert.Kernel24Ideal.Gen.shapeCasts_S4x352x1024_S1408x1024 i),
    fun c => fun i => firstMoment (shapeCast S1408x1024 (m ((c : Thread nD τ).loc main_arg1)) Cert.Kernel24Ideal.Gen.shapeCasts_S4x352x1024_S1408x1024 i) (shapeCast S1408x1024 (m ((c : Thread nD τ).loc main_arg2)) Cert.Kernel24Ideal.Gen.shapeCasts_S4x352x1024_S1408x1024 i),
    fun c => fun i => secondMoment (shapeCast S1408x1024 (m ((c : Thread nD τ).loc main_arg1)) Cert.Kernel24Ideal.Gen.shapeCasts_S4x352x1024_S1408x1024 i) (shapeCast S1408x1024 (m ((c : Thread nD τ).loc main_arg3)) Cert.Kernel24Ideal.Gen.shapeCasts_S4x352x1024_S1408x1024 i), ?_, ?_⟩
  · refine (θ_run Cert.Kernel24Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference24Ideal.defs _ _).mono (fun r h c => ?_) (Cert.Reference24Ideal.Value.run m' g')
    obtain ⟨h0, h1, h2, h3⟩ := h c
    obtain ⟨a0, a1, a2, a3⟩ := hm c
    rw [a0, a1, a2, a3] at h0
    rw [a1, a2] at h1
    rw [a1, a3] at h2
    exact ⟨h0.trans rfl, h1.trans rfl, h2.trans rfl, h3⟩

end Cert.StepFfnOut

end
-- ==== Proof.StepPleProj.lean ====
/-
The optimiser's step for the projection of the per-layer embedding.

The kernel handles one block of the arrays at a grid point; every entry of the results depends on the same entry of the
arguments alone.
-/
module

public import proofs.«01_k».proof.Defs
public import proofs.«01_k».proof.Proof.Gen.Kernel25Ideal.Value
public import proofs.«01_k».proof.Proof.Gen.Reference25Ideal.Run
public import proofs.«01_k».proof.Proof.Step
public import Idealize.ShloMosaic.Lib.Pipeline.ValueKit
public import Idealize.ShloMosaic.Lib.Pointwise

@[expose] public section

set_option maxRecDepth 16384

noncomputable section

namespace Cert.StepPleProj

open Idealize.ShloMosaic Idealize.ShloMosaic.TcCoe Idealize.ShloMosaic.Pointwise Idealize.SL.Sem
open Cert.Kernel25Ideal Cert.Kernel25Ideal.Gen Cert.Step

/-- A block of the change of the weight, entry by entry. -/
theorem block_change (w g m v : Vec Ideal S256x128 .f32) (y : S256x128.Idx) : k0_pay4 g m v w y = change (w y) (g y) (m y) (v y) := by
  unfold k0_pay4 k0_pay2 k0_pay3 k0_pay1
  pointwise
  rfl

/-- A block of the new first moment, entry by entry. -/
theorem block_firstMoment (g m : Vec Ideal S256x128 .f32) (y : S256x128.Idx) : k0_pay2 g m y = firstMoment (g y) (m y) := by
  unfold k0_pay2 k0_pay1
  pointwise
  rfl

/-- A block of the new second moment, entry by entry. -/
theorem block_secondMoment (g v : Vec Ideal S256x128 .f32) (y : S256x128.Idx) : k0_pay3 g v y = secondMoment (g y) (v y) := by
  unfold k0_pay3 k0_pay1
  pointwise
  rfl

variable (m : (ℓ : Loc nD τ sig) → Buf (Elt Ideal) ℓ) (c : Dev nD)

theorem array_change : (dats m 0 c).arrAt 4 cfg0.N = fun i => change (shapeCast S1024x128 (m ((c : Thread nD τ).loc main_arg0)) Cert.Kernel25Ideal.Gen.shapeCasts_S4x256x128_S1024x128 i) (shapeCast S1024x128 (m ((c : Thread nD τ).loc main_arg1)) Cert.Kernel25Ideal.Gen.shapeCasts_S4x256x128_S1024x128 i) (shapeCast S1024x128 (m ((c : Thread nD τ).loc main_arg2)) Cert.Kernel25Ideal.Gen.shapeCasts_S4x256x128_S1024x128 i) (shapeCast S1024x128 (m ((c : Thread nD τ).loc main_arg3)) Cert.Kernel25Ideal.Gen.shapeCasts_S4x256x128_S1024x128 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment (shapeCast S1024x128 (m ((c : Thread nD τ).loc main_arg1)) Cert.Kernel25Ideal.Gen.shapeCasts_S4x256x128_S1024x128 i) (shapeCast S1024x128 (m ((c : Thread nD τ).loc main_arg2)) Cert.Kernel25Ideal.Gen.shapeCasts_S4x256x128_S1024x128 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment (shapeCast S1024x128 (m ((c : Thread nD τ).loc main_arg1)) Cert.Kernel25Ideal.Gen.shapeCasts_S4x256x128_S1024x128 i) (shapeCast S1024x128 (m ((c : Thread nD τ).loc main_arg3)) Cert.Kernel25Ideal.Gen.shapeCasts_S4x256x128_S1024x128 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel25Ideal_Reference25Ideal (hKernel25Ideal := Cert.Kernel25Ideal.Gen.facts)
    (hReference25Ideal := Cert.Reference25Ideal.Gen.facts) := by
  intro m g m' g' _ hm
  refine ⟨fun c => fun i => change (shapeCast S1024x128 (m ((c : Thread nD τ).loc main_arg0)) Cert.Kernel25Ideal.Gen.shapeCasts_S4x256x128_S1024x128 i) (shapeCast S1024x128 (m ((c : Thread nD τ).loc main_arg1)) Cert.Kernel25Ideal.Gen.shapeCasts_S4x256x128_S1024x128 i) (shapeCast S1024x128 (m ((c : Thread nD τ).loc main_arg2)) Cert.Kernel25Ideal.Gen.shapeCasts_S4x256x128_S1024x128 i) (shapeCast S1024x128 (m ((c : Thread nD τ).loc main_arg3)) Cert.Kernel25Ideal.Gen.shapeCasts_S4x256x128_S1024x128 i),
    fun c => fun i => firstMoment (shapeCast S1024x128 (m ((c : Thread nD τ).loc main_arg1)) Cert.Kernel25Ideal.Gen.shapeCasts_S4x256x128_S1024x128 i) (shapeCast S1024x128 (m ((c : Thread nD τ).loc main_arg2)) Cert.Kernel25Ideal.Gen.shapeCasts_S4x256x128_S1024x128 i),
    fun c => fun i => secondMoment (shapeCast S1024x128 (m ((c : Thread nD τ).loc main_arg1)) Cert.Kernel25Ideal.Gen.shapeCasts_S4x256x128_S1024x128 i) (shapeCast S1024x128 (m ((c : Thread nD τ).loc main_arg3)) Cert.Kernel25Ideal.Gen.shapeCasts_S4x256x128_S1024x128 i), ?_, ?_⟩
  · refine (θ_run Cert.Kernel25Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference25Ideal.defs _ _).mono (fun r h c => ?_) (Cert.Reference25Ideal.Value.run m' g')
    obtain ⟨h0, h1, h2, h3⟩ := h c
    obtain ⟨a0, a1, a2, a3⟩ := hm c
    rw [a0, a1, a2, a3] at h0
    rw [a1, a2] at h1
    rw [a1, a3] at h2
    exact ⟨h0.trans rfl, h1.trans rfl, h2.trans rfl, h3⟩

end Cert.StepPleProj

end
-- ==== Proof.StepPleGate.lean ====
/-
The optimiser's step for the gate of the per-layer embedding.

The kernel handles one block of the arrays at a grid point; every entry of the results depends on the same entry of the
arguments alone.
-/
module

public import proofs.«01_k».proof.Defs
public import proofs.«01_k».proof.Proof.Gen.Kernel26Ideal.Value
public import proofs.«01_k».proof.Proof.Gen.Reference26Ideal.Run
public import proofs.«01_k».proof.Proof.Step
public import Idealize.ShloMosaic.Lib.Pipeline.ValueKit
public import Idealize.ShloMosaic.Lib.Pointwise

@[expose] public section

set_option maxRecDepth 16384

noncomputable section

namespace Cert.StepPleGate

open Idealize.ShloMosaic Idealize.ShloMosaic.TcCoe Idealize.ShloMosaic.Pointwise Idealize.SL.Sem
open Cert.Kernel26Ideal Cert.Kernel26Ideal.Gen Cert.Step

/-- A block of the change of the weight, entry by entry. -/
theorem block_change (w g m v : Vec Ideal S256x1024 .f32) (y : S256x1024.Idx) : k0_pay4 g m v w y = change (w y) (g y) (m y) (v y) := by
  unfold k0_pay4 k0_pay2 k0_pay3 k0_pay1
  pointwise
  rfl

/-- A block of the new first moment, entry by entry. -/
theorem block_firstMoment (g m : Vec Ideal S256x1024 .f32) (y : S256x1024.Idx) : k0_pay2 g m y = firstMoment (g y) (m y) := by
  unfold k0_pay2 k0_pay1
  pointwise
  rfl

/-- A block of the new second moment, entry by entry. -/
theorem block_secondMoment (g v : Vec Ideal S256x1024 .f32) (y : S256x1024.Idx) : k0_pay3 g v y = secondMoment (g y) (v y) := by
  unfold k0_pay3 k0_pay1
  pointwise
  rfl

variable (m : (ℓ : Loc nD τ sig) → Buf (Elt Ideal) ℓ) (c : Dev nD)

theorem array_change : (dats m 0 c).arrAt 4 cfg0.N = fun i => change (shapeCast S512x1024 (m ((c : Thread nD τ).loc main_arg0)) Cert.Kernel26Ideal.Gen.shapeCasts_S4x128x1024_S512x1024 i) (shapeCast S512x1024 (m ((c : Thread nD τ).loc main_arg1)) Cert.Kernel26Ideal.Gen.shapeCasts_S4x128x1024_S512x1024 i) (shapeCast S512x1024 (m ((c : Thread nD τ).loc main_arg2)) Cert.Kernel26Ideal.Gen.shapeCasts_S4x128x1024_S512x1024 i) (shapeCast S512x1024 (m ((c : Thread nD τ).loc main_arg3)) Cert.Kernel26Ideal.Gen.shapeCasts_S4x128x1024_S512x1024 i) := by
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment (shapeCast S512x1024 (m ((c : Thread nD τ).loc main_arg1)) Cert.Kernel26Ideal.Gen.shapeCasts_S4x128x1024_S512x1024 i) (shapeCast S512x1024 (m ((c : Thread nD τ).loc main_arg2)) Cert.Kernel26Ideal.Gen.shapeCasts_S4x128x1024_S512x1024 i) := by
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment (shapeCast S512x1024 (m ((c : Thread nD τ).loc main_arg1)) Cert.Kernel26Ideal.Gen.shapeCasts_S4x128x1024_S512x1024 i) (shapeCast S512x1024 (m ((c : Thread nD τ).loc main_arg3)) Cert.Kernel26Ideal.Gen.shapeCasts_S4x128x1024_S512x1024 i) := by
  refine (dats m 0 c).arrAt_eq_of_covers 6 _ (by decide +kernel) fun t hf y => ?_
  blk_simp
  rw [after0_6]
  frame_out
  refine (block_secondMoment _ _ _).trans ?_
  unfold iblk
  rfl

/-- The claim over the reals. -/
theorem algebraic : Cert.algebraic_Kernel26Ideal_Reference26Ideal (hKernel26Ideal := Cert.Kernel26Ideal.Gen.facts)
    (hReference26Ideal := Cert.Reference26Ideal.Gen.facts) := by
  intro m g m' g' _ hm
  refine ⟨fun c => fun i => change (shapeCast S512x1024 (m ((c : Thread nD τ).loc main_arg0)) Cert.Kernel26Ideal.Gen.shapeCasts_S4x128x1024_S512x1024 i) (shapeCast S512x1024 (m ((c : Thread nD τ).loc main_arg1)) Cert.Kernel26Ideal.Gen.shapeCasts_S4x128x1024_S512x1024 i) (shapeCast S512x1024 (m ((c : Thread nD τ).loc main_arg2)) Cert.Kernel26Ideal.Gen.shapeCasts_S4x128x1024_S512x1024 i) (shapeCast S512x1024 (m ((c : Thread nD τ).loc main_arg3)) Cert.Kernel26Ideal.Gen.shapeCasts_S4x128x1024_S512x1024 i),
    fun c => fun i => firstMoment (shapeCast S512x1024 (m ((c : Thread nD τ).loc main_arg1)) Cert.Kernel26Ideal.Gen.shapeCasts_S4x128x1024_S512x1024 i) (shapeCast S512x1024 (m ((c : Thread nD τ).loc main_arg2)) Cert.Kernel26Ideal.Gen.shapeCasts_S4x128x1024_S512x1024 i),
    fun c => fun i => secondMoment (shapeCast S512x1024 (m ((c : Thread nD τ).loc main_arg1)) Cert.Kernel26Ideal.Gen.shapeCasts_S4x128x1024_S512x1024 i) (shapeCast S512x1024 (m ((c : Thread nD τ).loc main_arg3)) Cert.Kernel26Ideal.Gen.shapeCasts_S4x128x1024_S512x1024 i), ?_, ?_⟩
  · refine (θ_run Cert.Kernel26Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference26Ideal.defs _ _).mono (fun r h c => ?_) (Cert.Reference26Ideal.Value.run m' g')
    obtain ⟨h0, h1, h2, h3⟩ := h c
    obtain ⟨a0, a1, a2, a3⟩ := hm c
    rw [a0, a1, a2, a3] at h0
    rw [a1, a2] at h1
    rw [a1, a3] at h2
    exact ⟨h0.trans rfl, h1.trans rfl, h2.trans rfl, h3⟩

end Cert.StepPleGate

end
-- ==== Proof.SumSmall.lean ====
/-
The sum over the devices of the gradients of the ten small weights, which lie one after another in one array.

Every device holds a piece of the gradient for this device's rows; the pieces of all eight lie one after another, and the
kernel adds them a block of columns at a time, the first piece first.
-/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise

@[expose] public section

set_option maxRecDepth 16384

noncomputable section

namespace Cert.SumSmall

open Idealize.ShloMosaic Idealize.ShloMosaic.TcCoe Idealize.ShloMosaic.Pointwise Idealize.SL.Sem
open Cert.Kernel27Ideal Cert.Kernel27Ideal.Gen

/-- The sum over the devices of the pieces of a layer. -/
def layer (x : FVec Ideal S8x368x128 .f32) (r : Fin 368) (k : Fin 128) : EReal := ∑ d : Fin 8, x (ix3 d r k)

/-- The summed gradient. -/
def total (x0 : FVec Ideal S8x368x128 .f32) : FVec Ideal S1x368x128 .f32 := fun i =>
  layer x0 (i 1) (i 2)

/-- The sum over the devices of a layer's block of columns. -/
def layerBlock (x : FVec Ideal S8x368x128 .f32) (r : Fin 368) (k : Fin 128) : EReal := ∑ d : Fin 8, x (ix3 d r k)

/-- What a grid point computes: the sums of its block of columns. -/
def block (x0 : FVec Ideal S8x368x128 .f32) : FVec Ideal S1x368x128 .f32 := fun y =>
  layerBlock x0 (y 1) (y 2)

/-- The block a grid point leaves: each layer's sum is stored at the layer's place. -/
theorem out_eq (x0 : FVec Ideal S8x368x128 .f32) (y : S1x368x128.Idx) :
    out0_1 (F := Ideal) x0 y = block x0 y := by
  unfold out0_1
  refine View.canon_apply_of_pieces (Val := Elt Ideal) (e := .f32) (block x0) _ (fun p hp x => ?_) y (cover0_1 _ y)
  simp only [List.mem_cons, List.mem_nil_iff, or_false] at hp
  subst hp
  · unfold k0_pay1
    pointwise
    have h : ((r0_8.emb x) 0).val = 0 := by
      show 0 + 1 * (x 0).val = 0
      have := (x 0).isLt
      change (x 0).val < 1 at this
      omega
    have e1 : (r0_8.emb x) 1 = x 1 := Fin.ext (by show 0 + 1 * (x 1).val = (x 1).val; omega)
    have e2 : (r0_8.emb x) 2 = x 2 := Fin.ext (by show 0 + 1 * (x 2).val = (x 2).val; omega)
    unfold block
    rw [e1, e2]
    simp [layerBlock, Fin.sum_univ_eight]

/-- The blocks of a grid point. -/
theorem index : ∀ t : Fin cfg0.N, win0_0.index t = ![0, 0, t.val] ∧ win0_1.index t = ![0, 0, t.val] :=
  (by decide +kernel : ∀ t : Fin grid0.N, win0_0.index t = ![0, 0, t.val] ∧ win0_1.index t = ![0, 0, t.val])

variable (m : (ℓ : Loc nD τ sig) → Buf (Elt Ideal) ℓ) (c : Dev nD)

/-- The array the kernel leaves is the array of the sums. -/
theorem array : (dats m 0 c).arrAt 1 cfg0.N = total (m ((c : Thread nD τ).loc main_arg0)) := by
  refine (dats m 0 c).arrAt_eq_of_covers 1 _ (by decide +kernel) fun t hf y => ?_
  obtain ⟨e0, e1⟩ := index t
  blk_simp
  rw [after0_1]
  refine (out_eq _ y).trans ?_
  unfold block total layerBlock layer
  blk_point [iblk, Gen.V, e0, e1]

/-- The claim over the reals. -/
theorem algebraic : Cert.algebraic_Kernel27Ideal_Reference27Ideal (hKernel27Ideal := Cert.Kernel27Ideal.Gen.facts)
    (hReference27Ideal := Cert.Reference27Ideal.Gen.facts) := by
  intro m g m' g' _ hm
  refine ⟨fun c => total (m ((c : Thread nD τ).loc main_arg0)), ?_, ?_⟩
  · refine (θ_run Cert.Kernel27Ideal.defs _ _).mono (fun r h c => ?_) (Value.run_blocks m g)
    exact ⟨(h c).1.trans (array m c), (h c).2⟩
  · refine (θ_run Cert.Reference27Ideal.defs _ _).mono (fun r h c => ?_) (Cert.Reference27Ideal.Value.run m' g')
    obtain ⟨h0, h1⟩ := h c
    have a0 := hm c
    rw [a0] at h0
    refine ⟨h0.trans (funext fun i => ?_), h1⟩
    pointwise
    unfold total layer
    rfl

end Cert.SumSmall

end
-- ==== Proof.Packing.lean ====
/-
Arrays that are packed one after another into one array.

Where every entry of a result depends on the same entries of the arguments alone, the packed results are the results of
the packed arguments, if the numbers that fill up the end give the number that fills up the results.  For the step of
the optimiser that is so with zeros.
-/
module

public import proofs.«01_k».proof.Proof.Step
public import Idealize.ShloMosaic.Lib.Pointwise

@[expose] public section

noncomputable section

namespace Cert.Packing

open Idealize.ShloMosaic Cert.Step

/-- A member of the list of results, entry by entry. -/
theorem member_map {α β : Type} (f : β → α) (xs : List ((s : Shape) × (s.Idx → β))) (k k' : ℕ) (hk : k = k')
    (h : k < (xs.map fun x => (⟨x.1, fun i => f (x.2 i)⟩ : (s : Shape) × (s.Idx → α))).length) (h' : k' < xs.length)
    (i : ((xs.map fun x => (⟨x.1, fun i => f (x.2 i)⟩ : (s : Shape) × (s.Idx → α)))[k]'h).1.Idx) (i' : xs[k'].1.Idx)
    (hi : ∀ b b', b.val = b'.val → (i b).val = (i' b').val) :
    ((xs.map fun x => (⟨x.1, fun i => f (x.2 i)⟩ : (s : Shape) × (s.Idx → α)))[k]'h).2 i = f (xs[k'].2 i') := by
  subst hk
  have E := List.getElem_map (fun x => (⟨x.1, fun i => f (x.2 i)⟩ : (s : Shape) × (s.Idx → α))) (l := xs) (i := k) (h := h)
  revert i
  rw [E]
  intro i hi
  exact congrArg (fun q => f (xs[k].2 q)) (funext fun b => Fin.ext (hi b b rfl))

/-- Equal lists of sizes put a position in the same place. -/
theorem locate_congr (ns ns' : List ℕ) (e : ns = ns') (v : ℕ) (p : v < ns.sum) (p' : v < ns'.sum) :
    (locate ns v p).1.val = (locate ns' v p').1.val ∧ (locate ns v p).2.val = (locate ns' v p').2.val := by
  subst e
  exact ⟨rfl, rfl⟩

/-- The entries of a packed array of results are the results of the packed entries. -/
theorem concatenate_map {α β : Type} (f : β → α) (t : Shape) (a : Fin t.rank) (xs : List ((s : Shape) × (s.Idx → β)))
    (hx : Shape.Concatenates (xs.map fun x => x.1) t a)
    (hy : Shape.Concatenates ((xs.map fun x => (⟨x.1, fun i => f (x.2 i)⟩ : (s : Shape) × (s.Idx → α))).map fun x => x.1) t a) (j : t.Idx) :
    concatenate t a (xs.map fun x => ⟨x.1, fun i => f (x.2 i)⟩) hy j = f (concatenate t a xs hx j) := by
  have hs : (xs.map fun x => (⟨x.1, fun i => f (x.2 i)⟩ : (s : Shape) × (s.Idx → α))).map (fun x => x.1) = xs.map fun x => x.1 := by simp
  unfold concatenate
  refine member_map f xs _ _ (locate_congr _ _ (congrArg _ hs) _ _ _).1 _ _ _ _ fun b b' hb => ?_
  split_ifs with c c' c'
  · exact (locate_congr _ _ (congrArg _ hs) _ _ _).2
  · exact absurd (show Fin.cast _ b' = a from Fin.ext (hb.symm.trans (congrArg (fun q => q.val) c))) c'
  · exact absurd (show Fin.cast _ b = a from Fin.ext (hb.trans (congrArg (fun q => q.val) c'))) c
  · simp only [Fin.val_cast]
    exact congrArg (fun q => (j q).val) (Fin.ext hb)

/-- The same with the padding: where the entry that fills up gives the entry that fills up. -/
theorem pad_map {α β : Type} (f : β → α) {s : Shape} (t : Shape) (lo hi interior : Fin s.rank → ℕ) (x : s.Idx → β) {u : Shape}
    (v : u.Idx → α) (w : u.Idx → β) (h : s.Pads lo hi interior t) (hu : 0 < u.numel) (e : ∀ i, v i = f (w i)) (j : t.Idx) :
    pad t lo hi interior (fun i => f (x i)) v h hu j = f (pad t lo hi interior x w h hu j) := by
  unfold pad
  dsimp only
  split_ifs
  · rfl
  · exact e _

/-- A quotient of zero by a number that is not zero. -/
theorem div_of_zero {y : EReal} (h : y ≠ 0) : Ideal.div 0 y = 0 := by
  simp [Ideal.div, h]

theorem sqrt_zero : Ideal.sqrt 0 = 0 := by
  show (if (0 : ℝ) < 0 then ⊥ else ((Real.sqrt 0 : ℝ) : EReal)) = 0
  simp

/-- The correction of the average of the gradients is a positive number. -/
theorem first_pos : ∃ e : ℝ, 0 < e ∧ number 0x3F26BD02#32 = (e : EReal) := by
  refine ⟨_, ?_, by simp [Ideal.ofBits, Ideal.ieee]; rfl⟩
  norm_num

/-- So is the correction of the average of the squares. -/
theorem second_pos : ∃ e : ℝ, 0 < e ∧ number 0x3C231ACC#32 = (e : EReal) := by
  refine ⟨_, ?_, by simp [Ideal.ofBits, Ideal.ieee]; rfl⟩
  norm_num

/-- And the small constant beside the root. -/
theorem small_pos : ∃ e : ℝ, 0 < e ∧ number 0x322BCC77#32 = (e : EReal) := by
  refine ⟨_, ?_, by simp [Ideal.ofBits, Ideal.ieee]; rfl⟩
  norm_num

theorem firstMoment_zero : firstMoment 0 0 = 0 := by
  unfold firstMoment
  simp only [mul_zero, add_zero]

theorem secondMoment_zero : secondMoment 0 0 = 0 := by
  unfold secondMoment
  simp only [mul_zero, add_zero]

theorem change_zero : change 0 0 0 0 = 0 := by
  obtain ⟨e1, h1, w1⟩ := first_pos
  obtain ⟨e2, h2, w2⟩ := second_pos
  obtain ⟨e3, h3, w3⟩ := small_pos
  have p (e : ℝ) (h : 0 < e) : (e : EReal) ≠ 0 := by exact_mod_cast h.ne'
  unfold change
  rw [firstMoment_zero, secondMoment_zero, w1, w2, w3]
  simp only [mul_zero, add_zero]
  rw [div_of_zero (p e1 h1), div_of_zero (p e2 h2), sqrt_zero, zero_add, div_of_zero (p e3 h3), mul_zero]

end Cert.Packing

end
-- ==== Proof.StepSmall.lean ====
/-
The optimiser's step for the ten small weights, which are packed one after another into one array.

The kernel packs the weights, the gradients and the moments, fills up with zeros, and handles one block of the packed
arrays at a grid point; every entry of the results depends on the same entry of the packed arguments alone.
-/
module

public import proofs.«01_k».proof.Defs
public import proofs.«01_k».proof.Proof.Gen.Kernel28Ideal.Value
public import proofs.«01_k».proof.Proof.Gen.Reference28Ideal.Run
public import proofs.«01_k».proof.Proof.Packing
public import Idealize.ShloMosaic.Lib.Pipeline.ValueKit
public import Idealize.ShloMosaic.Lib.Pointwise

@[expose] public section

set_option maxRecDepth 16384

noncomputable section

namespace Cert.StepSmall

open Idealize.ShloMosaic Idealize.ShloMosaic.TcCoe Idealize.ShloMosaic.Pointwise Idealize.ShloMosaic.StableHlo Idealize.SL.Sem
open Cert.Kernel28Ideal Cert.Kernel28Ideal.Gen Cert.Step Cert.Packing

/-- Ten arrays of the shapes of the small weights. -/
structure Small (α : Type) where
  lnMix : S4x1024.Idx → α
  lnFfn : S4x1024.Idx → α
  lnPle : S4x1024.Idx → α
  conv : S2x4x384.Idx → α
  aLog : S2x8.Idx → α
  dtBias : S2x8.Idx → α
  gdnNorm : S2x128.Idx → α
  kvNorm : S1024.Idx → α
  kNorm : S128.Idx → α
  qNorm : S2x128.Idx → α

/-- The ten arrays as lists of entries. -/
def members {α : Type} (x : Small α) : List ((s : Shape) × (s.Idx → α)) :=
  [ ⟨S4096, shapeCast S4096 x.lnMix shapeCasts_S4x1024_S4096⟩,
    ⟨S4096, shapeCast S4096 x.lnFfn shapeCasts_S4x1024_S4096⟩,
    ⟨S4096, shapeCast S4096 x.lnPle shapeCasts_S4x1024_S4096⟩,
    ⟨S3072, shapeCast S3072 x.conv shapeCasts_S2x4x384_S3072⟩,
    ⟨S16, shapeCast S16 x.aLog shapeCasts_S2x8_S16⟩,
    ⟨S16, shapeCast S16 x.dtBias shapeCasts_S2x8_S16⟩,
    ⟨S256, shapeCast S256 x.gdnNorm shapeCasts_S2x128_S256⟩,
    ⟨S1024, x.kvNorm⟩,
    ⟨S128, x.kNorm⟩,
    ⟨S256, shapeCast S256 x.qNorm shapeCasts_S2x128_S256⟩ ]

/-- The ten arrays in one, filled up at the end. -/
def packed {α : Type} (z : S_.Idx → α) (x : Small α) : S136x128.Idx → α :=
  shapeCast S136x128 (pad S17408 ![0] ![352] ![0]
    (concatenate S17056 0 (members x) concatenates_S4096_S4096_S4096_S3072_S16_S16_S256_S1024_S128_S256_S17056_d0)
    z pads_S17056_S17408_03520 h_S_) shapeCasts_S17408_S136x128

/-- The results entry by entry. -/
def Small.map {α β : Type} (f : β → α) (x : Small β) : Small α :=
  ⟨fun i => f (x.lnMix i), fun i => f (x.lnFfn i), fun i => f (x.lnPle i), fun i => f (x.conv i), fun i => f (x.aLog i), fun i => f (x.dtBias i), fun i => f (x.gdnNorm i), fun i => f (x.kvNorm i), fun i => f (x.kNorm i), fun i => f (x.qNorm i)⟩

/-- The packed results are the results of the packed entries. -/
theorem packed_map {α β : Type} (f : β → α) (z : S_.Idx → β) (z' : S_.Idx → α) (e : ∀ i, z' i = f (z i)) (x : Small β) :
    packed z' (x.map f) = fun i => f (packed z x i) := by
  have h : concatenate S17056 0 (members (x.map f)) concatenates_S4096_S4096_S4096_S3072_S16_S16_S256_S1024_S128_S256_S17056_d0
      = fun j => f (concatenate S17056 0 (members x) concatenates_S4096_S4096_S4096_S3072_S16_S16_S256_S1024_S128_S256_S17056_d0 j) :=
    funext fun j => concatenate_map f S17056 0 (members x) _ _ j
  unfold packed
  rw [h]
  have h' := funext (pad_map (s := S17056) f S17408 ![0] ![352] ![0]
    (concatenate S17056 0 (members x) concatenates_S4096_S4096_S4096_S3072_S16_S16_S256_S1024_S128_S256_S17056_d0)
    z' z pads_S17056_S17408_03520 h_S_ e)
  rw [h']
  rfl

/-- Four sets of ten arrays as one set of fourfold entries. -/
def quad (w g m v : Small EReal) : Small (EReal × EReal × EReal × EReal) :=
  ⟨fun i => (w.lnMix i, g.lnMix i, m.lnMix i, v.lnMix i), fun i => (w.lnFfn i, g.lnFfn i, m.lnFfn i, v.lnFfn i), fun i => (w.lnPle i, g.lnPle i, m.lnPle i, v.lnPle i), fun i => (w.conv i, g.conv i, m.conv i, v.conv i), fun i => (w.aLog i, g.aLog i, m.aLog i, v.aLog i), fun i => (w.dtBias i, g.dtBias i, m.dtBias i, v.dtBias i), fun i => (w.gdnNorm i, g.gdnNorm i, m.gdnNorm i, v.gdnNorm i), fun i => (w.kvNorm i, g.kvNorm i, m.kvNorm i, v.kvNorm i), fun i => (w.kNorm i, g.kNorm i, m.kNorm i, v.kNorm i), fun i => (w.qNorm i, g.qNorm i, m.qNorm i, v.qNorm i)⟩

/-- The number that fills up. -/
def fill : S_.Idx → EReal := sitofp (F := Ideal) .f32 (constantI S_ 32 0#32)

theorem fill_eq (i : S_.Idx) : fill i = 0 := by
  show (((0#32).toInt : ℝ) : EReal) = 0
  simp

def fills : S_.Idx → EReal × EReal × EReal × EReal := fun i => (fill i, fill i, fill i, fill i)

/-- The packed array of the fourfold entries. -/
def rows (w g m v : Small EReal) : S136x128.Idx → EReal × EReal × EReal × EReal := packed fills (quad w g m v)

theorem packed_w (w g m v : Small EReal) : packed fill w = fun i => (rows w g m v i).1 :=
  packed_map (fun q : EReal × EReal × EReal × EReal => q.1) fills fill (fun _ => rfl) (quad w g m v)

theorem packed_g (w g m v : Small EReal) : packed fill g = fun i => (rows w g m v i).2.1 :=
  packed_map (fun q : EReal × EReal × EReal × EReal => q.2.1) fills fill (fun _ => rfl) (quad w g m v)

theorem packed_m (w g m v : Small EReal) : packed fill m = fun i => (rows w g m v i).2.2.1 :=
  packed_map (fun q : EReal × EReal × EReal × EReal => q.2.2.1) fills fill (fun _ => rfl) (quad w g m v)

theorem packed_v (w g m v : Small EReal) : packed fill v = fun i => (rows w g m v i).2.2.2 :=
  packed_map (fun q : EReal × EReal × EReal × EReal => q.2.2.2) fills fill (fun _ => rfl) (quad w g m v)

/-- The packed changes are the changes of the packed weights. -/
theorem packed_change (w g m v : Small EReal) :
    packed fill ((quad w g m v).map fun q => change q.1 q.2.1 q.2.2.1 q.2.2.2)
      = fun i => change (packed fill w i) (packed fill g i) (packed fill m i) (packed fill v i) := by
  rw [packed_map _ fills fill (fun i => by rw [show fills i = (fill i, fill i, fill i, fill i) from rfl, fill_eq]; exact change_zero.symm),
    packed_w w g m v, packed_g w g m v, packed_m w g m v, packed_v w g m v]
  rfl

/-- The packed new first moments. -/
theorem packed_firstMoment (w g m v : Small EReal) :
    packed fill ((quad w g m v).map fun q => firstMoment q.2.1 q.2.2.1)
      = fun i => firstMoment (packed fill g i) (packed fill m i) := by
  rw [packed_map _ fills fill (fun i => by rw [show fills i = (fill i, fill i, fill i, fill i) from rfl, fill_eq]; exact firstMoment_zero.symm),
    packed_g w g m v, packed_m w g m v]
  rfl

/-- The packed new second moments. -/
theorem packed_secondMoment (w g m v : Small EReal) :
    packed fill ((quad w g m v).map fun q => secondMoment q.2.1 q.2.2.2)
      = fun i => secondMoment (packed fill g i) (packed fill v i) := by
  rw [packed_map _ fills fill (fun i => by rw [show fills i = (fill i, fill i, fill i, fill i) from rfl, fill_eq]; exact secondMoment_zero.symm),
    packed_g w g m v, packed_v w g m v]
  rfl

/-- A block of the change of the weight, entry by entry. -/
theorem block_change (w g m v : Vec Ideal S8x128 .f32) (y : S8x128.Idx) : k0_pay4 g m v w y = change (w y) (g y) (m y) (v y) := by
  unfold k0_pay4 k0_pay3 k0_pay2 k0_pay1
  pointwise
  rfl

/-- A block of the new first moment, entry by entry. -/
theorem block_firstMoment (g m : Vec Ideal S8x128 .f32) (y : S8x128.Idx) : k0_pay2 g m y = firstMoment (g y) (m y) := by
  unfold k0_pay2 k0_pay1
  pointwise
  rfl

/-- A block of the new second moment, entry by entry. -/
theorem block_secondMoment (g v : Vec Ideal S8x128 .f32) (y : S8x128.Idx) : k0_pay3 g v y = secondMoment (g y) (v y) := by
  unfold k0_pay3 k0_pay1
  pointwise
  rfl

variable (m : (ℓ : Loc nD τ sig) → Buf (Elt Ideal) ℓ) (c : Dev nD)

/-- The weights. -/
def weights : Small EReal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

/-- Their gradients. -/
def grads : Small EReal :=
  ⟨m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19)⟩

/-- Their first moments. -/
def firsts : Small EReal :=
  ⟨m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29)⟩

/-- Their second moments. -/
def seconds : Small EReal :=
  ⟨m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39)⟩

set_option maxHeartbeats 4000000 in
theorem V_weights : Gen.V m c main_v10 = packed fill (weights m c) := by
  unfold Gen.V
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.unary, TRef.toBuf, TRef.ofBuf, cast_eq]
  after_results_simp
  rfl

set_option maxHeartbeats 4000000 in
theorem V_grads : Gen.V m c main_v21 = packed fill (grads m c) := by
  unfold Gen.V
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.unary, TRef.toBuf, TRef.ofBuf, cast_eq]
  after_results_simp
  rfl

set_option maxHeartbeats 4000000 in
theorem V_firsts : Gen.V m c main_v32 = packed fill (firsts m c) := by
  unfold Gen.V
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.unary, TRef.toBuf, TRef.ofBuf, cast_eq]
  after_results_simp
  rfl

set_option maxHeartbeats 4000000 in
theorem V_seconds : Gen.V m c main_v43 = packed fill (seconds m c) := by
  unfold Gen.V
  simp only [hostOps0, hostOps0_1, hostOps0_2, hostOps0_3, hostOps0_4, hostOps0_5, hostOps0_6, hostOps0_7, hostOps0_8, List.flatten_cons, List.flatten_nil, List.append_nil, List.cons_append,
    List.nil_append, TRef.binary, TRef.unary, TRef.toBuf, TRef.ofBuf, cast_eq]
  after_results_simp
  rfl

theorem array_change : (dats m 0 c).arrAt 4 cfg0.N = fun i => change (packed fill (weights m c) i) (packed fill (grads m c) i) (packed fill (firsts m c) i) (packed fill (seconds m c) i) := by
  rw [← V_weights m c, ← V_grads m c, ← V_firsts m c, ← V_seconds m c]
  refine (dats m 0 c).arrAt_eq_of_covers 4 _ (by decide +kernel) fun t hf y => ?_
  blk_simp
  rw [after0_4]
  frame_out
  refine (block_change _ _ _ _ _).trans ?_
  unfold iblk
  rfl

theorem array_firstMoment : (dats m 0 c).arrAt 5 cfg0.N = fun i => firstMoment (packed fill (grads m c) i) (packed fill (firsts m c) i) := by
  rw [← V_grads m c, ← V_firsts m c]
  refine (dats m 0 c).arrAt_eq_of_covers 5 _ (by decide +kernel) fun t hf y => ?_
  blk_simp
  rw [after0_5]
  frame_out
  refine (block_firstMoment _ _ _).trans ?_
  unfold iblk
  rfl

theorem array_secondMoment : (dats m 0 c).arrAt 6 cfg0.N = fun i => secondMoment (packed fill (grads m c) i) (packed fill (seconds m c) i) := by
  rw [← V_grads m c, ← V_seconds m c]
  refine (dats m 0 c).arrAt_eq_of_covers 6 _ (by decide +kernel) fun t hf y => ?_
  blk_simp
  rw [after0_6]
  frame_out
  refine (block_secondMoment _ _ _).trans ?_
  unfold iblk
  rfl

set_option maxHeartbeats 8000000 in
/-- The claim over the reals. -/
theorem algebraic : Cert.algebraic_Kernel28Ideal_Reference28Ideal (hKernel28Ideal := Cert.Kernel28Ideal.Gen.facts)
    (hReference28Ideal := Cert.Reference28Ideal.Gen.facts) := by
  intro m g m' g' _ hm
  refine ⟨fun c => fun i => change (packed fill (weights m c) i) (packed fill (grads m c) i) (packed fill (firsts m c) i) (packed fill (seconds m c) i),
    fun c => fun i => firstMoment (packed fill (grads m c) i) (packed fill (firsts m c) i),
    fun c => fun i => secondMoment (packed fill (grads m c) i) (packed fill (seconds m c) i), ?_, ?_⟩
  · refine (θ_run Cert.Kernel28Ideal.defs _ _).mono (fun r h c => ?_) (Value.run_blocks m g)
    exact ⟨(h c).1.trans (array_change m c), (h c).2.1.trans (array_firstMoment m c), (h c).2.2.1.trans (array_secondMoment m c), (h c).2.2.2⟩
  · refine (θ_run Cert.Reference28Ideal.defs _ _).mono (fun r h c => ?_) (Cert.Reference28Ideal.Value.run m' g')
    obtain ⟨h0, h1, h2, h3⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hm c
    have e0 : weights m c = ⟨m' ((c : Thread nD τ).loc Cert.Reference28Ideal.main_arg0), m' ((c : Thread nD τ).loc Cert.Reference28Ideal.main_arg1), m' ((c : Thread nD τ).loc Cert.Reference28Ideal.main_arg2), m' ((c : Thread nD τ).loc Cert.Reference28Ideal.main_arg3), m' ((c : Thread nD τ).loc Cert.Reference28Ideal.main_arg4), m' ((c : Thread nD τ).loc Cert.Reference28Ideal.main_arg5), m' ((c : Thread nD τ).loc Cert.Reference28Ideal.main_arg6), m' ((c : Thread nD τ).loc Cert.Reference28Ideal.main_arg7), m' ((c : Thread nD τ).loc Cert.Reference28Ideal.main_arg8), m' ((c : Thread nD τ).loc Cert.Reference28Ideal.main_arg9)⟩ := by
      unfold weights
      rw [a0, a1, a2, a3, a4, a5, a6, a7, a8, a9]
    have e1 : grads m c = ⟨m' ((c : Thread nD τ).loc Cert.Reference28Ideal.main_arg10), m' ((c : Thread nD τ).loc Cert.Reference28Ideal.main_arg11), m' ((c : Thread nD τ).loc Cert.Reference28Ideal.main_arg12), m' ((c : Thread nD τ).loc Cert.Reference28Ideal.main_arg13), m' ((c : Thread nD τ).loc Cert.Reference28Ideal.main_arg14), m' ((c : Thread nD τ).loc Cert.Reference28Ideal.main_arg15), m' ((c : Thread nD τ).loc Cert.Reference28Ideal.main_arg16), m' ((c : Thread nD τ).loc Cert.Reference28Ideal.main_arg17), m' ((c : Thread nD τ).loc Cert.Reference28Ideal.main_arg18), m' ((c : Thread nD τ).loc Cert.Reference28Ideal.main_arg19)⟩ := by
      unfold grads
      rw [a10, a11, a12, a13, a14, a15, a16, a17, a18, a19]
    have e2 : firsts m c = ⟨m' ((c : Thread nD τ).loc Cert.Reference28Ideal.main_arg20), m' ((c : Thread nD τ).loc Cert.Reference28Ideal.main_arg21), m' ((c : Thread nD τ).loc Cert.Reference28Ideal.main_arg22), m' ((c : Thread nD τ).loc Cert.Reference28Ideal.main_arg23), m' ((c : Thread nD τ).loc Cert.Reference28Ideal.main_arg24), m' ((c : Thread nD τ).loc Cert.Reference28Ideal.main_arg25), m' ((c : Thread nD τ).loc Cert.Reference28Ideal.main_arg26), m' ((c : Thread nD τ).loc Cert.Reference28Ideal.main_arg27), m' ((c : Thread nD τ).loc Cert.Reference28Ideal.main_arg28), m' ((c : Thread nD τ).loc Cert.Reference28Ideal.main_arg29)⟩ := by
      unfold firsts
      rw [a20, a21, a22, a23, a24, a25, a26, a27, a28, a29]
    have e3 : seconds m c = ⟨m' ((c : Thread nD τ).loc Cert.Reference28Ideal.main_arg30), m' ((c : Thread nD τ).loc Cert.Reference28Ideal.main_arg31), m' ((c : Thread nD τ).loc Cert.Reference28Ideal.main_arg32), m' ((c : Thread nD τ).loc Cert.Reference28Ideal.main_arg33), m' ((c : Thread nD τ).loc Cert.Reference28Ideal.main_arg34), m' ((c : Thread nD τ).loc Cert.Reference28Ideal.main_arg35), m' ((c : Thread nD τ).loc Cert.Reference28Ideal.main_arg36), m' ((c : Thread nD τ).loc Cert.Reference28Ideal.main_arg37), m' ((c : Thread nD τ).loc Cert.Reference28Ideal.main_arg38), m' ((c : Thread nD τ).loc Cert.Reference28Ideal.main_arg39)⟩ := by
      unfold seconds
      rw [a30, a31, a32, a33, a34, a35, a36, a37, a38, a39]
    refine ⟨(h0.trans ?_).trans (packed_change (weights m c) (grads m c) (firsts m c) (seconds m c)),
      (h1.trans ?_).trans (packed_firstMoment (weights m c) (grads m c) (firsts m c) (seconds m c)),
      (h2.trans ?_).trans (packed_secondMoment (weights m c) (grads m c) (firsts m c) (seconds m c)), h3⟩
    all_goals
      rw [e0, e1, e2, e3]
      rfl

end Cert.StepSmall

end
-- ==== Proof.Loss.lean ====
/-
The loss head: the gradient of the loss, and the loss feature by feature.

The kernel scales the error for the gradient, and adds half the mean's share of the block's squared errors to a row that
stays in place over the grid points.  The references' factors are the same numbers written in other steps.
-/
module

public import proofs.«01_k».proof.Defs
public import proofs.«01_k».proof.Proof.Gen.Kernel29Ideal.Value
public import proofs.«01_k».proof.Proof.Gen.Reference29Ideal.Run
public import proofs.«01_k».proof.Proof.NormMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Loss

open Idealize.ShloMosaic Idealize.ShloMosaic.TcCoe Idealize.ShloMosaic.Pointwise Idealize.SL.Sem
open Cert.Kernel29Ideal Cert.Kernel29Ideal.Gen

/-! ## The numbers -/

theorem word_half : Ideal.ofBits FTy.f32 0x3F000000#32 = ((1 / 2 : ℝ) : EReal) := by
  simp [Ideal.ofBits, Ideal.ieee]
  rw [← EReal.coe_mul]
  norm_num

theorem word_two : Ideal.ofBits FTy.f32 0x40000000#32 = ((2 : ℝ) : EReal) := by
  simp [Ideal.ofBits, Ideal.ieee]
  rw [← EReal.coe_mul]
  norm_num

theorem word_mean : Ideal.ofBits FTy.f32 0x3A800000#32 = ((1 / 1024 : ℝ) : EReal) := by
  simp [Ideal.ofBits, Ideal.ieee]
  rw [← EReal.coe_mul]
  norm_num

theorem word_half_mean : Ideal.ofBits FTy.f32 0x3A000000#32 = ((1 / 2048 : ℝ) : EReal) := by
  simp [Ideal.ofBits, Ideal.ieee]
  rw [← EReal.coe_mul]
  norm_num

/-- The factor of the gradient. -/
theorem factor (e : EReal) : Ideal.div (Ideal.ofBits FTy.f32 0x3F000000#32) (Ideal.ofBits FTy.f32 0x44800000#32)
    * (Ideal.ofBits FTy.f32 0x40000000#32 * e) = e * Ideal.ofBits FTy.f32 0x3A800000#32 := by
  rw [word_half, NormMath.word_n, word_two, word_mean, Ideal.div_coe (by norm_num : (1024 : ℝ) ≠ 0), ← mul_assoc,
    ← EReal.coe_mul, ← EReal.coe_mul, mul_comm]
  congr 2
  norm_num

/-- The factor of the loss. -/
theorem factor_loss (e : EReal) : Ideal.ofBits FTy.f32 0x3F000000#32 * Ideal.div e (Ideal.ofBits FTy.f32 0x44800000#32)
    = e * Ideal.ofBits FTy.f32 0x3A000000#32 := by
  rw [word_half, NormMath.word_n, word_half_mean, Ideal.div_coe (by norm_num : (1024 : ℝ) ≠ 0), mul_comm, mul_assoc, ← EReal.coe_mul]
  congr 2
  norm_num

/-- The factor may be taken out of a sum. -/
theorem sum_factor {n : ℕ} (f : Fin n → EReal) :
    ∑ t, f t * Ideal.ofBits FTy.f32 0x3A000000#32 = (∑ t, f t) * Ideal.ofBits FTy.f32 0x3A000000#32 := by
  rw [word_half_mean]
  induction n with
  | zero => simp
  | succ n h =>
    rw [Fin.sum_univ_succ, Fin.sum_univ_succ, h,
      EReal.right_distrib_of_nonneg_of_ne_top (by exact_mod_cast (by norm_num : (0 : ℝ) ≤ 1 / 2048)) (EReal.coe_ne_top _)]

/-! ## The two results -/

/-- The gradient. -/
def grad (y x : FVec Ideal S4096x1024 .f32) : FVec Ideal S4096x1024 .f32 := fun i =>
  (y (ix2 (⟨(i 0).val, (i 0).isLt⟩ : Fin 4096) (⟨(i 1).val, (i 1).isLt⟩ : Fin 1024))
    - x (ix2 (⟨(i 0).val, (i 0).isLt⟩ : Fin 4096) (⟨(i 1).val, (i 1).isLt⟩ : Fin 1024))) * Ideal.ofBits FTy.f32 0x3A800000#32

/-- An error. -/
def error (y x : FVec Ideal S4096x1024 .f32) (s : Fin 4096) (k : Fin 1024) : EReal := y (ix2 s k) - x (ix2 s k)

/-- The square of an error. -/
def square (y x : FVec Ideal S4096x1024 .f32) (s : Fin 4096) (k : Fin 1024) : EReal := error y x s k * error y x s k

/-- The loss, feature by feature. -/
def loss (y x : FVec Ideal S4096x1024 .f32) : FVec Ideal S1x1024 .f32 := fun i =>
  (∑ s : Fin 4096, square y x s (⟨(i 1).val, (i 1).isLt⟩ : Fin 1024)) * Ideal.ofBits FTy.f32 0x3A000000#32

/-- The blocks of a grid point. -/
theorem index : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- A row of a grid point's block is a row of the array. -/
theorem row_lt (t : Fin cfg0.N) (r : Fin 512) : t.val * 512 + r.val < 4096 := by
  have h : t.val < 8 := t.isLt
  omega

/-- That row. -/
def row (t : Fin cfg0.N) (r : Fin 512) : Fin 4096 := ⟨t.val * 512 + r.val, row_lt t r⟩

variable (m : (ℓ : Loc nD τ sig) → Buf (Elt Ideal) ℓ) (c : Dev nD)

theorem block (t : Fin cfg0.N) (r : Fin 512) (k : Fin 1024) :
    k0_pay3 (F := Ideal) (iblk m c 0 t) (iblk m c 1 t) (ix2 r k)
      = grad (m ((c : Thread nD τ).loc main_arg0)) (m ((c : Thread nD τ).loc main_arg1)) (ix2 (row t r) k) := by
  obtain ⟨e0, e1, -⟩ := index t
  unfold k0_pay3 k0_pay2
  pointwise
  unfold grad row
  blk_point [iblk, Gen.V, e0, e1]

theorem array_grad : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  obtain ⟨-, -, e2⟩ := index t
  blk_simp
  obtain ⟨r, k, rfl⟩ : ∃ (r : Fin 512) (k : Fin 1024), y = ix2 r k := ⟨y 0, y 1, eq_ix2 y⟩
  rw [after0_2]
  refine Eq.trans ?_ ((block m c t r k).trans ?_)
  · by_cases h : t.val % 8 = 0
    · rw [outsAt0_A m c t h]
      frame_out
    · rw [outsAt0_B m c t h]
      frame_out
  · unfold row
    blk_point [e2]

/-- The part of a grid point. -/
def add (t : Fin cfg0.N) : FVec Ideal S1x1024 .f32 := fun j =>
  (∑ s : Fin 512, square (m ((c : Thread nD τ).loc main_arg0)) (m ((c : Thread nD τ).loc main_arg1)) (row t s) (⟨(j 1).val, (j 1).isLt⟩ : Fin 1024))
    * Ideal.ofBits FTy.f32 0x3A000000#32

theorem error_read (t : Fin cfg0.N) (r : Fin 512) (k : Fin 1024) :
    k0_pay2 (F := Ideal) (iblk m c 0 t) (iblk m c 1 t) (ix2 r k)
      = error (m ((c : Thread nD τ).loc main_arg0)) (m ((c : Thread nD τ).loc main_arg1)) (row t r) k := by
  obtain ⟨e0, e1, -⟩ := index t
  unfold k0_pay2
  pointwise
  unfold error row
  blk_point [iblk, Gen.V, e0, e1]

/-- What a block adds to the loss. -/
theorem pay4_apply (x y : FVec Ideal S512x1024 .f32) (a : FVec Ideal S1x1024 .f32) (z : Fin 1) (k : Fin 1024) :
    k0_pay4 (F := Ideal) x y a (ix2 z k)
      = a (ix2 z k) + (∑ s : Fin 512, k0_pay2 (F := Ideal) x y (ix2 s k) * k0_pay2 (F := Ideal) x y (ix2 s k)) * Ideal.ofBits FTy.f32 0x3A000000#32 := by
  unfold k0_pay4
  pointwise

theorem add_eq (a : FVec Ideal S1x1024 .f32) (t : Fin cfg0.N) (j : S1x1024.Idx) :
    k0_pay4 (F := Ideal) (iblk m c 0 t) (iblk m c 1 t) a j = a j + add m c t j := by
  obtain ⟨z, k, rfl⟩ : ∃ (z : Fin 1) (k : Fin 1024), j = ix2 z k := ⟨j 0, j 1, eq_ix2 j⟩
  refine (pay4_apply _ _ _ z k).trans ?_
  simp only [error_read]
  rfl

theorem zero_eq (j : S1x1024.Idx) : k0_pay1 (F := Ideal) j = 0 := by
  unfold k0_pay1
  pointwise

theorem array_loss : (dats m 0 c).arrAt 3 cfg0.N
    = loss (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) (add m c)
    (fun t h j => by rw [outsAt0_A m c t h]; frame_out; rw [add_eq, zero_eq])
    (fun t h j => by rw [outsAt0_B m c t h]; frame_out; rw [add_eq])
    (le_of_eq N_0) t0_7 rfl j, zero_add]
  unfold add loss row
  rw [sum_factor]
  congr 1
  refine Fin.sum_mul_add_congr fun t k hl => ?_
  rfl

/-- The reference's gradient. -/
theorem reference_grad (y x : FVec Ideal S4096x1024 .f32) :
    mulf (broadcastInDim S4096x1024 ![0] Cert.Reference29Ideal.Gen.bcast_S4096_S4096x1024_0 (Host.divf (broadcastInDim Cert.Reference29Ideal.S4096 ![] Cert.Reference29Ideal.Gen.bcast_S_S4096
      (mulf (constant Cert.Reference29Ideal.S_ .f32 0x3F000000#32) (constant Cert.Reference29Ideal.S_ .f32 0x3F800000#32)))
      (broadcastInDim Cert.Reference29Ideal.S4096 ![] Cert.Reference29Ideal.Gen.bcast_S_S4096 (constant Cert.Reference29Ideal.S_ .f32 0x44800000#32))))
      (mulf (broadcastInDim S4096x1024 ![] Cert.Reference29Ideal.Gen.bcast_S_S4096x1024 (constant Cert.Reference29Ideal.S_ .f32 0x40000000#32)) (subf y x)) = grad y x := by
  funext i
  obtain ⟨s, k, rfl⟩ : ∃ (s : Fin 4096) (k : Fin 1024), i = ix2 s k := ⟨i 0, i 1, eq_ix2 i⟩
  pointwise
  exact factor _

/-- The reference's loss. -/
theorem reference_loss (y x : FVec Ideal S4096x1024 .f32) :
    mulf (broadcastInDim S1x1024 ![] Cert.Reference29Ideal.Gen.bcast_S_S1x1024 (constant Cert.Reference29Ideal.S_ .f32 0x3F000000#32))
      (Host.divf (broadcastInDim S1x1024 ![1] Cert.Reference29Ideal.Gen.bcast_S1024_S1x1024_1 (Host.reduceAdd (mulf (subf y x) (subf y x))
        (constant Cert.Reference29Ideal.S_ .f32 0x00000000#32) Cert.Reference29Ideal.Gen.reducesTo_S4096x1024_S1024_d0 Cert.Reference29Ideal.Gen.h_S_))
        (broadcastInDim S1x1024 ![] Cert.Reference29Ideal.Gen.bcast_S_S1x1024 (constant Cert.Reference29Ideal.S_ .f32 0x44800000#32))) = loss y x := by
  funext i
  obtain ⟨z, k, rfl⟩ : ∃ (z : Fin 1) (k : Fin 1024), i = ix2 z k := ⟨i 0, i 1, eq_ix2 i⟩
  pointwise
  exact factor_loss _

/-- The claim over the reals. -/
theorem algebraic : Cert.algebraic_Kernel29Ideal_Reference29Ideal (hKernel29Ideal := Cert.Kernel29Ideal.Gen.facts)
    (hReference29Ideal := Cert.Reference29Ideal.Gen.facts) := by
  intro m g m' g' _ hm
  refine ⟨fun c => grad (m ((c : Thread nD τ).loc main_arg0)) (m ((c : Thread nD τ).loc main_arg1)),
    fun c => loss (m ((c : Thread nD τ).loc main_arg0)) (m ((c : Thread nD τ).loc main_arg1)), ?_, ?_⟩
  · refine (θ_run Cert.Kernel29Ideal.defs _ _).mono (fun r h c => ?_) (Value.run_blocks m g)
    exact ⟨(h c).1.trans (array_grad m c), (h c).2.1.trans (array_loss m c), (h c).2.2⟩
  · refine (θ_run Cert.Reference29Ideal.defs _ _).mono (fun r h c => ?_) (Cert.Reference29Ideal.Value.run m' g')
    obtain ⟨h0, h1, h2⟩ := h c
    rw [(hm c).1, (hm c).2, reference_grad] at h0
    rw [(hm c).1, (hm c).2, reference_loss] at h1
    exact ⟨h0, h1, h2⟩

end Cert.Loss

end
-- ==== Proof.Queries.lean ====
/-
The projection of the queries.

A grid point computes one block of the product in one step, so its sum is the reference's sum.
-/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise

@[expose] public section

set_option maxRecDepth 16384

noncomputable section

namespace Cert.Queries

open Idealize.ShloMosaic Idealize.ShloMosaic.TcCoe Idealize.ShloMosaic.Pointwise Idealize.SL.Sem
open Cert.Kernel30Ideal Cert.Kernel30Ideal.Gen

/-- The product. -/
def prod (x : FVec Ideal S4096x1024 .bf16) (y : FVec Ideal S1024x1024 .f32) : FVec Ideal S4096x1024 .f32 := fun i =>
  ∑ k : Fin 1024, x (ix2 (⟨(i 0).val, (i 0).isLt⟩ : Fin 4096) k) * y (ix2 k (⟨(i 1).val, (i 1).isLt⟩ : Fin 1024))

/-- The blocks of a grid point. -/
theorem index : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2
  pointwise
  unfold prod
  blk_point [iblk, Gen.V, e0, e1, e2]

/-- The reference's result is the same product. -/
theorem reference (x : FVec Ideal S4096x1024 .bf16) (y : FVec Ideal S1024x1024 .f32) :
    Host.dotGeneral (F := Ideal) Cert.Reference30Ideal.dot_S4096x1024_S1024x1024_S4096x1024_1_0_0_1_n_n none (extf .f32 x Cert.Reference30Ideal.Gen.bitsLt_bf16_f32) y = prod x y := by
  funext i
  pointwise
  unfold prod
  rfl

/-- The claim over the reals. -/
theorem algebraic : Cert.algebraic_Kernel30Ideal_Reference30Ideal (hKernel30Ideal := Cert.Kernel30Ideal.Gen.facts)
    (hReference30Ideal := Cert.Reference30Ideal.Gen.facts) := by
  intro m g m' g' _ hm
  refine ⟨fun c => prod (m ((c : Thread nD τ).loc main_arg0)) (m ((c : Thread nD τ).loc main_arg1)), ?_, ?_⟩
  · refine (θ_run Cert.Kernel30Ideal.defs _ _).mono (fun r h c => ?_) (Value.run_blocks m g)
    exact ⟨(h c).1.trans (array m c), (h c).2⟩
  · refine (θ_run Cert.Reference30Ideal.defs _ _).mono (fun r h c => ?_) (Cert.Reference30Ideal.Value.run m' g')
    refine ⟨(h c).1.trans ?_, (h c).2⟩
    rw [(hm c).1, (hm c).2]
    exact reference _ _

end Cert.Queries

end
-- ==== Proof.DxOutMix.lean ====
/-
The gradient through the output product of the recurrent mixer.

A grid point computes one block of the product in one step, so its sum is the reference's sum.
-/
module

public import proofs.«01_k».proof.Defs
public import proofs.«01_k».proof.Proof.Gen.Kernel31Ideal.Value
public import proofs.«01_k».proof.Proof.Gen.Reference31Ideal.Run
public import Idealize.ShloMosaic.Lib.Pipeline.ValueKit
public import Idealize.ShloMosaic.Lib.Pointwise

@[expose] public section

set_option maxRecDepth 16384

noncomputable section

namespace Cert.DxOutMix

open Idealize.ShloMosaic Idealize.ShloMosaic.TcCoe Idealize.ShloMosaic.Pointwise Idealize.SL.Sem
open Cert.Kernel31Ideal Cert.Kernel31Ideal.Gen

/-- The product. -/
def prod (x : FVec Ideal S4096x1024 .bf16) (y : FVec Ideal S1024x1024 .f32) : FVec Ideal S4096x1024 .f32 := fun i =>
  ∑ k : Fin 1024, x (ix2 (⟨(i 0).val, (i 0).isLt⟩ : Fin 4096) k) * y (ix2 (⟨(i 1).val, (i 1).isLt⟩ : Fin 1024) k)

/-- The blocks of a grid point. -/
theorem index : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2
  pointwise
  unfold prod
  blk_point [iblk, Gen.V, e0, e1, e2]

/-- The reference's result is the same product. -/
theorem reference (x : FVec Ideal S4096x1024 .bf16) (y : FVec Ideal S1024x1024 .f32) :
    Host.dotGeneral (F := Ideal) Cert.Reference31Ideal.dot_S4096x1024_S1024x1024_S4096x1024_1_1_0_0_n_n none (extf .f32 x Cert.Reference31Ideal.Gen.bitsLt_bf16_f32) y = prod x y := by
  funext i
  pointwise
  unfold prod
  rfl

/-- The claim over the reals. -/
theorem algebraic : Cert.algebraic_Kernel31Ideal_Reference31Ideal (hKernel31Ideal := Cert.Kernel31Ideal.Gen.facts)
    (hReference31Ideal := Cert.Reference31Ideal.Gen.facts) := by
  intro m g m' g' _ hm
  refine ⟨fun c => prod (m ((c : Thread nD τ).loc main_arg0)) (m ((c : Thread nD τ).loc main_arg1)), ?_, ?_⟩
  · refine (θ_run Cert.Kernel31Ideal.defs _ _).mono (fun r h c => ?_) (Value.run_blocks m g)
    exact ⟨(h c).1.trans (array m c), (h c).2⟩
  · refine (θ_run Cert.Reference31Ideal.defs _ _).mono (fun r h c => ?_) (Cert.Reference31Ideal.Value.run m' g')
    refine ⟨(h c).1.trans ?_, (h c).2⟩
    rw [(hm c).1, (hm c).2]
    exact reference _ _

end Cert.DxOutMix

end
-- ==== Proof.DxOutHeads.lean ====
/-
The gradient through the output product of the attention.

A grid point computes one block of the product in one step, so its sum is the reference's sum.
-/
module

public import proofs.«01_k».proof.Defs
public import proofs.«01_k».proof.Proof.Gen.Kernel32Ideal.Value
public import proofs.«01_k».proof.Proof.Gen.Reference32Ideal.Run
public import Idealize.ShloMosaic.Lib.Pipeline.ValueKit
public import Idealize.ShloMosaic.Lib.Pointwise

@[expose] public section

set_option maxRecDepth 16384

noncomputable section

namespace Cert.DxOutHeads

open Idealize.ShloMosaic Idealize.ShloMosaic.TcCoe Idealize.ShloMosaic.Pointwise Idealize.SL.Sem
open Cert.Kernel32Ideal Cert.Kernel32Ideal.Gen

/-- The product. -/
def prod (x : FVec Ideal S4096x1024 .bf16) (y : FVec Ideal S1024x1024 .f32) : FVec Ideal S4096x1024 .bf16 := fun i =>
  ∑ k : Fin 1024, x (ix2 (⟨(i 0).val, (i 0).isLt⟩ : Fin 4096) k) * y (ix2 (⟨(i 1).val, (i 1).isLt⟩ : Fin 1024) k)

/-- The blocks of a grid point. -/
theorem index : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x1024 .bf16) (y : FVec Ideal S1024x1024 .f32) :
    truncf .bf16 (Host.dotGeneral (F := Ideal) Cert.Reference32Ideal.dot_S4096x1024_S1024x1024_S4096x1024_1_1_0_0_n_n none (extf .f32 x Cert.Reference32Ideal.Gen.bitsLt_bf16_f32) y) Cert.Reference32Ideal.Gen.bitsLt_bf16_f32 = prod x y := by
  funext i
  pointwise
  unfold prod
  rfl

/-- The claim over the reals. -/
theorem algebraic : Cert.algebraic_Kernel32Ideal_Reference32Ideal (hKernel32Ideal := Cert.Kernel32Ideal.Gen.facts)
    (hReference32Ideal := Cert.Reference32Ideal.Gen.facts) := by
  intro m g m' g' _ hm
  refine ⟨fun c => prod (m ((c : Thread nD τ).loc main_arg0)) (m ((c : Thread nD τ).loc main_arg1)), ?_, ?_⟩
  · refine (θ_run Cert.Kernel32Ideal.defs _ _).mono (fun r h c => ?_) (Value.run_blocks m g)
    exact ⟨(h c).1.trans (array m c), (h c).2⟩
  · refine (θ_run Cert.Reference32Ideal.defs _ _).mono (fun r h c => ?_) (Cert.Reference32Ideal.Value.run m' g')
    refine ⟨(h c).1.trans ?_, (h c).2⟩
    rw [(hm c).1, (hm c).2]
    exact reference _ _

end Cert.DxOutHeads

end
-- ==== Proof.KeysValues.lean ====
/-
The projection of the shared keys and values.

A grid point computes one block of the product in one step, so its sum is the reference's sum.
-/
module

public import proofs.«01_k».proof.Defs
public import proofs.«01_k».proof.Proof.Gen.Kernel33Ideal.Value
public import proofs.«01_k».proof.Proof.Gen.Reference33Ideal.Run
public import Idealize.ShloMosaic.Lib.Pipeline.ValueKit
public import Idealize.ShloMosaic.Lib.Pointwise

@[expose] public section

set_option maxRecDepth 16384

noncomputable section

namespace Cert.KeysValues

open Idealize.ShloMosaic Idealize.ShloMosaic.TcCoe Idealize.ShloMosaic.Pointwise Idealize.SL.Sem
open Cert.Kernel33Ideal Cert.Kernel33Ideal.Gen

/-- The product. -/
def prod (x : FVec Ideal S4096x1024 .bf16) (y : FVec Ideal S1024x2048 .f32) : FVec Ideal S4096x2048 .f32 := fun i =>
  ∑ k : Fin 1024, x (ix2 (⟨(i 0).val, (i 0).isLt⟩ : Fin 4096) k) * y (ix2 k (⟨(i 1).val, (i 1).isLt⟩ : Fin 2048))

/-- The blocks of a grid point. -/
theorem index : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

/-- The kernel's array at the end of the region. -/
theorem array (m : (ℓ : Loc nD τ sig) → Buf (Elt Ideal) ℓ) (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2
  pointwise
  unfold prod
  blk_point [iblk, Gen.V, e0, e1, e2]

/-- The reference's result is the same product. -/
theorem reference (x : FVec Ideal S4096x1024 .bf16) (y : FVec Ideal S1024x2048 .f32) :
    Host.dotGeneral (F := Ideal) Cert.Reference33Ideal.dot_S4096x1024_S1024x2048_S4096x2048_1_0_0_1_n_n none (extf .f32 x Cert.Reference33Ideal.Gen.bitsLt_bf16_f32) y = prod x y := by
  funext i
  pointwise
  unfold prod
  rfl

/-- The claim over the reals. -/
theorem algebraic : Cert.algebraic_Kernel33Ideal_Reference33Ideal (hKernel33Ideal := Cert.Kernel33Ideal.Gen.facts)
    (hReference33Ideal := Cert.Reference33Ideal.Gen.facts) := by
  intro m g m' g' _ hm
  refine ⟨fun c => prod (m ((c : Thread nD τ).loc main_arg0)) (m ((c : Thread nD τ).loc main_arg1)), ?_, ?_⟩
  · refine (θ_run Cert.Kernel33Ideal.defs _ _).mono (fun r h c => ?_) (Value.run_blocks m g)
    exact ⟨(h c).1.trans (array m c), (h c).2⟩
  · refine (θ_run Cert.Reference33Ideal.defs _ _).mono (fun r h c => ?_) (Cert.Reference33Ideal.Value.run m' g')
    refine ⟨(h c).1.trans ?_, (h c).2⟩
    rw [(hm c).1, (hm c).2]
    exact reference _ _

end Cert.KeysValues

end
-- ==== Proof.DwKeysValues.lean ====
/-
The gradient of the weights of the shared keys' and values' projection.

A grid point computes one block of the product in one step, so its sum is the reference's sum.
-/
module

public import proofs.«01_k».proof.Defs
public import proofs.«01_k».proof.Proof.Gen.Kernel34Ideal.Value
public import proofs.«01_k».proof.Proof.Gen.Reference34Ideal.Run
public import Idealize.ShloMosaic.Lib.Pipeline.ValueKit
public import Idealize.ShloMosaic.Lib.Pointwise

@[expose] public section

set_option maxRecDepth 16384

noncomputable section

namespace Cert.DwKeysValues

open Idealize.ShloMosaic Idealize.ShloMosaic.TcCoe Idealize.ShloMosaic.Pointwise Idealize.SL.Sem
open Cert.Kernel34Ideal Cert.Kernel34Ideal.Gen

/-- The product. -/
def prod (x : FVec Ideal S4096x2048 .bf16) (y : FVec Ideal S4096x1024 .bf16) : FVec Ideal S2048x1024 .bf16 := fun i =>
  ∑ k : Fin 4096, x (ix2 k (⟨(i 0).val, (i 0).isLt⟩ : Fin 2048)) * y (ix2 k (⟨(i 1).val, (i 1).isLt⟩ : Fin 1024))

/-- The blocks of a grid point. -/
theorem index : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- The kernel's array at the end of the region. -/
theorem array (m : (ℓ : Loc nD τ sig) → Buf (Elt Ideal) ℓ) (c : Dev nD) :
    (dats m 0 c).arrAt 2 cfg0.N = prod (m ((c : Thread nD τ).loc main_arg1)) (m ((c : Thread nD τ).loc main_arg0)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x2048 .bf16) (y : FVec Ideal S4096x1024 .bf16) :
    truncf .bf16 (transpose S2048x1024 [1, 0] (transpose Cert.Reference34Ideal.S1024x2048 [1, 0] (Host.dotGeneral (F := Ideal) Cert.Reference34Ideal.dot_S4096x2048_S4096x1024_S2048x1024_0_0_1_1_n_n none (extf .f32 x Cert.Reference34Ideal.Gen.bitsLt_bf16_f32) (extf .f32 y Cert.Reference34Ideal.Gen.bitsLt_bf16_f32)) Cert.Reference34Ideal.Gen.transposes_S2048x1024_S1024x2048_1_0) Cert.Reference34Ideal.Gen.transposes_S1024x2048_S2048x1024_1_0) Cert.Reference34Ideal.Gen.bitsLt_bf16_f32 = prod x y := by
  funext i
  pointwise
  unfold prod
  rfl

/-- The claim over the reals. -/
theorem algebraic : Cert.algebraic_Kernel34Ideal_Reference34Ideal (hKernel34Ideal := Cert.Kernel34Ideal.Gen.facts)
    (hReference34Ideal := Cert.Reference34Ideal.Gen.facts) := by
  intro m g m' g' _ hm
  refine ⟨fun c => prod (m ((c : Thread nD τ).loc main_arg1)) (m ((c : Thread nD τ).loc main_arg0)), ?_, ?_⟩
  · refine (θ_run Cert.Kernel34Ideal.defs _ _).mono (fun r h c => ?_) (Value.run_blocks m g)
    exact ⟨(h c).1.trans (array m c), (h c).2⟩
  · refine (θ_run Cert.Reference34Ideal.defs _ _).mono (fun r h c => ?_) (Cert.Reference34Ideal.Value.run m' g')
    refine ⟨(h c).1.trans ?_, (h c).2⟩
    rw [(hm c).1, (hm c).2]
    exact reference _ _

end Cert.DwKeysValues

end
-- ==== Proof.DxKeysValues.lean ====
/-
The gradient through the shared keys' and values' projection, the norm before it and the residual stream.

The kernel multiplies the gradient by the weights transposed, sends it through the norm and adds the gradient of the
residual stream; each grid point has whole rows.  The gradient of the gain is summed over the grid points.
-/
module

public import proofs.«01_k».proof.Defs
public import proofs.«01_k».proof.Proof.Gen.Kernel35Ideal.Value
public import proofs.«01_k».proof.Proof.Gen.Reference35Ideal.Run
public import proofs.«01_k».proof.Proof.NormStage
public import Idealize.ShloMosaic.Lib.Pipeline.ValueKit
public import Idealize.ShloMosaic.Lib.Pointwise

@[expose] public section

set_option maxRecDepth 16384

noncomputable section

namespace Cert.DxKeysValues

open Idealize.ShloMosaic Idealize.ShloMosaic.TcCoe Idealize.ShloMosaic.Pointwise Idealize.SL.Sem
open Cert.Kernel35Ideal Cert.Kernel35Ideal.Gen

/-- The gradient at the norm's result. -/
def prod (a : FVec Ideal S4096x2048 .bf16) (w : FVec Ideal S1024x2048 .f32) : FVec Ideal S4096x1024 .f32 := fun i =>
  ∑ k : Fin 2048, a (ix2 (⟨(i 0).val, (i 0).isLt⟩ : Fin 4096) k) * w (ix2 (⟨(i 1).val, (i 1).isLt⟩ : Fin 1024) k)

/-- The blocks of a grid point. -/
theorem index : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![t.val, 0])

/-- A row of a grid point's block is a row of the array. -/
theorem row_lt (t : Fin cfg0.N) (r : Fin 512) : t.val * 512 + r.val < 4096 := by
  have h : t.val < 8 := t.isLt
  omega

/-- That row. -/
def row (t : Fin cfg0.N) (r : Fin 512) : Fin 4096 := ⟨t.val * 512 + r.val, row_lt t r⟩

variable (m : (ℓ : Loc nD τ sig) → Buf (Elt Ideal) ℓ) (c : Dev nD)

theorem tile (t : Fin cfg0.N) (r : Fin 512) (k : Fin 1024) :
    k0_pay3 (F := Ideal) (k0_pay1 (F := Ideal)) (iblk m c 0 t) (iblk m c 1 t) (ix2 r k)
      = prod (m ((c : Thread nD τ).loc main_arg3)) (m ((c : Thread nD τ).loc main_arg2)) (ix2 (row t r) k) := by
  obtain ⟨e0, e1, -⟩ := index t
  unfold k0_pay3 k0_pay1
  pointwise
  unfold prod row
  blk_point [iblk, Gen.V, e0, e1]

theorem rows_read (t : Fin cfg0.N) (r : Fin 512) (k : Fin 1024) :
    iblk m c 2 t (ix2 r k) = m ((c : Thread nD τ).loc main_arg0) (ix2 (row t r) k) := by
  obtain ⟨-, -, e2, -⟩ := index t
  unfold row
  blk_point [iblk, Gen.V, e2]

theorem gain_read (t : Fin cfg0.N) (z : Fin 1) (k : Fin 1024) :
    iblk m c 3 t (ix2 z k) = m ((c : Thread nD τ).loc main_arg1) (ix1 k) := by
  obtain ⟨-, -, -, e3, -⟩ := index t
  blk_point [iblk, Gen.V, e3]

theorem stream_read (t : Fin cfg0.N) (r : Fin 512) (k : Fin 1024) :
    iblk m c 4 t (ix2 r k) = m ((c : Thread nD τ).loc main_arg4) (ix2 (row t r) k) := by
  obtain ⟨-, -, -, -, e4, -⟩ := index t
  unfold row
  blk_point [iblk, Gen.V, e4]

/-- The gradient of a block's rows. -/
theorem pay6_apply (r x : FVec Ideal S512x1024 .f32) (g : FVec Ideal S1x1024 .f32) (d : FVec Ideal S512x1024 .f32) (s : Fin 512) (k : Fin 1024) :
    k0_pay6 (F := Ideal) r x g d (ix2 s k)
      = NormMath.kernelDx (d (ix2 s k)) (fun l : Fin 1024 => x (ix2 s l)) (fun l : Fin 1024 => r (ix2 s l) * g (ix2 0 l)) k := by
  unfold k0_pay6 k0_pay5 NormMath.kernelDx NormMath.under
  pointwise

/-- The rows' gradient of a block is that of the array. -/
theorem block (t : Fin cfg0.N) (r : Fin 512) (k : Fin 1024) :
    k0_pay6 (F := Ideal) (k0_pay3 (k0_pay1 (F := Ideal)) (iblk m c 0 t) (iblk m c 1 t)) (iblk m c 2 t) (iblk m c 3 t) (iblk m c 4 t) (ix2 r k)
      = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) (ix2 (row t r) k) := by
  refine (pay6_apply _ _ _ _ r k).trans ?_
  simp only [tile, rows_read, gain_read, stream_read]
  rfl

theorem array_dx : (dats m 0 c).arrAt 5 cfg0.N
    = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
  refine (dats m 0 c).arrAt_eq_of_covers 5 _ (by decide +kernel) fun t hf y => ?_
  obtain ⟨-, -, -, -, -, e5, -⟩ := index t
  blk_simp
  obtain ⟨r, k, rfl⟩ : ∃ (r : Fin 512) (k : Fin 1024), y = ix2 r k := ⟨y 0, y 1, eq_ix2 y⟩
  rw [after0_5]
  refine Eq.trans ?_ ((block m c t r k).trans ?_)
  · by_cases h : t.val % 8 = 0
    · rw [outsAt0_A m c t h]
      frame_out
    · rw [outsAt0_B m c t h]
      frame_out
  · unfold row
    blk_point [e5]

theorem array_dx_bf16 : (dats m 0 c).arrAt 6 cfg0.N
    = truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32 := by
  refine (dats m 0 c).arrAt_eq_of_covers 6 _ (by decide +kernel) fun t hf y => ?_
  obtain ⟨-, -, -, -, -, -, e6⟩ := index t
  blk_simp
  obtain ⟨r, k, rfl⟩ : ∃ (r : Fin 512) (k : Fin 1024), y = ix2 r k := ⟨y 0, y 1, eq_ix2 y⟩
  rw [after0_6]
  refine Eq.trans ?_ ((block m c t r k).trans ?_)
  · by_cases h : t.val % 8 = 0
    · rw [outsAt0_A m c t h]
      frame_out
      rfl
    · rw [outsAt0_B m c t h]
      frame_out
      rfl
  · unfold row
    pointwise
    blk_point [e6]

/-- What a block adds to the gradient of the gain. -/
theorem pay4_apply (a : FVec Ideal S1x1024 .f32) (r x : FVec Ideal S512x1024 .f32) (z : Fin 1) (k : Fin 1024) :
    k0_pay4 (F := Ideal) (k0_pay8 a) (k0_pay9 r x) (ix2 z k)
      = a (ix2 z k) + ∑ s : Fin 512, r (ix2 s k) * x (ix2 s k) * Ideal.rsqrt (NormMath.under fun l : Fin 1024 => x (ix2 s l)) := by
  unfold k0_pay4 k0_pay8 k0_pay9 k0_pay5 NormMath.under
  pointwise

/-- The part of a grid point. -/
def add (t : Fin cfg0.N) : FVec Ideal S1x1024 .f32 := fun j =>
  ∑ s : Fin 512, NormStage.part (m ((c : Thread nD τ).loc main_arg0))
    (prod (m ((c : Thread nD τ).loc main_arg3)) (m ((c : Thread nD τ).loc main_arg2))) (row t s) (⟨(j 1).val, (j 1).isLt⟩ : Fin 1024)

theorem add_eq (a : FVec Ideal S1x1024 .f32) (t : Fin cfg0.N) (j : S1x1024.Idx) :
    k0_pay4 (F := Ideal) (k0_pay8 a) (k0_pay9 (k0_pay3 (k0_pay1 (F := Ideal)) (iblk m c 0 t) (iblk m c 1 t)) (iblk m c 2 t)) j = a j + add m c t j := by
  obtain ⟨z, k, rfl⟩ : ∃ (z : Fin 1) (k : Fin 1024), j = ix2 z k := ⟨j 0, j 1, eq_ix2 j⟩
  refine (pay4_apply _ _ _ z k).trans ?_
  simp only [tile, rows_read]
  rfl

theorem zero_eq (j : S1x1024.Idx) : k0_pay2 (F := Ideal) j = 0 := by
  unfold k0_pay2
  pointwise

theorem array_dg : (dats m 0 c).arrAt 7 cfg0.N
    = NormStage.dg (m ((c : Thread nD τ).loc main_arg0)) (prod (m ((c : Thread nD τ).loc main_arg3)) (m ((c : Thread nD τ).loc main_arg2))) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) (add m c)
    (fun t h j => by rw [outsAt0_A m c t h]; frame_out; rw [add_eq, zero_eq])
    (fun t h j => by rw [outsAt0_B m c t h]; frame_out; rw [add_eq])
    (le_of_eq N_0) t0_7 rfl j, zero_add]
  unfold add NormStage.dg row
  refine Fin.sum_mul_add_congr fun t k hl => ?_
  rfl

/-- The product as the reference writes it. -/
theorem reference_prod (a : FVec Ideal S4096x2048 .bf16) (w : FVec Ideal S1024x2048 .f32) :
    Host.dotGeneral (F := Ideal) Cert.Reference35Ideal.dot_S4096x2048_S1024x2048_S4096x1024_1_1_0_0_n_n none
      (extf .f32 a Cert.Reference35Ideal.Gen.bitsLt_bf16_f32) w = prod a w := by
  funext i
  pointwise
  unfold prod
  rfl

/-- The claim over the reals. -/
theorem algebraic : Cert.algebraic_Kernel35Ideal_Reference35Ideal (hKernel35Ideal := Cert.Kernel35Ideal.Gen.facts)
    (hReference35Ideal := Cert.Reference35Ideal.Gen.facts) := by
  intro m g m' g' _ hm
  refine ⟨fun c => NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)),
    fun c => truncf .bf16 (NormStage.dx (m ((c : Thread nD τ).loc main_arg4)) (m ((c : Thread nD τ).loc main_arg0))
          (prod (m ((c : Thread nD τ).loc main_arg3)) (m ((c : Thread nD τ).loc main_arg2))) (m ((c : Thread nD τ).loc main_arg1))) bitsLt_bf16_f32,
    fun c => NormStage.dg (m ((c : Thread nD τ).loc main_arg0)) (prod (m ((c : Thread nD τ).loc main_arg3)) (m ((c : Thread nD τ).loc main_arg2))), ?_, ?_⟩
  · refine (θ_run Cert.Kernel35Ideal.defs _ _).mono (fun r h c => ?_) (Value.run_blocks m g)
    obtain ⟨h0, h1, h2, h3⟩ := h c
    exact ⟨h0.trans (array_dx m c), h1.trans (array_dx_bf16 m c), h2.trans (array_dg m c), h3⟩
  · refine (θ_run Cert.Reference35Ideal.defs _ _).mono (fun r h c => ?_) (Cert.Reference35Ideal.Value.run m' g')
    obtain ⟨h0, h1, h2, h3⟩ := h c
    obtain ⟨a0, a1, a2, a3, a4⟩ := hm c
    have hx : Cert.Reference35Ideal.Value.res_main_v39 m' c
        = NormStage.dx (m ((c : Thread nD τ).loc main_arg4)) (m ((c : Thread nD τ).loc main_arg0))
          (prod (m ((c : Thread nD τ).loc main_arg3)) (m ((c : Thread nD τ).loc main_arg2))) (m ((c : Thread nD τ).loc main_arg1)) := by
      unfold Cert.Reference35Ideal.Value.res_main_v39
      rw [a0, a1, a2, a3, a4, reference_prod]
      exact NormStage.rows_eq _ _ _ _
    have hy : Cert.Reference35Ideal.Value.res_main_v40 m' c = truncf (F := Ideal) (s := S4096x1024) (φ := .f32) .bf16 (Cert.Reference35Ideal.Value.res_main_v39 m' c) bitsLt_bf16_f32 := by
      unfold Cert.Reference35Ideal.Value.res_main_v40 Cert.Reference35Ideal.Value.res_main_v39
      rfl
    refine ⟨h0.trans hx, h1.trans (hy.trans (by rw [hx])), h2.trans ?_, h3⟩
    rw [a0, a2, a3, reference_prod]
    exact NormStage.gain_eq _ _

end Cert.DxKeysValues

end
-- ==== Proof.DwEmbedding.lean ====
/-
The gradient of the weights of the per-layer embedding's projection.

A grid point computes one block of the product in one step, so its sum is the reference's sum.
-/
module

public import proofs.«01_k».proof.Defs
public import proofs.«01_k».proof.Proof.Gen.Kernel36Ideal.Value
public import proofs.«01_k».proof.Proof.Gen.Reference36Ideal.Run
public import Idealize.ShloMosaic.Lib.Pipeline.ValueKit
public import Idealize.ShloMosaic.Lib.Pointwise

@[expose] public section

set_option maxRecDepth 16384

noncomputable section

namespace Cert.DwEmbedding

open Idealize.ShloMosaic Idealize.ShloMosaic.TcCoe Idealize.ShloMosaic.Pointwise Idealize.SL.Sem
open Cert.Kernel36Ideal Cert.Kernel36Ideal.Gen

/-- The product. -/
def prod (x : FVec Ideal S4096x1024 .bf16) (y : FVec Ideal S4096x256 .f32) : FVec Ideal S1024x256 .bf16 := fun i =>
  ∑ k : Fin 4096, x (ix2 k (⟨(i 0).val, (i 0).isLt⟩ : Fin 1024)) * y (ix2 k (⟨(i 1).val, (i 1).isLt⟩ : Fin 256))

/-- The blocks of a grid point. -/
theorem index : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- The kernel's array at the end of the region. -/
theorem array (m : (ℓ : Loc nD τ sig) → Buf (Elt Ideal) ℓ) (c : Dev nD) :
    (dats m 0 c).arrAt 2 cfg0.N = prod (m ((c : Thread nD τ).loc main_arg1)) (m ((c : Thread nD τ).loc main_arg0)) := by
  refine (dats m 0 c).arrAt_eq_of_covers 2 _ (by decide +kernel) fun t hf y => ?_
  obtain ⟨e0, e1, e2⟩ := index t
  blk_simp
  rw [after0_2]
  unfold outsAt0
  frame_out
  unfold k0_pay1 k0_pay2 k0_pay3
  pointwise
  unfold prod
  blk_point [iblk, Gen.V, e0, e1, e2]

/-- The reference's result is the same product. -/
theorem reference (x : FVec Ideal S4096x1024 .bf16) (y : FVec Ideal S4096x256 .f32) :
    truncf .bf16 (transpose S1024x256 [1, 0] (transpose Cert.Reference36Ideal.S256x1024 [1, 0] (Host.dotGeneral (F := Ideal) Cert.Reference36Ideal.dot_S4096x1024_S4096x256_S1024x256_0_0_1_1_n_n none (extf .f32 x Cert.Reference36Ideal.Gen.bitsLt_bf16_f32) y) Cert.Reference36Ideal.Gen.transposes_S1024x256_S256x1024_1_0) Cert.Reference36Ideal.Gen.transposes_S256x1024_S1024x256_1_0) Cert.Reference36Ideal.Gen.bitsLt_bf16_f32 = prod x y := by
  funext i
  pointwise
  unfold prod
  rfl

/-- The claim over the reals. -/
theorem algebraic : Cert.algebraic_Kernel36Ideal_Reference36Ideal (hKernel36Ideal := Cert.Kernel36Ideal.Gen.facts)
    (hReference36Ideal := Cert.Reference36Ideal.Gen.facts) := by
  intro m g m' g' _ hm
  refine ⟨fun c => prod (m ((c : Thread nD τ).loc main_arg1)) (m ((c : Thread nD τ).loc main_arg0)), ?_, ?_⟩
  · refine (θ_run Cert.Kernel36Ideal.defs _ _).mono (fun r h c => ?_) (Value.run_blocks m g)
    exact ⟨(h c).1.trans (array m c), (h c).2⟩
  · refine (θ_run Cert.Reference36Ideal.defs _ _).mono (fun r h c => ?_) (Cert.Reference36Ideal.Value.run m' g')
    refine ⟨(h c).1.trans ?_, (h c).2⟩
    rw [(hm c).1, (hm c).2]
    exact reference _ _

end Cert.DwEmbedding

end
-- ==== Proof.EmbeddingGrad.lean ====
/-
The gradient of the gated embedding in its two products.

The derivative of the gate is the gate times its complement.  The two programs multiply in different orders.
-/
module

public import proofs.«01_k».proof.Defs
public import proofs.«01_k».proof.Proof.Gen.Kernel37Ideal.Value
public import proofs.«01_k».proof.Proof.Gen.Reference37Ideal.Run
public import Idealize.ShloMosaic.Lib.Pipeline.ValueKit
public import Idealize.ShloMosaic.Lib.Pointwise

@[expose] public section

set_option maxRecDepth 16384

noncomputable section

namespace Cert.EmbeddingGrad

open Idealize.ShloMosaic Idealize.ShloMosaic.TcCoe Idealize.ShloMosaic.Pointwise Idealize.SL.Sem
open Cert.Kernel37Ideal Cert.Kernel37Ideal.Gen

variable (d : FVec Ideal S4096x1024 .f32) (g p : FVec Ideal S4096x1024 .bf16)

/-- The gradient in the gate's product. -/
def dgate : FVec Ideal S4096x1024 .bf16 := fun i =>
  d (ix2 (⟨(i 0).val, (i 0).isLt⟩ : Fin 4096) (⟨(i 1).val, (i 1).isLt⟩ : Fin 1024))
    * p (ix2 (⟨(i 0).val, (i 0).isLt⟩ : Fin 4096) (⟨(i 1).val, (i 1).isLt⟩ : Fin 1024))
    * Ideal.logistic (g (ix2 (⟨(i 0).val, (i 0).isLt⟩ : Fin 4096) (⟨(i 1).val, (i 1).isLt⟩ : Fin 1024)))
    * (1 - Ideal.logistic (g (ix2 (⟨(i 0).val, (i 0).isLt⟩ : Fin 4096) (⟨(i 1).val, (i 1).isLt⟩ : Fin 1024))))

/-- The gradient in the embedding's product. -/
def dproj : FVec Ideal S4096x1024 .bf16 := fun i =>
  d (ix2 (⟨(i 0).val, (i 0).isLt⟩ : Fin 4096) (⟨(i 1).val, (i 1).isLt⟩ : Fin 1024))
    * Ideal.logistic (g (ix2 (⟨(i 0).val, (i 0).isLt⟩ : Fin 4096) (⟨(i 1).val, (i 1).isLt⟩ : Fin 1024)))

/-- The blocks of a grid point. -/
theorem index : ∀ t : Fin cfg0.N, win0_0.index t = ![t.val, 0] ∧ win0_1.index t = ![t.val, 0] ∧ win0_2.index t = ![t.val, 0]
      ∧ win0_3.index t = ![t.val, 0] ∧ win0_4.index t = ![t.val, 0] :=
  (by decide +kernel : ∀ t : Fin grid0.N, win0_0.index t = ![t.val, 0] ∧ win0_1.index t = ![t.val, 0] ∧ win0_2.index t = ![t.val, 0]
      ∧ win0_3.index t = ![t.val, 0] ∧ win0_4.index t = ![t.val, 0])

variable (m : (ℓ : Loc nD τ sig) → Buf (Elt Ideal) ℓ) (c : Dev nD)

theorem array_dgate : (dats m 0 c).arrAt 3 cfg0.N = dgate (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3, e4⟩ := index t
  blk_simp
  rw [after0_3]
  frame_out
  unfold k0_pay3 k0_pay1
  pointwise
  unfold dgate
  blk_point [iblk, Gen.V, e0, e1, e2, e3]

theorem array_dproj : (dats m 0 c).arrAt 4 cfg0.N = dproj (m ((c : Thread nD τ).loc main_arg0)) (m ((c : Thread nD τ).loc main_arg1)) := by
  refine (dats m 0 c).arrAt_eq_of_covers 4 _ (by decide +kernel) fun t hf y => ?_
  obtain ⟨e0, e1, e2, e3, e4⟩ := index t
  blk_simp
  rw [after0_4]
  frame_out
  unfold k0_pay2 k0_pay1
  pointwise
  unfold dproj
  blk_point [iblk, Gen.V, e0, e1, e4]

/-- The reference's gradient in the gate's product. -/
theorem reference_dgate : truncf .bf16 (mulf (mulf (extf .f32 p Cert.Reference37Ideal.Gen.bitsLt_bf16_f32) d) (mulf (Host.divf (broadcastInDim S4096x1024 ![] Cert.Reference37Ideal.Gen.bcast_S_S4096x1024 (constant Cert.Reference37Ideal.S_ .f32 0x3F800000#32))
      (addf (broadcastInDim S4096x1024 ![] Cert.Reference37Ideal.Gen.bcast_S_S4096x1024 (constant Cert.Reference37Ideal.S_ .f32 0x3F800000#32)) (Host.exp (Host.negf (extf .f32 g Cert.Reference37Ideal.Gen.bitsLt_bf16_f32)))))
    (subf (broadcastInDim S4096x1024 ![] Cert.Reference37Ideal.Gen.bcast_S_S4096x1024 (constant Cert.Reference37Ideal.S_ .f32 0x3F800000#32)) (Host.divf (broadcastInDim S4096x1024 ![] Cert.Reference37Ideal.Gen.bcast_S_S4096x1024 (constant Cert.Reference37Ideal.S_ .f32 0x3F800000#32))
      (addf (broadcastInDim S4096x1024 ![] Cert.Reference37Ideal.Gen.bcast_S_S4096x1024 (constant Cert.Reference37Ideal.S_ .f32 0x3F800000#32)) (Host.exp (Host.negf (extf .f32 g Cert.Reference37Ideal.Gen.bitsLt_bf16_f32))))))))
    Cert.Reference37Ideal.Gen.bitsLt_bf16_f32 = dgate d g p := by
  funext i
  obtain ⟨s, k, rfl⟩ : ∃ (s : Fin 4096) (k : Fin 1024), i = ix2 s k := ⟨i 0, i 1, eq_ix2 i⟩
  pointwise
  unfold dgate
  rw [mul_comm (p (ix2 s k)), ← mul_assoc]
  rfl

/-- The reference's gradient in the embedding's product. -/
theorem reference_dproj : truncf .bf16 (mulf d (Host.divf (broadcastInDim S4096x1024 ![] Cert.Reference37Ideal.Gen.bcast_S_S4096x1024 (constant Cert.Reference37Ideal.S_ .f32 0x3F800000#32))
      (addf (broadcastInDim S4096x1024 ![] Cert.Reference37Ideal.Gen.bcast_S_S4096x1024 (constant Cert.Reference37Ideal.S_ .f32 0x3F800000#32)) (Host.exp (Host.negf (extf .f32 g Cert.Reference37Ideal.Gen.bitsLt_bf16_f32))))))
    Cert.Reference37Ideal.Gen.bitsLt_bf16_f32 = dproj d g := by
  funext i
  obtain ⟨s, k, rfl⟩ : ∃ (s : Fin 4096) (k : Fin 1024), i = ix2 s k := ⟨i 0, i 1, eq_ix2 i⟩
  pointwise
  rfl

/-- The claim over the reals. -/
theorem algebraic : Cert.algebraic_Kernel37Ideal_Reference37Ideal (hKernel37Ideal := Cert.Kernel37Ideal.Gen.facts)
    (hReference37Ideal := Cert.Reference37Ideal.Gen.facts) := by
  intro m g m' g' _ hm
  refine ⟨fun c => dgate (m ((c : Thread nD τ).loc main_arg0)) (m ((c : Thread nD τ).loc main_arg1)) (m ((c : Thread nD τ).loc main_arg2)), fun c => dproj (m ((c : Thread nD τ).loc main_arg0)) (m ((c : Thread nD τ).loc main_arg1)), ?_, ?_⟩
  · refine (θ_run Cert.Kernel37Ideal.defs _ _).mono (fun r h c => ?_) (Value.run_blocks m g)
    exact ⟨(h c).1.trans (array_dgate m c), (h c).2.1.trans (array_dproj m c), (h c).2.2⟩
  · refine (θ_run Cert.Reference37Ideal.defs _ _).mono (fun r h c => ?_) (Cert.Reference37Ideal.Value.run m' g')
    obtain ⟨h0, h1, h2⟩ := h c
    rw [(hm c).1, (hm c).2.1, (hm c).2.2] at h0
    rw [(hm c).1, (hm c).2.1] at h1
    exact ⟨h0.trans (reference_dgate _ _ _), h1.trans (reference_dproj _ _), h2⟩

end Cert.EmbeddingGrad

end
-- ==== Proof.EmbeddingNorm.lean ====
/-
The gated embedding of a token, with one norm after it.

A grid point has whole rows, so it computes its block of all four results in one step.  The kernel reads the projection
transposed.
-/
module

public import proofs.«01_k».proof.Defs
public import proofs.«01_k».proof.Proof.Gen.Kernel38Ideal.Value
public import proofs.«01_k».proof.Proof.Gen.Reference38Ideal.Run
public import proofs.«01_k».proof.Proof.NormMath
public import Idealize.ShloMosaic.Lib.Pipeline.ValueKit
public import Idealize.ShloMosaic.Lib.Pointwise

@[expose] public section

set_option maxRecDepth 16384

noncomputable section

namespace Cert.EmbeddingNorm

open Idealize.ShloMosaic Idealize.ShloMosaic.TcCoe Idealize.ShloMosaic.Pointwise Idealize.SL.Sem
open Cert.Kernel38Ideal Cert.Kernel38Ideal.Gen

/-- The gate's product. -/
def gate (x : FVec Ideal S4096x1024 .bf16) (w : FVec Ideal S1024x1024 .f32) : FVec Ideal S4096x1024 .f32 := fun i =>
  ∑ k : Fin 1024, x (ix2 (⟨(i 0).val, (i 0).isLt⟩ : Fin 4096) k) * w (ix2 k (⟨(i 1).val, (i 1).isLt⟩ : Fin 1024))

/-- The embedding's product. -/
def proj (p : FVec Ideal S4096x256 .f32) (v : FVec Ideal S256x1024 .f32) : FVec Ideal S4096x1024 .f32 := fun i =>
  ∑ k : Fin 256, p (ix2 (⟨(i 0).val, (i 0).isLt⟩ : Fin 4096) k) * v (ix2 k (⟨(i 1).val, (i 1).isLt⟩ : Fin 1024))

/-- The residual stream plus the gated embedding. -/
def out (h : FVec Ideal S4096x1024 .f32) (x : FVec Ideal S4096x1024 .bf16) (p : FVec Ideal S4096x256 .f32)
    (w : FVec Ideal S1024x1024 .f32) (v : FVec Ideal S256x1024 .f32) : FVec Ideal S4096x1024 .f32 := fun i =>
  h (ix2 (⟨(i 0).val, (i 0).isLt⟩ : Fin 4096) (⟨(i 1).val, (i 1).isLt⟩ : Fin 1024)) + proj p v i * Ideal.logistic (gate x w i)

/-- The norm of an array's rows, scaled. -/
def normed (o : FVec Ideal S4096x1024 .f32) (g : FVec Ideal S1024 .f32) : FVec Ideal S4096x1024 .bf16 := fun i =>
  o (ix2 (⟨(i 0).val, (i 0).isLt⟩ : Fin 4096) (⟨(i 1).val, (i 1).isLt⟩ : Fin 1024))
    * Ideal.rsqrt (NormMath.under fun k : Fin 1024 => o (ix2 (⟨(i 0).val, (i 0).isLt⟩ : Fin 4096) k))
    * g (ix1 (⟨(i 1).val, (i 1).isLt⟩ : Fin 1024))

/-- The blocks of a grid point. -/
theorem index : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0])

variable (m : (ℓ : Loc nD τ sig) → Buf (Elt Ideal) ℓ) (c : Dev nD)

theorem array_out : (dats m 0 c).arrAt 6 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6, e7, e8, e9⟩ := index t
  blk_simp
  rw [after0_6]
  frame_out
  unfold k0_pay3 k0_pay1 k0_pay2
  pointwise
  unfold out gate proj
  blk_point [iblk, Gen.V, e0, e1, e2, e3, e4, e6]

theorem array_gate : (dats m 0 c).arrAt 7 cfg0.N = gate (m ((c : Thread nD τ).loc main_arg1)) (m ((c : Thread nD τ).loc main_arg3)) := by
  refine (dats m 0 c).arrAt_eq_of_covers 7 _ (by decide +kernel) fun t hf y => ?_
  obtain ⟨e0, e1, e2, e3, e4, e5, e6, e7, e8, e9⟩ := index t
  blk_simp
  rw [after0_7]
  frame_out
  unfold k0_pay4 k0_pay1
  pointwise
  unfold gate
  blk_point [iblk, Gen.V, e1, e3, e7]

theorem array_proj : (dats m 0 c).arrAt 8 cfg0.N = proj (m ((c : Thread nD τ).loc main_arg2)) (m ((c : Thread nD τ).loc main_arg4)) := by
  refine (dats m 0 c).arrAt_eq_of_covers 8 _ (by decide +kernel) fun t hf y => ?_
  obtain ⟨e0, e1, e2, e3, e4, e5, e6, e7, e8, e9⟩ := index t
  blk_simp
  rw [after0_8]
  frame_out
  unfold k0_pay5 k0_pay2
  pointwise
  unfold proj
  blk_point [iblk, Gen.V, e2, e4, e8]

/-- A row of a grid point's block is a row of the array. -/
theorem row_lt (t : Fin cfg0.N) (r : Fin 512) : t.val * 512 + r.val < 4096 := by
  have h : t.val < 8 := t.isLt
  omega

theorem tile (t : Fin cfg0.N) (r : Fin 512) (k : Fin 1024) :
    k0_pay3 (F := Ideal) (iblk m c 1 t) (iblk m c 3 t) (iblk m c 2 t) (iblk m c 4 t) (iblk m c 0 t) (ix2 r k)
      = out (m ((c : Thread nD τ).loc main_arg0)) (m ((c : Thread nD τ).loc main_arg1)) (m ((c : Thread nD τ).loc main_arg2)) (m ((c : Thread nD τ).loc main_arg3)) (m ((c : Thread nD τ).loc main_arg4))
          (ix2 (⟨t.val * 512 + r.val, row_lt t r⟩ : Fin 4096) k) := by
  obtain ⟨e0, e1, e2, e3, e4, e5, e6, e7, e8, e9⟩ := index t
  unfold k0_pay3 k0_pay1 k0_pay2
  pointwise
  unfold out gate proj
  blk_point [iblk, Gen.V, e0, e1, e2, e3, e4]

/-- The norm of a block. -/
theorem pay6_apply (x : FVec Ideal S512x1024 .bf16) (w : FVec Ideal S1024x1024 .bf16) (p : FVec Ideal S512x256 .f32) (v : FVec Ideal S1024x256 .bf16) (h : FVec Ideal S512x1024 .f32) (g : FVec Ideal S1x1024 .f32) (r : Fin 512) (k : Fin 1024) :
    k0_pay6 (F := Ideal) x w p v h g (ix2 r k)
      = k0_pay3 (F := Ideal) x w p v h (ix2 r k) * Ideal.rsqrt (NormMath.under fun l : Fin 1024 => k0_pay3 (F := Ideal) x w p v h (ix2 r l)) * g (ix2 0 k) := by
  unfold k0_pay6 NormMath.under
  pointwise

theorem array_normed : (dats m 0 c).arrAt 9 cfg0.N
    = normed (out (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg5)) := by
  refine (dats m 0 c).arrAt_eq_of_covers 9 _ (by decide +kernel) fun t hf y => ?_
  obtain ⟨e0, e1, e2, e3, e4, e5, e6, e7, e8, e9⟩ := index t
  blk_simp
  rw [after0_9]
  frame_out
  obtain ⟨r, k, rfl⟩ : ∃ (r : Fin 512) (k : Fin 1024), y = ix2 r k := ⟨y 0, y 1, eq_ix2 y⟩
  refine (pay6_apply _ _ _ _ _ _ r k).trans ?_
  simp only [tile]
  unfold normed
  blk_point [iblk, Gen.V, e5, e9]

/-- The reference's product of the gate. -/
theorem reference_gate (x : FVec Ideal S4096x1024 .bf16) (w : FVec Ideal S1024x1024 .f32) :
    Host.dotGeneral (F := Ideal) Cert.Reference38Ideal.dot_S4096x1024_S1024x1024_S4096x1024_1_0_0_1_n_n none (extf .f32 x Cert.Reference38Ideal.Gen.bitsLt_bf16_f32) w = gate x w := by
  funext i
  pointwise
  unfold gate
  rfl

/-- The reference's product of the embedding. -/
theorem reference_proj (p : FVec Ideal S4096x256 .f32) (v : FVec Ideal S256x1024 .f32) :
    Host.dotGeneral (F := Ideal) Cert.Reference38Ideal.dot_S4096x256_S256x1024_S4096x1024_1_0_0_1_n_n none p v = proj p v := by
  funext i
  pointwise
  unfold proj
  rfl

/-- The gated embedding as the reference writes it. -/
theorem reference_out (h : FVec Ideal S4096x1024 .f32) (x : FVec Ideal S4096x1024 .bf16) (p : FVec Ideal S4096x256 .f32)
    (w : FVec Ideal S1024x1024 .f32) (v : FVec Ideal S256x1024 .f32) :
    addf h (mulf (proj p v) (Host.divf (broadcastInDim S4096x1024 ![] Cert.Reference38Ideal.Gen.bcast_S_S4096x1024 (constant Cert.Reference38Ideal.S_ .f32 0x3F800000#32))
      (addf (broadcastInDim S4096x1024 ![] Cert.Reference38Ideal.Gen.bcast_S_S4096x1024 (constant Cert.Reference38Ideal.S_ .f32 0x3F800000#32)) (Host.exp (Host.negf (gate x w)))))) = out h x p w v := by
  funext i
  obtain ⟨s, k, rfl⟩ : ∃ (s : Fin 4096) (k : Fin 1024), i = ix2 s k := ⟨i 0, i 1, eq_ix2 i⟩
  unfold out
  generalize proj p v = a
  generalize gate x w = b
  pointwise
  rfl

/-- The norm as the reference writes it. -/
theorem reference_normed (o : FVec Ideal S4096x1024 .f32) (g : FVec Ideal S1024 .f32) :
    truncf .bf16 (mulf (mulf o (broadcastInDim S4096x1024 ![0, 1] Cert.Reference38Ideal.Gen.bcast_S4096x1_S4096x1024_0_1 (Host.rsqrt (addf
      (Host.divf (broadcastInDim Cert.Reference38Ideal.S4096x1 ![0] Cert.Reference38Ideal.Gen.bcast_S4096_S4096x1_0
        (Host.reduceAdd (mulf o o) (constant Cert.Reference38Ideal.S_ .f32 0x00000000#32) Cert.Reference38Ideal.Gen.reducesTo_S4096x1024_S4096_d1 Cert.Reference38Ideal.Gen.h_S_))
        (broadcastInDim Cert.Reference38Ideal.S4096x1 ![] Cert.Reference38Ideal.Gen.bcast_S_S4096x1 (constant Cert.Reference38Ideal.S_ .f32 0x44800000#32)))
      (broadcastInDim Cert.Reference38Ideal.S4096x1 ![] Cert.Reference38Ideal.Gen.bcast_S_S4096x1 (constant Cert.Reference38Ideal.S_ .f32 0x358637BD#32))))))
      (broadcastInDim S4096x1024 ![0, 1] Cert.Reference38Ideal.Gen.bcast_S1x1024_S4096x1024_0_1
        (broadcastInDim Cert.Reference38Ideal.S1x1024 ![1] Cert.Reference38Ideal.Gen.bcast_S1024_S1x1024_1 g)))
      Cert.Reference38Ideal.Gen.bitsLt_bf16_f32 = normed o g := by
  funext i
  pointwise
  unfold normed NormMath.under
  congr 1
  congr 1
  exact congrArg o (eq_ix2 i)

/-- The claim over the reals. -/
theorem algebraic : Cert.algebraic_Kernel38Ideal_Reference38Ideal (hKernel38Ideal := Cert.Kernel38Ideal.Gen.facts)
    (hReference38Ideal := Cert.Reference38Ideal.Gen.facts) := by
  intro m g m' g' _ hm
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)),
    fun c => gate (m ((c : Thread nD τ).loc main_arg1)) (m ((c : Thread nD τ).loc main_arg3)),
    fun c => proj (m ((c : Thread nD τ).loc main_arg2)) (m ((c : Thread nD τ).loc main_arg4)),
    fun c => normed (out (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)), ?_, ?_⟩
  · refine (θ_run Cert.Kernel38Ideal.defs _ _).mono (fun r h c => ?_) (Value.run_blocks m g)
    exact ⟨(h c).1.trans (array_out m c), (h c).2.1.trans (array_gate m c), (h c).2.2.1.trans (array_proj m c), (h c).2.2.2.1.trans (array_normed m c), (h c).2.2.2.2⟩
  · refine (θ_run Cert.Reference38Ideal.defs _ _).mono (fun r h c => ?_) (Cert.Reference38Ideal.Value.run m' g')
    obtain ⟨h0, h1, h2, h3, h4⟩ := h c
    rw [(hm c).1, (hm c).2.1, (hm c).2.2.1, (hm c).2.2.2.1, (hm c).2.2.2.2.1, reference_gate, reference_proj, reference_out] at h0
    rw [(hm c).2.1, (hm c).2.2.2.1, reference_gate] at h1
    rw [(hm c).2.2.1, (hm c).2.2.2.2.1, reference_proj] at h2
    rw [(hm c).1, (hm c).2.1, (hm c).2.2.1, (hm c).2.2.2.1, (hm c).2.2.2.2.1, (hm c).2.2.2.2.2, reference_gate, reference_proj, reference_out] at h3
    exact ⟨h0, h1, h2, h3.trans (reference_normed _ _), h4⟩

end Cert.EmbeddingNorm

end
-- ==== Proof.EmbeddingNorms.lean ====
/-
The gated embedding of a token, with two norms after it.

The two norms share the division by the root and differ in the gains.  The kernel reads the projection transposed.
-/
module

public import proofs.«01_k».proof.Defs
public import proofs.«01_k».proof.Proof.Gen.Kernel39Ideal.Value
public import proofs.«01_k».proof.Proof.Gen.Reference39Ideal.Run
public import proofs.«01_k».proof.Proof.NormMath
public import Idealize.ShloMosaic.Lib.Pipeline.ValueKit
public import Idealize.ShloMosaic.Lib.Pointwise

@[expose] public section

set_option maxRecDepth 16384

noncomputable section

namespace Cert.EmbeddingNorms

open Idealize.ShloMosaic Idealize.ShloMosaic.TcCoe Idealize.ShloMosaic.Pointwise Idealize.SL.Sem
open Cert.Kernel39Ideal Cert.Kernel39Ideal.Gen

/-- The gate's product. -/
def gate (x : FVec Ideal S4096x1024 .bf16) (w : FVec Ideal S1024x1024 .f32) : FVec Ideal S4096x1024 .f32 := fun i =>
  ∑ k : Fin 1024, x (ix2 (⟨(i 0).val, (i 0).isLt⟩ : Fin 4096) k) * w (ix2 k (⟨(i 1).val, (i 1).isLt⟩ : Fin 1024))

/-- The embedding's product. -/
def proj (p : FVec Ideal S4096x256 .f32) (v : FVec Ideal S256x1024 .f32) : FVec Ideal S4096x1024 .f32 := fun i =>
  ∑ k : Fin 256, p (ix2 (⟨(i 0).val, (i 0).isLt⟩ : Fin 4096) k) * v (ix2 k (⟨(i 1).val, (i 1).isLt⟩ : Fin 1024))

/-- The residual stream plus the gated embedding. -/
def out (h : FVec Ideal S4096x1024 .f32) (x : FVec Ideal S4096x1024 .bf16) (p : FVec Ideal S4096x256 .f32)
    (w : FVec Ideal S1024x1024 .f32) (v : FVec Ideal S256x1024 .f32) : FVec Ideal S4096x1024 .f32 := fun i =>
  h (ix2 (⟨(i 0).val, (i 0).isLt⟩ : Fin 4096) (⟨(i 1).val, (i 1).isLt⟩ : Fin 1024)) + proj p v i * Ideal.logistic (gate x w i)

/-- The norm of an array's rows, scaled. -/
def normed (o : FVec Ideal S4096x1024 .f32) (g : FVec Ideal S1024 .f32) : FVec Ideal S4096x1024 .bf16 := fun i =>
  o (ix2 (⟨(i 0).val, (i 0).isLt⟩ : Fin 4096) (⟨(i 1).val, (i 1).isLt⟩ : Fin 1024))
    * Ideal.rsqrt (NormMath.under fun k : Fin 1024 => o (ix2 (⟨(i 0).val, (i 0).isLt⟩ : Fin 4096) k))
    * g (ix1 (⟨(i 1).val, (i 1).isLt⟩ : Fin 1024))

/-- The blocks of a grid point. -/
theorem index : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0])

variable (m : (ℓ : Loc nD τ sig) → Buf (Elt Ideal) ℓ) (c : Dev nD)

theorem array_out : (dats m 0 c).arrAt 7 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨e0, e1, e2, e3, e4, e5, e6, e7, e8, e9, e10, e11⟩ := index t
  blk_simp
  rw [after0_7]
  frame_out
  unfold k0_pay4 k0_pay2 k0_pay3
  pointwise
  unfold out gate proj
  blk_point [iblk, Gen.V, e0, e1, e2, e3, e4, e7]

theorem array_gate : (dats m 0 c).arrAt 8 cfg0.N = gate (m ((c : Thread nD τ).loc main_arg1)) (m ((c : Thread nD τ).loc main_arg3)) := by
  refine (dats m 0 c).arrAt_eq_of_covers 8 _ (by decide +kernel) fun t hf y => ?_
  obtain ⟨e0, e1, e2, e3, e4, e5, e6, e7, e8, e9, e10, e11⟩ := index t
  blk_simp
  rw [after0_8]
  frame_out
  unfold k0_pay5 k0_pay2
  pointwise
  unfold gate
  blk_point [iblk, Gen.V, e1, e3, e8]

theorem array_proj : (dats m 0 c).arrAt 9 cfg0.N = proj (m ((c : Thread nD τ).loc main_arg2)) (m ((c : Thread nD τ).loc main_arg4)) := by
  refine (dats m 0 c).arrAt_eq_of_covers 9 _ (by decide +kernel) fun t hf y => ?_
  obtain ⟨e0, e1, e2, e3, e4, e5, e6, e7, e8, e9, e10, e11⟩ := index t
  blk_simp
  rw [after0_9]
  frame_out
  unfold k0_pay6 k0_pay3
  pointwise
  unfold proj
  blk_point [iblk, Gen.V, e2, e4, e9]

/-- A row of a grid point's block is a row of the array. -/
theorem row_lt (t : Fin cfg0.N) (r : Fin 512) : t.val * 512 + r.val < 4096 := by
  have h : t.val < 8 := t.isLt
  omega

theorem tile (t : Fin cfg0.N) (r : Fin 512) (k : Fin 1024) :
    k0_pay4 (F := Ideal) (iblk m c 1 t) (iblk m c 3 t) (iblk m c 2 t) (iblk m c 4 t) (iblk m c 0 t) (ix2 r k)
      = out (m ((c : Thread nD τ).loc main_arg0)) (m ((c : Thread nD τ).loc main_arg1)) (m ((c : Thread nD τ).loc main_arg2)) (m ((c : Thread nD τ).loc main_arg3)) (m ((c : Thread nD τ).loc main_arg4))
          (ix2 (⟨t.val * 512 + r.val, row_lt t r⟩ : Fin 4096) k) := by
  obtain ⟨e0, e1, e2, e3, e4, e5, e6, e7, e8, e9, e10, e11⟩ := index t
  unfold k0_pay4 k0_pay2 k0_pay3
  pointwise
  unfold out gate proj
  blk_point [iblk, Gen.V, e0, e1, e2, e3, e4]

/-- The norm of a block. -/
theorem pay8_apply (x : FVec Ideal S512x1024 .bf16) (w : FVec Ideal S1024x1024 .bf16) (p : FVec Ideal S512x256 .f32) (v : FVec Ideal S1024x256 .bf16) (h : FVec Ideal S512x1024 .f32) (g : FVec Ideal S1x1024 .f32) (r : Fin 512) (k : Fin 1024) :
    k0_pay8 (F := Ideal) x w p v h g (ix2 r k)
      = k0_pay4 (F := Ideal) x w p v h (ix2 r k) * Ideal.rsqrt (NormMath.under fun l : Fin 1024 => k0_pay4 (F := Ideal) x w p v h (ix2 r l)) * g (ix2 0 k) := by
  unfold k0_pay8 k0_pay7 NormMath.under
  pointwise

theorem array_normed : (dats m 0 c).arrAt 10 cfg0.N
    = normed (out (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg5)) := by
  refine (dats m 0 c).arrAt_eq_of_covers 10 _ (by decide +kernel) fun t hf y => ?_
  obtain ⟨e0, e1, e2, e3, e4, e5, e6, e7, e8, e9, e10, e11⟩ := index t
  blk_simp
  rw [after0_10]
  frame_out
  obtain ⟨r, k, rfl⟩ : ∃ (r : Fin 512) (k : Fin 1024), y = ix2 r k := ⟨y 0, y 1, eq_ix2 y⟩
  refine (pay8_apply _ _ _ _ _ _ r k).trans ?_
  simp only [tile]
  unfold normed
  blk_point [iblk, Gen.V, e5, e10]

/-- The second norm of a block. -/
theorem pay1_apply (x : FVec Ideal S512x1024 .bf16) (w : FVec Ideal S1024x1024 .bf16) (p : FVec Ideal S512x256 .f32) (v : FVec Ideal S1024x256 .bf16) (h : FVec Ideal S512x1024 .f32) (g : FVec Ideal S1x1024 .f32) (r : Fin 512) (k : Fin 1024) :
    k0_pay1 (F := Ideal) (k0_pay7 x w p v h) g (ix2 r k)
      = k0_pay4 (F := Ideal) x w p v h (ix2 r k) * Ideal.rsqrt (NormMath.under fun l : Fin 1024 => k0_pay4 (F := Ideal) x w p v h (ix2 r l)) * g (ix2 0 k) := by
  unfold k0_pay1 k0_pay7 NormMath.under
  pointwise

theorem array_normed1 : (dats m 0 c).arrAt 11 cfg0.N
    = normed (out (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg6)) := by
  refine (dats m 0 c).arrAt_eq_of_covers 11 _ (by decide +kernel) fun t hf y => ?_
  obtain ⟨e0, e1, e2, e3, e4, e5, e6, e7, e8, e9, e10, e11⟩ := index t
  blk_simp
  rw [after0_11]
  frame_out
  obtain ⟨r, k, rfl⟩ : ∃ (r : Fin 512) (k : Fin 1024), y = ix2 r k := ⟨y 0, y 1, eq_ix2 y⟩
  refine (pay1_apply _ _ _ _ _ _ r k).trans ?_
  simp only [tile]
  unfold normed
  blk_point [iblk, Gen.V, e6, e11]

/-- The reference's product of the gate. -/
theorem reference_gate (x : FVec Ideal S4096x1024 .bf16) (w : FVec Ideal S1024x1024 .f32) :
    Host.dotGeneral (F := Ideal) Cert.Reference39Ideal.dot_S4096x1024_S1024x1024_S4096x1024_1_0_0_1_n_n none (extf .f32 x Cert.Reference39Ideal.Gen.bitsLt_bf16_f32) w = gate x w := by
  funext i
  pointwise
  unfold gate
  rfl

/-- The reference's product of the embedding. -/
theorem reference_proj (p : FVec Ideal S4096x256 .f32) (v : FVec Ideal S256x1024 .f32) :
    Host.dotGeneral (F := Ideal) Cert.Reference39Ideal.dot_S4096x256_S256x1024_S4096x1024_1_0_0_1_n_n none p v = proj p v := by
  funext i
  pointwise
  unfold proj
  rfl

/-- The gated embedding as the reference writes it. -/
theorem reference_out (h : FVec Ideal S4096x1024 .f32) (x : FVec Ideal S4096x1024 .bf16) (p : FVec Ideal S4096x256 .f32)
    (w : FVec Ideal S1024x1024 .f32) (v : FVec Ideal S256x1024 .f32) :
    addf h (mulf (proj p v) (Host.divf (broadcastInDim S4096x1024 ![] Cert.Reference39Ideal.Gen.bcast_S_S4096x1024 (constant Cert.Reference39Ideal.S_ .f32 0x3F800000#32))
      (addf (broadcastInDim S4096x1024 ![] Cert.Reference39Ideal.Gen.bcast_S_S4096x1024 (constant Cert.Reference39Ideal.S_ .f32 0x3F800000#32)) (Host.exp (Host.negf (gate x w)))))) = out h x p w v := by
  funext i
  obtain ⟨s, k, rfl⟩ : ∃ (s : Fin 4096) (k : Fin 1024), i = ix2 s k := ⟨i 0, i 1, eq_ix2 i⟩
  unfold out
  generalize proj p v = a
  generalize gate x w = b
  pointwise
  rfl

/-- The norm as the reference writes it. -/
theorem reference_normed (o : FVec Ideal S4096x1024 .f32) (g : FVec Ideal S1024 .f32) :
    truncf .bf16 (mulf (mulf o (broadcastInDim S4096x1024 ![0, 1] Cert.Reference39Ideal.Gen.bcast_S4096x1_S4096x1024_0_1 (Host.rsqrt (addf
      (Host.divf (broadcastInDim Cert.Reference39Ideal.S4096x1 ![0] Cert.Reference39Ideal.Gen.bcast_S4096_S4096x1_0
        (Host.reduceAdd (mulf o o) (constant Cert.Reference39Ideal.S_ .f32 0x00000000#32) Cert.Reference39Ideal.Gen.reducesTo_S4096x1024_S4096_d1 Cert.Reference39Ideal.Gen.h_S_))
        (broadcastInDim Cert.Reference39Ideal.S4096x1 ![] Cert.Reference39Ideal.Gen.bcast_S_S4096x1 (constant Cert.Reference39Ideal.S_ .f32 0x44800000#32)))
      (broadcastInDim Cert.Reference39Ideal.S4096x1 ![] Cert.Reference39Ideal.Gen.bcast_S_S4096x1 (constant Cert.Reference39Ideal.S_ .f32 0x358637BD#32))))))
      (broadcastInDim S4096x1024 ![0, 1] Cert.Reference39Ideal.Gen.bcast_S1x1024_S4096x1024_0_1
        (broadcastInDim Cert.Reference39Ideal.S1x1024 ![1] Cert.Reference39Ideal.Gen.bcast_S1024_S1x1024_1 g)))
      Cert.Reference39Ideal.Gen.bitsLt_bf16_f32 = normed o g := by
  funext i
  pointwise
  unfold normed NormMath.under
  congr 1
  congr 1
  exact congrArg o (eq_ix2 i)

/-- The claim over the reals. -/
theorem algebraic : Cert.algebraic_Kernel39Ideal_Reference39Ideal (hKernel39Ideal := Cert.Kernel39Ideal.Gen.facts)
    (hReference39Ideal := Cert.Reference39Ideal.Gen.facts) := by
  intro m g m' g' _ hm
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)),
    fun c => gate (m ((c : Thread nD τ).loc main_arg1)) (m ((c : Thread nD τ).loc main_arg3)),
    fun c => proj (m ((c : Thread nD τ).loc main_arg2)) (m ((c : Thread nD τ).loc main_arg4)),
    fun c => normed (out (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)),
    fun c => normed (out (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6)), ?_, ?_⟩
  · refine (θ_run Cert.Kernel39Ideal.defs _ _).mono (fun r h c => ?_) (Value.run_blocks m g)
    exact ⟨(h c).1.trans (array_out m c), (h c).2.1.trans (array_gate m c), (h c).2.2.1.trans (array_proj m c), (h c).2.2.2.1.trans (array_normed m c), (h c).2.2.2.2.1.trans (array_normed1 m c), (h c).2.2.2.2.2⟩
  · refine (θ_run Cert.Reference39Ideal.defs _ _).mono (fun r h c => ?_) (Cert.Reference39Ideal.Value.run m' g')
    obtain ⟨h0, h1, h2, h3, h4, h5⟩ := h c
    rw [(hm c).1, (hm c).2.1, (hm c).2.2.1, (hm c).2.2.2.1, (hm c).2.2.2.2.1, reference_gate, reference_proj, reference_out] at h0
    rw [(hm c).2.1, (hm c).2.2.2.1, reference_gate] at h1
    rw [(hm c).2.2.1, (hm c).2.2.2.2.1, reference_proj] at h2
    rw [(hm c).1, (hm c).2.1, (hm c).2.2.1, (hm c).2.2.2.1, (hm c).2.2.2.2.1, (hm c).2.2.2.2.2.1, reference_gate, reference_proj, reference_out] at h3
    rw [(hm c).1, (hm c).2.1, (hm c).2.2.1, (hm c).2.2.2.1, (hm c).2.2.2.2.1, (hm c).2.2.2.2.2.2, reference_gate, reference_proj, reference_out] at h4
    exact ⟨h0, h1, h2, h3.trans (reference_normed _ _), h4.trans (reference_normed _ _), h5⟩

end Cert.EmbeddingNorms

end
-- ==== Proof.Embedding.lean ====
/-
The gated embedding of a token, with no norm after it.

A grid point multiplies its block of rows by the gate's weights and its block of the embedding by the projection, and adds the
gated product to the residual stream.  The kernel reads the projection transposed.
-/
module

public import proofs.«01_k».proof.Defs
public import proofs.«01_k».proof.Proof.Gen.Kernel40Ideal.Value
public import proofs.«01_k».proof.Proof.Gen.Reference40Ideal.Run
public import proofs.«01_k».proof.Proof.NormMath
public import Idealize.ShloMosaic.Lib.Pipeline.ValueKit
public import Idealize.ShloMosaic.Lib.Pointwise

@[expose] public section

set_option maxRecDepth 16384

noncomputable section

namespace Cert.Embedding

open Idealize.ShloMosaic Idealize.ShloMosaic.TcCoe Idealize.ShloMosaic.Pointwise Idealize.SL.Sem
open Cert.Kernel40Ideal Cert.Kernel40Ideal.Gen

/-- The gate's product. -/
def gate (x : FVec Ideal S4096x1024 .bf16) (w : FVec Ideal S1024x1024 .f32) : FVec Ideal S4096x1024 .f32 := fun i =>
  ∑ k : Fin 1024, x (ix2 (⟨(i 0).val, (i 0).isLt⟩ : Fin 4096) k) * w (ix2 k (⟨(i 1).val, (i 1).isLt⟩ : Fin 1024))

/-- The embedding's product. -/
def proj (p : FVec Ideal S4096x256 .f32) (v : FVec Ideal S256x1024 .f32) : FVec Ideal S4096x1024 .f32 := fun i =>
  ∑ k : Fin 256, p (ix2 (⟨(i 0).val, (i 0).isLt⟩ : Fin 4096) k) * v (ix2 k (⟨(i 1).val, (i 1).isLt⟩ : Fin 1024))

/-- The residual stream plus the gated embedding. -/
def out (h : FVec Ideal S4096x1024 .f32) (x : FVec Ideal S4096x1024 .bf16) (p : FVec Ideal S4096x256 .f32)
    (w : FVec Ideal S1024x1024 .f32) (v : FVec Ideal S256x1024 .f32) : FVec Ideal S4096x1024 .f32 := fun i =>
  h (ix2 (⟨(i 0).val, (i 0).isLt⟩ : Fin 4096) (⟨(i 1).val, (i 1).isLt⟩ : Fin 1024)) + proj p v i * Ideal.logistic (gate x w i)

/-- The blocks of a grid point. -/
theorem index : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0])

variable (m : (ℓ : Loc nD τ sig) → Buf (Elt Ideal) ℓ) (c : Dev nD)

theorem array_out : (dats m 0 c).arrAt 5 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨e0, e1, e2, e3, e4, e5, e6, e7⟩ := index t
  blk_simp
  rw [after0_5]
  frame_out
  unfold k0_pay3 k0_pay1 k0_pay2
  pointwise
  unfold out gate proj
  blk_point [iblk, Gen.V, e0, e1, e2, e3, e4, e5]

theorem array_gate : (dats m 0 c).arrAt 6 cfg0.N = gate (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6, e7⟩ := index t
  blk_simp
  rw [after0_6]
  frame_out
  unfold k0_pay4 k0_pay1
  pointwise
  unfold gate
  blk_point [iblk, Gen.V, e1, e3, e6]

theorem array_proj : (dats m 0 c).arrAt 7 cfg0.N = proj (m ((c : Thread nD τ).loc main_arg2)) (m ((c : Thread nD τ).loc main_arg4)) := by
  refine (dats m 0 c).arrAt_eq_of_covers 7 _ (by decide +kernel) fun t hf y => ?_
  obtain ⟨e0, e1, e2, e3, e4, e5, e6, e7⟩ := index t
  blk_simp
  rw [after0_7]
  frame_out
  unfold k0_pay5 k0_pay2
  pointwise
  unfold proj
  blk_point [iblk, Gen.V, e2, e4, e7]

/-- The reference's product of the gate. -/
theorem reference_gate (x : FVec Ideal S4096x1024 .bf16) (w : FVec Ideal S1024x1024 .f32) :
    Host.dotGeneral (F := Ideal) Cert.Reference40Ideal.dot_S4096x1024_S1024x1024_S4096x1024_1_0_0_1_n_n none (extf .f32 x Cert.Reference40Ideal.Gen.bitsLt_bf16_f32) w = gate x w := by
  funext i
  pointwise
  unfold gate
  rfl

/-- The reference's product of the embedding. -/
theorem reference_proj (p : FVec Ideal S4096x256 .f32) (v : FVec Ideal S256x1024 .f32) :
    Host.dotGeneral (F := Ideal) Cert.Reference40Ideal.dot_S4096x256_S256x1024_S4096x1024_1_0_0_1_n_n none p v = proj p v := by
  funext i
  pointwise
  unfold proj
  rfl

/-- The gated embedding as the reference writes it. -/
theorem reference_out (h : FVec Ideal S4096x1024 .f32) (x : FVec Ideal S4096x1024 .bf16) (p : FVec Ideal S4096x256 .f32)
    (w : FVec Ideal S1024x1024 .f32) (v : FVec Ideal S256x1024 .f32) :
    addf h (mulf (proj p v) (Host.divf (broadcastInDim S4096x1024 ![] Cert.Reference40Ideal.Gen.bcast_S_S4096x1024 (constant Cert.Reference40Ideal.S_ .f32 0x3F800000#32))
      (addf (broadcastInDim S4096x1024 ![] Cert.Reference40Ideal.Gen.bcast_S_S4096x1024 (constant Cert.Reference40Ideal.S_ .f32 0x3F800000#32)) (Host.exp (Host.negf (gate x w)))))) = out h x p w v := by
  funext i
  obtain ⟨s, k, rfl⟩ : ∃ (s : Fin 4096) (k : Fin 1024), i = ix2 s k := ⟨i 0, i 1, eq_ix2 i⟩
  unfold out
  generalize proj p v = a
  generalize gate x w = b
  pointwise
  rfl

/-- The claim over the reals. -/
theorem algebraic : Cert.algebraic_Kernel40Ideal_Reference40Ideal (hKernel40Ideal := Cert.Kernel40Ideal.Gen.facts)
    (hReference40Ideal := Cert.Reference40Ideal.Gen.facts) := by
  intro m g m' g' _ hm
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)),
    fun c => gate (m ((c : Thread nD τ).loc main_arg1)) (m ((c : Thread nD τ).loc main_arg3)),
    fun c => proj (m ((c : Thread nD τ).loc main_arg2)) (m ((c : Thread nD τ).loc main_arg4)), ?_, ?_⟩
  · refine (θ_run Cert.Kernel40Ideal.defs _ _).mono (fun r h c => ?_) (Value.run_blocks m g)
    exact ⟨(h c).1.trans (array_out m c), (h c).2.1.trans (array_gate m c), (h c).2.2.1.trans (array_proj m c), (h c).2.2.2⟩
  · refine (θ_run Cert.Reference40Ideal.defs _ _).mono (fun r h c => ?_) (Cert.Reference40Ideal.Value.run m' g')
    obtain ⟨h0, h1, h2, h3⟩ := h c
    rw [(hm c).1, (hm c).2.1, (hm c).2.2.1, (hm c).2.2.2.1, (hm c).2.2.2.2, reference_gate, reference_proj, reference_out] at h0
    rw [(hm c).2.1, (hm c).2.2.2.1, reference_gate] at h1
    rw [(hm c).2.2.1, (hm c).2.2.2.2, reference_proj] at h2
    exact ⟨h0, h1, h2, h3⟩

end Cert.Embedding

end
-- ==== Proof.FirstNorm.lean ====
/-
The norm before the first layer.

A grid point has whole rows and norms its block in one step.
-/
module

public import proofs.«01_k».proof.Defs
public import proofs.«01_k».proof.Proof.Gen.Kernel41Ideal.Value
public import proofs.«01_k».proof.Proof.Gen.Reference41Ideal.Run
public import proofs.«01_k».proof.Proof.NormMath
public import Idealize.ShloMosaic.Lib.Pipeline.ValueKit
public import Idealize.ShloMosaic.Lib.Pointwise

@[expose] public section

set_option maxRecDepth 16384

noncomputable section

namespace Cert.FirstNorm

open Idealize.ShloMosaic Idealize.ShloMosaic.TcCoe Idealize.ShloMosaic.Pointwise Idealize.SL.Sem
open Cert.Kernel41Ideal Cert.Kernel41Ideal.Gen

/-- The norm of an array's rows, scaled. -/
def normed (o : FVec Ideal S4096x1024 .f32) (g : FVec Ideal S1024 .f32) : FVec Ideal S4096x1024 .bf16 := fun i =>
  o (ix2 (⟨(i 0).val, (i 0).isLt⟩ : Fin 4096) (⟨(i 1).val, (i 1).isLt⟩ : Fin 1024))
    * Ideal.rsqrt (NormMath.under fun k : Fin 1024 => o (ix2 (⟨(i 0).val, (i 0).isLt⟩ : Fin 4096) k))
    * g (ix1 (⟨(i 1).val, (i 1).isLt⟩ : Fin 1024))

/-- The blocks of a grid point. -/
theorem index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ) (c : Dev nD)

/-- The norm of a block. -/
theorem pay1_apply (o : FVec Ideal S512x1024 .f32) (g : FVec Ideal S1x1024 .f32) (r : Fin 512) (k : Fin 1024) :
    k0_pay1 (F := Ideal) o g (ix2 r k)
      = o (ix2 r k) * Ideal.rsqrt (NormMath.under fun l : Fin 1024 => o (ix2 r l)) * g (ix2 0 k) := by
  unfold k0_pay1 NormMath.under
  pointwise

/-- A row of a grid point's block is a row of the array. -/
theorem row_lt (t : Fin cfg0.N) (r : Fin 512) : t.val * 512 + r.val < 4096 := by
  have h : t.val < 8 := t.isLt
  omega

theorem tile (t : Fin cfg0.N) (r : Fin 512) (k : Fin 1024) :
    iblk m c 0 t (ix2 r k) = m ((c : Thread nD τ).loc main_arg0) (ix2 (⟨t.val * 512 + r.val, row_lt t r⟩ : Fin 4096) k) := by
  obtain ⟨e0, e1, e2⟩ := index t
  blk_point [iblk, Gen.V, e0]

theorem array_normed : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  frame_out
  obtain ⟨r, k, rfl⟩ : ∃ (r : Fin 512) (k : Fin 1024), y = ix2 r k := ⟨y 0, y 1, eq_ix2 y⟩
  refine (pay1_apply _ _ r k).trans ?_
  simp only [tile]
  unfold normed
  blk_point [iblk, Gen.V, e1, e2]

/-- The norm as the reference writes it. -/
theorem reference_normed (o : FVec Ideal S4096x1024 .f32) (g : FVec Ideal S1024 .f32) :
    truncf .bf16 (mulf (mulf o (broadcastInDim S4096x1024 ![0, 1] Cert.Reference41Ideal.Gen.bcast_S4096x1_S4096x1024_0_1 (Host.rsqrt (addf
      (Host.divf (broadcastInDim Cert.Reference41Ideal.S4096x1 ![0] Cert.Reference41Ideal.Gen.bcast_S4096_S4096x1_0
        (Host.reduceAdd (mulf o o) (constant Cert.Reference41Ideal.S_ .f32 0x00000000#32) Cert.Reference41Ideal.Gen.reducesTo_S4096x1024_S4096_d1 Cert.Reference41Ideal.Gen.h_S_))
        (broadcastInDim Cert.Reference41Ideal.S4096x1 ![] Cert.Reference41Ideal.Gen.bcast_S_S4096x1 (constant Cert.Reference41Ideal.S_ .f32 0x44800000#32)))
      (broadcastInDim Cert.Reference41Ideal.S4096x1 ![] Cert.Reference41Ideal.Gen.bcast_S_S4096x1 (constant Cert.Reference41Ideal.S_ .f32 0x358637BD#32))))))
      (broadcastInDim S4096x1024 ![0, 1] Cert.Reference41Ideal.Gen.bcast_S1x1024_S4096x1024_0_1
        (broadcastInDim Cert.Reference41Ideal.S1x1024 ![1] Cert.Reference41Ideal.Gen.bcast_S1024_S1x1024_1 g)))
      Cert.Reference41Ideal.Gen.bitsLt_bf16_f32 = normed o g := by
  funext i
  pointwise
  unfold normed NormMath.under
  congr 1
  congr 1
  exact congrArg o (eq_ix2 i)

/-- The claim over the reals. -/
theorem algebraic : Cert.algebraic_Kernel41Ideal_Reference41Ideal (hKernel41Ideal := Cert.Kernel41Ideal.Gen.facts)
    (hReference41Ideal := Cert.Reference41Ideal.Gen.facts) := by
  intro m g m' g' _ hm
  refine ⟨fun c => normed (m ((c : Thread nD τ).loc main_arg0)) (m ((c : Thread nD τ).loc main_arg1)), ?_, ?_⟩
  · refine (θ_run Cert.Kernel41Ideal.defs _ _).mono (fun r h c => ?_) (Value.run_blocks m g)
    exact ⟨(h c).1.trans (array_normed m c), (h c).2⟩
  · refine (θ_run Cert.Reference41Ideal.defs _ _).mono (fun r h c => ?_) (Cert.Reference41Ideal.Value.run m' g')
    obtain ⟨h0, h1⟩ := h c
    rw [(hm c).1, (hm c).2] at h0
    exact ⟨h0.trans (reference_normed _ _), h1⟩

end Cert.FirstNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Finite
public import proofs.«01_k».proof.Proof.Equal
public import proofs.«01_k».proof.Proof.Gate
public import proofs.«01_k».proof.Proof.DwIn
public import proofs.«01_k».proof.Proof.DwOut
public import proofs.«01_k».proof.Proof.Dx
public import proofs.«01_k».proof.Proof.Out
public import proofs.«01_k».proof.Proof.DwMix
public import proofs.«01_k».proof.Proof.DwSquare
public import proofs.«01_k».proof.Proof.ProjMix
public import proofs.«01_k».proof.Proof.DxMix
public import proofs.«01_k».proof.Proof.OutMix
public import proofs.«01_k».proof.Proof.DxSquare
public import proofs.«01_k».proof.Proof.SumSquare
public import proofs.«01_k».proof.Proof.SumGdnIn
public import proofs.«01_k».proof.Proof.SumKeysValues
public import proofs.«01_k».proof.Proof.SumFfnIn
public import proofs.«01_k».proof.Proof.SumFfnOut
public import proofs.«01_k».proof.Proof.SumPleProj
public import proofs.«01_k».proof.Proof.SumPleGate
public import proofs.«01_k».proof.Proof.StepSquare
public import proofs.«01_k».proof.Proof.StepGdnIn
public import proofs.«01_k».proof.Proof.StepKeysValues
public import proofs.«01_k».proof.Proof.StepFfnIn
public import proofs.«01_k».proof.Proof.StepFfnOut
public import proofs.«01_k».proof.Proof.StepPleProj
public import proofs.«01_k».proof.Proof.StepPleGate
public import proofs.«01_k».proof.Proof.SumSmall
public import proofs.«01_k».proof.Proof.StepSmall
public import proofs.«01_k».proof.Proof.Loss
public import proofs.«01_k».proof.Proof.Queries
public import proofs.«01_k».proof.Proof.DxOutMix
public import proofs.«01_k».proof.Proof.DxOutHeads
public import proofs.«01_k».proof.Proof.KeysValues
public import proofs.«01_k».proof.Proof.DwKeysValues
public import proofs.«01_k».proof.Proof.DxKeysValues
public import proofs.«01_k».proof.Proof.DwEmbedding
public import proofs.«01_k».proof.Proof.EmbeddingGrad
public import proofs.«01_k».proof.Proof.EmbeddingNorm
public import proofs.«01_k».proof.Proof.EmbeddingNorms
public import proofs.«01_k».proof.Proof.Embedding
public import proofs.«01_k».proof.Proof.FirstNorm
public import Idealize.ShloMosaic.Adequacy
public import Idealize.ShloMosaic.Init

@[expose] public section

noncomputable section

namespace Cert.Proof

open Idealize.ShloMosaic Idealize.SL.Sem

/-- Reference ends with its arguments unchanged. -/
theorem reference_frame : Cert.quiescent_ReferenceIdeal (hReferenceIdeal := Cert.ReferenceIdeal.Gen.facts) :=
  fun m ρ _ => (θ_run Cert.ReferenceIdeal.defs _ _).mono (fun r h => ⟨fun c => (h c).2.2.2, sem_eq_zero_of_no_sems (by decide) r.2⟩) (Cert.ReferenceIdeal.Value.run m ρ)

/-- Reference2 ends with its arguments unchanged. -/
theorem reference2_frame : Cert.quiescent_Reference2Ideal (hReference2Ideal := Cert.Reference2Ideal.Gen.facts) :=
  fun m ρ _ => (θ_run Cert.Reference2Ideal.defs _ _).mono (fun r h => ⟨fun c => (h c).2.2.2, sem_eq_zero_of_no_sems (by decide) r.2⟩) (Cert.Reference2Ideal.Value.run m ρ)

/-- Reference3 ends with its arguments unchanged. -/
theorem reference3_frame : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩) (Cert.Reference3Ideal.Value.run m ρ)

/-- Reference4 ends with its arguments unchanged. -/
theorem reference4_frame : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩) (Cert.Reference4Ideal.Value.run m ρ)

/-- Reference5 ends with its arguments unchanged. -/
theorem reference5_frame : Cert.quiescent_Reference5Ideal (hReference5Ideal := Cert.Reference5Ideal.Gen.facts) :=
  fun m ρ _ => (θ_run Cert.Reference5Ideal.defs _ _).mono (fun r h => ⟨fun c => (h c).2.2.2, sem_eq_zero_of_no_sems (by decide) r.2⟩) (Cert.Reference5Ideal.Value.run m ρ)

/-- Reference6 ends with its arguments unchanged. -/
theorem reference6_frame : Cert.quiescent_Reference6Ideal (hReference6Ideal := Cert.Reference6Ideal.Gen.facts) :=
  fun m ρ _ => (θ_run Cert.Reference6Ideal.defs _ _).mono (fun r h => ⟨fun c => (h c).2.2, sem_eq_zero_of_no_sems (by decide) r.2⟩) (Cert.Reference6Ideal.Value.run m ρ)

/-- Reference7 ends with its arguments unchanged. -/
theorem reference7_frame : Cert.quiescent_Reference7Ideal (hReference7Ideal := Cert.Reference7Ideal.Gen.facts) :=
  fun m ρ _ => (θ_run Cert.Reference7Ideal.defs _ _).mono (fun r h => ⟨fun c => (h c).2, sem_eq_zero_of_no_sems (by decide) r.2⟩) (Cert.Reference7Ideal.Value.run m ρ)

/-- Reference8 ends with its arguments unchanged. -/
theorem reference8_frame : Cert.quiescent_Reference8Ideal (hReference8Ideal := Cert.Reference8Ideal.Gen.facts) :=
  fun m ρ _ => (θ_run Cert.Reference8Ideal.defs _ _).mono (fun r h => ⟨fun c => (h c).2, sem_eq_zero_of_no_sems (by decide) r.2⟩) (Cert.Reference8Ideal.Value.run m ρ)

/-- Reference9 ends with its arguments unchanged. -/
theorem reference9_frame : Cert.quiescent_Reference9Ideal (hReference9Ideal := Cert.Reference9Ideal.Gen.facts) :=
  fun m ρ _ => (θ_run Cert.Reference9Ideal.defs _ _).mono (fun r h => ⟨fun c => (h c).2, sem_eq_zero_of_no_sems (by decide) r.2⟩) (Cert.Reference9Ideal.Value.run m ρ)

/-- Reference10 ends with its arguments unchanged. -/
theorem reference10_frame : Cert.quiescent_Reference10Ideal (hReference10Ideal := Cert.Reference10Ideal.Gen.facts) :=
  fun m ρ _ => (θ_run Cert.Reference10Ideal.defs _ _).mono (fun r h => ⟨fun c => (h c).2.2.2, sem_eq_zero_of_no_sems (by decide) r.2⟩) (Cert.Reference10Ideal.Value.run m ρ)

/-- Reference11 ends with its arguments unchanged. -/
theorem reference11_frame : Cert.quiescent_Reference11Ideal (hReference11Ideal := Cert.Reference11Ideal.Gen.facts) :=
  fun m ρ _ => (θ_run Cert.Reference11Ideal.defs _ _).mono (fun r h => ⟨fun c => (h c).2.2, sem_eq_zero_of_no_sems (by decide) r.2⟩) (Cert.Reference11Ideal.Value.run m ρ)

/-- Reference12 ends with its arguments unchanged. -/
theorem reference12_frame : Cert.quiescent_Reference12Ideal (hReference12Ideal := Cert.Reference12Ideal.Gen.facts) :=
  fun m ρ _ => (θ_run Cert.Reference12Ideal.defs _ _).mono (fun r h => ⟨fun c => (h c).2.2.2, sem_eq_zero_of_no_sems (by decide) r.2⟩) (Cert.Reference12Ideal.Value.run m ρ)

/-- Reference13 ends with its arguments unchanged. -/
theorem reference13_frame : Cert.quiescent_Reference13Ideal (hReference13Ideal := Cert.Reference13Ideal.Gen.facts) :=
  fun m ρ _ => (θ_run Cert.Reference13Ideal.defs _ _).mono (fun r h => ⟨fun c => (h c).2, sem_eq_zero_of_no_sems (by decide) r.2⟩) (Cert.Reference13Ideal.Value.run m ρ)

/-- Reference14 ends with its arguments unchanged. -/
theorem reference14_frame : Cert.quiescent_Reference14Ideal (hReference14Ideal := Cert.Reference14Ideal.Gen.facts) :=
  fun m ρ _ => (θ_run Cert.Reference14Ideal.defs _ _).mono (fun r h => ⟨fun c => (h c).2, sem_eq_zero_of_no_sems (by decide) r.2⟩) (Cert.Reference14Ideal.Value.run m ρ)

/-- Reference15 ends with its arguments unchanged. -/
theorem reference15_frame : Cert.quiescent_Reference15Ideal (hReference15Ideal := Cert.Reference15Ideal.Gen.facts) :=
  fun m ρ _ => (θ_run Cert.Reference15Ideal.defs _ _).mono (fun r h => ⟨fun c => (h c).2, sem_eq_zero_of_no_sems (by decide) r.2⟩) (Cert.Reference15Ideal.Value.run m ρ)

/-- Reference16 ends with its arguments unchanged. -/
theorem reference16_frame : Cert.quiescent_Reference16Ideal (hReference16Ideal := Cert.Reference16Ideal.Gen.facts) :=
  fun m ρ _ => (θ_run Cert.Reference16Ideal.defs _ _).mono (fun r h => ⟨fun c => (h c).2, sem_eq_zero_of_no_sems (by decide) r.2⟩) (Cert.Reference16Ideal.Value.run m ρ)

/-- Reference17 ends with its arguments unchanged. -/
theorem reference17_frame : Cert.quiescent_Reference17Ideal (hReference17Ideal := Cert.Reference17Ideal.Gen.facts) :=
  fun m ρ _ => (θ_run Cert.Reference17Ideal.defs _ _).mono (fun r h => ⟨fun c => (h c).2, sem_eq_zero_of_no_sems (by decide) r.2⟩) (Cert.Reference17Ideal.Value.run m ρ)

/-- Reference18 ends with its arguments unchanged. -/
theorem reference18_frame : Cert.quiescent_Reference18Ideal (hReference18Ideal := Cert.Reference18Ideal.Gen.facts) :=
  fun m ρ _ => (θ_run Cert.Reference18Ideal.defs _ _).mono (fun r h => ⟨fun c => (h c).2, sem_eq_zero_of_no_sems (by decide) r.2⟩) (Cert.Reference18Ideal.Value.run m ρ)

/-- Reference19 ends with its arguments unchanged. -/
theorem reference19_frame : Cert.quiescent_Reference19Ideal (hReference19Ideal := Cert.Reference19Ideal.Gen.facts) :=
  fun m ρ _ => (θ_run Cert.Reference19Ideal.defs _ _).mono (fun r h => ⟨fun c => (h c).2, sem_eq_zero_of_no_sems (by decide) r.2⟩) (Cert.Reference19Ideal.Value.run m ρ)

/-- Reference20 ends with its arguments unchanged. -/
theorem reference20_frame : Cert.quiescent_Reference20Ideal (hReference20Ideal := Cert.Reference20Ideal.Gen.facts) :=
  fun m ρ _ => (θ_run Cert.Reference20Ideal.defs _ _).mono (fun r h => ⟨fun c => (h c).2.2.2, sem_eq_zero_of_no_sems (by decide) r.2⟩) (Cert.Reference20Ideal.Value.run m ρ)

/-- Reference21 ends with its arguments unchanged. -/
theorem reference21_frame : Cert.quiescent_Reference21Ideal (hReference21Ideal := Cert.Reference21Ideal.Gen.facts) :=
  fun m ρ _ => (θ_run Cert.Reference21Ideal.defs _ _).mono (fun r h => ⟨fun c => (h c).2.2.2, sem_eq_zero_of_no_sems (by decide) r.2⟩) (Cert.Reference21Ideal.Value.run m ρ)

/-- Reference22 ends with its arguments unchanged. -/
theorem reference22_frame : Cert.quiescent_Reference22Ideal (hReference22Ideal := Cert.Reference22Ideal.Gen.facts) :=
  fun m ρ _ => (θ_run Cert.Reference22Ideal.defs _ _).mono (fun r h => ⟨fun c => (h c).2.2.2, sem_eq_zero_of_no_sems (by decide) r.2⟩) (Cert.Reference22Ideal.Value.run m ρ)

/-- Reference23 ends with its arguments unchanged. -/
theorem reference23_frame : Cert.quiescent_Reference23Ideal (hReference23Ideal := Cert.Reference23Ideal.Gen.facts) :=
  fun m ρ _ => (θ_run Cert.Reference23Ideal.defs _ _).mono (fun r h => ⟨fun c => (h c).2.2.2, sem_eq_zero_of_no_sems (by decide) r.2⟩) (Cert.Reference23Ideal.Value.run m ρ)

/-- Reference24 ends with its arguments unchanged. -/
theorem reference24_frame : Cert.quiescent_Reference24Ideal (hReference24Ideal := Cert.Reference24Ideal.Gen.facts) :=
  fun m ρ _ => (θ_run Cert.Reference24Ideal.defs _ _).mono (fun r h => ⟨fun c => (h c).2.2.2, sem_eq_zero_of_no_sems (by decide) r.2⟩) (Cert.Reference24Ideal.Value.run m ρ)

/-- Reference25 ends with its arguments unchanged. -/
theorem reference25_frame : Cert.quiescent_Reference25Ideal (hReference25Ideal := Cert.Reference25Ideal.Gen.facts) :=
  fun m ρ _ => (θ_run Cert.Reference25Ideal.defs _ _).mono (fun r h => ⟨fun c => (h c).2.2.2, sem_eq_zero_of_no_sems (by decide) r.2⟩) (Cert.Reference25Ideal.Value.run m ρ)

/-- Reference26 ends with its arguments unchanged. -/
theorem reference26_frame : Cert.quiescent_Reference26Ideal (hReference26Ideal := Cert.Reference26Ideal.Gen.facts) :=
  fun m ρ _ => (θ_run Cert.Reference26Ideal.defs _ _).mono (fun r h => ⟨fun c => (h c).2.2.2, sem_eq_zero_of_no_sems (by decide) r.2⟩) (Cert.Reference26Ideal.Value.run m ρ)

/-- Reference27 ends with its arguments unchanged. -/
theorem reference27_frame : Cert.quiescent_Reference27Ideal (hReference27Ideal := Cert.Reference27Ideal.Gen.facts) :=
  fun m ρ _ => (θ_run Cert.Reference27Ideal.defs _ _).mono (fun r h => ⟨fun c => (h c).2, sem_eq_zero_of_no_sems (by decide) r.2⟩) (Cert.Reference27Ideal.Value.run m ρ)

/-- Reference28 ends with its arguments unchanged. -/
theorem reference28_frame : Cert.quiescent_Reference28Ideal (hReference28Ideal := Cert.Reference28Ideal.Gen.facts) :=
  fun m ρ _ => (θ_run Cert.Reference28Ideal.defs _ _).mono (fun r h => ⟨fun c => (h c).2.2.2, sem_eq_zero_of_no_sems (by decide) r.2⟩) (Cert.Reference28Ideal.Value.run m ρ)

/-- Reference29 ends with its arguments unchanged. -/
theorem reference29_frame : Cert.quiescent_Reference29Ideal (hReference29Ideal := Cert.Reference29Ideal.Gen.facts) :=
  fun m ρ _ => (θ_run Cert.Reference29Ideal.defs _ _).mono (fun r h => ⟨fun c => (h c).2.2, sem_eq_zero_of_no_sems (by decide) r.2⟩) (Cert.Reference29Ideal.Value.run m ρ)

/-- Reference30 ends with its arguments unchanged. -/
theorem reference30_frame : Cert.quiescent_Reference30Ideal (hReference30Ideal := Cert.Reference30Ideal.Gen.facts) :=
  fun m ρ _ => (θ_run Cert.Reference30Ideal.defs _ _).mono (fun r h => ⟨fun c => (h c).2, sem_eq_zero_of_no_sems (by decide) r.2⟩) (Cert.Reference30Ideal.Value.run m ρ)

/-- Reference31 ends with its arguments unchanged. -/
theorem reference31_frame : Cert.quiescent_Reference31Ideal (hReference31Ideal := Cert.Reference31Ideal.Gen.facts) :=
  fun m ρ _ => (θ_run Cert.Reference31Ideal.defs _ _).mono (fun r h => ⟨fun c => (h c).2, sem_eq_zero_of_no_sems (by decide) r.2⟩) (Cert.Reference31Ideal.Value.run m ρ)

/-- Reference32 ends with its arguments unchanged. -/
theorem reference32_frame : Cert.quiescent_Reference32Ideal (hReference32Ideal := Cert.Reference32Ideal.Gen.facts) :=
  fun m ρ _ => (θ_run Cert.Reference32Ideal.defs _ _).mono (fun r h => ⟨fun c => (h c).2, sem_eq_zero_of_no_sems (by decide) r.2⟩) (Cert.Reference32Ideal.Value.run m ρ)

/-- Reference33 ends with its arguments unchanged. -/
theorem reference33_frame : Cert.quiescent_Reference33Ideal (hReference33Ideal := Cert.Reference33Ideal.Gen.facts) :=
  fun m ρ _ => (θ_run Cert.Reference33Ideal.defs _ _).mono (fun r h => ⟨fun c => (h c).2, sem_eq_zero_of_no_sems (by decide) r.2⟩) (Cert.Reference33Ideal.Value.run m ρ)

/-- Reference34 ends with its arguments unchanged. -/
theorem reference34_frame : Cert.quiescent_Reference34Ideal (hReference34Ideal := Cert.Reference34Ideal.Gen.facts) :=
  fun m ρ _ => (θ_run Cert.Reference34Ideal.defs _ _).mono (fun r h => ⟨fun c => (h c).2, sem_eq_zero_of_no_sems (by decide) r.2⟩) (Cert.Reference34Ideal.Value.run m ρ)

/-- Reference35 ends with its arguments unchanged. -/
theorem reference35_frame : Cert.quiescent_Reference35Ideal (hReference35Ideal := Cert.Reference35Ideal.Gen.facts) :=
  fun m ρ _ => (θ_run Cert.Reference35Ideal.defs _ _).mono (fun r h => ⟨fun c => (h c).2.2.2, sem_eq_zero_of_no_sems (by decide) r.2⟩) (Cert.Reference35Ideal.Value.run m ρ)

/-- Reference36 ends with its arguments unchanged. -/
theorem reference36_frame : Cert.quiescent_Reference36Ideal (hReference36Ideal := Cert.Reference36Ideal.Gen.facts) :=
  fun m ρ _ => (θ_run Cert.Reference36Ideal.defs _ _).mono (fun r h => ⟨fun c => (h c).2, sem_eq_zero_of_no_sems (by decide) r.2⟩) (Cert.Reference36Ideal.Value.run m ρ)

/-- Reference37 ends with its arguments unchanged. -/
theorem reference37_frame : Cert.quiescent_Reference37Ideal (hReference37Ideal := Cert.Reference37Ideal.Gen.facts) :=
  fun m ρ _ => (θ_run Cert.Reference37Ideal.defs _ _).mono (fun r h => ⟨fun c => (h c).2.2, sem_eq_zero_of_no_sems (by decide) r.2⟩) (Cert.Reference37Ideal.Value.run m ρ)

/-- Reference38 ends with its arguments unchanged. -/
theorem reference38_frame : Cert.quiescent_Reference38Ideal (hReference38Ideal := Cert.Reference38Ideal.Gen.facts) :=
  fun m ρ _ => (θ_run Cert.Reference38Ideal.defs _ _).mono (fun r h => ⟨fun c => (h c).2.2.2.2, sem_eq_zero_of_no_sems (by decide) r.2⟩) (Cert.Reference38Ideal.Value.run m ρ)

/-- Reference39 ends with its arguments unchanged. -/
theorem reference39_frame : Cert.quiescent_Reference39Ideal (hReference39Ideal := Cert.Reference39Ideal.Gen.facts) :=
  fun m ρ _ => (θ_run Cert.Reference39Ideal.defs _ _).mono (fun r h => ⟨fun c => (h c).2.2.2.2.2, sem_eq_zero_of_no_sems (by decide) r.2⟩) (Cert.Reference39Ideal.Value.run m ρ)

/-- Reference40 ends with its arguments unchanged. -/
theorem reference40_frame : Cert.quiescent_Reference40Ideal (hReference40Ideal := Cert.Reference40Ideal.Gen.facts) :=
  fun m ρ _ => (θ_run Cert.Reference40Ideal.defs _ _).mono (fun r h => ⟨fun c => (h c).2.2.2, sem_eq_zero_of_no_sems (by decide) r.2⟩) (Cert.Reference40Ideal.Value.run m ρ)

/-- Reference41 ends with its arguments unchanged. -/
theorem reference41_frame : Cert.quiescent_Reference41Ideal (hReference41Ideal := Cert.Reference41Ideal.Gen.facts) :=
  fun m ρ _ => (θ_run Cert.Reference41Ideal.defs _ _).mono (fun r h => ⟨fun c => (h c).2, sem_eq_zero_of_no_sems (by decide) r.2⟩) (Cert.Reference41Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  fun m ρ _ => Cert.Kernel19.Gen.frame m ρ,
  fun m ρ _ => Cert.Kernel19Ideal.Gen.frame m ρ,
  reference19_frame,
  fun m ρ _ => Cert.Kernel20.Gen.frame m ρ,
  fun m ρ _ => Cert.Kernel20Ideal.Gen.frame m ρ,
  reference20_frame,
  fun m ρ _ => Cert.Kernel21.Gen.frame m ρ,
  fun m ρ _ => Cert.Kernel21Ideal.Gen.frame m ρ,
  reference21_frame,
  fun m ρ _ => Cert.Kernel22.Gen.frame m ρ,
  fun m ρ _ => Cert.Kernel22Ideal.Gen.frame m ρ,
  reference22_frame,
  fun m ρ _ => Cert.Kernel23.Gen.frame m ρ,
  fun m ρ _ => Cert.Kernel23Ideal.Gen.frame m ρ,
  reference23_frame,
  fun m ρ _ => Cert.Kernel24.Gen.frame m ρ,
  fun m ρ _ => Cert.Kernel24Ideal.Gen.frame m ρ,
  reference24_frame,
  fun m ρ _ => Cert.Kernel25.Gen.frame m ρ,
  fun m ρ _ => Cert.Kernel25Ideal.Gen.frame m ρ,
  reference25_frame,
  fun m ρ _ => Cert.Kernel26.Gen.frame m ρ,
  fun m ρ _ => Cert.Kernel26Ideal.Gen.frame m ρ,
  reference26_frame,
  fun m ρ _ => Cert.Kernel27.Gen.frame m ρ,
  fun m ρ _ => Cert.Kernel27Ideal.Gen.frame m ρ,
  reference27_frame,
  fun m ρ _ => Cert.Kernel28.Gen.frame m ρ,
  fun m ρ _ => Cert.Kernel28Ideal.Gen.frame m ρ,
  reference28_frame,
  fun m ρ _ => Cert.Kernel29.Gen.frame m ρ,
  fun m ρ _ => Cert.Kernel29Ideal.Gen.frame m ρ,
  reference29_frame,
  fun m ρ _ => Cert.Kernel30.Gen.frame m ρ,
  fun m ρ _ => Cert.Kernel30Ideal.Gen.frame m ρ,
  reference30_frame,
  fun m ρ _ => Cert.Kernel31.Gen.frame m ρ,
  fun m ρ _ => Cert.Kernel31Ideal.Gen.frame m ρ,
  reference31_frame,
  fun m ρ _ => Cert.Kernel32.Gen.frame m ρ,
  fun m ρ _ => Cert.Kernel32Ideal.Gen.frame m ρ,
  reference32_frame,
  fun m ρ _ => Cert.Kernel33.Gen.frame m ρ,
  fun m ρ _ => Cert.Kernel33Ideal.Gen.frame m ρ,
  reference33_frame,
  fun m ρ _ => Cert.Kernel34.Gen.frame m ρ,
  fun m ρ _ => Cert.Kernel34Ideal.Gen.frame m ρ,
  reference34_frame,
  fun m ρ _ => Cert.Kernel35.Gen.frame m ρ,
  fun m ρ _ => Cert.Kernel35Ideal.Gen.frame m ρ,
  reference35_frame,
  fun m ρ _ => Cert.Kernel36.Gen.frame m ρ,
  fun m ρ _ => Cert.Kernel36Ideal.Gen.frame m ρ,
  reference36_frame,
  fun m ρ _ => Cert.Kernel37.Gen.frame m ρ,
  fun m ρ _ => Cert.Kernel37Ideal.Gen.frame m ρ,
  reference37_frame,
  fun m ρ _ => Cert.Kernel38.Gen.frame m ρ,
  fun m ρ _ => Cert.Kernel38Ideal.Gen.frame m ρ,
  reference38_frame,
  fun m ρ _ => Cert.Kernel39.Gen.frame m ρ,
  fun m ρ _ => Cert.Kernel39Ideal.Gen.frame m ρ,
  reference39_frame,
  fun m ρ _ => Cert.Kernel40.Gen.frame m ρ,
  fun m ρ _ => Cert.Kernel40Ideal.Gen.frame m ρ,
  reference40_frame,
  fun m ρ _ => Cert.Kernel41.Gen.frame m ρ,
  fun m ρ _ => Cert.Kernel41Ideal.Gen.frame m ρ,
  reference41_frame,
  trivial,
  Cert.Equal.algebraic,
  trivial,
  Cert.Gate.algebraic,
  trivial,
  Cert.DwIn.algebraic,
  trivial,
  Cert.DwOut.algebraic,
  trivial,
  Cert.Dx.algebraic,
  trivial,
  Cert.Out.algebraic,
  trivial,
  Cert.DwMix.algebraic,
  trivial,
  Cert.DwSquare.algebraic,
  trivial,
  Cert.ProjMix.algebraic,
  trivial,
  Cert.DxMix.algebraic,
  trivial,
  Cert.OutMix.algebraic,
  trivial,
  Cert.DxSquare.algebraic,
  trivial,
  Cert.SumSquare.algebraic,
  trivial,
  Cert.SumGdnIn.algebraic,
  trivial,
  Cert.SumKeysValues.algebraic,
  trivial,
  Cert.SumFfnIn.algebraic,
  trivial,
  Cert.SumFfnOut.algebraic,
  trivial,
  Cert.SumPleProj.algebraic,
  trivial,
  Cert.SumPleGate.algebraic,
  trivial,
  Cert.StepSquare.algebraic,
  trivial,
  Cert.StepGdnIn.algebraic,
  trivial,
  Cert.StepKeysValues.algebraic,
  trivial,
  Cert.StepFfnIn.algebraic,
  trivial,
  Cert.StepFfnOut.algebraic,
  trivial,
  Cert.StepPleProj.algebraic,
  trivial,
  Cert.StepPleGate.algebraic,
  trivial,
  Cert.SumSmall.algebraic,
  trivial,
  Cert.StepSmall.algebraic,
  trivial,
  Cert.Loss.algebraic,
  trivial,
  Cert.Queries.algebraic,
  trivial,
  Cert.DxOutMix.algebraic,
  trivial,
  Cert.DxOutHeads.algebraic,
  trivial,
  Cert.KeysValues.algebraic,
  trivial,
  Cert.DwKeysValues.algebraic,
  trivial,
  Cert.DxKeysValues.algebraic,
  trivial,
  Cert.DwEmbedding.algebraic,
  trivial,
  Cert.EmbeddingGrad.algebraic,
  trivial,
  Cert.EmbeddingNorm.algebraic,
  trivial,
  Cert.EmbeddingNorms.algebraic,
  trivial,
  Cert.Embedding.algebraic,
  trivial,
  Cert.FirstNorm.algebraic⟩

end Cert.Proof

end
